-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_qk2 [hPre_finite_qk2 : Cert.Pre_finite_qk2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_qk2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite_qk2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite_qk2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_qk2 [hPre_finite_qk2 : Cert.Pre_finite_qk2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_qk2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite_qk2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite_qk2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_qkv3 [hPre_finite_qkv3 : Cert.Pre_finite_qkv3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_qkv3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).1 = (fun _ => 1#1)
    ∧ (Cert.Pre_finite_qkv3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.1 = (fun _ => 1#1)
    ∧ (Cert.Pre_finite_qkv3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.1 = (fun _ => 1#1)
    ∧ (Cert.Pre_finite_qkv3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.1 = (fun _ => 1#1)
    ∧ (Cert.Pre_finite_qkv3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.1 = (fun _ => 1#1)
    ∧ (Cert.Pre_finite_qkv3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_qkv3 [hPre_finite_qkv3 : Cert.Pre_finite_qkv3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_qkv3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).1 = (fun _ => 1#1)
    ∧ (Cert.Pre_finite_qkv3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.1 = (fun _ => 1#1)
    ∧ (Cert.Pre_finite_qkv3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.1 = (fun _ => 1#1)
    ∧ (Cert.Pre_finite_qkv3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.1 = (fun _ => 1#1)
    ∧ (Cert.Pre_finite_qkv3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.1 = (fun _ => 1#1)
    ∧ (Cert.Pre_finite_qkv3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite_qk2 [hKernel2Ideal : Cert.Kernel2Ideal.Facts] [hPre_finite_qk2 : Cert.Pre_finite_qk2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_qk2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite_qk2 [hReference2Ideal : Cert.Reference2Ideal.Facts] [hPre_finite_qk2 : Cert.Pre_finite_qk2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_qk2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite_qkv3 [hKernel3Ideal : Cert.Kernel3Ideal.Facts] [hPre_finite_qkv3 : Cert.Pre_finite_qkv3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_qkv3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite_qkv3 [hReference3Ideal : Cert.Reference3Ideal.Facts] [hPre_finite_qkv3 : Cert.Pre_finite_qkv3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_qkv3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  IdealRules.named_const.Statement Cert.KernelIdeal.κ "q_scale" .f32 0x3E16C740#32 (((3424635 / 33554432) * (Real.log 2)⁻¹ : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "q_scale" .f32 0x3E38AA3B#32 (((1 / 8) * (Real.log 2)⁻¹ : ℝ) : EReal)

def algebraic_Kernel2Ideal_Reference2Ideal_pre_finite_qk2 [hKernel2Ideal : Cert.Kernel2Ideal.Facts] [hReference2Ideal : Cert.Reference2Ideal.Facts] [hPre_finite_qk2 : Cert.Pre_finite_qk2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_qk2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v23)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  IdealRules.named_const.Statement Cert.Kernel3Ideal.κ "q_scale" .f32 0x3E38AA3B#32 (((1 / 8) * (Real.log 2)⁻¹ : ℝ) : EReal)

def algebraic_Kernel3Ideal_Reference3Ideal_pre_finite_qkv3 [hKernel3Ideal : Cert.Kernel3Ideal.Facts] [hReference3Ideal : Cert.Reference3Ideal.Facts] [hPre_finite_qkv3 : Cert.Pre_finite_qkv3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_qkv3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v24)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v24) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v89) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_qk : Cert.Pre_finite_qk.Facts) (hPre_finite_qk2 : Cert.Pre_finite_qk2.Facts) (hPre_finite_qkv3 : Cert.Pre_finite_qkv3.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Kernel2Ideal_pre_finite_qk2 (hKernel2Ideal := hKernel2Ideal) (hPre_finite_qk2 := hPre_finite_qk2)
    ∧ quiescent_Reference2Ideal (hReference2Ideal := hReference2Ideal)
    ∧ quiescent_Reference2Ideal_pre_finite_qk2 (hReference2Ideal := hReference2Ideal) (hPre_finite_qk2 := hPre_finite_qk2)
    ∧ quiescent_Kernel3 (hKernel3 := hKernel3)
    ∧ quiescent_Kernel3Ideal (hKernel3Ideal := hKernel3Ideal)
    ∧ quiescent_Kernel3Ideal_pre_finite_qkv3 (hKernel3Ideal := hKernel3Ideal) (hPre_finite_qkv3 := hPre_finite_qkv3)
    ∧ quiescent_Reference3Ideal (hReference3Ideal := hReference3Ideal)
    ∧ quiescent_Reference3Ideal_pre_finite_qkv3 (hReference3Ideal := hReference3Ideal) (hPre_finite_qkv3 := hPre_finite_qkv3)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal_pre_finite_qk2 (hKernel2Ideal := hKernel2Ideal) (hReference2Ideal := hReference2Ideal) (hPre_finite_qk2 := hPre_finite_qk2)
    ∧ preserves_Kernel3_Kernel3Ideal
    ∧ algebraic_Kernel3Ideal_Reference3Ideal_pre_finite_qkv3 (hKernel3Ideal := hKernel3Ideal) (hReference3Ideal := hReference3Ideal) (hPre_finite_qkv3 := hPre_finite_qkv3)
-- ==== Pre_finite_qk.lean ====
abbrev S2x16384x4x96 : Shape := ⟨4, ![2, 16384, 4, 96]⟩
abbrev S2x256x4x96 : Shape := ⟨4, ![2, 256, 4, 96]⟩
abbrev S2x256x4x128 : Shape := ⟨4, ![2, 256, 4, 128]⟩
abbrev S2x16384x4x128 : Shape := ⟨4, ![2, 16384, 4, 128]⟩
abbrev S_ : Shape := ⟨0, ![]⟩

class Facts : Prop where
  bcast_S_S2x16384x4x96 : S_.BroadcastsInDim S2x16384x4x96 (![] : Fin 0 → Fin S2x16384x4x96.rank)
  bcast_S_S2x256x4x96 : S_.BroadcastsInDim S2x256x4x96 (![] : Fin 0 → Fin S2x256x4x96.rank)

variable [Facts]

def fn {F : FTy → Type} [FloatOps F] (main_arg0 : FVec F S2x16384x4x96 .f32) (main_arg1 : FVec F S2x256x4x96 .f32) (main_arg2 : FVec F S2x16384x4x96 .f32) (main_arg3 : FVec F S2x256x4x128 .f32) (main_arg4 : FVec F S2x16384x4x128 .f32) : IVec S2x16384x4x96 1 × IVec S2x256x4x96 1 :=
  let main_v0 : FVec F S2x16384x4x96 .f32 := Host.absf main_arg0
  let main_cst : FVec F S_ .f32 := constant S_ .f32 0x7F800000#32
  let main_v1 : FVec F S2x16384x4x96 .f32 := broadcastInDim S2x16384x4x96 ![] bcast_S_S2x16384x4x96 main_cst
  let main_v2 : IVec S2x16384x4x96 1 := cmpf .olt main_v0 main_v1
  let main_v3 : FVec F S2x16384x4x96 .f32 := Host.absf main_arg2
  let main_cst_0 : FVec F S_ .f32 := constant S_ .f32 0x7F800000#32
  let main_v4 : FVec F S2x16384x4x96 .f32 := broadcastInDim S2x16384x4x96 ![] bcast_S_S2x16384x4x96 main_cst_0
  let main_v5 : IVec S2x16384x4x96 1 := cmpf .olt main_v3 main_v4
  let main_v6 : IVec S2x16384x4x96 1 := andi main_v2 main_v5
  let main_v7 : FVec F S2x256x4x96 .f32 := Host.absf main_arg1
  let main_cst_1 : FVec F S_ .f32 := constant S_ .f32 0x7F800000#32
  let main_v8 : FVec F S2x256x4x96 .f32 := broadcastInDim S2x256x4x96 ![] bcast_S_S2x256x4x96 main_cst_1
  let main_v9 : IVec S2x256x4x96 1 := cmpf .olt main_v7 main_v8
  (main_v6, main_v9)
-- ==== Pre_finite_qk2.lean ====
abbrev S2x16384x8x64 : Shape := ⟨4, ![2, 16384, 8, 64]⟩
abbrev S2x256x2x64 : Shape := ⟨4, ![2, 256, 2, 64]⟩
abbrev S2x16384x2x64 : Shape := ⟨4, ![2, 16384, 2, 64]⟩
abbrev S_ : Shape := ⟨0, ![]⟩

class Facts : Prop where
  bcast_S_S2x16384x8x64 : S_.BroadcastsInDim S2x16384x8x64 (![] : Fin 0 → Fin S2x16384x8x64.rank)
  bcast_S_S2x16384x2x64 : S_.BroadcastsInDim S2x16384x2x64 (![] : Fin 0 → Fin S2x16384x2x64.rank)
  bcast_S_S2x256x2x64 : S_.BroadcastsInDim S2x256x2x64 (![] : Fin 0 → Fin S2x256x2x64.rank)

variable [Facts]

def fn {F : FTy → Type} [FloatOps F] (main_arg0 : FVec F S2x16384x8x64 .f32) (main_arg1 : FVec F S2x256x2x64 .f32) (main_arg2 : FVec F S2x16384x2x64 .f32) (main_arg3 : FVec F S2x256x2x64 .f32) (main_arg4 : FVec F S2x16384x2x64 .f32) : IVec S2x16384x8x64 1 × IVec S2x16384x2x64 1 × IVec S2x256x2x64 1 :=
  let main_v0 : FVec F S2x16384x8x64 .f32 := Host.absf main_arg0
  let main_cst : FVec F S_ .f32 := constant S_ .f32 0x7F800000#32
  let main_v1 : FVec F S2x16384x8x64 .f32 := broadcastInDim S2x16384x8x64 ![] bcast_S_S2x16384x8x64 main_cst
  let main_v2 : IVec S2x16384x8x64 1 := cmpf .olt main_v0 main_v1
  let main_v3 : FVec F S2x16384x2x64 .f32 := Host.absf main_arg2
  let main_cst_0 : FVec F S_ .f32 := constant S_ .f32 0x7F800000#32
  let main_v4 : FVec F S2x16384x2x64 .f32 := broadcastInDim S2x16384x2x64 ![] bcast_S_S2x16384x2x64 main_cst_0
  let main_v5 : IVec S2x16384x2x64 1 := cmpf .olt main_v3 main_v4
  let main_v6 : FVec F S2x256x2x64 .f32 := Host.absf main_arg1
  let main_cst_1 : FVec F S_ .f32 := constant S_ .f32 0x7F800000#32
  let main_v7 : FVec F S2x256x2x64 .f32 := broadcastInDim S2x256x2x64 ![] bcast_S_S2x256x2x64 main_cst_1
  let main_v8 : IVec S2x256x2x64 1 := cmpf .olt main_v6 main_v7
  (main_v2, main_v5, main_v8)
-- ==== Pre_finite_qkv3.lean ====
abbrev S2x16384x8x64 : Shape := ⟨4, ![2, 16384, 8, 64]⟩
abbrev S2x256x8x64 : Shape := ⟨4, ![2, 256, 8, 64]⟩
abbrev S2x256x4x128 : Shape := ⟨4, ![2, 256, 4, 128]⟩
abbrev S2x16384x4x128 : Shape := ⟨4, ![2, 16384, 4, 128]⟩
abbrev S4x64 : Shape := ⟨2, ![4, 64]⟩
abbrev S128 : Shape := ⟨1, ![128]⟩
abbrev S_ : Shape := ⟨0, ![]⟩

class Facts : Prop where
  bcast_S_S2x16384x8x64 : S_.BroadcastsInDim S2x16384x8x64 (![] : Fin 0 → Fin S2x16384x8x64.rank)
  bcast_S_S2x256x8x64 : S_.BroadcastsInDim S2x256x8x64 (![] : Fin 0 → Fin S2x256x8x64.rank)
  bcast_S_S2x256x4x128 : S_.BroadcastsInDim S2x256x4x128 (![] : Fin 0 → Fin S2x256x4x128.rank)
  bcast_S_S2x16384x4x128 : S_.BroadcastsInDim S2x16384x4x128 (![] : Fin 0 → Fin S2x16384x4x128.rank)
  bcast_S_S4x64 : S_.BroadcastsInDim S4x64 (![] : Fin 0 → Fin S4x64.rank)

variable [Facts]

def fn {F : FTy → Type} [FloatOps F] (main_arg0 : FVec F S2x16384x8x64 .f32) (main_arg1 : FVec F S2x256x8x64 .f32) (main_arg2 : FVec F S2x16384x8x64 .f32) (main_arg3 : FVec F S2x256x4x128 .f32) (main_arg4 : FVec F S2x16384x4x128 .f32) (main_arg5 : FVec F S4x64 .f32) (main_arg6 : FVec F S128 .f32) : IVec S2x16384x8x64 1 × IVec S2x256x8x64 1 × IVec S2x16384x8x64 1 × IVec S2x256x4x128 1 × IVec S2x16384x4x128 1 × IVec S4x64 1 :=
  let main_v0 : FVec F S2x16384x8x64 .f32 := Host.absf main_arg0
  let main_cst : FVec F S_ .f32 := constant S_ .f32 0x7F800000#32
  let main_v1 : FVec F S2x16384x8x64 .f32 := broadcastInDim S2x16384x8x64 ![] bcast_S_S2x16384x8x64 main_cst
  let main_v2 : IVec S2x16384x8x64 1 := cmpf .olt main_v0 main_v1
  let main_v3 : FVec F S2x256x8x64 .f32 := Host.absf main_arg1
  let main_cst_0 : FVec F S_ .f32 := constant S_ .f32 0x7F800000#32
  let main_v4 : FVec F S2x256x8x64 .f32 := broadcastInDim S2x256x8x64 ![] bcast_S_S2x256x8x64 main_cst_0
  let main_v5 : IVec S2x256x8x64 1 := cmpf .olt main_v3 main_v4
  let main_v6 : FVec F S2x16384x8x64 .f32 := Host.absf main_arg2
  let main_cst_1 : FVec F S_ .f32 := constant S_ .f32 0x7F800000#32
  let main_v7 : FVec F S2x16384x8x64 .f32 := broadcastInDim S2x16384x8x64 ![] bcast_S_S2x16384x8x64 main_cst_1
  let main_v8 : IVec S2x16384x8x64 1 := cmpf .olt main_v6 main_v7
  let main_v9 : FVec F S2x256x4x128 .f32 := Host.absf main_arg3
  let main_cst_2 : FVec F S_ .f32 := constant S_ .f32 0x7F800000#32
  let main_v10 : FVec F S2x256x4x128 .f32 := broadcastInDim S2x256x4x128 ![] bcast_S_S2x256x4x128 main_cst_2
  let main_v11 : IVec S2x256x4x128 1 := cmpf .olt main_v9 main_v10
  let main_v12 : FVec F S2x16384x4x128 .f32 := Host.absf main_arg4
  let main_cst_3 : FVec F S_ .f32 := constant S_ .f32 0x7F800000#32
  let main_v13 : FVec F S2x16384x4x128 .f32 := broadcastInDim S2x16384x4x128 ![] bcast_S_S2x16384x4x128 main_cst_3
  let main_v14 : IVec S2x16384x4x128 1 := cmpf .olt main_v12 main_v13
  let main_v15 : FVec F S4x64 .f32 := Host.absf main_arg5
  let main_cst_4 : FVec F S_ .f32 := constant S_ .f32 0x7F800000#32
  let main_v16 : FVec F S4x64 .f32 := broadcastInDim S4x64 ![] bcast_S_S4x64 main_cst_4
  let main_v17 : IVec S4x64 1 := cmpf .olt main_v15 main_v16
  (main_v2, main_v5, main_v8, main_v11, main_v14, main_v17)
-- ==== Kernel.lean ====
abbrev S2x16384x4x96 : Shape := ⟨4, ![2, 16384, 4, 96]⟩
abbrev S2x256x4x96 : Shape := ⟨4, ![2, 256, 4, 96]⟩
abbrev S2x256x4x128 : Shape := ⟨4, ![2, 256, 4, 128]⟩
abbrev S2x16384x4x128 : Shape := ⟨4, ![2, 16384, 4, 128]⟩
abbrev S_ : Shape := ⟨0, ![]⟩
abbrev S2x16640x4x128 : Shape := ⟨4, ![2, 16640, 4, 128]⟩
abbrev S2x16640x512 : Shape := ⟨3, ![2, 16640, 512]⟩
abbrev S2x512x16640 : Shape := ⟨3, ![2, 512, 16640]⟩
abbrev S2x16640x4x96 : Shape := ⟨4, ![2, 16640, 4, 96]⟩
abbrev S2x4x16640x96 : Shape := ⟨4, ![2, 4, 16640, 96]⟩
abbrev S2x4x16640x1 : Shape := ⟨4, ![2, 4, 16640, 1]⟩
abbrev S2x4x16640x31 : Shape := ⟨4, ![2, 4, 16640, 31]⟩
abbrev S2x4x16640x128 : Shape := ⟨4, ![2, 4, 16640, 128]⟩
abbrev S2x4x16640 : Shape := ⟨3, ![2, 4, 16640]⟩
abbrev S2x4 : Shape := ⟨2, ![2, 4]⟩
abbrev S2x4x1x1 : Shape := ⟨4, ![2, 4, 1, 1]⟩
abbrev S2x4x1x128 : Shape := ⟨4, ![2, 4, 1, 128]⟩
abbrev S1x128x1024 : Shape := ⟨3, ![1, 128, 1024]⟩
abbrev S1x1x16640x128 : Shape := ⟨4, ![1, 1, 16640, 128]⟩
abbrev S1x128x16640 : Shape := ⟨3, ![1, 128, 16640]⟩
abbrev S1x1x1x128 : Shape := ⟨4, ![1, 1, 1, 128]⟩
abbrev S1x1024x128 : Shape := ⟨3, ![1, 1024, 128]⟩
abbrev S128x1024 : Shape := ⟨2, ![128, 1024]⟩
abbrev S1x1024 : Shape := ⟨2, ![1, 1024]⟩
abbrev S16x1024 : Shape := ⟨2, ![16, 1024]⟩
abbrev S1x96x1024 : Shape := ⟨3, ![1, 96, 1024]⟩
abbrev S96x1024 : Shape := ⟨2, ![96, 1024]⟩
abbrev S1024 : Shape := ⟨1, ![1024]⟩
abbrev S1x1x1x1 : Shape := ⟨4, ![1, 1, 1, 1]⟩
abbrev S1x1 : Shape := ⟨2, ![1, 1]⟩
abbrev S1x16x1024 : Shape := ⟨3, ![1, 16, 1024]⟩
abbrev S1x1x3328x128 : Shape := ⟨4, ![1, 1, 3328, 128]⟩
abbrev S3328x128 : Shape := ⟨2, ![3328, 128]⟩
abbrev S3328x1024 : Shape := ⟨2, ![3328, 1024]⟩
abbrev S1x128x3328 : Shape := ⟨3, ![1, 128, 3328]⟩
abbrev S128x3328 : Shape := ⟨2, ![128, 3328]⟩
abbrev S1x1x1024 : Shape := ⟨3, ![1, 1, 1024]⟩
abbrev S1 : Shape := ⟨1, ![1]⟩
abbrev S1x1x1 : Shape := ⟨3, ![1, 1, 1]⟩
abbrev S1x1x256x128 : Shape := ⟨4, ![1, 1, 256, 128]⟩
abbrev S256x128 : Shape := ⟨2, ![256, 128]⟩
abbrev S256x1024 : Shape := ⟨2, ![256, 1024]⟩
abbrev S1x128x256 : Shape := ⟨3, ![1, 128, 256]⟩
abbrev S128x256 : Shape := ⟨2, ![128, 256]⟩
abbrev S1024x128 : Shape := ⟨2, ![1024, 128]⟩

abbrev nBuf : Space → Nat
  | .hbm => 36
  | .vmem => 14
  | .smem => 0
  | _ => 0

abbrev bufTy : (tb : Table) → Fin (tcTables nBuf tb) → BufTy
  | .hbm, ⟨0, _⟩ => ⟨S2x16384x4x96, .f32⟩
  | .hbm, ⟨1, _⟩ => ⟨S2x256x4x96, .f32⟩
  | .hbm, ⟨2, _⟩ => ⟨S2x16384x4x96, .f32⟩
  | .hbm, ⟨3, _⟩ => ⟨S2x256x4x128, .f32⟩
  | .hbm, ⟨4, _⟩ => ⟨S2x16384x4x128, .f32⟩
  | .hbm, ⟨5, _⟩ => ⟨S_, .i32⟩
  | .hbm, ⟨6, _⟩ => ⟨S_, .f32⟩
  | .hbm, ⟨7, _⟩ => ⟨S2x16640x4x128, .f32⟩
  | .hbm, ⟨8, _⟩ => ⟨S2x16640x512, .f32⟩
  | .hbm, ⟨9, _⟩ => ⟨S2x512x16640, .f32⟩
  | .hbm, ⟨10, _⟩ => ⟨S2x512x16640, .bf16⟩
  | .hbm, ⟨11, _⟩ => ⟨S2x16640x4x96, .f32⟩
  | .hbm, ⟨12, _⟩ => ⟨S2x4x16640x96, .f32⟩
  | .hbm, ⟨13, _⟩ => ⟨S_, .f32⟩
  | .hbm, ⟨14, _⟩ => ⟨S2x4x16640x1, .f32⟩
  | .hbm, ⟨15, _⟩ => ⟨S_, .f32⟩
  | .hbm, ⟨16, _⟩ => ⟨S2x4x16640x31, .f32⟩
  | .hbm, ⟨17, _⟩ => ⟨S2x4x16640x128, .f32⟩
  | .hbm, ⟨18, _⟩ => ⟨S2x4x16640x128, .bf16⟩
  | .hbm, ⟨19, _⟩ => ⟨S2x4x16640x96, .bf16⟩
  | .hbm, ⟨20, _⟩ => ⟨S2x4x16640x96, .f32⟩
  | .hbm, ⟨21, _⟩ => ⟨S2x4x16640x96, .f32⟩
  | .hbm, ⟨22, _⟩ => ⟨S_, .f32⟩
  | .hbm, ⟨23, _⟩ => ⟨S2x4x16640, .f32⟩
  | .hbm, ⟨24, _⟩ => ⟨S_, .f32⟩
  | .hbm, ⟨25, _⟩ => ⟨S2x4, .f32⟩
  | .hbm, ⟨26, _⟩ => ⟨S2x4, .f32⟩
  | .hbm, ⟨27, _⟩ => ⟨S2x4x1x1, .f32⟩
  | .hbm, ⟨28, _⟩ => ⟨S2x4x1x128, .f32⟩
  | .hbm, ⟨29, _⟩ => ⟨S2x16640x4x128, .f32⟩
  | .hbm, ⟨30, _⟩ => ⟨S2x16640x512, .f32⟩
  | .hbm, ⟨31, _⟩ => ⟨S2x512x16640, .f32⟩
  | .hbm, ⟨32, _⟩ => ⟨S2x512x16640, .bf16⟩
  | .hbm, ⟨33, _⟩ => ⟨S_, .bf16⟩
  | .hbm, ⟨34, _⟩ => ⟨S2x16640x512, .bf16⟩
  | .hbm, ⟨35, _⟩ => ⟨S2x16640x512, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x1x16640x128, .bf16⟩
  | .local _ .vmem, ⟨3, _⟩ => ⟨S1x1x16640x128, .bf16⟩
  | .local _ .vmem, ⟨4, _⟩ => ⟨S1x128x16640, .bf16⟩
  | .local _ .vmem, ⟨5, _⟩ => ⟨S1x128x16640, .bf16⟩
  | .local _ .vmem, ⟨6, _⟩ => ⟨S1x1x1x128, .f32⟩
  | .local _ .vmem, ⟨7, _⟩ => ⟨S1x1x1x128, .f32⟩
  | .local _ .vmem, ⟨8, _⟩ => ⟨S1x1024x128, .bf16⟩
  | .local _ .vmem, ⟨9, _⟩ => ⟨S1x1024x128, .bf16⟩
  | .local _ .vmem, ⟨10, _⟩ => ⟨S1x128x1024, .bf16⟩
  | .local _ .vmem, ⟨11, _⟩ => ⟨S128x1024, .f32⟩
  | .local _ .vmem, ⟨12, _⟩ => ⟨S1x1024, .f32⟩
  | .local _ .vmem, ⟨13, _⟩ => ⟨S1x1024, .f32⟩
  | _, _ => ⟨S2x16384x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 16], ![false, false, false]⟩

@[reducible] def k0_t1_loop : Scf.Loop 32 :=
  let c0_i32_24 : BitVec 32 := 0#32
  let c5_i32 : BitVec 32 := 5#32
  let v45 : BitVec 32 := Scalar.addi c0_i32_24 c5_i32
  let c1_i32 : BitVec 32 := 1#32
  ⟨c0_i32_24, v45, c1_i32⟩
def k0_mult1 (k0_t1 : Fin k0_t1_loop.trips) : BitVec 32 :=
  let c0_i32_24 : BitVec 32 := 0#32
  let c1_i32 : BitVec 32 := 1#32
  let arg13 : BitVec 32 := Scf.iv c0_i32_24 c1_i32 k0_t1
  let c3328_i32 : BitVec 32 := 3328#32
  let v64 : BitVec 32 := Scalar.muli arg13 c3328_i32
  v64
def k0_off1 (k0_t1 : Fin k0_t1_loop.trips) : Fin 4 → Nat :=
  let c0_38 : Index := 0#32
  let c0_39 : Index := 0#32
  let c0_i32_24 : BitVec 32 := 0#32
  let c1_i32 : BitVec 32 := 1#32
  let arg13 : BitVec 32 := Scf.iv c0_i32_24 c1_i32 k0_t1
  let c3328_i32 : BitVec 32 := 3328#32
  let v64 : BitVec 32 := Scalar.muli arg13 c3328_i32
  let v65 : BitVec 32 := v64
  let v66 : Index := Scalar.indexCast v65
  let c0_40 : Index := 0#32
  ![0, 0, v66.toNat, 0]
def k0_off2 (k0_t1 : Fin k0_t1_loop.trips) : Fin 3 → Nat :=
  let c0_52 : Index := 0#32
  let c0_53 : Index := 0#32
  let c0_i32_24 : BitVec 32 := 0#32
  let c1_i32 : BitVec 32 := 1#32
  let arg13 : BitVec 32 := Scf.iv c0_i32_24 c1_i32 k0_t1
  let c3328_i32 : BitVec 32 := 3328#32
  let v64 : BitVec 32 := Scalar.muli arg13 c3328_i32
  let v65 : BitVec 32 := v64
  let v81 : Index := Scalar.indexCast v65
  ![0, 0, v81.toNat]
@[reducible] def k0_t2_loop : Scf.Loop 32 :=
  let c0_i32_47 : BitVec 32 := 0#32
  let c65_i32 : BitVec 32 := 65#32
  let v76 : BitVec 32 := Scalar.addi c0_i32_47 c65_i32
  let c1_i32_48 : BitVec 32 := 1#32
  ⟨c0_i32_47, v76, c1_i32_48⟩
def k0_mult2 (k0_t2 : Fin k0_t2_loop.trips) : BitVec 32 :=
  let c0_i32_47 : BitVec 32 := 0#32
  let c1_i32_48 : BitVec 32 := 1#32
  let arg13 : BitVec 32 := Scf.iv c0_i32_47 c1_i32_48 k0_t2
  let c256_i32 : BitVec 32 := 256#32
  let v77 : BitVec 32 := Scalar.muli arg13 c256_i32
  v77
def k0_off3 (k0_t2 : Fin k0_t2_loop.trips) : Fin 4 → Nat :=
  let c0_50 : Index := 0#32
  let c0_51 : Index := 0#32
  let c0_i32_47 : BitVec 32 := 0#32
  let c1_i32_48 : BitVec 32 := 1#32
  let arg13 : BitVec 32 := Scf.iv c0_i32_47 c1_i32_48 k0_t2
  let c256_i32 : BitVec 32 := 256#32
  let v77 : BitVec 32 := Scalar.muli arg13 c256_i32
  let v78 : BitVec 32 := v77
  let v79 : Index := Scalar.indexCast v78
  let c0_52 : Index := 0#32
  ![0, 0, v79.toNat, 0]
def k0_off4 (k0_t2 : Fin k0_t2_loop.trips) : Fin 3 → Nat :=
  let c0_67 : Index := 0#32
  let c0_68 : Index := 0#32
  let c0_i32_47 : BitVec 32 := 0#32
  let c1_i32_48 : BitVec 32 := 1#32
  let arg13 : BitVec 32 := Scf.iv c0_i32_47 c1_i32_48 k0_t2
  let c256_i32 : BitVec 32 := 256#32
  let v77 : BitVec 32 := Scalar.muli arg13 c256_i32
  let v78 : BitVec 32 := v77
  let v105 : Index := Scalar.indexCast v78
  ![0, 0, v105.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, arg1.toNat, v0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat, arg1.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x16640x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x16640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "q_scale" => some (((3424635 / 33554432) * (Real.log 2)⁻¹ : ℝ) : EReal)
  | _ => none
-- ==== ReferenceIdeal.lean ====
abbrev S2x16384x4x96 : Shape := ⟨4, ![2, 16384, 4, 96]⟩
abbrev S2x256x4x96 : Shape := ⟨4, ![2, 256, 4, 96]⟩
abbrev S2x256x4x128 : Shape := ⟨4, ![2, 256, 4, 128]⟩
abbrev S2x16384x4x128 : Shape := ⟨4, ![2, 16384, 4, 128]⟩
abbrev S2x4x256x96 : Shape := ⟨4, ![2, 4, 256, 96]⟩
abbrev S2x4x16384x96 : Shape := ⟨4, ![2, 4, 16384, 96]⟩
abbrev S2x4x16640x96 : Shape := ⟨4, ![2, 4, 16640, 96]⟩
abbrev S2x4x256x128 : Shape := ⟨4, ![2, 4, 256, 128]⟩
abbrev S2x4x16384x128 : Shape := ⟨4, ![2, 4, 16384, 128]⟩
abbrev S2x4x16640x128 : Shape := ⟨4, ![2, 4, 16640, 128]⟩
abbrev S2x4x16384x16640 : Shape := ⟨4, ![2, 4, 16384, 16640]⟩
abbrev S_ : Shape := ⟨0, ![]⟩
abbrev S2x4x16384 : Shape := ⟨3, ![2, 4, 16384]⟩
abbrev S2x4x16384x1 : Shape := ⟨4, ![2, 4, 16384, 1]⟩
abbrev S2x16384x512 : Shape := ⟨3, ![2, 16384, 512]⟩
abbrev S2x16640x512 : Shape := ⟨3, ![2, 16640, 512]⟩

abbrev nBuf : Space → Nat
  | .hbm => 36
  | .vmem => 0
  | .smem => 0
  | _ => 0

abbrev bufTy : (tb : Table) → Fin (tcTables nBuf tb) → BufTy
  | .hbm, ⟨0, _⟩ => ⟨S2x16384x4x96, .f32⟩
  | .hbm, ⟨1, _⟩ => ⟨S2x256x4x96, .f32⟩
  | .hbm, ⟨2, _⟩ => ⟨S2x16384x4x96, .f32⟩
  | .hbm, ⟨3, _⟩ => ⟨S2x256x4x128, .f32⟩
  | .hbm, ⟨4, _⟩ => ⟨S2x16384x4x128, .f32⟩
  | .hbm, ⟨5, _⟩ => ⟨S2x4x256x96, .f32⟩
  | .hbm, ⟨6, _⟩ => ⟨S2x4x16384x96, .f32⟩
  | .hbm, ⟨7, _⟩ => ⟨S2x4x16640x96, .f32⟩
  | .hbm, ⟨8, _⟩ => ⟨S2x4x256x128, .f32⟩
  | .hbm, ⟨9, _⟩ => ⟨S2x4x16384x128, .f32⟩
  | .hbm, ⟨10, _⟩ => ⟨S2x4x16640x128, .f32⟩
  | .hbm, ⟨11, _⟩ => ⟨S2x4x16384x16640, .f32⟩
  | .hbm, ⟨12, _⟩ => ⟨S_, .f32⟩
  | .hbm, ⟨13, _⟩ => ⟨S2x4x16384x16640, .f32⟩
  | .hbm, ⟨14, _⟩ => ⟨S2x4x16384x16640, .f32⟩
  | .hbm, ⟨15, _⟩ => ⟨S_, .f32⟩
  | .hbm, ⟨16, _⟩ => ⟨S2x4x16384, .f32⟩
  | .hbm, ⟨17, _⟩ => ⟨S_, .f32⟩
  | .hbm, ⟨18, _⟩ => ⟨S2x4x16384, .f32⟩
  | .hbm, ⟨19, _⟩ => ⟨S2x4x16384, .f32⟩
  | .hbm, ⟨20, _⟩ => ⟨S2x4x16384x1, .f32⟩
  | .hbm, ⟨21, _⟩ => ⟨S2x4x16384x16640, .f32⟩
  | .hbm, ⟨22, _⟩ => ⟨S2x4x16384x16640, .f32⟩
  | .hbm, ⟨23, _⟩ => ⟨S2x4x16384x16640, .f32⟩
  | .hbm, ⟨24, _⟩ => ⟨S_, .f32⟩
  | .hbm, ⟨25, _⟩ => ⟨S2x4x16384, .f32⟩
  | .hbm, ⟨26, _⟩ => ⟨S2x4x16384x1, .f32⟩
  | .hbm, ⟨27, _⟩ => ⟨S2x4x16384x16640, .f32⟩
  | .hbm, ⟨28, _⟩ => ⟨S2x4x16384x16640, .f32⟩
  | .hbm, ⟨29, _⟩ => ⟨S2x4x16384x128, .f32⟩
  | .hbm, ⟨30, _⟩ => ⟨S2x16384x4x128, .f32⟩
  | .hbm, ⟨31, _⟩ => ⟨S2x16384x512, .f32⟩
  | .hbm, ⟨32, _⟩ => ⟨S_, .i32⟩
  | .hbm, ⟨33, _⟩ => ⟨S_, .f32⟩
  | .hbm, ⟨34, _⟩ => ⟨S2x16640x512, .f32⟩
  | .hbm, ⟨35, _⟩ => ⟨S2x16640x512, .bf16⟩
  | _, _ => ⟨S2x16384x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c : Ref sig .tc := ⟨.hbm, 32, rfl⟩
abbrev main_call0_v0 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Kernel2.lean ====
abbrev S2x16384x8x64 : Shape := ⟨4, ![2, 16384, 8, 64]⟩
abbrev S2x256x2x64 : Shape := ⟨4, ![2, 256, 2, 64]⟩
abbrev S2x16384x2x64 : Shape := ⟨4, ![2, 16384, 2, 64]⟩
abbrev S_ : Shape := ⟨0, ![]⟩
abbrev S2x16640x8x64 : Shape := ⟨4, ![2, 16640, 8, 64]⟩
abbrev S2x16640x512 : Shape := ⟨3, ![2, 16640, 512]⟩
abbrev S2x512x16640 : Shape := ⟨3, ![2, 512, 16640]⟩
abbrev S2x16640x2x64 : Shape := ⟨4, ![2, 16640, 2, 64]⟩
abbrev S2x2x16640x64 : Shape := ⟨4, ![2, 2, 16640, 64]⟩
abbrev S2x2x16640x1 : Shape := ⟨4, ![2, 2, 16640, 1]⟩
abbrev S2x2x16640x63 : Shape := ⟨4, ![2, 2, 16640, 63]⟩
abbrev S2x2x16640x128 : Shape := ⟨4, ![2, 2, 16640, 128]⟩
abbrev S2x2x16640 : Shape := ⟨3, ![2, 2, 16640]⟩
abbrev S2x2 : Shape := ⟨2, ![2, 2]⟩
abbrev S2x2x1x1 : Shape := ⟨4, ![2, 2, 1, 1]⟩
abbrev S2x2x1x128 : Shape := ⟨4, ![2, 2, 1, 128]⟩
abbrev S2x16640x128 : Shape := ⟨3, ![2, 16640, 128]⟩
abbrev S2x128x16640 : Shape := ⟨3, ![2, 128, 16640]⟩
abbrev S1x256x256 : Shape := ⟨3, ![1, 256, 256]⟩
abbrev S1x1x16640x128 : Shape := ⟨4, ![1, 1, 16640, 128]⟩
abbrev S1x64x16640 : Shape := ⟨3, ![1, 64, 16640]⟩
abbrev S1x1x1x128 : Shape := ⟨4, ![1, 1, 1, 128]⟩
abbrev S1x128x1024 : Shape := ⟨3, ![1, 128, 1024]⟩
abbrev S64x1024 : Shape := ⟨2, ![64, 1024]⟩
abbrev S1x1024 : Shape := ⟨2, ![1, 1024]⟩
abbrev S16x256 : Shape := ⟨2, ![16, 256]⟩
abbrev S1x64x256 : Shape := ⟨3, ![1, 64, 256]⟩
abbrev S64x256 : Shape := ⟨2, ![64, 256]⟩
abbrev S256 : Shape := ⟨1, ![256]⟩
abbrev S1x256 : Shape := ⟨2, ![1, 256]⟩
abbrev S1x1x1x1 : Shape := ⟨4, ![1, 1, 1, 1]⟩
abbrev S1x1 : Shape := ⟨2, ![1, 1]⟩
abbrev S1x16x256 : Shape := ⟨3, ![1, 16, 256]⟩
abbrev S48x256 : Shape := ⟨2, ![48, 256]⟩
abbrev S1x48x256 : Shape := ⟨3, ![1, 48, 256]⟩
abbrev S1x1x3328x128 : Shape := ⟨4, ![1, 1, 3328, 128]⟩
abbrev S3328x128 : Shape := ⟨2, ![3328, 128]⟩
abbrev S128x1024 : Shape := ⟨2, ![128, 1024]⟩
abbrev S3328x1024 : Shape := ⟨2, ![3328, 1024]⟩
abbrev S1024 : Shape := ⟨1, ![1024]⟩
abbrev S1x64x3328 : Shape := ⟨3, ![1, 64, 3328]⟩
abbrev S64x3328 : Shape := ⟨2, ![64, 3328]⟩
abbrev S1x1x1024 : Shape := ⟨3, ![1, 1, 1024]⟩
abbrev S1 : Shape := ⟨1, ![1]⟩
abbrev S1x1x1 : Shape := ⟨3, ![1, 1, 1]⟩
abbrev S1x1x256x128 : Shape := ⟨4, ![1, 1, 256, 128]⟩
abbrev S256x128 : Shape := ⟨2, ![256, 128]⟩
abbrev S256x1024 : Shape := ⟨2, ![256, 1024]⟩
abbrev S256x64 : Shape := ⟨2, ![256, 64]⟩
abbrev S1x256x64 : Shape := ⟨3, ![1, 256, 64]⟩

abbrev nBuf : Space → Nat
  | .hbm => 36
  | .vmem => 14
  | .smem => 0
  | _ => 0

abbrev bufTy : (tb : Table) → Fin (tcTables nBuf tb) → BufTy
  | .hbm, ⟨0, _⟩ => ⟨S2x16384x8x64, .f32⟩
  | .hbm, ⟨1, _⟩ => ⟨S2x256x2x64, .f32⟩
  | .hbm, ⟨2, _⟩ => ⟨S2x16384x2x64, .f32⟩
  | .hbm, ⟨3, _⟩ => ⟨S2x256x2x64, .f32⟩
  | .hbm, ⟨4, _⟩ => ⟨S2x16384x2x64, .f32⟩
  | .hbm, ⟨5, _⟩ => ⟨S_, .i32⟩
  | .hbm, ⟨6, _⟩ => ⟨S_, .f32⟩
  | .hbm, ⟨7, _⟩ => ⟨S2x16640x8x64, .f32⟩
  | .hbm, ⟨8, _⟩ => ⟨S2x16640x512, .f32⟩
  | .hbm, ⟨9, _⟩ => ⟨S2x512x16640, .f32⟩
  | .hbm, ⟨10, _⟩ => ⟨S2x512x16640, .bf16⟩
  | .hbm, ⟨11, _⟩ => ⟨S2x16640x2x64, .f32⟩
  | .hbm, ⟨12, _⟩ => ⟨S2x2x16640x64, .f32⟩
  | .hbm, ⟨13, _⟩ => ⟨S_, .f32⟩
  | .hbm, ⟨14, _⟩ => ⟨S2x2x16640x1, .f32⟩
  | .hbm, ⟨15, _⟩ => ⟨S_, .f32⟩
  | .hbm, ⟨16, _⟩ => ⟨S2x2x16640x63, .f32⟩
  | .hbm, ⟨17, _⟩ => ⟨S2x2x16640x128, .f32⟩
  | .hbm, ⟨18, _⟩ => ⟨S2x2x16640x128, .bf16⟩
  | .hbm, ⟨19, _⟩ => ⟨S2x2x16640x64, .bf16⟩
  | .hbm, ⟨20, _⟩ => ⟨S2x2x16640x64, .f32⟩
  | .hbm, ⟨21, _⟩ => ⟨S2x2x16640x64, .f32⟩
  | .hbm, ⟨22, _⟩ => ⟨S_, .f32⟩
  | .hbm, ⟨23, _⟩ => ⟨S2x2x16640, .f32⟩
  | .hbm, ⟨24, _⟩ => ⟨S_, .f32⟩
  | .hbm, ⟨25, _⟩ => ⟨S2x2, .f32⟩
  | .hbm, ⟨26, _⟩ => ⟨S2x2, .f32⟩
  | .hbm, ⟨27, _⟩ => ⟨S2x2x1x1, .f32⟩
  | .hbm, ⟨28, _⟩ => ⟨S2x2x1x128, .f32⟩
  | .hbm, ⟨29, _⟩ => ⟨S2x16640x2x64, .f32⟩
  | .hbm, ⟨30, _⟩ => ⟨S2x16640x128, .f32⟩
  | .hbm, ⟨31, _⟩ => ⟨S2x128x16640, .f32⟩
  | .hbm, ⟨32, _⟩ => ⟨S2x128x16640, .bf16⟩
  | .hbm, ⟨33, _⟩ => ⟨S_, .bf16⟩
  | .hbm, ⟨34, _⟩ => ⟨S2x16640x512, .bf16⟩
  | .hbm, ⟨35, _⟩ => ⟨S2x16640x512, .bf16⟩
  | .local _ .vmem, ⟨0, _⟩ => ⟨S1x256x256, .bf16⟩
  | .local _ .vmem, ⟨1, _⟩ => ⟨S1x256x256, .bf16⟩
  | .local _ .vmem, ⟨2, _⟩ => ⟨S1x1x16640x128, .bf16⟩
  | .local _ .vmem, ⟨3, _⟩ => ⟨S1x1x16640x128, .bf16⟩
  | .local _ .vmem, ⟨4, _⟩ => ⟨S1x64x16640, .bf16⟩
  | .local _ .vmem, ⟨5, _⟩ => ⟨S1x64x16640, .bf16⟩
  | .local _ .vmem, ⟨6, _⟩ => ⟨S1x1x1x128, .f32⟩
  | .local _ .vmem, ⟨7, _⟩ => ⟨S1x1x1x128, .f32⟩
  | .local _ .vmem, ⟨8, _⟩ => ⟨S1x256x256, .bf16⟩
  | .local _ .vmem, ⟨9, _⟩ => ⟨S1x256x256, .bf16⟩
  | .local _ .vmem, ⟨10, _⟩ => ⟨S1x128x1024, .bf16⟩
  | .local _ .vmem, ⟨11, _⟩ => ⟨S64x1024, .f32⟩
  | .local _ .vmem, ⟨12, _⟩ => ⟨S1x1024, .f32⟩
  | .local _ .vmem, ⟨13, _⟩ => ⟨S1x1024, .f32⟩
  | _, _ => ⟨S2x16384x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 64], ![false, false, false]⟩

@[reducible] def k0_t1_loop : Scf.Loop 32 :=
  let c0_i32_88 : BitVec 32 := 0#32
  let c5_i32 : BitVec 32 := 5#32
  let v153 : BitVec 32 := Scalar.addi c0_i32_88 c5_i32
  let c1_i32 : BitVec 32 := 1#32
  ⟨c0_i32_88, v153, c1_i32⟩
def k0_mult1 (k0_t1 : Fin k0_t1_loop.trips) : BitVec 32 :=
  let c0_i32_88 : BitVec 32 := 0#32
  let c1_i32 : BitVec 32 := 1#32
  let arg13 : BitVec 32 := Scf.iv c0_i32_88 c1_i32 k0_t1
  let c3328_i32 : BitVec 32 := 3328#32
  let v199 : BitVec 32 := Scalar.muli arg13 c3328_i32
  v199
def k0_off1 (k0_t1 : Fin k0_t1_loop.trips) : Fin 4 → Nat :=
  let c0_123 : Index := 0#32
  let c0_124 : Index := 0#32
  let c0_i32_88 : BitVec 32 := 0#32
  let c1_i32 : BitVec 32 := 1#32
  let arg13 : BitVec 32 := Scf.iv c0_i32_88 c1_i32 k0_t1
  let c3328_i32 : BitVec 32 := 3328#32
  let v199 : BitVec 32 := Scalar.muli arg13 c3328_i32
  let v200 : BitVec 32 := v199
  let v201 : Index := Scalar.indexCast v200
  let c0_125 : Index := 0#32
  ![0, 0, v201.toNat, 0]
def k0_off2 (k0_t1 : Fin k0_t1_loop.trips) : Fin 3 → Nat :=
  let c0_137 : Index := 0#32
  let c0_138 : Index := 0#32
  let c0_i32_88 : BitVec 32 := 0#32
  let c1_i32 : BitVec 32 := 1#32
  let arg13 : BitVec 32 := Scf.iv c0_i32_88 c1_i32 k0_t1
  let c3328_i32 : BitVec 32 := 3328#32
  let v199 : BitVec 32 := Scalar.muli arg13 c3328_i32
  let v200 : BitVec 32 := v199
  let v216 : Index := Scalar.indexCast v200
  ![0, 0, v216.toNat]
@[reducible] def k0_t2_loop : Scf.Loop 32 :=
  let c0_i32_132 : BitVec 32 := 0#32
  let c65_i32 : BitVec 32 := 65#32
  let v211 : BitVec 32 := Scalar.addi c0_i32_132 c65_i32
  let c1_i32_133 : BitVec 32 := 1#32
  ⟨c0_i32_132, v211, c1_i32_133⟩
def k0_mult2 (k0_t2 : Fin k0_t2_loop.trips) : BitVec 32 :=
  let c0_i32_132 : BitVec 32 := 0#32
  let c1_i32_133 : BitVec 32 := 1#32
  let arg13 : BitVec 32 := Scf.iv c0_i32_132 c1_i32_133 k0_t2
  let c256_i32 : BitVec 32 := 256#32
  let v212 : BitVec 32 := Scalar.muli arg13 c256_i32
  v212
def k0_off3 (k0_t2 : Fin k0_t2_loop.trips) : Fin 4 → Nat :=
  let c0_135 : Index := 0#32
  let c0_136 : Index := 0#32
  let c0_i32_132 : BitVec 32 := 0#32
  let c1_i32_133 : BitVec 32 := 1#32
  let arg13 : BitVec 32 := Scf.iv c0_i32_132 c1_i32_133 k0_t2
  let c256_i32 : BitVec 32 := 256#32
  let v212 : BitVec 32 := Scalar.muli arg13 c256_i32
  let v213 : BitVec 32 := v212
  let v214 : Index := Scalar.indexCast v213
  let c0_137 : Index := 0#32
  ![0, 0, v214.toNat, 0]
def k0_off4 (k0_t2 : Fin k0_t2_loop.trips) : Fin 3 → Nat :=
  let c0_152 : Index := 0#32
  let c0_153 : Index := 0#32
  let c0_i32_132 : BitVec 32 := 0#32
  let c1_i32_133 : BitVec 32 := 1#32
  let arg13 : BitVec 32 := Scf.iv c0_i32_132 c1_i32_133 k0_t2
  let c256_i32 : BitVec 32 := 256#32
  let v212 : BitVec 32 := Scalar.muli arg13 c256_i32
  let v213 : BitVec 32 := v212
  let v240 : Index := Scalar.indexCast v213
  ![0, 0, v240.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, arg1.toNat, v0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x16640x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x64x16640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Kernel2Ideal.lean ====
variable {F : FTy → Type} [FloatOps F] [Named F]
def κ : String → Option EReal := fun
  | "q_scale" => some (((1 / 8) * (Real.log 2)⁻¹ : ℝ) : EReal)
  | _ => none
-- ==== Reference2Ideal.lean ====
abbrev S2x16384x8x64 : Shape := ⟨4, ![2, 16384, 8, 64]⟩
abbrev S2x256x2x64 : Shape := ⟨4, ![2, 256, 2, 64]⟩
abbrev S2x16384x2x64 : Shape := ⟨4, ![2, 16384, 2, 64]⟩
abbrev S2x2x256x64 : Shape := ⟨4, ![2, 2, 256, 64]⟩
abbrev S2x2x16384x64 : Shape := ⟨4, ![2, 2, 16384, 64]⟩
abbrev S2x2x16640x64 : Shape := ⟨4, ![2, 2, 16640, 64]⟩
abbrev S2x16384x2x4x64 : Shape := ⟨5, ![2, 16384, 2, 4, 64]⟩
abbrev S2x2x4x16384x64 : Shape := ⟨5, ![2, 2, 4, 16384, 64]⟩
abbrev S2x2x4x16384x16640 : Shape := ⟨5, ![2, 2, 4, 16384, 16640]⟩
abbrev S_ : Shape := ⟨0, ![]⟩
abbrev S2x2x4x16384 : Shape := ⟨4, ![2, 2, 4, 16384]⟩
abbrev S2x2x4x16384x1 : Shape := ⟨5, ![2, 2, 4, 16384, 1]⟩
abbrev S2x16384x512 : Shape := ⟨3, ![2, 16384, 512]⟩
abbrev S2x16640x512 : Shape := ⟨3, ![2, 16640, 512]⟩

abbrev nBuf : Space → Nat
  | .hbm => 38
  | .vmem => 0
  | .smem => 0
  | _ => 0

abbrev bufTy : (tb : Table) → Fin (tcTables nBuf tb) → BufTy
  | .hbm, ⟨0, _⟩ => ⟨S2x16384x8x64, .f32⟩
  | .hbm, ⟨1, _⟩ => ⟨S2x256x2x64, .f32⟩
  | .hbm, ⟨2, _⟩ => ⟨S2x16384x2x64, .f32⟩
  | .hbm, ⟨3, _⟩ => ⟨S2x256x2x64, .f32⟩
  | .hbm, ⟨4, _⟩ => ⟨S2x16384x2x64, .f32⟩
  | .hbm, ⟨5, _⟩ => ⟨S2x2x256x64, .f32⟩
  | .hbm, ⟨6, _⟩ => ⟨S2x2x16384x64, .f32⟩
  | .hbm, ⟨7, _⟩ => ⟨S2x2x16640x64, .f32⟩
  | .hbm, ⟨8, _⟩ => ⟨S2x2x256x64, .f32⟩
  | .hbm, ⟨9, _⟩ => ⟨S2x2x16384x64, .f32⟩
  | .hbm, ⟨10, _⟩ => ⟨S2x2x16640x64, .f32⟩
  | .hbm, ⟨11, _⟩ => ⟨S2x16384x2x4x64, .f32⟩
  | .hbm, ⟨12, _⟩ => ⟨S2x2x4x16384x64, .f32⟩
  | .hbm, ⟨13, _⟩ => ⟨S2x2x4x16384x16640, .f32⟩
  | .hbm, ⟨14, _⟩ => ⟨S_, .f32⟩
  | .hbm, ⟨15, _⟩ => ⟨S2x2x4x16384x16640, .f32⟩
  | .hbm, ⟨16, _⟩ => ⟨S2x2x4x16384x16640, .f32⟩
  | .hbm, ⟨17, _⟩ => ⟨S_, .f32⟩
  | .hbm, ⟨18, _⟩ => ⟨S2x2x4x16384, .f32⟩
  | .hbm, ⟨19, _⟩ => ⟨S_, .f32⟩
  | .hbm, ⟨20, _⟩ => ⟨S2x2x4x16384, .f32⟩
  | .hbm, ⟨21, _⟩ => ⟨S2x2x4x16384, .f32⟩
  | .hbm, ⟨22, _⟩ => ⟨S2x2x4x16384x1, .f32⟩
  | .hbm, ⟨23, _⟩ => ⟨S2x2x4x16384x16640, .f32⟩
  | .hbm, ⟨24, _⟩ => ⟨S2x2x4x16384x16640, .f32⟩
  | .hbm, ⟨25, _⟩ => ⟨S2x2x4x16384x16640, .f32⟩
  | .hbm, ⟨26, _⟩ => ⟨S_, .f32⟩
  | .hbm, ⟨27, _⟩ => ⟨S2x2x4x16384, .f32⟩
  | .hbm, ⟨28, _⟩ => ⟨S2x2x4x16384x1, .f32⟩
  | .hbm, ⟨29, _⟩ => ⟨S2x2x4x16384x16640, .f32⟩
  | .hbm, ⟨30, _⟩ => ⟨S2x2x4x16384x16640, .f32⟩
  | .hbm, ⟨31, _⟩ => ⟨S2x2x4x16384x64, .f32⟩
  | .hbm, ⟨32, _⟩ => ⟨S2x16384x2x4x64, .f32⟩
  | .hbm, ⟨33, _⟩ => ⟨S2x16384x512, .f32⟩
  | .hbm, ⟨34, _⟩ => ⟨S_, .i32⟩
  | .hbm, ⟨35, _⟩ => ⟨S_, .f32⟩
  | .hbm, ⟨36, _⟩ => ⟨S2x16640x512, .f32⟩
  | .hbm, ⟨37, _⟩ => ⟨S2x16640x512, .bf16⟩
  | _, _ => ⟨S2x16384x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c : Ref sig .tc := ⟨.hbm, 34, rfl⟩
abbrev main_call0_v0 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Kernel3.lean ====
abbrev S2x16384x8x64 : Shape := ⟨4, ![2, 16384, 8, 64]⟩
abbrev S2x256x8x64 : Shape := ⟨4, ![2, 256, 8, 64]⟩
abbrev S2x256x4x128 : Shape := ⟨4, ![2, 256, 4, 128]⟩
abbrev S2x16384x4x128 : Shape := ⟨4, ![2, 16384, 4, 128]⟩
abbrev S4x64 : Shape := ⟨2, ![4, 64]⟩
abbrev S128 : Shape := ⟨1, ![128]⟩
abbrev S_ : Shape := ⟨0, ![]⟩
abbrev S2x16640x8x64 : Shape := ⟨4, ![2, 16640, 8, 64]⟩
abbrev S2x16640x512 : Shape := ⟨3, ![2, 16640, 512]⟩
abbrev S2x512x16640 : Shape := ⟨3, ![2, 512, 16640]⟩
abbrev S2x8x16640x64 : Shape := ⟨4, ![2, 8, 16640, 64]⟩
abbrev S2x8x16640x1 : Shape := ⟨4, ![2, 8, 16640, 1]⟩
abbrev S2x8x16640x63 : Shape := ⟨4, ![2, 8, 16640, 63]⟩
abbrev S2x8x16640x128 : Shape := ⟨4, ![2, 8, 16640, 128]⟩
abbrev S2x8x16640 : Shape := ⟨3, ![2, 8, 16640]⟩
abbrev S2x8 : Shape := ⟨2, ![2, 8]⟩
abbrev S2x8x1x1 : Shape := ⟨4, ![2, 8, 1, 1]⟩
abbrev S2x8x1x128 : Shape := ⟨4, ![2, 8, 1, 128]⟩
abbrev S2x16640x4x128 : Shape := ⟨4, ![2, 16640, 4, 128]⟩
abbrev S1x128 : Shape := ⟨2, ![1, 128]⟩
abbrev S1x128x512 : Shape := ⟨3, ![1, 128, 512]⟩
abbrev S1x2x16640x128 : Shape := ⟨4, ![1, 2, 16640, 128]⟩
abbrev S1x128x16640 : Shape := ⟨3, ![1, 128, 16640]⟩
abbrev S1x2x1x128 : Shape := ⟨4, ![1, 2, 1, 128]⟩
abbrev S1x512x128 : Shape := ⟨3, ![1, 512, 128]⟩
abbrev S2x128x512 : Shape := ⟨3, ![2, 128, 512]⟩
abbrev S128x1024 : Shape := ⟨2, ![128, 1024]⟩
abbrev S1x1024 : Shape := ⟨2, ![1, 1024]⟩
abbrev S16x512 : Shape := ⟨2, ![16, 512]⟩
abbrev S1x64x512 : Shape := ⟨3, ![1, 64, 512]⟩
abbrev S64x512 : Shape := ⟨2, ![64, 512]⟩
abbrev S512 : Shape := ⟨1, ![512]⟩
abbrev S1x512 : Shape := ⟨2, ![1, 512]⟩
abbrev S1x1x1x1 : Shape := ⟨4, ![1, 1, 1, 1]⟩
abbrev S1x1 : Shape := ⟨2, ![1, 1]⟩
abbrev S1x16x512 : Shape := ⟨3, ![1, 16, 512]⟩
abbrev S48x512 : Shape := ⟨2, ![48, 512]⟩
abbrev S1x48x512 : Shape := ⟨3, ![1, 48, 512]⟩
abbrev S1x1x3328x128 : Shape := ⟨4, ![1, 1, 3328, 128]⟩
abbrev S3328x128 : Shape := ⟨2, ![3328, 128]⟩
abbrev S128x512 : Shape := ⟨2, ![128, 512]⟩
abbrev S3328x512 : Shape := ⟨2, ![3328, 512]⟩
abbrev S3328x1024 : Shape := ⟨2, ![3328, 1024]⟩
abbrev S1024 : Shape := ⟨1, ![1024]⟩
abbrev S1x128x3328 : Shape := ⟨3, ![1, 128, 3328]⟩
abbrev S128x3328 : Shape := ⟨2, ![128, 3328]⟩
abbrev S1x1x1024 : Shape := ⟨3, ![1, 1, 1024]⟩
abbrev S1 : Shape := ⟨1, ![1]⟩
abbrev S1x1x1 : Shape := ⟨3, ![1, 1, 1]⟩
abbrev S1x1x256x128 : Shape := ⟨4, ![1, 1, 256, 128]⟩
abbrev S256x128 : Shape := ⟨2, ![256, 128]⟩
abbrev S256x512 : Shape := ⟨2, ![256, 512]⟩
abbrev S256x1024 : Shape := ⟨2, ![256, 1024]⟩
abbrev S1x128x256 : Shape := ⟨3, ![1, 128, 256]⟩
abbrev S128x256 : Shape := ⟨2, ![128, 256]⟩
abbrev S1x64 : Shape := ⟨2, ![1, 64]⟩
abbrev S512x128 : Shape := ⟨2, ![512, 128]⟩

abbrev nBuf : Space → Nat
  | .hbm => 39
  | .vmem => 16
  | .smem => 0
  | _ => 0

abbrev bufTy : (tb : Table) → Fin (tcTables nBuf tb) → BufTy
  | .hbm, ⟨0, _⟩ => ⟨S2x16384x8x64, .f32⟩
  | .hbm, ⟨1, _⟩ => ⟨S2x256x8x64, .f32⟩
  | .hbm, ⟨2, _⟩ => ⟨S2x16384x8x64, .f32⟩
  | .hbm, ⟨3, _⟩ => ⟨S2x256x4x128, .f32⟩
  | .hbm, ⟨4, _⟩ => ⟨S2x16384x4x128, .f32⟩
  | .hbm, ⟨5, _⟩ => ⟨S4x64, .f32⟩
  | .hbm, ⟨6, _⟩ => ⟨S128, .f32⟩
  | .hbm, ⟨7, _⟩ => ⟨S_, .i32⟩
  | .hbm, ⟨8, _⟩ => ⟨S_, .f32⟩
  | .hbm, ⟨9, _⟩ => ⟨S2x16640x8x64, .f32⟩
  | .hbm, ⟨10, _⟩ => ⟨S2x16640x512, .f32⟩
  | .hbm, ⟨11, _⟩ => ⟨S2x512x16640, .f32⟩
  | .hbm, ⟨12, _⟩ => ⟨S2x512x16640, .bf16⟩
  | .hbm, ⟨13, _⟩ => ⟨S2x16640x8x64, .f32⟩
  | .hbm, ⟨14, _⟩ => ⟨S2x8x16640x64, .f32⟩
  | .hbm, ⟨15, _⟩ => ⟨S_, .f32⟩
  | .hbm, ⟨16, _⟩ => ⟨S2x8x16640x1, .f32⟩
  | .hbm, ⟨17, _⟩ => ⟨S_, .f32⟩
  | .hbm, ⟨18, _⟩ => ⟨S2x8x16640x63, .f32⟩
  | .hbm, ⟨19, _⟩ => ⟨S2x8x16640x128, .f32⟩
  | .hbm, ⟨20, _⟩ => ⟨S2x8x16640x128, .bf16⟩
  | .hbm, ⟨21, _⟩ => ⟨S2x8x16640x64, .bf16⟩
  | .hbm, ⟨22, _⟩ => ⟨S2x8x16640x64, .f32⟩
  | .hbm, ⟨23, _⟩ => ⟨S2x8x16640x64, .f32⟩
  | .hbm, ⟨24, _⟩ => ⟨S_, .f32⟩
  | .hbm, ⟨25, _⟩ => ⟨S2x8x16640, .f32⟩
  | .hbm, ⟨26, _⟩ => ⟨S_, .f32⟩
  | .hbm, ⟨27, _⟩ => ⟨S2x8, .f32⟩
  | .hbm, ⟨28, _⟩ => ⟨S2x8, .f32⟩
  | .hbm, ⟨29, _⟩ => ⟨S2x8x1x1, .f32⟩
  | .hbm, ⟨30, _⟩ => ⟨S2x8x1x128, .f32⟩
  | .hbm, ⟨31, _⟩ => ⟨S2x16640x4x128, .f32⟩
  | .hbm, ⟨32, _⟩ => ⟨S2x16640x512, .f32⟩
  | .hbm, ⟨33, _⟩ => ⟨S2x512x16640, .f32⟩
  | .hbm, ⟨34, _⟩ => ⟨S2x512x16640, .bf16⟩
  | .hbm, ⟨35, _⟩ => ⟨S1x128, .f32⟩
  | .hbm, ⟨36, _⟩ => ⟨S_, .bf16⟩
  | .hbm, ⟨37, _⟩ => ⟨S2x16640x512, .bf16⟩
  | .hbm, ⟨38, _⟩ => ⟨S2x16640x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x2x16640x128, .bf16⟩
  | .local _ .vmem, ⟨3, _⟩ => ⟨S1x2x16640x128, .bf16⟩
  | .local _ .vmem, ⟨4, _⟩ => ⟨S1x128x16640, .bf16⟩
  | .local _ .vmem, ⟨5, _⟩ => ⟨S1x128x16640, .bf16⟩
  | .local _ .vmem, ⟨6, _⟩ => ⟨S1x2x1x128, .f32⟩
  | .local _ .vmem, ⟨7, _⟩ => ⟨S1x2x1x128, .f32⟩
  | .local _ .vmem, ⟨8, _⟩ => ⟨S4x64, .f32⟩
  | .local _ .vmem, ⟨9, _⟩ => ⟨S1x128, .f32⟩
  | .local _ .vmem, ⟨10, _⟩ => ⟨S1x512x128, .bf16⟩
  | .local _ .vmem, ⟨11, _⟩ => ⟨S1x512x128, .bf16⟩
  | .local _ .vmem, ⟨12, _⟩ => ⟨S2x128x512, .bf16⟩
  | .local _ .vmem, ⟨13, _⟩ => ⟨S128x1024, .f32⟩
  | .local _ .vmem, ⟨14, _⟩ => ⟨S1x1024, .f32⟩
  | .local _ .vmem, ⟨15, _⟩ => ⟨S1x1024, .f32⟩
  | _, _ => ⟨S2x16384x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![2, 4, 32], ![false, false, false]⟩

@[reducible] def k0_t1_loop : Scf.Loop 32 :=
  let c0_i32_46 : BitVec 32 := 0#32
  let c5_i32 : BitVec 32 := 5#32
  let v81 : BitVec 32 := Scalar.addi c0_i32_46 c5_i32
  let c1_i32 : BitVec 32 := 1#32
  ⟨c0_i32_46, v81, c1_i32⟩
def k0_mult1 (k0_t1 : Fin k0_t1_loop.trips) : BitVec 32 :=
  let c0_i32_46 : BitVec 32 := 0#32
  let c1_i32 : BitVec 32 := 1#32
  let arg15 : BitVec 32 := Scf.iv c0_i32_46 c1_i32 k0_t1
  let c3328_i32 : BitVec 32 := 3328#32
  let v139 : BitVec 32 := Scalar.muli arg15 c3328_i32
  v139
def k0_off1 (k0_t1 : Fin k0_t1_loop.trips) : Fin 4 → Nat :=
  let c0_74 : Index := 0#32
  let c0_75 : Index := 0#32
  let c0_i32_46 : BitVec 32 := 0#32
  let c1_i32 : BitVec 32 := 1#32
  let arg15 : BitVec 32 := Scf.iv c0_i32_46 c1_i32 k0_t1
  let c3328_i32 : BitVec 32 := 3328#32
  let v139 : BitVec 32 := Scalar.muli arg15 c3328_i32
  let v140 : BitVec 32 := v139
  let v141 : Index := Scalar.indexCast v140
  let c0_76 : Index := 0#32
  ![0, 0, v141.toNat, 0]
def k0_off2 (k0_t1 : Fin k0_t1_loop.trips) : Fin 4 → Nat :=
  let c0_81 : Index := 0#32
  let c1_82 : Index := 1#32
  let c0_i32_46 : BitVec 32 := 0#32
  let c1_i32 : BitVec 32 := 1#32
  let arg15 : BitVec 32 := Scf.iv c0_i32_46 c1_i32 k0_t1
  let c3328_i32 : BitVec 32 := 3328#32
  let v139 : BitVec 32 := Scalar.muli arg15 c3328_i32
  let v140 : BitVec 32 := v139
  let v147 : Index := Scalar.indexCast v140
  let c0_83 : Index := 0#32
  ![0, 1, v147.toNat, 0]
def k0_off3 (k0_t1 : Fin k0_t1_loop.trips) : Fin 3 → Nat :=
  let c0_95 : Index := 0#32
  let c0_96 : Index := 0#32
  let c0_i32_46 : BitVec 32 := 0#32
  let c1_i32 : BitVec 32 := 1#32
  let arg15 : BitVec 32 := Scf.iv c0_i32_46 c1_i32 k0_t1
  let c3328_i32 : BitVec 32 := 3328#32
  let v139 : BitVec 32 := Scalar.muli arg15 c3328_i32
  let v140 : BitVec 32 := v139
  let v163 : Index := Scalar.indexCast v140
  ![0, 0, v163.toNat]
@[reducible] def k0_t2_loop : Scf.Loop 32 :=
  let c0_i32_83 : BitVec 32 := 0#32
  let c65_i32 : BitVec 32 := 65#32
  let v151 : BitVec 32 := Scalar.addi c0_i32_83 c65_i32
  let c1_i32_84 : BitVec 32 := 1#32
  ⟨c0_i32_83, v151, c1_i32_84⟩
def k0_mult2 (k0_t2 : Fin k0_t2_loop.trips) : BitVec 32 :=
  let c0_i32_83 : BitVec 32 := 0#32
  let c1_i32_84 : BitVec 32 := 1#32
  let arg15 : BitVec 32 := Scf.iv c0_i32_83 c1_i32_84 k0_t2
  let c256_i32 : BitVec 32 := 256#32
  let v152 : BitVec 32 := Scalar.muli arg15 c256_i32
  v152
def k0_off4 (k0_t2 : Fin k0_t2_loop.trips) : Fin 4 → Nat :=
  let c0_86 : Index := 0#32
  let c0_87 : Index := 0#32
  let c0_i32_83 : BitVec 32 := 0#32
  let c1_i32_84 : BitVec 32 := 1#32
  let arg15 : BitVec 32 := Scf.iv c0_i32_83 c1_i32_84 k0_t2
  let c256_i32 : BitVec 32 := 256#32
  let v152 : BitVec 32 := Scalar.muli arg15 c256_i32
  let v153 : BitVec 32 := v152
  let v154 : Index := Scalar.indexCast v153
  let c0_88 : Index := 0#32
  ![0, 0, v154.toNat, 0]
def k0_off5 (k0_t2 : Fin k0_t2_loop.trips) : Fin 4 → Nat :=
  let c0_93 : Index := 0#32
  let c1_94 : Index := 1#32
  let c0_i32_83 : BitVec 32 := 0#32
  let c1_i32_84 : BitVec 32 := 1#32
  let arg15 : BitVec 32 := Scf.iv c0_i32_83 c1_i32_84 k0_t2
  let c256_i32 : BitVec 32 := 256#32
  let v152 : BitVec 32 := Scalar.muli arg15 c256_i32
  let v153 : BitVec 32 := v152
  let v160 : Index := Scalar.indexCast v153
  let c0_95 : Index := 0#32
  ![0, 1, v160.toNat, 0]
def k0_off6 (k0_t2 : Fin k0_t2_loop.trips) : Fin 3 → Nat :=
  let c0_110 : Index := 0#32
  let c0_111 : Index := 0#32
  let c0_i32_83 : BitVec 32 := 0#32
  let c1_i32_84 : BitVec 32 := 1#32
  let arg15 : BitVec 32 := Scf.iv c0_i32_83 c1_i32_84 k0_t2
  let c256_i32 : BitVec 32 := 256#32
  let v152 : BitVec 32 := Scalar.muli arg15 c256_i32
  let v153 : BitVec 32 := v152
  let v187 : Index := Scalar.indexCast v153
  ![0, 0, v187.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, arg1.toNat, v0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat, arg1.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x16640x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x16640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Kernel3Ideal.lean ====
variable {F : FTy → Type} [FloatOps F] [Named F]
def κ : String → Option EReal := fun
  | "q_scale" => some (((1 / 8) * (Real.log 2)⁻¹ : ℝ) : EReal)
  | _ => none
-- ==== Reference3Ideal.lean ====
abbrev S2x16384x8x64 : Shape := ⟨4, ![2, 16384, 8, 64]⟩
abbrev S2x256x8x64 : Shape := ⟨4, ![2, 256, 8, 64]⟩
abbrev S2x256x4x128 : Shape := ⟨4, ![2, 256, 4, 128]⟩
abbrev S2x16384x4x128 : Shape := ⟨4, ![2, 16384, 4, 128]⟩
abbrev S4x64 : Shape := ⟨2, ![4, 64]⟩
abbrev S128 : Shape := ⟨1, ![128]⟩
abbrev S2x16384x4x2x64 : Shape := ⟨5, ![2, 16384, 4, 2, 64]⟩
abbrev S2x4x2x16384x64 : Shape := ⟨5, ![2, 4, 2, 16384, 64]⟩
abbrev S2x4x1x16384x64 : Shape := ⟨5, ![2, 4, 1, 16384, 64]⟩
abbrev S2x4x16384x64 : Shape := ⟨4, ![2, 4, 16384, 64]⟩
abbrev S2x256x4x2x64 : Shape := ⟨5, ![2, 256, 4, 2, 64]⟩
abbrev S2x4x2x256x64 : Shape := ⟨5, ![2, 4, 2, 256, 64]⟩
abbrev S2x4x1x256x64 : Shape := ⟨5, ![2, 4, 1, 256, 64]⟩
abbrev S2x4x256x64 : Shape := ⟨4, ![2, 4, 256, 64]⟩
abbrev S2x4x16640x64 : Shape := ⟨4, ![2, 4, 16640, 64]⟩
abbrev S2x4x256x128 : Shape := ⟨4, ![2, 4, 256, 128]⟩
abbrev S2x4x16384x128 : Shape := ⟨4, ![2, 4, 16384, 128]⟩
abbrev S2x4x16640x128 : Shape := ⟨4, ![2, 4, 16640, 128]⟩
abbrev S1x64 : Shape := ⟨2, ![1, 64]⟩
abbrev S64 : Shape := ⟨1, ![64]⟩
abbrev S_ : Shape := ⟨0, ![]⟩
abbrev S2x4x16384x16640 : Shape := ⟨4, ![2, 4, 16384, 16640]⟩
abbrev S2x4x16384 : Shape := ⟨3, ![2, 4, 16384]⟩
abbrev S2x4x16384x1 : Shape := ⟨4, ![2, 4, 16384, 1]⟩
abbrev S2x16384x4 : Shape := ⟨3, ![2, 16384, 4]⟩
abbrev S2x16384x4x1 : Shape := ⟨4, ![2, 16384, 4, 1]⟩
abbrev S1x1x1x128 : Shape := ⟨4, ![1, 1, 1, 128]⟩
abbrev S2x16384x512 : Shape := ⟨3, ![2, 16384, 512]⟩
abbrev S2x16640x512 : Shape := ⟨3, ![2, 16640, 512]⟩

abbrev nBuf : Space → Nat
  | .hbm => 114
  | .vmem => 0
  | .smem => 0
  | _ => 0

abbrev bufTy : (tb : Table) → Fin (tcTables nBuf tb) → BufTy
  | .hbm, ⟨0, _⟩ => ⟨S2x16384x8x64, .f32⟩
  | .hbm, ⟨1, _⟩ => ⟨S2x256x8x64, .f32⟩
  | .hbm, ⟨2, _⟩ => ⟨S2x16384x8x64, .f32⟩
  | .hbm, ⟨3, _⟩ => ⟨S2x256x4x128, .f32⟩
  | .hbm, ⟨4, _⟩ => ⟨S2x16384x4x128, .f32⟩
  | .hbm, ⟨5, _⟩ => ⟨S4x64, .f32⟩
  | .hbm, ⟨6, _⟩ => ⟨S128, .f32⟩
  | .hbm, ⟨7, _⟩ => ⟨S2x16384x4x2x64, .f32⟩
  | .hbm, ⟨8, _⟩ => ⟨S2x4x2x16384x64, .f32⟩
  | .hbm, ⟨9, _⟩ => ⟨S2x4x1x16384x64, .f32⟩
  | .hbm, ⟨10, _⟩ => ⟨S2x4x16384x64, .f32⟩
  | .hbm, ⟨11, _⟩ => ⟨S2x4x1x16384x64, .f32⟩
  | .hbm, ⟨12, _⟩ => ⟨S2x4x16384x64, .f32⟩
  | .hbm, ⟨13, _⟩ => ⟨S2x256x4x2x64, .f32⟩
  | .hbm, ⟨14, _⟩ => ⟨S2x4x2x256x64, .f32⟩
  | .hbm, ⟨15, _⟩ => ⟨S2x4x1x256x64, .f32⟩
  | .hbm, ⟨16, _⟩ => ⟨S2x4x256x64, .f32⟩
  | .hbm, ⟨17, _⟩ => ⟨S2x4x1x256x64, .f32⟩
  | .hbm, ⟨18, _⟩ => ⟨S2x4x256x64, .f32⟩
  | .hbm, ⟨19, _⟩ => ⟨S2x16384x4x2x64, .f32⟩
  | .hbm, ⟨20, _⟩ => ⟨S2x4x2x16384x64, .f32⟩
  | .hbm, ⟨21, _⟩ => ⟨S2x4x1x16384x64, .f32⟩
  | .hbm, ⟨22, _⟩ => ⟨S2x4x16384x64, .f32⟩
  | .hbm, ⟨23, _⟩ => ⟨S2x4x1x16384x64, .f32⟩
  | .hbm, ⟨24, _⟩ => ⟨S2x4x16384x64, .f32⟩
  | .hbm, ⟨25, _⟩ => ⟨S2x4x16640x64, .f32⟩
  | .hbm, ⟨26, _⟩ => ⟨S2x4x16640x64, .f32⟩
  | .hbm, ⟨27, _⟩ => ⟨S2x4x256x128, .f32⟩
  | .hbm, ⟨28, _⟩ => ⟨S2x4x16384x128, .f32⟩
  | .hbm, ⟨29, _⟩ => ⟨S2x4x16640x128, .f32⟩
  | .hbm, ⟨30, _⟩ => ⟨S1x64, .f32⟩
  | .hbm, ⟨31, _⟩ => ⟨S64, .f32⟩
  | .hbm, ⟨32, _⟩ => ⟨S1x64, .f32⟩
  | .hbm, ⟨33, _⟩ => ⟨S64, .f32⟩
  | .hbm, ⟨34, _⟩ => ⟨S1x64, .f32⟩
  | .hbm, ⟨35, _⟩ => ⟨S64, .f32⟩
  | .hbm, ⟨36, _⟩ => ⟨S1x64, .f32⟩
  | .hbm, ⟨37, _⟩ => ⟨S64, .f32⟩
  | .hbm, ⟨38, _⟩ => ⟨S64, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S64, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S2x4x16384x16640, .f32⟩
  | .hbm, ⟨50, _⟩ => ⟨S_, .f32⟩
  | .hbm, ⟨51, _⟩ => ⟨S2x4x16384x16640, .f32⟩
  | .hbm, ⟨52, _⟩ => ⟨S2x4x16384x16640, .f32⟩
  | .hbm, ⟨53, _⟩ => ⟨S_, .f32⟩
  | .hbm, ⟨54, _⟩ => ⟨S2x4x16384, .f32⟩
  | .hbm, ⟨55, _⟩ => ⟨S_, .f32⟩
  | .hbm, ⟨56, _⟩ => ⟨S2x4x16384, .f32⟩
  | .hbm, ⟨57, _⟩ => ⟨S2x4x16384, .f32⟩
  | .hbm, ⟨58, _⟩ => ⟨S2x4x16384x1, .f32⟩
  | .hbm, ⟨59, _⟩ => ⟨S2x4x16384x16640, .f32⟩
  | .hbm, ⟨60, _⟩ => ⟨S2x4x16384x16640, .f32⟩
  | .hbm, ⟨61, _⟩ => ⟨S2x4x16384x16640, .f32⟩
  | .hbm, ⟨62, _⟩ => ⟨S_, .f32⟩
  | .hbm, ⟨63, _⟩ => ⟨S2x4x16384, .f32⟩
  | .hbm, ⟨64, _⟩ => ⟨S2x4x16384x1, .f32⟩
  | .hbm, ⟨65, _⟩ => ⟨S2x4x16384x16640, .f32⟩
  | .hbm, ⟨66, _⟩ => ⟨S2x4x16384x16640, .f32⟩
  | .hbm, ⟨67, _⟩ => ⟨S2x4x16384x16640, .f32⟩
  | .hbm, ⟨68, _⟩ => ⟨S_, .f32⟩
  | .hbm, ⟨69, _⟩ => ⟨S2x4x16384x16640, .f32⟩
  | .hbm, ⟨70, _⟩ => ⟨S2x4x16384x16640, .f32⟩
  | .hbm, ⟨71, _⟩ => ⟨S_, .f32⟩
  | .hbm, ⟨72, _⟩ => ⟨S2x4x16384, .f32⟩
  | .hbm, ⟨73, _⟩ => ⟨S_, .f32⟩
  | .hbm, ⟨74, _⟩ => ⟨S2x4x16384, .f32⟩
  | .hbm, ⟨75, _⟩ => ⟨S2x4x16384, .f32⟩
  | .hbm, ⟨76, _⟩ => ⟨S2x4x16384x1, .f32⟩
  | .hbm, ⟨77, _⟩ => ⟨S2x4x16384x16640, .f32⟩
  | .hbm, ⟨78, _⟩ => ⟨S2x4x16384x16640, .f32⟩
  | .hbm, ⟨79, _⟩ => ⟨S2x4x16384x16640, .f32⟩
  | .hbm, ⟨80, _⟩ => ⟨S_, .f32⟩
  | .hbm, ⟨81, _⟩ => ⟨S2x4x16384, .f32⟩
  | .hbm, ⟨82, _⟩ => ⟨S2x4x16384x1, .f32⟩
  | .hbm, ⟨83, _⟩ => ⟨S2x4x16384x16640, .f32⟩
  | .hbm, ⟨84, _⟩ => ⟨S2x4x16384x16640, .f32⟩
  | .hbm, ⟨85, _⟩ => ⟨S2x4x16384x16640, .f32⟩
  | .hbm, ⟨86, _⟩ => ⟨S2x4x16384x16640, .f32⟩
  | .hbm, ⟨87, _⟩ => ⟨S2x4x16384x16640, .f32⟩
  | .hbm, ⟨88, _⟩ => ⟨S2x4x16384x128, .f32⟩
  | .hbm, ⟨89, _⟩ => ⟨S2x16384x4x128, .f32⟩
  | .hbm, ⟨90, _⟩ => ⟨S2x16384x4x128, .f32⟩
  | .hbm, ⟨91, _⟩ => ⟨S_, .f32⟩
  | .hbm, ⟨92, _⟩ => ⟨S2x16384x4, .f32⟩
  | .hbm, ⟨93, _⟩ => ⟨S2x16384x4x1, .f32⟩
  | .hbm, ⟨94, _⟩ => ⟨S_, .f32⟩
  | .hbm, ⟨95, _⟩ => ⟨S2x16384x4x1, .f32⟩
  | .hbm, ⟨96, _⟩ => ⟨S2x16384x4x1, .f32⟩
  | .hbm, ⟨97, _⟩ => ⟨S_, .f32⟩
  | .hbm, ⟨98, _⟩ => ⟨S2x16384x4x1, .f32⟩
  | .hbm, ⟨99, _⟩ => ⟨S2x16384x4x1, .f32⟩
  | .hbm, ⟨100, _⟩ => ⟨S2x16384x4x1, .f32⟩
  | .hbm, ⟨101, _⟩ => ⟨S2x16384x4x128, .f32⟩
  | .hbm, ⟨102, _⟩ => ⟨S2x16384x4x128, .f32⟩
  | .hbm, ⟨103, _⟩ => ⟨S1x1x1x128, .f32⟩
  | .hbm, ⟨104, _⟩ => ⟨S2x16384x4x128, .f32⟩
  | .hbm, ⟨105, _⟩ => ⟨S2x16384x4x128, .f32⟩
  | .hbm, ⟨106, _⟩ => ⟨S_, .f32⟩
  | .hbm, ⟨107, _⟩ => ⟨S2x16384x4x128, .f32⟩
  | .hbm, ⟨108, _⟩ => ⟨S2x16384x4x128, .f32⟩
  | .hbm, ⟨109, _⟩ => ⟨S2x16384x512, .f32⟩
  | .hbm, ⟨110, _⟩ => ⟨S_, .i32⟩
  | .hbm, ⟨111, _⟩ => ⟨S_, .f32⟩
  | .hbm, ⟨112, _⟩ => ⟨S2x16640x512, .f32⟩
  | .hbm, ⟨113, _⟩ => ⟨S2x16640x512, .bf16⟩
  | _, _ => ⟨S2x16384x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_0 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_1 : Ref sig .tc := ⟨.hbm, 47, rfl⟩
abbrev main_v38 : Ref sig .tc := ⟨.hbm, 48, rfl⟩
abbrev main_v39 : Ref sig .tc := ⟨.hbm, 49, rfl⟩
abbrev main_cst_2 : Ref sig .tc := ⟨.hbm, 50, rfl⟩
abbrev main_v40 : Ref sig .tc := ⟨.hbm, 51, rfl⟩
abbrev main_v41 : Ref sig .tc := ⟨.hbm, 52, rfl⟩
abbrev main_cst_3 : Ref sig .tc := ⟨.hbm, 53, rfl⟩
abbrev main_v42 : Ref sig .tc := ⟨.hbm, 54, rfl⟩
abbrev main_cst_4 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_5 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_6 : Ref sig .tc := ⟨.hbm, 68, rfl⟩
abbrev main_v54 : Ref sig .tc := ⟨.hbm, 69, rfl⟩
abbrev main_v55 : Ref sig .tc := ⟨.hbm, 70, rfl⟩
abbrev main_cst_7 : Ref sig .tc := ⟨.hbm, 71, rfl⟩
abbrev main_v56 : Ref sig .tc := ⟨.hbm, 72, rfl⟩
abbrev main_cst_8 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_9 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_10 : Ref sig .tc := ⟨.hbm, 91, rfl⟩
abbrev main_v73 : Ref sig .tc := ⟨.hbm, 92, rfl⟩
abbrev main_v74 : Ref sig .tc := ⟨.hbm, 93, rfl⟩
abbrev main_cst_11 : Ref sig .tc := ⟨.hbm, 94, rfl⟩
abbrev main_v75 : Ref sig .tc := ⟨.hbm, 95, rfl⟩
abbrev main_v76 : Ref sig .tc := ⟨.hbm, 96, rfl⟩
abbrev main_cst_12 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_cst_13 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_c : Ref sig .tc := ⟨.hbm, 110, rfl⟩
abbrev main_call0_v0 : Ref sig .tc := ⟨.hbm, 111, rfl⟩
abbrev main_v88 : Ref sig .tc := ⟨.hbm, 112, rfl⟩
abbrev main_v89 : Ref sig .tc := ⟨.hbm, 113, rfl⟩

abbrev nD : Nat := 1
abbrev τ : Topo := Topo.v7x

variable {F : FTy → Type} [FloatOps F]
-- ==== Proof.PI.Loops.lean ====
module

public import proofs.«01_k».proof.Proof.Gen.KernelIdeal.Loops
public import proofs.«01_k».proof.Proof.Gen.KernelIdeal.Frame
public import Idealize.ShloMosaic.Lib.Tactic
public import Idealize.ShloMosaic.Lib.VecWindow
public import Idealize.ShloMosaic.Lib.Pipeline.Kit

/-! The two counted loops of the attention kernel, with the values they leave: the fast loop over five key tiles without a running maximum, and the slow loop over sixty-five
key tiles with one. What a loop leaves is a fold of the kernel's own tile step over its tiles. -/

@[expose] public section

set_option maxRecDepth 8192

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## Whole stores -/

theorem read_put128 {κ' : Kind} {sp : Space} (v : View sig κ' sp S128x1024 .f32) (f : v.ty.Contents (Elt F)) (w : Vec F S128x1024 .f32)
    (L : List (View.Piece (Elt F) S128x1024 .f32)) :
    v.read (Elt F) (v.writes (Elt F) f (⟨Rect.unit (s := S128x1024) ![0, 0] S128x1024.size inb_S128x1024_S128x1024_0_0, w⟩ :: L)) = w :=
  View.read_writes_full v f inb_S128x1024_S128x1024_0_0 w L

theorem read_put1 {κ' : Kind} {sp : Space} (v : View sig κ' sp S1x1024 .f32) (f : v.ty.Contents (Elt F)) (w : Vec F S1x1024 .f32)
    (L : List (View.Piece (Elt F) S1x1024 .f32)) :
    v.read (Elt F) (v.writes (Elt F) f (⟨Rect.unit (s := S1x1024) ![0, 0] S1x1024.size inb_S1x1024_S1x1024_0_0, w⟩ :: L)) = w :=
  View.read_writes_full v f inb_S1x1024_S1x1024_0_0 w L

/-! ## The tile steps on values -/

/-- The key tile of the fast loop's trip `k`. -/
abbrev kTile1 (K : Vec F S1x1x16640x128 .bf16) (k : Fin k0_t1_loop.trips) : Vec F S1x1x3328x128 .bf16 :=
  View.ld (Val := Elt F) K (Rect.unit (s := S1x1x16640x128) (k0_off1 k) S1x1x3328x128.size (k0_off1_inb k))

/-- The value tile of the fast loop's trip `k`. -/
abbrev vTile1 (V : Vec F S1x128x16640 .bf16) (k : Fin k0_t1_loop.trips) : Vec F S1x128x3328 .bf16 :=
  View.ld (Val := Elt F) V (Rect.unit (s := S1x128x16640) (k0_off2 k) S1x128x3328.size (k0_off2_inb k))

/-- The key tile of the slow loop's trip `k`. -/
abbrev kTile2 (K : Vec F S1x1x16640x128 .bf16) (k : Fin k0_t2_loop.trips) : Vec F S1x1x256x128 .bf16 :=
  View.ld (Val := Elt F) K (Rect.unit (s := S1x1x16640x128) (k0_off3 k) S1x1x256x128.size (k0_off3_inb k))

/-- The value tile of the slow loop's trip `k`. -/
abbrev vTile2 (V : Vec F S1x128x16640 .bf16) (k : Fin k0_t2_loop.trips) : Vec F S1x128x256 .bf16 :=
  View.ld (Val := Elt F) V (Rect.unit (s := S1x128x16640) (k0_off4 k) S1x128x256.size (k0_off4_inb k))

/-- Accumulator and denominator after the first `k` trips of the fast loop. -/
def fast (K : Vec F S1x1x16640x128 .bf16) (V : Vec F S1x128x16640 .bf16) (Q : Vec F S1x128x1024 .bf16) : ℕ → Vec F S128x1024 .f32 × Vec F S1x1024 .f32
  | 0 => (k0_pay12, k0_pay13)
  | k + 1 =>
    if h : k < k0_t1_loop.trips then
      (k0_pay16 (kTile1 K ⟨k, h⟩) Q (fast K V Q k).1 (vTile1 V ⟨k, h⟩), k0_pay15 (kTile1 K ⟨k, h⟩) Q (fast K V Q k).2)
    else fast K V Q k

/-- Accumulator, denominator and running maximum after the first `k` trips of the slow loop. -/
def slow (K : Vec F S1x1x16640x128 .bf16) (V : Vec F S1x128x16640 .bf16) (Q : Vec F S1x128x1024 .bf16) :
    ℕ → Vec F S128x1024 .f32 × Vec F S1x1024 .f32 × Vec F S1x1024 .f32
  | 0 => (k0_pay18, k0_pay19, k0_pay20)
  | k + 1 =>
    if h : k < k0_t2_loop.trips then
      (k0_pay21 (k0_pay6 (kTile2 K ⟨k, h⟩) Q (slow K V Q k).2.2 (slow K V Q k).1 (vTile2 V ⟨k, h⟩)),
        k0_pay5 (kTile2 K ⟨k, h⟩) Q (slow K V Q k).2.2 (slow K V Q k).2.1,
        k0_pay22 (k0_pay2 (kTile2 K ⟨k, h⟩) Q (slow K V Q k).2.2))
    else slow K V Q k

theorem fast_zero (K : Vec F S1x1x16640x128 .bf16) (V : Vec F S1x128x16640 .bf16) (Q : Vec F S1x128x1024 .bf16) : fast K V Q 0 = (k0_pay12, k0_pay13) := rfl

theorem fast_succ (K : Vec F S1x1x16640x128 .bf16) (V : Vec F S1x128x16640 .bf16) (Q : Vec F S1x128x1024 .bf16) (k : Fin k0_t1_loop.trips) :
    fast K V Q (k.val + 1) = (k0_pay16 (kTile1 K k) Q (fast K V Q k).1 (vTile1 V k), k0_pay15 (kTile1 K k) Q (fast K V Q k).2) := by
  rw [fast, dif_pos k.isLt]

theorem slow_zero (K : Vec F S1x1x16640x128 .bf16) (V : Vec F S1x128x16640 .bf16) (Q : Vec F S1x128x1024 .bf16) :
    slow K V Q 0 = (k0_pay18, k0_pay19, k0_pay20) := rfl

theorem slow_succ (K : Vec F S1x1x16640x128 .bf16) (V : Vec F S1x128x16640 .bf16) (Q : Vec F S1x128x1024 .bf16) (k : Fin k0_t2_loop.trips) :
    slow K V Q (k.val + 1)
      = (k0_pay21 (k0_pay6 (kTile2 K k) Q (slow K V Q k).2.2 (slow K V Q k).1 (vTile2 V k)), k0_pay5 (kTile2 K k) Q (slow K V Q k).2.2 (slow K V Q k).2.1,
          k0_pay22 (k0_pay2 (kTile2 K k) Q (slow K V Q k).2.2)) := by
  rw [slow, dif_pos k.isLt]

attribute [irreducible] fast slow

/-- Whether the fast loop's denominators `l` are too small somewhere, as the kernel's branch decides it. -/
def redo (l : Vec F S1x1024 .f32) : BitVec 1 :=
  Scalar.cmpi .ne (Scalar.extui (Scalar.xori (Scalar.cmpf .oge (k0_pay17 l) (Scalar.ofBits (F := F) .f32 0x17800000#32)) 1#1) : BitVec 32) 0#32

set_option warn.classDefReducibility false in
/-- The fast loop by its invariant: what it accumulates reads as the fold over the tiles before trip `k`. -/
@[sl_loop] def loop1 (𝒱 : Variants) (c : Dev nD) (bd : Option 𝒱.V) (E : Set ℕ) (i : grid0.Coords) (arg3 : Memref sig .tc .vmem S1x128x1024 .bf16) (harg3 : arg3.IsWhole) (arg4 : Memref sig .tc .vmem S1x1x16640x128 .bf16) (harg4 : arg4.IsWhole) (arg5 : Memref sig .tc .vmem S1x128x16640 .bf16) (harg5 : arg5.IsWhole) (arg6 : Memref sig .tc .vmem S1x1x1x128 .f32) (harg6 : arg6.IsWhole) (arg7 : Memref sig .tc .hbm S2x16640x512 .bf16) (harg7 : arg7.IsWhole) (arg8 : Memref sig .tc .vmem S1x1024x128 .bf16) (harg8 : arg8.IsWhole) (arg9 : Memref sig .tc .vmem S1x128x1024 .bf16) (harg9 : arg9.IsWhole) (arg10 : Memref sig .tc .vmem S128x1024 .f32) (harg10 : arg10.IsWhole) (arg11 : Memref sig .tc .vmem S1x1024 .f32) (harg11 : arg11.IsWhole) (arg12 : Memref sig .tc .vmem S1x1024 .f32) (harg12 : arg12.IsWhole) (v33 : FVec F S16x1024 .bf16) (X4 : BufTy.Contents (Elt F) arg4.view.ty) (X5 : BufTy.Contents (Elt F) arg5.view.ty) (X9 : BufTy.Contents (Elt F) arg9.view.ty) :
    LoopInvTy_k0_t1 (F := F) Unit ℕ (UR sig nD τ) ℕ 𝒱 c bd E i arg3 harg3 arg4 harg4 arg5 harg5 arg6 harg6 arg7 harg7 arg8 harg8 arg9 harg9 arg10 harg10 arg11 harg11 arg12 harg12 v33 where
  inv k _ := iprop((arg4.view.loc (c : Thread nD τ) ↦[arg4.view.set]{fullShare} X4) ∗ (arg5.view.loc (c : Thread nD τ) ↦[arg5.view.set]{fullShare} X5) ∗ (arg9.view.loc (c : Thread nD τ) ↦[arg9.view.set]{fullShare} X9)
      ∗ (∃ f, (arg10.view.loc (c : Thread nD τ) ↦[arg10.view.set]{fullShare} f) ∗ ⌜arg10.view.read (Elt F) f = (fast (arg4.view.read (Elt F) X4) (arg5.view.read (Elt F) X5) (arg9.view.read (Elt F) X9) k).1⌝)
      ∗ (∃ f, (arg11.view.loc (c : Thread nD τ) ↦[arg11.view.set]{fullShare} f) ∗ ⌜arg11.view.read (Elt F) f = (fast (arg4.view.read (Elt F) X4) (arg5.view.read (Elt F) X5) (arg9.view.read (Elt F) X9) k).2⌝))
  step k acc := by
    have hk : k.val < 5 := Nat.lt_of_lt_of_le k.isLt k0_t1_abs.2.1
    iintro ⟨H4, H5, H9, ⟨%f10, H10, %h10⟩, ⟨%f11, H11, %h11⟩⟩
    unfold k0_t1_body
    sl_exec
    sl_step
    rw [View.readAt_full, View.readAt_full, View.readAt_full]
    isplitl [H4]; · iexact H4
    isplitl [H5]; · iexact H5
    isplitl [H9]; · iexact H9
    isplitl [H10]
    · iexists _; isplitl [H10]; · iexact H10
      ipureintro; rw [read_put128, fast_succ, h10]; rfl
    iexists _; isplitl [H11]; · iexact H11
    ipureintro; rw [read_put1, fast_succ, h11]; rfl

set_option warn.classDefReducibility false in
/-- The slow loop by its invariant: what it accumulates reads as the fold over the tiles before trip `k`. -/
def slowInv (𝒱 : Variants) (c : Dev nD) (bd : Option 𝒱.V) (E : Set ℕ) (i : grid0.Coords) (arg3 : Memref sig .tc .vmem S1x128x1024 .bf16) (harg3 : arg3.IsWhole) (arg4 : Memref sig .tc .vmem S1x1x16640x128 .bf16) (harg4 : arg4.IsWhole) (arg5 : Memref sig .tc .vmem S1x128x16640 .bf16) (harg5 : arg5.IsWhole) (arg6 : Memref sig .tc .vmem S1x1x1x128 .f32) (harg6 : arg6.IsWhole) (arg7 : Memref sig .tc .hbm S2x16640x512 .bf16) (harg7 : arg7.IsWhole) (arg8 : Memref sig .tc .vmem S1x1024x128 .bf16) (harg8 : arg8.IsWhole) (arg9 : Memref sig .tc .vmem S1x128x1024 .bf16) (harg9 : arg9.IsWhole) (arg10 : Memref sig .tc .vmem S128x1024 .f32) (harg10 : arg10.IsWhole) (arg11 : Memref sig .tc .vmem S1x1024 .f32) (harg11 : arg11.IsWhole) (arg12 : Memref sig .tc .vmem S1x1024 .f32) (harg12 : arg12.IsWhole) (v33 : FVec F S16x1024 .bf16) (X4 : BufTy.Contents (Elt F) arg4.view.ty) (X5 : BufTy.Contents (Elt F) arg5.view.ty) (X9 : BufTy.Contents (Elt F) arg9.view.ty) :
    LoopInvTy_k0_t2 (F := F) Unit ℕ (UR sig nD τ) ℕ 𝒱 c bd E i arg3 harg3 arg4 harg4 arg5 harg5 arg6 harg6 arg7 harg7 arg8 harg8 arg9 harg9 arg10 harg10 arg11 harg11 arg12 harg12 v33 where
  inv k _ := iprop((arg4.view.loc (c : Thread nD τ) ↦[arg4.view.set]{fullShare} X4) ∗ (arg5.view.loc (c : Thread nD τ) ↦[arg5.view.set]{fullShare} X5) ∗ (arg9.view.loc (c : Thread nD τ) ↦[arg9.view.set]{fullShare} X9)
      ∗ (∃ f, (arg10.view.loc (c : Thread nD τ) ↦[arg10.view.set]{fullShare} f) ∗ ⌜arg10.view.read (Elt F) f = (slow (arg4.view.read (Elt F) X4) (arg5.view.read (Elt F) X5) (arg9.view.read (Elt F) X9) k).1⌝)
      ∗ (∃ f, (arg11.view.loc (c : Thread nD τ) ↦[arg11.view.set]{fullShare} f) ∗ ⌜arg11.view.read (Elt F) f = (slow (arg4.view.read (Elt F) X4) (arg5.view.read (Elt F) X5) (arg9.view.read (Elt F) X9) k).2.1⌝)
      ∗ (∃ f, (arg12.view.loc (c : Thread nD τ) ↦[arg12.view.set]{fullShare} f) ∗ ⌜arg12.view.read (Elt F) f = (slow (arg4.view.read (Elt F) X4) (arg5.view.read (Elt F) X5) (arg9.view.read (Elt F) X9) k).2.2⌝))
  step k acc := by
    have hk : k.val < 65 := Nat.lt_of_lt_of_le k.isLt k0_t2_abs.2.1
    iintro ⟨H4, H5, H9, ⟨%f10, H10, %h10⟩, ⟨%f11, H11, %h11⟩, ⟨%f12, H12, %h12⟩⟩
    unfold k0_t2_body
    rw [k0_part1_eq_skeleton]
    unfold k0_part1_skel
    sl_exec
    sl_step
    rw [View.readAt_full, View.readAt_full, View.readAt_full, View.readAt_full]
    isplitl [H4]; · iexact H4
    isplitl [H5]; · iexact H5
    isplitl [H9]; · iexact H9
    isplitl [H10]
    · iexists _; isplitl [H10]; · iexact H10
      ipureintro; rw [read_put128, slow_succ, h10, h12]; rfl
    isplitl [H11]
    · iexists _; isplitl [H11]; · iexact H11
      ipureintro; rw [read_put1, slow_succ, h11, h12]; rfl
    iexists _; isplitl [H12]; · iexact H12
    ipureintro; rw [read_put1, slow_succ, h12]; rfl

/-- The slow loop's invariant, spelled out. -/
theorem slowInv_inv (𝒱 : Variants) (c : Dev nD) (bd : Option 𝒱.V) (E : Set ℕ) (i : grid0.Coords) (arg3 : Memref sig .tc .vmem S1x128x1024 .bf16) (harg3 : arg3.IsWhole) (arg4 : Memref sig .tc .vmem S1x1x16640x128 .bf16) (harg4 : arg4.IsWhole) (arg5 : Memref sig .tc .vmem S1x128x16640 .bf16) (harg5 : arg5.IsWhole) (arg6 : Memref sig .tc .vmem S1x1x1x128 .f32) (harg6 : arg6.IsWhole) (arg7 : Memref sig .tc .hbm S2x16640x512 .bf16) (harg7 : arg7.IsWhole) (arg8 : Memref sig .tc .vmem S1x1024x128 .bf16) (harg8 : arg8.IsWhole) (arg9 : Memref sig .tc .vmem S1x128x1024 .bf16) (harg9 : arg9.IsWhole) (arg10 : Memref sig .tc .vmem S128x1024 .f32) (harg10 : arg10.IsWhole) (arg11 : Memref sig .tc .vmem S1x1024 .f32) (harg11 : arg11.IsWhole) (arg12 : Memref sig .tc .vmem S1x1024 .f32) (harg12 : arg12.IsWhole) (v33 : FVec F S16x1024 .bf16) (X4 : BufTy.Contents (Elt F) arg4.view.ty) (X5 : BufTy.Contents (Elt F) arg5.view.ty) (X9 : BufTy.Contents (Elt F) arg9.view.ty) (k : ℕ) (acc : Unit) :
    (slowInv (F := F) 𝒱 c bd E i arg3 harg3 arg4 harg4 arg5 harg5 arg6 harg6 arg7 harg7 arg8 harg8 arg9 harg9 arg10 harg10 arg11 harg11 arg12 harg12 v33 X4 X5 X9).inv k acc = iprop((arg4.view.loc (c : Thread nD τ) ↦[arg4.view.set]{fullShare} X4) ∗ (arg5.view.loc (c : Thread nD τ) ↦[arg5.view.set]{fullShare} X5) ∗ (arg9.view.loc (c : Thread nD τ) ↦[arg9.view.set]{fullShare} X9)
      ∗ (∃ f, (arg10.view.loc (c : Thread nD τ) ↦[arg10.view.set]{fullShare} f) ∗ ⌜arg10.view.read (Elt F) f = (slow (arg4.view.read (Elt F) X4) (arg5.view.read (Elt F) X5) (arg9.view.read (Elt F) X9) k).1⌝)
      ∗ (∃ f, (arg11.view.loc (c : Thread nD τ) ↦[arg11.view.set]{fullShare} f) ∗ ⌜arg11.view.read (Elt F) f = (slow (arg4.view.read (Elt F) X4) (arg5.view.read (Elt F) X5) (arg9.view.read (Elt F) X9) k).2.1⌝)
      ∗ (∃ f, (arg12.view.loc (c : Thread nD τ) ↦[arg12.view.set]{fullShare} f) ∗ ⌜arg12.view.read (Elt F) f = (slow (arg4.view.read (Elt F) X4) (arg5.view.read (Elt F) X5) (arg9.view.read (Elt F) X9) k).2.2⌝)) := rfl

/-- The same as an entailment. -/
theorem slowInv_out (𝒱 : Variants) (c : Dev nD) (bd : Option 𝒱.V) (E : Set ℕ) (i : grid0.Coords) (arg3 : Memref sig .tc .vmem S1x128x1024 .bf16) (harg3 : arg3.IsWhole) (arg4 : Memref sig .tc .vmem S1x1x16640x128 .bf16) (harg4 : arg4.IsWhole) (arg5 : Memref sig .tc .vmem S1x128x16640 .bf16) (harg5 : arg5.IsWhole) (arg6 : Memref sig .tc .vmem S1x1x1x128 .f32) (harg6 : arg6.IsWhole) (arg7 : Memref sig .tc .hbm S2x16640x512 .bf16) (harg7 : arg7.IsWhole) (arg8 : Memref sig .tc .vmem S1x1024x128 .bf16) (harg8 : arg8.IsWhole) (arg9 : Memref sig .tc .vmem S1x128x1024 .bf16) (harg9 : arg9.IsWhole) (arg10 : Memref sig .tc .vmem S128x1024 .f32) (harg10 : arg10.IsWhole) (arg11 : Memref sig .tc .vmem S1x1024 .f32) (harg11 : arg11.IsWhole) (arg12 : Memref sig .tc .vmem S1x1024 .f32) (harg12 : arg12.IsWhole) (v33 : FVec F S16x1024 .bf16) (X4 : BufTy.Contents (Elt F) arg4.view.ty) (X5 : BufTy.Contents (Elt F) arg5.view.ty) (X9 : BufTy.Contents (Elt F) arg9.view.ty) (k : ℕ) (acc : Unit) :
    (slowInv (F := F) 𝒱 c bd E i arg3 harg3 arg4 harg4 arg5 harg5 arg6 harg6 arg7 harg7 arg8 harg8 arg9 harg9 arg10 harg10 arg11 harg11 arg12 harg12 v33 X4 X5 X9).inv k acc ⊢ iprop((arg4.view.loc (c : Thread nD τ) ↦[arg4.view.set]{fullShare} X4) ∗ (arg5.view.loc (c : Thread nD τ) ↦[arg5.view.set]{fullShare} X5) ∗ (arg9.view.loc (c : Thread nD τ) ↦[arg9.view.set]{fullShare} X9)
      ∗ (∃ f, (arg10.view.loc (c : Thread nD τ) ↦[arg10.view.set]{fullShare} f) ∗ ⌜arg10.view.read (Elt F) f = (slow (arg4.view.read (Elt F) X4) (arg5.view.read (Elt F) X5) (arg9.view.read (Elt F) X9) k).1⌝)
      ∗ (∃ f, (arg11.view.loc (c : Thread nD τ) ↦[arg11.view.set]{fullShare} f) ∗ ⌜arg11.view.read (Elt F) f = (slow (arg4.view.read (Elt F) X4) (arg5.view.read (Elt F) X5) (arg9.view.read (Elt F) X9) k).2.1⌝)
      ∗ (∃ f, (arg12.view.loc (c : Thread nD τ) ↦[arg12.view.set]{fullShare} f) ∗ ⌜arg12.view.read (Elt F) f = (slow (arg4.view.read (Elt F) X4) (arg5.view.read (Elt F) X5) (arg9.view.read (Elt F) X9) k).2.2⌝)) := .rfl

end Cert.Proof.KI
-- ==== Proof.PI.Body.lean ====
module

public import proofs.«01_k».proof.Proof.PI.Loops
public import Idealize.ShloMosaic.Lib.Tactic
public import Idealize.ShloMosaic.Lib.VecWindow
public import Idealize.ShloMosaic.Lib.Pipeline.Kit

/-! One grid point of the attention kernel: what its body leaves in the output block, as a function of the four input blocks. -/

@[expose] public section

set_option maxRecDepth 8192

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

theorem read_last {κ' : Kind} {sp : Space} {s : Shape} {e : EltTy} (v : View sig κ' sp s e) (f : v.ty.Contents (Elt F)) (p : View.Piece (Elt F) s e)
    (L : List (View.Piece (Elt F) s e)) : v.read (Elt F) (v.writes (Elt F) (v.writes (Elt F) f L) [p]) = v.read (Elt F) (v.writes (Elt F) f (p :: L)) := rfl

theorem read_putO {κ' : Kind} {sp : Space} (v : View sig κ' sp S1x1024x128 .bf16) (f : v.ty.Contents (Elt F)) (w : Vec F S1x1024x128 .bf16)
    (L : List (View.Piece (Elt F) S1x1024x128 .bf16)) :
    v.read (Elt F) (v.writes (Elt F) f (⟨Rect.unit (s := S1x1024x128) ![0, 0, 0] S1x1024x128.size inb_S1x1024x128_S1x1024x128_0_0_0, w⟩ :: L)) = w :=
  View.read_writes_full v f inb_S1x1024x128_S1x1024x128_0_0_0 w L

/-- The first 96 rows of the query block. -/
abbrev qRows (x3 : Vec F S1x128x1024 .bf16) : Vec F S1x96x1024 .bf16 :=
  View.ld (Val := Elt F) x3 (Rect.unit (s := S1x128x1024) ![0, 0, 0] S1x96x1024.size inb_S1x128x1024_S1x96x1024_0_0_0)

/-- The key bound of the head. -/
abbrev kBound (x6 : Vec F S1x1x1x128 .f32) : Vec F S1x1x1x1 .f32 :=
  View.ld (Val := Elt F) x6 (Rect.unit (s := S1x1x1x128) ![0, 0, 0, 0] S1x1x1x1.size inb_S1x1x1x128_S1x1x1x1_0_0_0_0)

/-- The three stores that fill the widened queries, last first. -/
abbrev qaPieces (x3 : Vec F S1x128x1024 .bf16) (x6 : Vec F S1x1x1x128 .f32) : List (View.Piece (Elt F) S1x128x1024 .bf16) :=
  [⟨Rect.unit (s := S1x128x1024) ![0, 112, 0] S1x16x1024.size inb_S1x128x1024_S1x16x1024_0_112_0, k0_pay11 k0_pay10⟩,
    ⟨Rect.unit (s := S1x128x1024) ![0, 96, 0] S1x16x1024.size inb_S1x128x1024_S1x16x1024_0_96_0, k0_pay9 (qRows x3) (kBound x6)⟩,
    ⟨Rect.unit (s := S1x128x1024) ![0, 0, 0] S1x96x1024.size inb_S1x128x1024_S1x96x1024_0_0_0, k0_pay8 (qRows x3)⟩]

/-- The queries widened by the score shift. -/
def qa (x3 : Vec F S1x128x1024 .bf16) (x6 : Vec F S1x1x1x128 .f32) : Vec F S1x128x1024 .bf16 := View.canon (Val := Elt F) (qaPieces x3 x6)

theorem qaPieces_cover (x3 : Vec F S1x128x1024 .bf16) (x6 : Vec F S1x1x1x128 .f32) (y : S1x128x1024.Idx) : ∃ p ∈ qaPieces x3 x6, y ∈ p.1.set := by
  have h0 : (y 0).val < 1 := (y 0).isLt
  have h1 : (y 1).val < 128 := (y 1).isLt
  have h2 : (y 2).val < 1024 := (y 2).isLt
  by_cases a : 112 ≤ (y 1).val
  · refine ⟨_, List.mem_cons_self .., ?_⟩
    rw [Rect.mem_set_unit]
    intro b; fin_cases b <;> simp <;> omega
  by_cases b : 96 ≤ (y 1).val
  · refine ⟨_, List.mem_cons_of_mem _ (List.mem_cons_self ..), ?_⟩
    rw [Rect.mem_set_unit]
    intro b; fin_cases b <;> simp <;> omega
  · refine ⟨_, List.mem_cons_of_mem _ (List.mem_cons_of_mem _ (List.mem_cons_self ..)), ?_⟩
    rw [Rect.mem_set_unit]
    intro b; fin_cases b <;> simp <;> omega

/-- Accumulator and denominator at the end: the fast loop's, or the slow loop's where the kernel does the tile over. -/
def accOf (K : Vec F S1x1x16640x128 .bf16) (V : Vec F S1x128x16640 .bf16) (Q : Vec F S1x128x1024 .bf16) : Vec F S128x1024 .f32 × Vec F S1x1024 .f32 :=
  if redo (fast K V Q k0_t1_loop.trips).2 = 1#1 then ((slow K V Q k0_t2_loop.trips).1, (slow K V Q k0_t2_loop.trips).2.1)
  else fast K V Q k0_t1_loop.trips

/-- The output block of a grid point. -/
def outB (x3 : Vec F S1x128x1024 .bf16) (x4 : Vec F S1x1x16640x128 .bf16) (x5 : Vec F S1x128x16640 .bf16) (x6 : Vec F S1x1x1x128 .f32) : Vec F S1x1024x128 .bf16 :=
  k0_pay23 (accOf x4 x5 (qa x3 x6)).1 (accOf x4 x5 (qa x3 x6)).2

/-- What the output is computed from once the accumulators are final: the loads after the loops. -/
theorem part3_run (c : Dev nD) (i : grid0.Coords) (arg3 : Memref sig .tc .vmem S1x128x1024 .bf16) (harg3 : arg3.IsWhole) (arg4 : Memref sig .tc .vmem S1x1x16640x128 .bf16) (harg4 : arg4.IsWhole) (arg5 : Memref sig .tc .vmem S1x128x16640 .bf16) (harg5 : arg5.IsWhole) (arg6 : Memref sig .tc .vmem S1x1x1x128 .f32) (harg6 : arg6.IsWhole) (arg7 : Memref sig .tc .hbm S2x16640x512 .bf16) (harg7 : arg7.IsWhole) (arg8 : Memref sig .tc .vmem S1x1024x128 .bf16) (harg8 : arg8.IsWhole) (arg9 : Memref sig .tc .vmem S1x128x1024 .bf16) (harg9 : arg9.IsWhole) (arg10 : Memref sig .tc .vmem S128x1024 .f32) (harg10 : arg10.IsWhole) (arg11 : Memref sig .tc .vmem S1x1024 .f32) (harg11 : arg11.IsWhole) (arg12 : Memref sig .tc .vmem S1x1024 .f32) (harg12 : arg12.IsWhole) (X4 : BufTy.Contents (Elt F) arg4.view.ty) (X5 : BufTy.Contents (Elt F) arg5.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (Q : Vec F S1x128x1024 .bf16)
    (hQ : arg9.view.read (Elt F) (arg9.view.writes (Elt F) f9 [⟨Rect.unit (s := S1x128x1024) ![0, 112, 0] S1x16x1024.size inb_S1x128x1024_S1x16x1024_0_112_0, k0_pay11 k0_pay10⟩]) = Q) :
    iprop((arg4.view.loc (c : Thread nD τ) ↦[arg4.view.set]{fullShare} X4) ∗ (arg5.view.loc (c : Thread nD τ) ↦[arg5.view.set]{fullShare} X5) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) : sProp 𝕄)
    ⊢ wp frame (wpE (defs₀ (F := F)) Variants.none (c : Thread nD τ) none) Set.univ (k0_part3 (F := F) i arg3 harg3 arg4 harg4 arg5 harg5 arg6 harg6 arg7 harg7 arg8 harg8 arg9 harg9 arg10 harg10 arg11 harg11 arg12 harg12 k0_pay10)
      (fun r => iprop((arg4.view.loc (c : Thread nD τ) ↦[arg4.view.set]{fullShare} X4) ∗ (arg5.view.loc (c : Thread nD τ) ↦[arg5.view.set]{fullShare} X5) ∗ (arg8.view.loc (c : Thread nD τ) ↦[arg8.view.set]{fullShare} f8) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f))
        ∗ ⌜r = k0_pay23 (accOf (arg4.view.read (Elt F) X4) (arg5.view.read (Elt F) X5) Q).1 (accOf (arg4.view.read (Elt F) X4) (arg5.view.read (Elt F) X5) Q).2⌝)) := by
  rw [k0_part3_eq_skeleton]
  unfold k0_part3_skel
  have e10 : arg10.view.read (Elt F) (arg10.view.writes (Elt F) arg10.view.junk [⟨Rect.unit (s := S128x1024) ![0, 0] S128x1024.size inb_S128x1024_S128x1024_0_0, k0_pay12⟩])
      = (fast (arg4.view.read (Elt F) X4) (arg5.view.read (Elt F) X5) (arg9.view.read (Elt F) (arg9.view.writes (Elt F) f9 [⟨Rect.unit (s := S1x128x1024) ![0, 112, 0] S1x16x1024.size inb_S1x128x1024_S1x16x1024_0_112_0, k0_pay11 k0_pay10⟩])) 0).1 := by rw [read_put128, fast_zero]
  have e11 : arg11.view.read (Elt F) (arg11.view.writes (Elt F) arg11.view.junk [⟨Rect.unit (s := S1x1024) ![0, 0] S1x1024.size inb_S1x1024_S1x1024_0_0, k0_pay13⟩])
      = (fast (arg4.view.read (Elt F) X4) (arg5.view.read (Elt F) X5) (arg9.view.read (Elt F) (arg9.view.writes (Elt F) f9 [⟨Rect.unit (s := S1x128x1024) ![0, 112, 0] S1x16x1024.size inb_S1x128x1024_S1x16x1024_0_112_0, k0_pay11 k0_pay10⟩])) 0).2 := by rw [read_put1, fast_zero]
  iintro ⟨H4, H5, H8, H9, H10, H11, H12⟩
  sl_exec
  have hv : part3_run.sl.v54 c arg11 fL1 = redo (fast (arg4.view.read (Elt F) X4) (arg5.view.read (Elt F) X5) Q k0_t1_loop.trips).2 := by
    refine (show part3_run.sl.v54 c arg11 fL1 = redo (arg11.view.readAt (Elt F) (Rect.unit (s := S1x1024) ![0, 0] S1x1024.size inb_S1x1024_S1x1024_0_0).toLoadRect fL1) from rfl).trans ?_
    rw [View.readAt_full, hL6, hQ]
  by_cases hr : redo (fast (arg4.view.read (Elt F) X4) (arg5.view.read (Elt F) X5) Q k0_t1_loop.trips).2 = 1#1
  · rw [if_pos (hv.trans hr)]
    clear e10 e11 hL4 hL6 hv
    generalize (arg9.view.writes (Elt F) f9 [⟨Rect.unit (s := S1x128x1024) ![0, 112, 0] S1x16x1024.size inb_S1x128x1024_S1x16x1024_0_112_0, k0_pay11 k0_pay10⟩]) = g9 at hQ ⊢
    sl_exec
    iapply (exec_loop _ _ _ _ _ _ _ _ _ (slowInv (F := F) Variants.none c none Set.univ i arg3 harg3 arg4 harg4 arg5 harg5 arg6 harg6 arg7 harg7 arg8 harg8 arg9 harg9 arg10 harg10 arg11 harg11 arg12 harg12 k0_pay10 X4 X5 g9)) $$ [H4 H5 H9 H10 H11 H12]
    · rw [slowInv_inv]
      isplitl [H4]; · iexact H4
      isplitl [H5]; · iexact H5
      isplitl [H9]; · iexact H9
      isplitl [H10]
      · iexists _; isplitl [H10]; · iexact H10
        ipureintro; unfold part3_run.sl.H10_1_1; rw [read_put128, slow_zero]
      isplitl [H11]
      · iexists _; isplitl [H11]; · iexact H11
        ipureintro; unfold part3_run.sl.H11_1_1; rw [read_put1, slow_zero]
      iexists _; isplitl [H12]; · iexact H12
      ipureintro
      unfold part3_run.sl.H12_1
      rw [read_put1, slow_zero]
    iintro %acc HL
    ihave HL := (slowInv_out (F := F) Variants.none c none Set.univ i arg3 harg3 arg4 harg4 arg5 harg5 arg6 harg6 arg7 harg7 arg8 harg8 arg9 harg9 arg10 harg10 arg11 harg11 arg12 harg12 k0_pay10 X4 X5 g9 _ acc) $$ HL
    icases HL with ⟨H4, H5, H9, ⟨%g10, H10, %h10⟩, ⟨%g11, H11, %h11⟩, ⟨%g12, H12, %h12⟩⟩
    sl_exec
    sl_step
    isplitl [H4]; · iexact H4
    isplitl [H5]; · iexact H5
    isplitl [H8]; · iexact H8
    isplitl [H9]; · iexists _; iexact H9
    isplitl [H10]; · iexists _; iexact H10
    isplitl [H11]; · iexists _; iexact H11
    isplitl [H12]; · iexists _; iexact H12
    ipureintro
    rw [View.readAt_full, View.readAt_full, h10, h11, hQ]
    unfold accOf
    rw [if_pos hr]
  · rw [if_neg (fun h => hr (hv.symm.trans h))]
    sl_exec
    sl_step
    isplitl [H4]; · iexact H4
    isplitl [H5]; · iexact H5
    isplitl [H8]; · iexact H8
    isplitl [H9]; · iexists _; iexact H9
    isplitl [H10]; · iexists _; iexact H10
    isplitl [H11]; · iexists _; iexact H11
    isplitl [H12]; · iexists _; iexact H12
    ipureintro
    rw [View.readAt_full, View.readAt_full, hL4, hL6, hQ]
    unfold accOf
    rw [if_neg hr]

/-- The first part: the widened queries are stored, but for their last rows. -/
theorem part2_run (c : Dev nD) (i : grid0.Coords) (arg3 : Memref sig .tc .vmem S1x128x1024 .bf16) (harg3 : arg3.IsWhole) (arg4 : Memref sig .tc .vmem S1x1x16640x128 .bf16) (harg4 : arg4.IsWhole) (arg5 : Memref sig .tc .vmem S1x128x16640 .bf16) (harg5 : arg5.IsWhole) (arg6 : Memref sig .tc .vmem S1x1x1x128 .f32) (harg6 : arg6.IsWhole) (arg7 : Memref sig .tc .hbm S2x16640x512 .bf16) (harg7 : arg7.IsWhole) (arg8 : Memref sig .tc .vmem S1x1024x128 .bf16) (harg8 : arg8.IsWhole) (arg9 : Memref sig .tc .vmem S1x128x1024 .bf16) (harg9 : arg9.IsWhole) (arg10 : Memref sig .tc .vmem S128x1024 .f32) (harg10 : arg10.IsWhole) (arg11 : Memref sig .tc .vmem S1x1024 .f32) (harg11 : arg11.IsWhole) (arg12 : Memref sig .tc .vmem S1x1024 .f32) (harg12 : arg12.IsWhole) (X3 : BufTy.Contents (Elt F) arg3.view.ty) (X6 : BufTy.Contents (Elt F) arg6.view.ty) (f9 : BufTy.Contents (Elt F) arg9.view.ty) :
    iprop((arg3.view.loc (c : Thread nD τ) ↦[arg3.view.set]{fullShare} X3) ∗ (arg6.view.loc (c : Thread nD τ) ↦[arg6.view.set]{fullShare} X6) ∗ (arg9.view.loc (c : Thread nD τ) ↦[arg9.view.set]{fullShare} f9) : sProp 𝕄)
    ⊢ wp frame (wpE (defs₀ (F := F)) Variants.none (c : Thread nD τ) none) Set.univ (k0_part2 (F := F) i arg3 harg3 arg4 harg4 arg5 harg5 arg6 harg6 arg7 harg7 arg8 harg8 arg9 harg9 arg10 harg10 arg11 harg11 arg12 harg12)
      (fun r => iprop((arg3.view.loc (c : Thread nD τ) ↦[arg3.view.set]{fullShare} X3) ∗ (arg6.view.loc (c : Thread nD τ) ↦[arg6.view.set]{fullShare} X6) ∗ (arg9.view.loc (c : Thread nD τ) ↦[arg9.view.set]{fullShare} (arg9.view.writes (Elt F) f9 (qaPieces (arg3.view.read (Elt F) X3) (arg6.view.read (Elt F) X6)).tail)) ∗ ⌜r = k0_pay10⌝)) := by
  rw [k0_part2_eq_skeleton]
  unfold k0_part2_skel
  iintro ⟨H3, H6, H9⟩
  sl_exec
  sl_step
  isplitl [H3]; · iexact H3
  isplitl [H6]; · iexact H6
  isplitl [H9]; · iexact H9
  ipureintro
  rfl

/-- One grid point's body: the inputs stay, and the output block reads as `outB` of them. -/
theorem body_run (c : Dev nD) (i : grid0.Coords) (arg3 : Memref sig .tc .vmem S1x128x1024 .bf16) (harg3 : arg3.IsWhole) (arg4 : Memref sig .tc .vmem S1x1x16640x128 .bf16) (harg4 : arg4.IsWhole) (arg5 : Memref sig .tc .vmem S1x128x16640 .bf16) (harg5 : arg5.IsWhole) (arg6 : Memref sig .tc .vmem S1x1x1x128 .f32) (harg6 : arg6.IsWhole) (arg7 : Memref sig .tc .hbm S2x16640x512 .bf16) (harg7 : arg7.IsWhole) (arg8 : Memref sig .tc .vmem S1x1024x128 .bf16) (harg8 : arg8.IsWhole) (arg9 : Memref sig .tc .vmem S1x128x1024 .bf16) (harg9 : arg9.IsWhole) (arg10 : Memref sig .tc .vmem S128x1024 .f32) (harg10 : arg10.IsWhole) (arg11 : Memref sig .tc .vmem S1x1024 .f32) (harg11 : arg11.IsWhole) (arg12 : Memref sig .tc .vmem S1x1024 .f32) (harg12 : arg12.IsWhole) (X3 : BufTy.Contents (Elt F) arg3.view.ty) (X4 : BufTy.Contents (Elt F) arg4.view.ty) (X5 : BufTy.Contents (Elt F) arg5.view.ty) (X6 : BufTy.Contents (Elt F) arg6.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) :
    iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) : sProp 𝕄)
    ⊢ wp frame (wpE (defs₀ (F := F)) Variants.none (c : Thread nD τ) none) Set.univ (cc0_attn_concat1 (F := F) i arg3 harg3 arg4 harg4 arg5 harg5 arg6 harg6 arg7 harg7 arg8 harg8 arg9 harg9 arg10 harg10 arg11 harg11 arg12 harg12)
      (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (∃ f, (arg8.view.loc (c : Thread nD τ) ↦[arg8.view.set]{fullShare} f) ∗ ⌜arg8.view.read (Elt F) f = outB (arg3.view.read (Elt F) X3) (arg4.view.read (Elt F) X4) (arg5.view.read (Elt F) X5) (arg6.view.read (Elt F) X6)⌝)
        ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)))) := by
  have hQ : arg9.view.read (Elt F) (arg9.view.writes (Elt F) (arg9.view.writes (Elt F) f9 (qaPieces (arg3.view.read (Elt F) X3) (arg6.view.read (Elt F) X6)).tail) [⟨Rect.unit (s := S1x128x1024) ![0, 112, 0] S1x16x1024.size inb_S1x128x1024_S1x16x1024_0_112_0, k0_pay11 k0_pay10⟩]) = qa (arg3.view.read (Elt F) X3) (arg6.view.read (Elt F) X6) :=
    (read_last arg9.view f9 _ _).trans (View.read_writes_eq_canon arg9.view f9 (qaPieces (arg3.view.read (Elt F) X3) (arg6.view.read (Elt F) X6)) (qaPieces_cover _ _))
  rw [cc0_attn_concat1_eq_skeleton]
  unfold cc0_attn_concat1_skel
  iintro ⟨H3, H4, H5, H6, H8, H9, H10, H11, H12⟩
  rw [wp_bind]
  iapply (wp_wand _ _ _) $$ [H3 H6 H9]
  · iapply (part2_run c i arg3 harg3 arg4 harg4 arg5 harg5 arg6 harg6 arg7 harg7 arg8 harg8 arg9 harg9 arg10 harg10 arg11 harg11 arg12 harg12 X3 X6 f9) $$ [H3 H6 H9]
    isplitl [H3]; · iexact H3
    isplitl [H6]; · iexact H6
    iexact H9
  iintro %r ⟨H3, H6, H9, %hr⟩
  subst hr
  rw [wp_bind]
  iapply (wp_wand _ _ _) $$ [H4 H5 H8 H9 H10 H11 H12]
  · iapply (part3_run c i arg3 harg3 arg4 harg4 arg5 harg5 arg6 harg6 arg7 harg7 arg8 harg8 arg9 harg9 arg10 harg10 arg11 harg11 arg12 harg12 X4 X5 f8 _ f10 f11 f12 _ hQ) $$ [H4 H5 H8 H9 H10 H11 H12]
    isplitl [H4]; · iexact H4
    isplitl [H5]; · iexact H5
    isplitl [H8]; · iexact H8
    isplitl [H9]; · iexact H9
    isplitl [H10]; · iexact H10
    isplitl [H11]; · iexact H11
    iexact H12
  iintro %r ⟨H4, H5, H8, ⟨%g9, H9⟩, ⟨%g10, H10⟩, ⟨%g11, H11⟩, ⟨%g12, H12⟩, %hr⟩
  subst hr
  sl_exec
  sl_step
  isplitl [H3]; · iexact H3
  isplitl [H4]; · iexact H4
  isplitl [H5]; · iexact H5
  isplitl [H6]; · iexact H6
  isplitl [H8]
  · iexists _; isplitl [H8]; · iexact H8
    ipureintro
    rw [read_putO]
    rfl
  isplitl [H9]; · iexists _; iexact H9
  isplitl [H10]; · iexists _; iexact H10
  isplitl [H11]; · iexists _; iexact H11
  iexists _; iexact H12

set_option warn.classDefReducibility false in
/-- The slow loop's invariant, for a run to find. -/
@[sl_loop] def loop2 (𝒱 : Variants) (c : Dev nD) (bd : Option 𝒱.V) (E : Set ℕ) (i : grid0.Coords) (arg3 : Memref sig .tc .vmem S1x128x1024 .bf16) (harg3 : arg3.IsWhole) (arg4 : Memref sig .tc .vmem S1x1x16640x128 .bf16) (harg4 : arg4.IsWhole) (arg5 : Memref sig .tc .vmem S1x128x16640 .bf16) (harg5 : arg5.IsWhole) (arg6 : Memref sig .tc .vmem S1x1x1x128 .f32) (harg6 : arg6.IsWhole) (arg7 : Memref sig .tc .hbm S2x16640x512 .bf16) (harg7 : arg7.IsWhole) (arg8 : Memref sig .tc .vmem S1x1024x128 .bf16) (harg8 : arg8.IsWhole) (arg9 : Memref sig .tc .vmem S1x128x1024 .bf16) (harg9 : arg9.IsWhole) (arg10 : Memref sig .tc .vmem S128x1024 .f32) (harg10 : arg10.IsWhole) (arg11 : Memref sig .tc .vmem S1x1024 .f32) (harg11 : arg11.IsWhole) (arg12 : Memref sig .tc .vmem S1x1024 .f32) (harg12 : arg12.IsWhole) (v33 : FVec F S16x1024 .bf16) (X4 : BufTy.Contents (Elt F) arg4.view.ty) (X5 : BufTy.Contents (Elt F) arg5.view.ty) (X9 : BufTy.Contents (Elt F) arg9.view.ty) :
    LoopInvTy_k0_t2 (F := F) Unit ℕ (UR sig nD τ) ℕ 𝒱 c bd E i arg3 harg3 arg4 harg4 arg5 harg5 arg6 harg6 arg7 harg7 arg8 harg8 arg9 harg9 arg10 harg10 arg11 harg11 arg12 harg12 v33 := slowInv 𝒱 c bd E i arg3 harg3 arg4 harg4 arg5 harg5 arg6 harg6 arg7 harg7 arg8 harg8 arg9 harg9 arg10 harg10 arg11 harg11 arg12 harg12 v33 X4 X5 X9

end Cert.Proof.KI
-- ==== Proof.PI.Run.lean ====
module

public import proofs.«01_k».proof.Proof.PI.Body
public import Idealize.ShloMosaic.Lib.Tactic
public import Idealize.ShloMosaic.Lib.VecWindow
public import Idealize.ShloMosaic.Lib.Pipeline.Kit

/-! The attention region's run: the proof data of its pipeline, the body at each point, and the frame. -/

@[expose] public section

set_option maxRecDepth 8192

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body leaves in the output's staging buffer at point `t`. -/
def outAt (c : Dev nD) (t : Fin cfg0.N) : Vec F S1x1024x128 .bf16 :=
  outB (X0_0 m c t) (iblk m c 1 t) (iblk m c 2 t) (iblk m c 3 t)

/-- The proof data of the pipeline on core `c`: inputs stay in place, the output holds `outAt`. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = X0_0 m c t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]
theorem before0 (c : Dev nD) (t : Fin cfg0.N) (d) : (dats m 0 c).before 0 t d = X0_0 m c t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- A buffer held whole, as its whole memref's view holds it. -/
theorem whole_eq (c : Dev nD) (b : Ref sig .tc) (f : Buf (Elt F) ((c : Thread nD τ).loc b)) :
    (((c : Thread nD τ).loc b) ↦{fullShare} f : sProp 𝕄)
      = iprop((Memref.whole b).view.loc (c : Thread nD τ) ↦[(Memref.whole b).view.set]{fullShare} f) := by
  rw [show (Memref.whole b).view.set = Finset.univ from View.set_whole b]
theorem whole_in (c : Dev nD) (b : Ref sig .tc) (f : Buf (Elt F) ((c : Thread nD τ).loc b)) :
    (((c : Thread nD τ).loc b) ↦{fullShare} f : sProp 𝕄)
      ⊢ iprop((Memref.whole b).view.loc (c : Thread nD τ) ↦[(Memref.whole b).view.set]{fullShare} f) := by rw [whole_eq]
theorem whole_out (c : Dev nD) (b : Ref sig .tc) (f : Buf (Elt F) ((c : Thread nD τ).loc b)) :
    iprop((Memref.whole b).view.loc (c : Thread nD τ) ↦[(Memref.whole b).view.set]{fullShare} f)
      ⊢ (((c : Thread nD τ).loc b) ↦{fullShare} f : sProp 𝕄) := by rw [whole_eq]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [after0, after1, after2, after3, after4]
  simp only [before0, before1, before2, before3]
  rw [show (dats m 0 c).Φ t.succ = Pipeline.ΦA spec0 c from rfl, show (dats m 0 c).Φ t.castSucc = Pipeline.ΦA spec0 c from rfl]
  unfold Pipeline.ΦA Dat.owesAt Pipeline.owesWithin
  rw [scopedRest0_eq, show (dats m 0 c).owed t.castSucc = 0 from rfl, show (dats m 0 c).owed t.succ = 0 from rfl]
  iintro ⟨⟨⟨⟨%f9, H9⟩, ⟨%f10, H10⟩, ⟨%f11, H11⟩, ⟨%f12, H12⟩⟩, Hg⟩, ⟨%W, -, HW⟩, ⟨%d0, H0⟩, ⟨%d1, H1⟩, ⟨%d2, H2⟩, ⟨%d3, H3⟩, ⟨%d4, H4⟩⟩
  unfold owns
  icases H0 with ⟨%x0, %h0, H0⟩
  icases H1 with ⟨%x1, %h1, H1⟩
  icases H2 with ⟨%x2, %h2, H2⟩
  icases H3 with ⟨%x3, %h3, H3⟩
  icases H4 with ⟨%x4, %h4, H4⟩
  ihave H9 := (whole_in c cc0_scratch0 f9) $$ H9
  ihave H10 := (whole_in c cc0_scratch1 f10) $$ H10
  ihave H11 := (whole_in c cc0_scratch2 f11) $$ H11
  ihave H12 := (whole_in c cc0_scratch3 f12) $$ H12
  iapply (wp_wand _ _ _) $$ [H0 H1 H2 H3 H4 H9 H10 H11 H12]
  · iapply (body_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole main_v22) (Memref.isWhole_whole _) (win0_4.stage (cfg0.slots t 4)) (hstage0_4 ((cfg0.slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _) x0 x1 x2 x3 x4 f9 f10 f11 f12) $$ [H0 H1 H2 H3 H4 H9 H10 H11 H12]
    isplitl [H0]; · iexact H0
    isplitl [H1]; · iexact H1
    isplitl [H2]; · iexact H2
    isplitl [H3]; · iexact H3
    isplitl [H4]; · iexact H4
    isplitl [H9]; · iexact H9
    isplitl [H10]; · iexact H10
    isplitl [H11]; · iexact H11
    iexact H12
  iintro %r ⟨H0, H1, H2, H3, ⟨%g, H4, %hg⟩, ⟨%g9, H9⟩, ⟨%g10, H10⟩, ⟨%g11, H11⟩, ⟨%g12, H12⟩⟩
  ihave H9 := (whole_out c cc0_scratch0 g9) $$ H9
  ihave H10 := (whole_out c cc0_scratch1 g10) $$ H10
  ihave H11 := (whole_out c cc0_scratch2 g11) $$ H11
  ihave H12 := (whole_out c cc0_scratch3 g12) $$ H12
  isplitl [H9 H10 H11 H12 Hg]
  · isplitl [H9 H10 H11 H12]
    · isplitl [H9]; · iexists _; iexact H9
      isplitl [H10]; · iexists _; iexact H10
      isplitl [H11]; · iexists _; iexact H11
      iexists _; iexact H12
    iexact Hg
  isplitl [HW]
  · iexists W; isplitr; · ipureintro; exact fun _ _ => Or.inl trivial
    iexact HW
  isplitl [H0]
  · iexists _; isplitr; swap; · iexact H0
    ipureintro; exact h0
  isplitl [H1]
  · iexists _; isplitr; swap; · iexact H1
    ipureintro; exact h1
  isplitl [H2]
  · iexists _; isplitr; swap; · iexact H2
    ipureintro; exact h2
  isplitl [H3]
  · iexists _; isplitr; swap; · iexact H3
    ipureintro; exact h3
  iexists _; isplitr; swap; · iexact H4
  ipureintro
  rw [hg, h0, h1, h2, h3]
  rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole program's run: every array at its contents after the grid, every counter at zero. -/
theorem run_main : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl) (hQ' := fun _ h => h)

/-- The frame: every argument unchanged, every counter back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end Cert.Proof.KI
-- ==== Proof.GI.Loops.lean ====
module

public import proofs.«01_k».proof.Proof.Gen.Kernel2Ideal.Loops
public import proofs.«01_k».proof.Proof.Gen.Kernel2Ideal.Frame
public import Idealize.ShloMosaic.Lib.Tactic
public import Idealize.ShloMosaic.Lib.VecWindow
public import Idealize.ShloMosaic.Lib.Pipeline.Kit

/-! The two counted loops of the attention kernel, with the values they leave: the fast loop over five key tiles without a running maximum, and the slow loop over sixty-five
key tiles with one. What a loop leaves is a fold of the kernel's own tile step over its tiles. -/

@[expose] public section

set_option maxRecDepth 8192

noncomputable section

namespace Cert.Proof.GI

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## Whole stores -/

theorem read_put64 {κ' : Kind} {sp : Space} (v : View sig κ' sp S64x1024 .f32) (f : v.ty.Contents (Elt F)) (w : Vec F S64x1024 .f32)
    (L : List (View.Piece (Elt F) S64x1024 .f32)) :
    v.read (Elt F) (v.writes (Elt F) f (⟨Rect.unit (s := S64x1024) ![0, 0] S64x1024.size inb_S64x1024_S64x1024_0_0, w⟩ :: L)) = w :=
  View.read_writes_full v f inb_S64x1024_S64x1024_0_0 w L

theorem read_put1 {κ' : Kind} {sp : Space} (v : View sig κ' sp S1x1024 .f32) (f : v.ty.Contents (Elt F)) (w : Vec F S1x1024 .f32)
    (L : List (View.Piece (Elt F) S1x1024 .f32)) :
    v.read (Elt F) (v.writes (Elt F) f (⟨Rect.unit (s := S1x1024) ![0, 0] S1x1024.size inb_S1x1024_S1x1024_0_0, w⟩ :: L)) = w :=
  View.read_writes_full v f inb_S1x1024_S1x1024_0_0 w L

/-! ## The tile steps on values -/

/-- The key tile of the fast loop's trip `k`. -/
abbrev kTile1 (K : Vec F S1x1x16640x128 .bf16) (k : Fin k0_t1_loop.trips) : Vec F S1x1x3328x128 .bf16 :=
  View.ld (Val := Elt F) K (Rect.unit (s := S1x1x16640x128) (k0_off1 k) S1x1x3328x128.size (k0_off1_inb k))

/-- The value tile of the fast loop's trip `k`. -/
abbrev vTile1 (V : Vec F S1x64x16640 .bf16) (k : Fin k0_t1_loop.trips) : Vec F S1x64x3328 .bf16 :=
  View.ld (Val := Elt F) V (Rect.unit (s := S1x64x16640) (k0_off2 k) S1x64x3328.size (k0_off2_inb k))

/-- The key tile of the slow loop's trip `k`. -/
abbrev kTile2 (K : Vec F S1x1x16640x128 .bf16) (k : Fin k0_t2_loop.trips) : Vec F S1x1x256x128 .bf16 :=
  View.ld (Val := Elt F) K (Rect.unit (s := S1x1x16640x128) (k0_off3 k) S1x1x256x128.size (k0_off3_inb k))

/-- The value tile of the slow loop's trip `k`. -/
abbrev vTile2 (V : Vec F S1x64x16640 .bf16) (k : Fin k0_t2_loop.trips) : Vec F S1x64x256 .bf16 :=
  View.ld (Val := Elt F) V (Rect.unit (s := S1x64x16640) (k0_off4 k) S1x64x256.size (k0_off4_inb k))

/-- Accumulator and denominator after the first `k` trips of the fast loop. -/
def fast (K : Vec F S1x1x16640x128 .bf16) (V : Vec F S1x64x16640 .bf16) (Q : Vec F S1x128x1024 .bf16) : ℕ → Vec F S64x1024 .f32 × Vec F S1x1024 .f32
  | 0 => (k0_pay26, k0_pay27)
  | k + 1 =>
    if h : k < k0_t1_loop.trips then
      (k0_pay30 (kTile1 K ⟨k, h⟩) Q (fast K V Q k).1 (vTile1 V ⟨k, h⟩), k0_pay29 (kTile1 K ⟨k, h⟩) Q (fast K V Q k).2)
    else fast K V Q k

/-- Accumulator, denominator and running maximum after the first `k` trips of the slow loop. -/
def slow (K : Vec F S1x1x16640x128 .bf16) (V : Vec F S1x64x16640 .bf16) (Q : Vec F S1x128x1024 .bf16) :
    ℕ → Vec F S64x1024 .f32 × Vec F S1x1024 .f32 × Vec F S1x1024 .f32
  | 0 => (k0_pay32, k0_pay33, k0_pay34)
  | k + 1 =>
    if h : k < k0_t2_loop.trips then
      (k0_pay35 (k0_pay7 (kTile2 K ⟨k, h⟩) Q (slow K V Q k).2.2 (slow K V Q k).1 (vTile2 V ⟨k, h⟩)),
        k0_pay6 (kTile2 K ⟨k, h⟩) Q (slow K V Q k).2.2 (slow K V Q k).2.1,
        k0_pay36 (k0_pay3 (kTile2 K ⟨k, h⟩) Q (slow K V Q k).2.2))
    else slow K V Q k

theorem fast_zero (K : Vec F S1x1x16640x128 .bf16) (V : Vec F S1x64x16640 .bf16) (Q : Vec F S1x128x1024 .bf16) : fast K V Q 0 = (k0_pay26, k0_pay27) := rfl

theorem fast_succ (K : Vec F S1x1x16640x128 .bf16) (V : Vec F S1x64x16640 .bf16) (Q : Vec F S1x128x1024 .bf16) (k : Fin k0_t1_loop.trips) :
    fast K V Q (k.val + 1) = (k0_pay30 (kTile1 K k) Q (fast K V Q k).1 (vTile1 V k), k0_pay29 (kTile1 K k) Q (fast K V Q k).2) := by
  rw [fast, dif_pos k.isLt]

theorem slow_zero (K : Vec F S1x1x16640x128 .bf16) (V : Vec F S1x64x16640 .bf16) (Q : Vec F S1x128x1024 .bf16) :
    slow K V Q 0 = (k0_pay32, k0_pay33, k0_pay34) := rfl

theorem slow_succ (K : Vec F S1x1x16640x128 .bf16) (V : Vec F S1x64x16640 .bf16) (Q : Vec F S1x128x1024 .bf16) (k : Fin k0_t2_loop.trips) :
    slow K V Q (k.val + 1)
      = (k0_pay35 (k0_pay7 (kTile2 K k) Q (slow K V Q k).2.2 (slow K V Q k).1 (vTile2 V k)), k0_pay6 (kTile2 K k) Q (slow K V Q k).2.2 (slow K V Q k).2.1,
          k0_pay36 (k0_pay3 (kTile2 K k) Q (slow K V Q k).2.2)) := by
  rw [slow, dif_pos k.isLt]

attribute [irreducible] fast slow

/-- Whether the fast loop's denominators `l` are too small somewhere, as the kernel's branch decides it. -/
def redo (l : Vec F S1x1024 .f32) : BitVec 1 :=
  Scalar.cmpi .ne (Scalar.extui (Scalar.xori (Scalar.cmpf .oge (k0_pay31 l) (Scalar.ofBits (F := F) .f32 0x17800000#32)) 1#1) : BitVec 32) 0#32

set_option warn.classDefReducibility false in
/-- The fast loop by its invariant: what it accumulates reads as the fold over the tiles before trip `k`. -/
@[sl_loop] def loop1 (𝒱 : Variants) (c : Dev nD) (bd : Option 𝒱.V) (E : Set ℕ) (i : grid0.Coords) (arg3 : Memref sig .tc .vmem S1x256x256 .bf16) (harg3 : arg3.IsWhole) (arg4 : Memref sig .tc .vmem S1x1x16640x128 .bf16) (harg4 : arg4.IsWhole) (arg5 : Memref sig .tc .vmem S1x64x16640 .bf16) (harg5 : arg5.IsWhole) (arg6 : Memref sig .tc .vmem S1x1x1x128 .f32) (harg6 : arg6.IsWhole) (arg7 : Memref sig .tc .hbm S2x16640x512 .bf16) (harg7 : arg7.IsWhole) (arg8 : Memref sig .tc .vmem S1x256x256 .bf16) (harg8 : arg8.IsWhole) (arg9 : Memref sig .tc .vmem S1x128x1024 .bf16) (harg9 : arg9.IsWhole) (arg10 : Memref sig .tc .vmem S64x1024 .f32) (harg10 : arg10.IsWhole) (arg11 : Memref sig .tc .vmem S1x1024 .f32) (harg11 : arg11.IsWhole) (arg12 : Memref sig .tc .vmem S1x1024 .f32) (harg12 : arg12.IsWhole) (v137 : FVec F S16x256 .bf16) (v138 : Vec F S1x16x256 .bf16) (X4 : BufTy.Contents (Elt F) arg4.view.ty) (X5 : BufTy.Contents (Elt F) arg5.view.ty) (X9 : BufTy.Contents (Elt F) arg9.view.ty) :
    LoopInvTy_k0_t1 (F := F) Unit ℕ (UR sig nD τ) ℕ 𝒱 c bd E i arg3 harg3 arg4 harg4 arg5 harg5 arg6 harg6 arg7 harg7 arg8 harg8 arg9 harg9 arg10 harg10 arg11 harg11 arg12 harg12 v137 v138 where
  inv k _ := iprop((arg4.view.loc (c : Thread nD τ) ↦[arg4.view.set]{fullShare} X4) ∗ (arg5.view.loc (c : Thread nD τ) ↦[arg5.view.set]{fullShare} X5) ∗ (arg9.view.loc (c : Thread nD τ) ↦[arg9.view.set]{fullShare} X9)
      ∗ (∃ f, (arg10.view.loc (c : Thread nD τ) ↦[arg10.view.set]{fullShare} f) ∗ ⌜arg10.view.read (Elt F) f = (fast (arg4.view.read (Elt F) X4) (arg5.view.read (Elt F) X5) (arg9.view.read (Elt F) X9) k).1⌝)
      ∗ (∃ f, (arg11.view.loc (c : Thread nD τ) ↦[arg11.view.set]{fullShare} f) ∗ ⌜arg11.view.read (Elt F) f = (fast (arg4.view.read (Elt F) X4) (arg5.view.read (Elt F) X5) (arg9.view.read (Elt F) X9) k).2⌝))
  step k acc := by
    have hk : k.val < 5 := Nat.lt_of_lt_of_le k.isLt k0_t1_abs.2.1
    iintro ⟨H4, H5, H9, ⟨%f10, H10, %h10⟩, ⟨%f11, H11, %h11⟩⟩
    unfold k0_t1_body
    sl_exec
    sl_step
    rw [View.readAt_full, View.readAt_full, View.readAt_full]
    isplitl [H4]; · iexact H4
    isplitl [H5]; · iexact H5
    isplitl [H9]; · iexact H9
    isplitl [H10]
    · iexists _; isplitl [H10]; · iexact H10
      ipureintro; rw [read_put64, fast_succ, h10]; rfl
    iexists _; isplitl [H11]; · iexact H11
    ipureintro; rw [read_put1, fast_succ, h11]; rfl

set_option warn.classDefReducibility false in
/-- The slow loop by its invariant: what it accumulates reads as the fold over the tiles before trip `k`. -/
def slowInv (𝒱 : Variants) (c : Dev nD) (bd : Option 𝒱.V) (E : Set ℕ) (i : grid0.Coords) (arg3 : Memref sig .tc .vmem S1x256x256 .bf16) (harg3 : arg3.IsWhole) (arg4 : Memref sig .tc .vmem S1x1x16640x128 .bf16) (harg4 : arg4.IsWhole) (arg5 : Memref sig .tc .vmem S1x64x16640 .bf16) (harg5 : arg5.IsWhole) (arg6 : Memref sig .tc .vmem S1x1x1x128 .f32) (harg6 : arg6.IsWhole) (arg7 : Memref sig .tc .hbm S2x16640x512 .bf16) (harg7 : arg7.IsWhole) (arg8 : Memref sig .tc .vmem S1x256x256 .bf16) (harg8 : arg8.IsWhole) (arg9 : Memref sig .tc .vmem S1x128x1024 .bf16) (harg9 : arg9.IsWhole) (arg10 : Memref sig .tc .vmem S64x1024 .f32) (harg10 : arg10.IsWhole) (arg11 : Memref sig .tc .vmem S1x1024 .f32) (harg11 : arg11.IsWhole) (arg12 : Memref sig .tc .vmem S1x1024 .f32) (harg12 : arg12.IsWhole) (v137 : FVec F S16x256 .bf16) (v138 : Vec F S1x16x256 .bf16) (X4 : BufTy.Contents (Elt F) arg4.view.ty) (X5 : BufTy.Contents (Elt F) arg5.view.ty) (X9 : BufTy.Contents (Elt F) arg9.view.ty) :
    LoopInvTy_k0_t2 (F := F) Unit ℕ (UR sig nD τ) ℕ 𝒱 c bd E i arg3 harg3 arg4 harg4 arg5 harg5 arg6 harg6 arg7 harg7 arg8 harg8 arg9 harg9 arg10 harg10 arg11 harg11 arg12 harg12 v137 v138 where
  inv k _ := iprop((arg4.view.loc (c : Thread nD τ) ↦[arg4.view.set]{fullShare} X4) ∗ (arg5.view.loc (c : Thread nD τ) ↦[arg5.view.set]{fullShare} X5) ∗ (arg9.view.loc (c : Thread nD τ) ↦[arg9.view.set]{fullShare} X9)
      ∗ (∃ f, (arg10.view.loc (c : Thread nD τ) ↦[arg10.view.set]{fullShare} f) ∗ ⌜arg10.view.read (Elt F) f = (slow (arg4.view.read (Elt F) X4) (arg5.view.read (Elt F) X5) (arg9.view.read (Elt F) X9) k).1⌝)
      ∗ (∃ f, (arg11.view.loc (c : Thread nD τ) ↦[arg11.view.set]{fullShare} f) ∗ ⌜arg11.view.read (Elt F) f = (slow (arg4.view.read (Elt F) X4) (arg5.view.read (Elt F) X5) (arg9.view.read (Elt F) X9) k).2.1⌝)
      ∗ (∃ f, (arg12.view.loc (c : Thread nD τ) ↦[arg12.view.set]{fullShare} f) ∗ ⌜arg12.view.read (Elt F) f = (slow (arg4.view.read (Elt F) X4) (arg5.view.read (Elt F) X5) (arg9.view.read (Elt F) X9) k).2.2⌝))
  step k acc := by
    have hk : k.val < 65 := Nat.lt_of_lt_of_le k.isLt k0_t2_abs.2.1
    iintro ⟨H4, H5, H9, ⟨%f10, H10, %h10⟩, ⟨%f11, H11, %h11⟩, ⟨%f12, H12, %h12⟩⟩
    unfold k0_t2_body
    rw [k0_part1_eq_skeleton]
    unfold k0_part1_skel
    sl_exec
    sl_step
    rw [View.readAt_full, View.readAt_full, View.readAt_full, View.readAt_full]
    isplitl [H4]; · iexact H4
    isplitl [H5]; · iexact H5
    isplitl [H9]; · iexact H9
    isplitl [H10]
    · iexists _; isplitl [H10]; · iexact H10
      ipureintro; rw [read_put64, slow_succ, h10, h12]; rfl
    isplitl [H11]
    · iexists _; isplitl [H11]; · iexact H11
      ipureintro; rw [read_put1, slow_succ, h11, h12]; rfl
    iexists _; isplitl [H12]; · iexact H12
    ipureintro; rw [read_put1, slow_succ, h12]; rfl

/-- The slow loop's invariant, spelled out. -/
theorem slowInv_inv (𝒱 : Variants) (c : Dev nD) (bd : Option 𝒱.V) (E : Set ℕ) (i : grid0.Coords) (arg3 : Memref sig .tc .vmem S1x256x256 .bf16) (harg3 : arg3.IsWhole) (arg4 : Memref sig .tc .vmem S1x1x16640x128 .bf16) (harg4 : arg4.IsWhole) (arg5 : Memref sig .tc .vmem S1x64x16640 .bf16) (harg5 : arg5.IsWhole) (arg6 : Memref sig .tc .vmem S1x1x1x128 .f32) (harg6 : arg6.IsWhole) (arg7 : Memref sig .tc .hbm S2x16640x512 .bf16) (harg7 : arg7.IsWhole) (arg8 : Memref sig .tc .vmem S1x256x256 .bf16) (harg8 : arg8.IsWhole) (arg9 : Memref sig .tc .vmem S1x128x1024 .bf16) (harg9 : arg9.IsWhole) (arg10 : Memref sig .tc .vmem S64x1024 .f32) (harg10 : arg10.IsWhole) (arg11 : Memref sig .tc .vmem S1x1024 .f32) (harg11 : arg11.IsWhole) (arg12 : Memref sig .tc .vmem S1x1024 .f32) (harg12 : arg12.IsWhole) (v137 : FVec F S16x256 .bf16) (v138 : Vec F S1x16x256 .bf16) (X4 : BufTy.Contents (Elt F) arg4.view.ty) (X5 : BufTy.Contents (Elt F) arg5.view.ty) (X9 : BufTy.Contents (Elt F) arg9.view.ty) (k : ℕ) (acc : Unit) :
    (slowInv (F := F) 𝒱 c bd E i arg3 harg3 arg4 harg4 arg5 harg5 arg6 harg6 arg7 harg7 arg8 harg8 arg9 harg9 arg10 harg10 arg11 harg11 arg12 harg12 v137 v138 X4 X5 X9).inv k acc = iprop((arg4.view.loc (c : Thread nD τ) ↦[arg4.view.set]{fullShare} X4) ∗ (arg5.view.loc (c : Thread nD τ) ↦[arg5.view.set]{fullShare} X5) ∗ (arg9.view.loc (c : Thread nD τ) ↦[arg9.view.set]{fullShare} X9)
      ∗ (∃ f, (arg10.view.loc (c : Thread nD τ) ↦[arg10.view.set]{fullShare} f) ∗ ⌜arg10.view.read (Elt F) f = (slow (arg4.view.read (Elt F) X4) (arg5.view.read (Elt F) X5) (arg9.view.read (Elt F) X9) k).1⌝)
      ∗ (∃ f, (arg11.view.loc (c : Thread nD τ) ↦[arg11.view.set]{fullShare} f) ∗ ⌜arg11.view.read (Elt F) f = (slow (arg4.view.read (Elt F) X4) (arg5.view.read (Elt F) X5) (arg9.view.read (Elt F) X9) k).2.1⌝)
      ∗ (∃ f, (arg12.view.loc (c : Thread nD τ) ↦[arg12.view.set]{fullShare} f) ∗ ⌜arg12.view.read (Elt F) f = (slow (arg4.view.read (Elt F) X4) (arg5.view.read (Elt F) X5) (arg9.view.read (Elt F) X9) k).2.2⌝)) := rfl

/-- The same as an entailment. -/
theorem slowInv_out (𝒱 : Variants) (c : Dev nD) (bd : Option 𝒱.V) (E : Set ℕ) (i : grid0.Coords) (arg3 : Memref sig .tc .vmem S1x256x256 .bf16) (harg3 : arg3.IsWhole) (arg4 : Memref sig .tc .vmem S1x1x16640x128 .bf16) (harg4 : arg4.IsWhole) (arg5 : Memref sig .tc .vmem S1x64x16640 .bf16) (harg5 : arg5.IsWhole) (arg6 : Memref sig .tc .vmem S1x1x1x128 .f32) (harg6 : arg6.IsWhole) (arg7 : Memref sig .tc .hbm S2x16640x512 .bf16) (harg7 : arg7.IsWhole) (arg8 : Memref sig .tc .vmem S1x256x256 .bf16) (harg8 : arg8.IsWhole) (arg9 : Memref sig .tc .vmem S1x128x1024 .bf16) (harg9 : arg9.IsWhole) (arg10 : Memref sig .tc .vmem S64x1024 .f32) (harg10 : arg10.IsWhole) (arg11 : Memref sig .tc .vmem S1x1024 .f32) (harg11 : arg11.IsWhole) (arg12 : Memref sig .tc .vmem S1x1024 .f32) (harg12 : arg12.IsWhole) (v137 : FVec F S16x256 .bf16) (v138 : Vec F S1x16x256 .bf16) (X4 : BufTy.Contents (Elt F) arg4.view.ty) (X5 : BufTy.Contents (Elt F) arg5.view.ty) (X9 : BufTy.Contents (Elt F) arg9.view.ty) (k : ℕ) (acc : Unit) :
    (slowInv (F := F) 𝒱 c bd E i arg3 harg3 arg4 harg4 arg5 harg5 arg6 harg6 arg7 harg7 arg8 harg8 arg9 harg9 arg10 harg10 arg11 harg11 arg12 harg12 v137 v138 X4 X5 X9).inv k acc ⊢ iprop((arg4.view.loc (c : Thread nD τ) ↦[arg4.view.set]{fullShare} X4) ∗ (arg5.view.loc (c : Thread nD τ) ↦[arg5.view.set]{fullShare} X5) ∗ (arg9.view.loc (c : Thread nD τ) ↦[arg9.view.set]{fullShare} X9)
      ∗ (∃ f, (arg10.view.loc (c : Thread nD τ) ↦[arg10.view.set]{fullShare} f) ∗ ⌜arg10.view.read (Elt F) f = (slow (arg4.view.read (Elt F) X4) (arg5.view.read (Elt F) X5) (arg9.view.read (Elt F) X9) k).1⌝)
      ∗ (∃ f, (arg11.view.loc (c : Thread nD τ) ↦[arg11.view.set]{fullShare} f) ∗ ⌜arg11.view.read (Elt F) f = (slow (arg4.view.read (Elt F) X4) (arg5.view.read (Elt F) X5) (arg9.view.read (Elt F) X9) k).2.1⌝)
      ∗ (∃ f, (arg12.view.loc (c : Thread nD τ) ↦[arg12.view.set]{fullShare} f) ∗ ⌜arg12.view.read (Elt F) f = (slow (arg4.view.read (Elt F) X4) (arg5.view.read (Elt F) X5) (arg9.view.read (Elt F) X9) k).2.2⌝)) := .rfl

end Cert.Proof.GI
-- ==== Proof.GI.Body.lean ====
module

public import proofs.«01_k».proof.Proof.GI.Loops
public import Idealize.ShloMosaic.Lib.Tactic
public import Idealize.ShloMosaic.Lib.VecWindow
public import Idealize.ShloMosaic.Lib.Pipeline.Kit

/-! One grid point of the attention kernel: what its body leaves in the output block, as a function of the four input blocks. -/

@[expose] public section

set_option maxRecDepth 8192

noncomputable section

namespace Cert.Proof.GI

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

theorem read_last {κ' : Kind} {sp : Space} {s : Shape} {e : EltTy} (v : View sig κ' sp s e) (f : v.ty.Contents (Elt F)) (L L' : List (View.Piece (Elt F) s e)) :
    v.writes (Elt F) (v.writes (Elt F) f L) L' = v.writes (Elt F) f (L' ++ L) := by
  induction L' with
  | nil => rfl
  | cons p L' ih => exact congrArg (fun g => View.write (Elt F) (v.slice p.fst) g p.snd Finset.univ) ih

theorem read_five {κ' : Kind} {sp : Space} {s : Shape} {e : EltTy} (v : View sig κ' sp s e) (f : v.ty.Contents (Elt F)) (L₁ L₂ L₃ L₄ L₅ : List (View.Piece (Elt F) s e)) :
    v.writes (Elt F) (v.writes (Elt F) (v.writes (Elt F) (v.writes (Elt F) (v.writes (Elt F) f L₁) L₂) L₃) L₄) L₅ = v.writes (Elt F) f ((((L₅ ++ L₄) ++ L₃) ++ L₂) ++ L₁) := by
  rw [read_last, read_last, read_last, read_last]

/-- The row numbers the shift row is selected by. -/
abbrev rowNo : IVec S16x256 32 := iota .tc S16x256 32 [0] iota_S16x256_d0_w32

/-- The 64 rows of query head 0 of the group. -/
abbrev qRows0 (x3 : Vec F S1x256x256 .bf16) : Vec F S1x64x256 .bf16 :=
  View.ld (Val := Elt F) x3 (Rect.unit (s := S1x256x256) ![0, 0, 0] S1x64x256.size inb_S1x256x256_S1x64x256_0_0_0)

/-- The 64 rows of query head 1 of the group. -/
abbrev qRows1 (x3 : Vec F S1x256x256 .bf16) : Vec F S1x64x256 .bf16 :=
  View.ld (Val := Elt F) x3 (Rect.unit (s := S1x256x256) ![0, 64, 0] S1x64x256.size inb_S1x256x256_S1x64x256_0_64_0)

/-- The 64 rows of query head 2 of the group. -/
abbrev qRows2 (x3 : Vec F S1x256x256 .bf16) : Vec F S1x64x256 .bf16 :=
  View.ld (Val := Elt F) x3 (Rect.unit (s := S1x256x256) ![0, 128, 0] S1x64x256.size inb_S1x256x256_S1x64x256_0_128_0)

/-- The 64 rows of query head 3 of the group. -/
abbrev qRows3 (x3 : Vec F S1x256x256 .bf16) : Vec F S1x64x256 .bf16 :=
  View.ld (Val := Elt F) x3 (Rect.unit (s := S1x256x256) ![0, 192, 0] S1x64x256.size inb_S1x256x256_S1x64x256_0_192_0)

/-- The key bound of the head. -/
abbrev kBound (x6 : Vec F S1x1x1x128 .f32) : Vec F S1x1x1x1 .f32 :=
  View.ld (Val := Elt F) x6 (Rect.unit (s := S1x1x1x128) ![0, 0, 0, 0] S1x1x1x1.size inb_S1x1x1x128_S1x1x1x1_0_0_0_0)

/-- The stores of part 2 into the widened queries, last first. -/
abbrev pieces2 (x3 : Vec F S1x256x256 .bf16) (x6 : Vec F S1x1x1x128 .f32) : List (View.Piece (Elt F) S1x128x1024 .bf16) :=
  [⟨Rect.unit (s := S1x128x1024) ![0, 64, 0] S1x16x256.size inb_S1x128x1024_S1x16x256_0_64_0, k0_pay10 (qRows0 x3) (kBound x6)⟩,
    ⟨Rect.unit (s := S1x128x1024) ![0, 0, 0] S1x64x256.size inb_S1x128x1024_S1x64x256_0_0_0, k0_pay9 (qRows0 x3)⟩]

/-- The stores of part 3 into the widened queries, last first. -/
abbrev pieces3 (x3 : Vec F S1x256x256 .bf16) (x6 : Vec F S1x1x1x128 .f32) : List (View.Piece (Elt F) S1x128x1024 .bf16) :=
  [⟨Rect.unit (s := S1x128x1024) ![0, 64, 256] S1x16x256.size inb_S1x128x1024_S1x16x256_0_64_256, k0_pay15 rowNo (qRows1 x3) (kBound x6)⟩,
    ⟨Rect.unit (s := S1x128x1024) ![0, 0, 256] S1x64x256.size inb_S1x128x1024_S1x64x256_0_0_256, k0_pay14 (qRows1 x3)⟩,
    ⟨Rect.unit (s := S1x128x1024) ![0, 80, 0] S1x48x256.size inb_S1x128x1024_S1x48x256_0_80_0, k0_pay12 k0_pay11⟩]

/-- The stores of part 4 into the widened queries, last first. -/
abbrev pieces4 (x3 : Vec F S1x256x256 .bf16) (x6 : Vec F S1x1x1x128 .f32) : List (View.Piece (Elt F) S1x128x1024 .bf16) :=
  [⟨Rect.unit (s := S1x128x1024) ![0, 0, 512] S1x64x256.size inb_S1x128x1024_S1x64x256_0_0_512, k0_pay18 (qRows2 x3)⟩,
    ⟨Rect.unit (s := S1x128x1024) ![0, 80, 256] S1x48x256.size inb_S1x128x1024_S1x48x256_0_80_256, k0_pay16 (Scalar.ofBits .bf16 0x0000#16)⟩]

/-- The stores of part 5 into the widened queries, last first. -/
abbrev pieces5 (x3 : Vec F S1x256x256 .bf16) (x6 : Vec F S1x1x1x128 .f32) : List (View.Piece (Elt F) S1x128x1024 .bf16) :=
  [⟨Rect.unit (s := S1x128x1024) ![0, 0, 768] S1x64x256.size inb_S1x128x1024_S1x64x256_0_0_768, k0_pay22 (qRows3 x3)⟩,
    ⟨Rect.unit (s := S1x128x1024) ![0, 80, 512] S1x48x256.size inb_S1x128x1024_S1x48x256_0_80_512, k0_pay20⟩,
    ⟨Rect.unit (s := S1x128x1024) ![0, 64, 512] S1x16x256.size inb_S1x128x1024_S1x16x256_0_64_512, k0_pay19 rowNo (qRows2 x3) (kBound x6)⟩]

/-- The stores of part 6 into the widened queries, last first. -/
abbrev pieces6 (x3 : Vec F S1x256x256 .bf16) (x6 : Vec F S1x1x1x128 .f32) : List (View.Piece (Elt F) S1x128x1024 .bf16) :=
  [⟨Rect.unit (s := S1x128x1024) ![0, 80, 768] S1x48x256.size inb_S1x128x1024_S1x48x256_0_80_768, k0_pay25⟩,
    ⟨Rect.unit (s := S1x128x1024) ![0, 64, 768] S1x16x256.size inb_S1x128x1024_S1x16x256_0_64_768, k0_pay24 (k0_pay23 rowNo (qRows3 x3) (kBound x6))⟩]

/-- All the stores that fill the widened queries, last first. -/
abbrev qaPieces (x3 : Vec F S1x256x256 .bf16) (x6 : Vec F S1x1x1x128 .f32) : List (View.Piece (Elt F) S1x128x1024 .bf16) :=
  (((pieces6 x3 x6 ++ pieces5 x3 x6) ++ pieces4 x3 x6) ++ pieces3 x3 x6) ++ pieces2 x3 x6

/-- The queries widened by the score shift, the four heads of the group side by side. -/
def qa (x3 : Vec F S1x256x256 .bf16) (x6 : Vec F S1x1x1x128 .f32) : Vec F S1x128x1024 .bf16 := View.canon (Val := Elt F) (qaPieces x3 x6)

theorem qaPieces_cover (x3 : Vec F S1x256x256 .bf16) (x6 : Vec F S1x1x1x128 .f32) (y : S1x128x1024.Idx) : ∃ p ∈ qaPieces x3 x6, y ∈ p.1.set := by
  have h0 : (y 0).val < 1 := (y 0).isLt
  have h1 : (y 1).val < 128 := (y 1).isLt
  have h2 : (y 2).val < 1024 := (y 2).isLt
  by_cases a0 : (80 ≤ (y 1).val ∧ (y 1).val < 128) ∧ (768 ≤ (y 2).val ∧ (y 2).val < 1024)
  · refine ⟨_, List.mem_cons_self .., ?_⟩
    rw [Rect.mem_set_unit]
    intro b; fin_cases b <;> simp <;> omega
  by_cases a1 : (64 ≤ (y 1).val ∧ (y 1).val < 80) ∧ (768 ≤ (y 2).val ∧ (y 2).val < 1024)
  · refine ⟨_, List.mem_cons_of_mem _ (List.mem_cons_self ..), ?_⟩
    rw [Rect.mem_set_unit]
    intro b; fin_cases b <;> simp <;> omega
  by_cases a2 : (0 ≤ (y 1).val ∧ (y 1).val < 64) ∧ (768 ≤ (y 2).val ∧ (y 2).val < 1024)
  · refine ⟨_, List.mem_cons_of_mem _ (List.mem_cons_of_mem _ (List.mem_cons_self ..)), ?_⟩
    rw [Rect.mem_set_unit]
    intro b; fin_cases b <;> simp <;> omega
  by_cases a3 : (80 ≤ (y 1).val ∧ (y 1).val < 128) ∧ (512 ≤ (y 2).val ∧ (y 2).val < 768)
  · refine ⟨_, List.mem_cons_of_mem _ (List.mem_cons_of_mem _ (List.mem_cons_of_mem _ (List.mem_cons_self ..))), ?_⟩
    rw [Rect.mem_set_unit]
    intro b; fin_cases b <;> simp <;> omega
  by_cases a4 : (64 ≤ (y 1).val ∧ (y 1).val < 80) ∧ (512 ≤ (y 2).val ∧ (y 2).val < 768)
  · refine ⟨_, List.mem_cons_of_mem _ (List.mem_cons_of_mem _ (List.mem_cons_of_mem _ (List.mem_cons_of_mem _ (List.mem_cons_self ..)))), ?_⟩
    rw [Rect.mem_set_unit]
    intro b; fin_cases b <;> simp <;> omega
  by_cases a5 : (0 ≤ (y 1).val ∧ (y 1).val < 64) ∧ (512 ≤ (y 2).val ∧ (y 2).val < 768)
  · refine ⟨_, List.mem_cons_of_mem _ (List.mem_cons_of_mem _ (List.mem_cons_of_mem _ (List.mem_cons_of_mem _ (List.mem_cons_of_mem _ (List.mem_cons_self ..))))), ?_⟩
    rw [Rect.mem_set_unit]
    intro b; fin_cases b <;> simp <;> omega
  by_cases a6 : (80 ≤ (y 1).val ∧ (y 1).val < 128) ∧ (256 ≤ (y 2).val ∧ (y 2).val < 512)
  · refine ⟨_, List.mem_cons_of_mem _ (List.mem_cons_of_mem _ (List.mem_cons_of_mem _ (List.mem_cons_of_mem _ (List.mem_cons_of_mem _ (List.mem_cons_of_mem _ (List.mem_cons_self ..)))))), ?_⟩
    rw [Rect.mem_set_unit]
    intro b; fin_cases b <;> simp <;> omega
  by_cases a7 : (64 ≤ (y 1).val ∧ (y 1).val < 80) ∧ (256 ≤ (y 2).val ∧ (y 2).val < 512)
  · refine ⟨_, List.mem_cons_of_mem _ (List.mem_cons_of_mem _ (List.mem_cons_of_mem _ (List.mem_cons_of_mem _ (List.mem_cons_of_mem _ (List.mem_cons_of_mem _ (List.mem_cons_of_mem _ (List.mem_cons_self ..))))))), ?_⟩
    rw [Rect.mem_set_unit]
    intro b; fin_cases b <;> simp <;> omega
  by_cases a8 : (0 ≤ (y 1).val ∧ (y 1).val < 64) ∧ (256 ≤ (y 2).val ∧ (y 2).val < 512)
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))), ?_⟩
    rw [Rect.mem_set_unit]
    intro b; fin_cases b <;> simp <;> omega
  by_cases a9 : (80 ≤ (y 1).val ∧ (y 1).val < 128) ∧ (0 ≤ (y 2).val ∧ (y 2).val < 256)
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))), ?_⟩
    rw [Rect.mem_set_unit]
    intro b; fin_cases b <;> simp <;> omega
  by_cases a10 : (64 ≤ (y 1).val ∧ (y 1).val < 80) ∧ (0 ≤ (y 2).val ∧ (y 2).val < 256)
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))), ?_⟩
    rw [Rect.mem_set_unit]
    intro b; fin_cases b <;> simp <;> omega
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))), ?_⟩
    rw [Rect.mem_set_unit]
    intro b; fin_cases b <;> simp <;> omega

/-- Accumulator and denominator at the end: the fast loop's, or the slow loop's where the kernel does the tile over. -/
def accOf (K : Vec F S1x1x16640x128 .bf16) (V : Vec F S1x64x16640 .bf16) (Q : Vec F S1x128x1024 .bf16) : Vec F S64x1024 .f32 × Vec F S1x1024 .f32 :=
  if redo (fast K V Q k0_t1_loop.trips).2 = 1#1 then ((slow K V Q k0_t2_loop.trips).1, (slow K V Q k0_t2_loop.trips).2.1)
  else fast K V Q k0_t1_loop.trips

/-- The accumulator and the denominators of head 0 of the group. -/
abbrev accH0 (a : Vec F S64x1024 .f32) : Vec F S64x256 .f32 := View.ld (Val := Elt F) a (Rect.unit (s := S64x1024) ![0, 0] S64x256.size inb_S64x1024_S64x256_0_0)
abbrev lH0 (l : Vec F S1x1024 .f32) : Vec F S1x256 .f32 := View.ld (Val := Elt F) l (Rect.unit (s := S1x1024) ![0, 0] S1x256.size inb_S1x1024_S1x256_0_0)

/-- The accumulator and the denominators of head 1 of the group. -/
abbrev accH1 (a : Vec F S64x1024 .f32) : Vec F S64x256 .f32 := View.ld (Val := Elt F) a (Rect.unit (s := S64x1024) ![0, 256] S64x256.size inb_S64x1024_S64x256_0_256)
abbrev lH1 (l : Vec F S1x1024 .f32) : Vec F S1x256 .f32 := View.ld (Val := Elt F) l (Rect.unit (s := S1x1024) ![0, 256] S1x256.size inb_S1x1024_S1x256_0_256)

/-- The accumulator and the denominators of head 2 of the group. -/
abbrev accH2 (a : Vec F S64x1024 .f32) : Vec F S64x256 .f32 := View.ld (Val := Elt F) a (Rect.unit (s := S64x1024) ![0, 512] S64x256.size inb_S64x1024_S64x256_0_512)
abbrev lH2 (l : Vec F S1x1024 .f32) : Vec F S1x256 .f32 := View.ld (Val := Elt F) l (Rect.unit (s := S1x1024) ![0, 512] S1x256.size inb_S1x1024_S1x256_0_512)

/-- The accumulator and the denominators of head 3 of the group. -/
abbrev accH3 (a : Vec F S64x1024 .f32) : Vec F S64x256 .f32 := View.ld (Val := Elt F) a (Rect.unit (s := S64x1024) ![0, 768] S64x256.size inb_S64x1024_S64x256_0_768)
abbrev lH3 (l : Vec F S1x1024 .f32) : Vec F S1x256 .f32 := View.ld (Val := Elt F) l (Rect.unit (s := S1x1024) ![0, 768] S1x256.size inb_S1x1024_S1x256_0_768)

/-- The four stores of the output block, last first. -/
abbrev outPieces (a : Vec F S64x1024 .f32) (l : Vec F S1x1024 .f32) : List (View.Piece (Elt F) S1x256x256 .bf16) :=
  [⟨Rect.unit (s := S1x256x256) ![0, 0, 192] S1x256x64.size inb_S1x256x256_S1x256x64_0_0_192, k0_pay1 (k0_pay41 (accH3 a) (lH3 l))⟩,
    ⟨Rect.unit (s := S1x256x256) ![0, 0, 128] S1x256x64.size inb_S1x256x256_S1x256x64_0_0_128, k0_pay40 (accH2 a) (lH2 l)⟩,
    ⟨Rect.unit (s := S1x256x256) ![0, 0, 64] S1x256x64.size inb_S1x256x256_S1x256x64_0_0_64, k0_pay39 (accH1 a) (lH1 l)⟩,
    ⟨Rect.unit (s := S1x256x256) ![0, 0, 0] S1x256x64.size inb_S1x256x256_S1x256x64_0_0_0, k0_pay38 (k0_pay37 (accH0 a) (lH0 l))⟩]

theorem outPieces_cover (a : Vec F S64x1024 .f32) (l : Vec F S1x1024 .f32) (y : S1x256x256.Idx) : ∃ p ∈ outPieces a l, y ∈ p.1.set := by
  have h0 : (y 0).val < 1 := (y 0).isLt
  have h1 : (y 1).val < 256 := (y 1).isLt
  have h2 : (y 2).val < 256 := (y 2).isLt
  by_cases a0 : 192 ≤ (y 2).val
  · refine ⟨_, List.mem_cons_self .., ?_⟩
    rw [Rect.mem_set_unit]
    intro b; fin_cases b <;> simp <;> omega
  by_cases a1 : 128 ≤ (y 2).val
  · refine ⟨_, List.mem_cons_of_mem _ (List.mem_cons_self ..), ?_⟩
    rw [Rect.mem_set_unit]
    intro b; fin_cases b <;> simp <;> omega
  by_cases a2 : 64 ≤ (y 2).val
  · refine ⟨_, List.mem_cons_of_mem _ (List.mem_cons_of_mem _ (List.mem_cons_self ..)), ?_⟩
    rw [Rect.mem_set_unit]
    intro b; fin_cases b <;> simp <;> omega
  · refine ⟨_, List.mem_cons_of_mem _ (List.mem_cons_of_mem _ (List.mem_cons_of_mem _ (List.mem_cons_self ..))), ?_⟩
    rw [Rect.mem_set_unit]
    intro b; fin_cases b <;> simp <;> omega

/-- The output block of a grid point. -/
def outB (x3 : Vec F S1x256x256 .bf16) (x4 : Vec F S1x1x16640x128 .bf16) (x5 : Vec F S1x64x16640 .bf16) (x6 : Vec F S1x1x1x128 .f32) : Vec F S1x256x256 .bf16 :=
  View.canon (Val := Elt F) (outPieces (accOf x4 x5 (qa x3 x6)).1 (accOf x4 x5 (qa x3 x6)).2)

/-- Part 2: its stores into the widened queries. -/
theorem part2_run (c : Dev nD) (i : grid0.Coords) (arg3 : Memref sig .tc .vmem S1x256x256 .bf16) (harg3 : arg3.IsWhole) (arg4 : Memref sig .tc .vmem S1x1x16640x128 .bf16) (harg4 : arg4.IsWhole) (arg5 : Memref sig .tc .vmem S1x64x16640 .bf16) (harg5 : arg5.IsWhole) (arg6 : Memref sig .tc .vmem S1x1x1x128 .f32) (harg6 : arg6.IsWhole) (arg7 : Memref sig .tc .hbm S2x16640x512 .bf16) (harg7 : arg7.IsWhole) (arg8 : Memref sig .tc .vmem S1x256x256 .bf16) (harg8 : arg8.IsWhole) (arg9 : Memref sig .tc .vmem S1x128x1024 .bf16) (harg9 : arg9.IsWhole) (arg10 : Memref sig .tc .vmem S64x1024 .f32) (harg10 : arg10.IsWhole) (arg11 : Memref sig .tc .vmem S1x1024 .f32) (harg11 : arg11.IsWhole) (arg12 : Memref sig .tc .vmem S1x1024 .f32) (harg12 : arg12.IsWhole) (X3 : BufTy.Contents (Elt F) arg3.view.ty) (X6 : BufTy.Contents (Elt F) arg6.view.ty) (f9 : BufTy.Contents (Elt F) arg9.view.ty) :
    iprop((arg3.view.loc (c : Thread nD τ) ↦[arg3.view.set]{fullShare} X3) ∗ (arg6.view.loc (c : Thread nD τ) ↦[arg6.view.set]{fullShare} X6) ∗ (arg9.view.loc (c : Thread nD τ) ↦[arg9.view.set]{fullShare} f9) : sProp 𝕄)
    ⊢ wp frame (wpE (defs₀ (F := F)) Variants.none (c : Thread nD τ) none) Set.univ (k0_part2 (F := F) i arg3 harg3 arg4 harg4 arg5 harg5 arg6 harg6 arg7 harg7 arg8 harg8 arg9 harg9 arg10 harg10 arg11 harg11 arg12 harg12)
      (fun r => iprop((arg3.view.loc (c : Thread nD τ) ↦[arg3.view.set]{fullShare} X3) ∗ (arg6.view.loc (c : Thread nD τ) ↦[arg6.view.set]{fullShare} X6) ∗ (arg9.view.loc (c : Thread nD τ) ↦[arg9.view.set]{fullShare} (arg9.view.writes (Elt F) f9 (pieces2 (arg3.view.read (Elt F) X3) (arg6.view.read (Elt F) X6)))) ∗ ⌜r = ⟨rowNo, k0_pay11⟩⌝)) := by
  rw [k0_part2_eq_skeleton]
  unfold k0_part2_skel
  iintro ⟨H3, H6, H9⟩
  sl_exec
  sl_step
  isplitl [H3]; · iexact H3
  isplitl [H6]; · iexact H6
  isplitl [H9]; · iexact H9
  ipureintro
  rfl

/-- Part 3: its stores into the widened queries. -/
theorem part3_run (c : Dev nD) (i : grid0.Coords) (arg3 : Memref sig .tc .vmem S1x256x256 .bf16) (harg3 : arg3.IsWhole) (arg4 : Memref sig .tc .vmem S1x1x16640x128 .bf16) (harg4 : arg4.IsWhole) (arg5 : Memref sig .tc .vmem S1x64x16640 .bf16) (harg5 : arg5.IsWhole) (arg6 : Memref sig .tc .vmem S1x1x1x128 .f32) (harg6 : arg6.IsWhole) (arg7 : Memref sig .tc .hbm S2x16640x512 .bf16) (harg7 : arg7.IsWhole) (arg8 : Memref sig .tc .vmem S1x256x256 .bf16) (harg8 : arg8.IsWhole) (arg9 : Memref sig .tc .vmem S1x128x1024 .bf16) (harg9 : arg9.IsWhole) (arg10 : Memref sig .tc .vmem S64x1024 .f32) (harg10 : arg10.IsWhole) (arg11 : Memref sig .tc .vmem S1x1024 .f32) (harg11 : arg11.IsWhole) (arg12 : Memref sig .tc .vmem S1x1024 .f32) (harg12 : arg12.IsWhole) (X3 : BufTy.Contents (Elt F) arg3.view.ty) (X6 : BufTy.Contents (Elt F) arg6.view.ty) (f9 : BufTy.Contents (Elt F) arg9.view.ty) :
    iprop((arg3.view.loc (c : Thread nD τ) ↦[arg3.view.set]{fullShare} X3) ∗ (arg6.view.loc (c : Thread nD τ) ↦[arg6.view.set]{fullShare} X6) ∗ (arg9.view.loc (c : Thread nD τ) ↦[arg9.view.set]{fullShare} f9) : sProp 𝕄)
    ⊢ wp frame (wpE (defs₀ (F := F)) Variants.none (c : Thread nD τ) none) Set.univ (k0_part3 (F := F) i arg3 harg3 arg4 harg4 arg5 harg5 arg6 harg6 arg7 harg7 arg8 harg8 arg9 harg9 arg10 harg10 arg11 harg11 arg12 harg12 rowNo k0_pay11)
      (fun r => iprop((arg3.view.loc (c : Thread nD τ) ↦[arg3.view.set]{fullShare} X3) ∗ (arg6.view.loc (c : Thread nD τ) ↦[arg6.view.set]{fullShare} X6) ∗ (arg9.view.loc (c : Thread nD τ) ↦[arg9.view.set]{fullShare} (arg9.view.writes (Elt F) f9 (pieces3 (arg3.view.read (Elt F) X3) (arg6.view.read (Elt F) X6)))) ∗ ⌜r = Scalar.ofBits .bf16 0x0000#16⌝)) := by
  rw [k0_part3_eq_skeleton]
  unfold k0_part3_skel
  iintro ⟨H3, H6, H9⟩
  sl_exec
  sl_step
  isplitl [H3]; · iexact H3
  isplitl [H6]; · iexact H6
  isplitl [H9]; · iexact H9
  ipureintro
  rfl

/-- Part 4: its stores into the widened queries. -/
theorem part4_run (c : Dev nD) (i : grid0.Coords) (arg3 : Memref sig .tc .vmem S1x256x256 .bf16) (harg3 : arg3.IsWhole) (arg4 : Memref sig .tc .vmem S1x1x16640x128 .bf16) (harg4 : arg4.IsWhole) (arg5 : Memref sig .tc .vmem S1x64x16640 .bf16) (harg5 : arg5.IsWhole) (arg6 : Memref sig .tc .vmem S1x1x1x128 .f32) (harg6 : arg6.IsWhole) (arg7 : Memref sig .tc .hbm S2x16640x512 .bf16) (harg7 : arg7.IsWhole) (arg8 : Memref sig .tc .vmem S1x256x256 .bf16) (harg8 : arg8.IsWhole) (arg9 : Memref sig .tc .vmem S1x128x1024 .bf16) (harg9 : arg9.IsWhole) (arg10 : Memref sig .tc .vmem S64x1024 .f32) (harg10 : arg10.IsWhole) (arg11 : Memref sig .tc .vmem S1x1024 .f32) (harg11 : arg11.IsWhole) (arg12 : Memref sig .tc .vmem S1x1024 .f32) (harg12 : arg12.IsWhole) (X3 : BufTy.Contents (Elt F) arg3.view.ty) (X6 : BufTy.Contents (Elt F) arg6.view.ty) (f9 : BufTy.Contents (Elt F) arg9.view.ty) :
    iprop((arg3.view.loc (c : Thread nD τ) ↦[arg3.view.set]{fullShare} X3) ∗ (arg6.view.loc (c : Thread nD τ) ↦[arg6.view.set]{fullShare} X6) ∗ (arg9.view.loc (c : Thread nD τ) ↦[arg9.view.set]{fullShare} f9) : sProp 𝕄)
    ⊢ wp frame (wpE (defs₀ (F := F)) Variants.none (c : Thread nD τ) none) Set.univ (k0_part4 (F := F) i arg3 harg3 arg4 harg4 arg5 harg5 arg6 harg6 arg7 harg7 arg8 harg8 arg9 harg9 arg10 harg10 arg11 harg11 arg12 harg12 rowNo (Scalar.ofBits .bf16 0x0000#16))
      (fun r => iprop((arg3.view.loc (c : Thread nD τ) ↦[arg3.view.set]{fullShare} X3) ∗ (arg6.view.loc (c : Thread nD τ) ↦[arg6.view.set]{fullShare} X6) ∗ (arg9.view.loc (c : Thread nD τ) ↦[arg9.view.set]{fullShare} (arg9.view.writes (Elt F) f9 (pieces4 (arg3.view.read (Elt F) X3) (arg6.view.read (Elt F) X6)))) ∗ ⌜r = k0_pay19 rowNo (qRows2 (arg3.view.read (Elt F) X3)) (kBound (arg6.view.read (Elt F) X6))⌝)) := by
  rw [k0_part4_eq_skeleton]
  unfold k0_part4_skel
  iintro ⟨H3, H6, H9⟩
  sl_exec
  sl_step
  isplitl [H3]; · iexact H3
  isplitl [H6]; · iexact H6
  isplitl [H9]; · iexact H9
  ipureintro
  rfl

/-- Part 5: its stores into the widened queries. -/
theorem part5_run (c : Dev nD) (i : grid0.Coords) (arg3 : Memref sig .tc .vmem S1x256x256 .bf16) (harg3 : arg3.IsWhole) (arg4 : Memref sig .tc .vmem S1x1x16640x128 .bf16) (harg4 : arg4.IsWhole) (arg5 : Memref sig .tc .vmem S1x64x16640 .bf16) (harg5 : arg5.IsWhole) (arg6 : Memref sig .tc .vmem S1x1x1x128 .f32) (harg6 : arg6.IsWhole) (arg7 : Memref sig .tc .hbm S2x16640x512 .bf16) (harg7 : arg7.IsWhole) (arg8 : Memref sig .tc .vmem S1x256x256 .bf16) (harg8 : arg8.IsWhole) (arg9 : Memref sig .tc .vmem S1x128x1024 .bf16) (harg9 : arg9.IsWhole) (arg10 : Memref sig .tc .vmem S64x1024 .f32) (harg10 : arg10.IsWhole) (arg11 : Memref sig .tc .vmem S1x1024 .f32) (harg11 : arg11.IsWhole) (arg12 : Memref sig .tc .vmem S1x1024 .f32) (harg12 : arg12.IsWhole) (X3 : BufTy.Contents (Elt F) arg3.view.ty) (X6 : BufTy.Contents (Elt F) arg6.view.ty) (f9 : BufTy.Contents (Elt F) arg9.view.ty) :
    iprop((arg3.view.loc (c : Thread nD τ) ↦[arg3.view.set]{fullShare} X3) ∗ (arg6.view.loc (c : Thread nD τ) ↦[arg6.view.set]{fullShare} X6) ∗ (arg9.view.loc (c : Thread nD τ) ↦[arg9.view.set]{fullShare} f9) : sProp 𝕄)
    ⊢ wp frame (wpE (defs₀ (F := F)) Variants.none (c : Thread nD τ) none) Set.univ (k0_part5 (F := F) i arg3 harg3 arg4 harg4 arg5 harg5 arg6 harg6 arg7 harg7 arg8 harg8 arg9 harg9 arg10 harg10 arg11 harg11 arg12 harg12 rowNo (k0_pay19 rowNo (qRows2 (arg3.view.read (Elt F) X3)) (kBound (arg6.view.read (Elt F) X6))))
      (fun r => iprop((arg3.view.loc (c : Thread nD τ) ↦[arg3.view.set]{fullShare} X3) ∗ (arg6.view.loc (c : Thread nD τ) ↦[arg6.view.set]{fullShare} X6) ∗ (arg9.view.loc (c : Thread nD τ) ↦[arg9.view.set]{fullShare} (arg9.view.writes (Elt F) f9 (pieces5 (arg3.view.read (Elt F) X3) (arg6.view.read (Elt F) X6)))) ∗ ⌜r.1 = k0_pay23 rowNo (qRows3 (arg3.view.read (Elt F) X3)) (kBound (arg6.view.read (Elt F) X6))⌝)) := by
  rw [k0_part5_eq_skeleton]
  unfold k0_part5_skel
  iintro ⟨H3, H6, H9⟩
  sl_exec
  sl_step
  isplitl [H3]; · iexact H3
  isplitl [H6]; · iexact H6
  isplitl [H9]; · iexact H9
  ipureintro
  rfl

/-- The last two stores into the widened queries. -/
abbrev lastPieces (v137 : FVec F S16x256 .bf16) : List (View.Piece (Elt F) S1x128x1024 .bf16) :=
  [⟨Rect.unit (s := S1x128x1024) ![0, 80, 768] S1x48x256.size inb_S1x128x1024_S1x48x256_0_80_768, k0_pay25⟩,
    ⟨Rect.unit (s := S1x128x1024) ![0, 64, 768] S1x16x256.size inb_S1x128x1024_S1x16x256_0_64_768, k0_pay24 v137⟩]

/-- What the output is computed from once the accumulators are final: the loads after the loops. -/
theorem part6_run (c : Dev nD) (i : grid0.Coords) (arg3 : Memref sig .tc .vmem S1x256x256 .bf16) (harg3 : arg3.IsWhole) (arg4 : Memref sig .tc .vmem S1x1x16640x128 .bf16) (harg4 : arg4.IsWhole) (arg5 : Memref sig .tc .vmem S1x64x16640 .bf16) (harg5 : arg5.IsWhole) (arg6 : Memref sig .tc .vmem S1x1x1x128 .f32) (harg6 : arg6.IsWhole) (arg7 : Memref sig .tc .hbm S2x16640x512 .bf16) (harg7 : arg7.IsWhole) (arg8 : Memref sig .tc .vmem S1x256x256 .bf16) (harg8 : arg8.IsWhole) (arg9 : Memref sig .tc .vmem S1x128x1024 .bf16) (harg9 : arg9.IsWhole) (arg10 : Memref sig .tc .vmem S64x1024 .f32) (harg10 : arg10.IsWhole) (arg11 : Memref sig .tc .vmem S1x1024 .f32) (harg11 : arg11.IsWhole) (arg12 : Memref sig .tc .vmem S1x1024 .f32) (harg12 : arg12.IsWhole) (X4 : BufTy.Contents (Elt F) arg4.view.ty) (X5 : BufTy.Contents (Elt F) arg5.view.ty) (v137 : FVec F S16x256 .bf16) (v138 : Vec F S1x16x256 .bf16) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (Q : Vec F S1x128x1024 .bf16)
    (hQ : arg9.view.read (Elt F) (arg9.view.writes (Elt F) f9 (lastPieces v137)) = Q) :
    iprop((arg4.view.loc (c : Thread nD τ) ↦[arg4.view.set]{fullShare} X4) ∗ (arg5.view.loc (c : Thread nD τ) ↦[arg5.view.set]{fullShare} X5) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) : sProp 𝕄)
    ⊢ wp frame (wpE (defs₀ (F := F)) Variants.none (c : Thread nD τ) none) Set.univ (k0_part6 (F := F) i arg3 harg3 arg4 harg4 arg5 harg5 arg6 harg6 arg7 harg7 arg8 harg8 arg9 harg9 arg10 harg10 arg11 harg11 arg12 harg12 v137 v138)
      (fun r => iprop((arg4.view.loc (c : Thread nD τ) ↦[arg4.view.set]{fullShare} X4) ∗ (arg5.view.loc (c : Thread nD τ) ↦[arg5.view.set]{fullShare} X5) ∗ (arg8.view.loc (c : Thread nD τ) ↦[arg8.view.set]{fullShare} f8) ∗ (∃ f, (arg9.view.loc (c : Thread nD τ) ↦[arg9.view.set]{fullShare} f)) ∗ (∃ f, (arg10.view.loc (c : Thread nD τ) ↦[arg10.view.set]{fullShare} f) ∗ ⌜arg10.view.read (Elt F) f = (accOf (arg4.view.read (Elt F) X4) (arg5.view.read (Elt F) X5) Q).1⌝) ∗ (∃ f, (arg11.view.loc (c : Thread nD τ) ↦[arg11.view.set]{fullShare} f) ∗ ⌜arg11.view.read (Elt F) f = (accOf (arg4.view.read (Elt F) X4) (arg5.view.read (Elt F) X5) Q).2⌝) ∗ (∃ f, (arg12.view.loc (c : Thread nD τ) ↦[arg12.view.set]{fullShare} f))
        ∗ ⌜r = k0_pay37 (accH0 (accOf (arg4.view.read (Elt F) X4) (arg5.view.read (Elt F) X5) Q).1) (lH0 (accOf (arg4.view.read (Elt F) X4) (arg5.view.read (Elt F) X5) Q).2)⌝)) := by
  rw [k0_part6_eq_skeleton]
  unfold k0_part6_skel
  have e10 : arg10.view.read (Elt F) (arg10.view.writes (Elt F) arg10.view.junk [⟨Rect.unit (s := S64x1024) ![0, 0] S64x1024.size inb_S64x1024_S64x1024_0_0, k0_pay26⟩])
      = (fast (arg4.view.read (Elt F) X4) (arg5.view.read (Elt F) X5) (arg9.view.read (Elt F) (arg9.view.writes (Elt F) f9 (lastPieces v137))) 0).1 := by rw [read_put64, fast_zero]
  have e11 : arg11.view.read (Elt F) (arg11.view.writes (Elt F) arg11.view.junk [⟨Rect.unit (s := S1x1024) ![0, 0] S1x1024.size inb_S1x1024_S1x1024_0_0, k0_pay27⟩])
      = (fast (arg4.view.read (Elt F) X4) (arg5.view.read (Elt F) X5) (arg9.view.read (Elt F) (arg9.view.writes (Elt F) f9 (lastPieces v137))) 0).2 := by rw [read_put1, fast_zero]
  iintro ⟨H4, H5, H8, H9, H10, H11, H12⟩
  sl_exec
  have hv : part6_run.sl.v162 c arg11 fL1 = redo (fast (arg4.view.read (Elt F) X4) (arg5.view.read (Elt F) X5) Q k0_t1_loop.trips).2 := by
    refine (show part6_run.sl.v162 c arg11 fL1 = redo (arg11.view.readAt (Elt F) (Rect.unit (s := S1x1024) ![0, 0] S1x1024.size inb_S1x1024_S1x1024_0_0).toLoadRect fL1) from rfl).trans ?_
    rw [View.readAt_full, hL6, hQ]
  by_cases hr : redo (fast (arg4.view.read (Elt F) X4) (arg5.view.read (Elt F) X5) Q k0_t1_loop.trips).2 = 1#1
  · rw [if_pos (hv.trans hr)]
    clear e10 e11 hL4 hL6 hv
    generalize (arg9.view.writes (Elt F) f9 (lastPieces v137)) = g9 at hQ ⊢
    sl_exec
    iapply (exec_loop _ _ _ _ _ _ _ _ _ (slowInv (F := F) Variants.none c none Set.univ i arg3 harg3 arg4 harg4 arg5 harg5 arg6 harg6 arg7 harg7 arg8 harg8 arg9 harg9 arg10 harg10 arg11 harg11 arg12 harg12 v137 v138 X4 X5 g9)) $$ [H4 H5 H9 H10 H11 H12]
    · rw [slowInv_inv]
      isplitl [H4]; · iexact H4
      isplitl [H5]; · iexact H5
      isplitl [H9]; · iexact H9
      isplitl [H10]
      · iexists _; isplitl [H10]; · iexact H10
        ipureintro; unfold part6_run.sl.H10_1_1; rw [read_put64, slow_zero]
      isplitl [H11]
      · iexists _; isplitl [H11]; · iexact H11
        ipureintro; unfold part6_run.sl.H11_1_1; rw [read_put1, slow_zero]
      iexists _; isplitl [H12]; · iexact H12
      ipureintro
      unfold part6_run.sl.H12_1
      rw [read_put1, slow_zero]
    iintro %acc HL
    ihave HL := (slowInv_out (F := F) Variants.none c none Set.univ i arg3 harg3 arg4 harg4 arg5 harg5 arg6 harg6 arg7 harg7 arg8 harg8 arg9 harg9 arg10 harg10 arg11 harg11 arg12 harg12 v137 v138 X4 X5 g9 _ acc) $$ HL
    icases HL with ⟨H4, H5, H9, ⟨%g10, H10, %h10⟩, ⟨%g11, H11, %h11⟩, ⟨%g12, H12, %h12⟩⟩
    sl_exec
    sl_step
    isplitl [H4]; · iexact H4
    isplitl [H5]; · iexact H5
    isplitl [H8]; · iexact H8
    isplitl [H9]; · iexists _; iexact H9
    have q10 : arg10.view.read (Elt F) _ = (accOf (arg4.view.read (Elt F) X4) (arg5.view.read (Elt F) X5) Q).1 := h10.trans (by unfold accOf; rw [if_pos hr, hQ])
    have q11 : arg11.view.read (Elt F) _ = (accOf (arg4.view.read (Elt F) X4) (arg5.view.read (Elt F) X5) Q).2 := h11.trans (by unfold accOf; rw [if_pos hr, hQ])
    isplitl [H10]
    · iexists _; isplitl [H10]; · iexact H10
      ipureintro; exact q10
    isplitl [H11]
    · iexists _; isplitl [H11]; · iexact H11
      ipureintro; exact q11
    isplitl [H12]; · iexists _; iexact H12
    ipureintro
    rw [← q10, ← q11]
    rfl
  · rw [if_neg (fun h => hr (hv.symm.trans h))]
    sl_exec
    sl_step
    isplitl [H4]; · iexact H4
    isplitl [H5]; · iexact H5
    isplitl [H8]; · iexact H8
    isplitl [H9]; · iexists _; iexact H9
    have q10 : arg10.view.read (Elt F) _ = (accOf (arg4.view.read (Elt F) X4) (arg5.view.read (Elt F) X5) Q).1 := hL4.trans (by unfold accOf; rw [if_neg hr, hQ])
    have q11 : arg11.view.read (Elt F) _ = (accOf (arg4.view.read (Elt F) X4) (arg5.view.read (Elt F) X5) Q).2 := hL6.trans (by unfold accOf; rw [if_neg hr, hQ])
    isplitl [H10]
    · iexists _; isplitl [H10]; · iexact H10
      ipureintro; exact q10
    isplitl [H11]
    · iexists _; isplitl [H11]; · iexact H11
      ipureintro; exact q11
    isplitl [H12]; · iexists _; iexact H12
    ipureintro
    rw [← q10, ← q11]
    rfl

/-- The parts before the last stores: the accumulators are final, and three heads of the output block are stored. -/
theorem part7_run (c : Dev nD) (i : grid0.Coords) (arg3 : Memref sig .tc .vmem S1x256x256 .bf16) (harg3 : arg3.IsWhole) (arg4 : Memref sig .tc .vmem S1x1x16640x128 .bf16) (harg4 : arg4.IsWhole) (arg5 : Memref sig .tc .vmem S1x64x16640 .bf16) (harg5 : arg5.IsWhole) (arg6 : Memref sig .tc .vmem S1x1x1x128 .f32) (harg6 : arg6.IsWhole) (arg7 : Memref sig .tc .hbm S2x16640x512 .bf16) (harg7 : arg7.IsWhole) (arg8 : Memref sig .tc .vmem S1x256x256 .bf16) (harg8 : arg8.IsWhole) (arg9 : Memref sig .tc .vmem S1x128x1024 .bf16) (harg9 : arg9.IsWhole) (arg10 : Memref sig .tc .vmem S64x1024 .f32) (harg10 : arg10.IsWhole) (arg11 : Memref sig .tc .vmem S1x1024 .f32) (harg11 : arg11.IsWhole) (arg12 : Memref sig .tc .vmem S1x1024 .f32) (harg12 : arg12.IsWhole) (X3 : BufTy.Contents (Elt F) arg3.view.ty) (X4 : BufTy.Contents (Elt F) arg4.view.ty) (X5 : BufTy.Contents (Elt F) arg5.view.ty) (X6 : BufTy.Contents (Elt F) arg6.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) :
    iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) : sProp 𝕄)
    ⊢ wp frame (wpE (defs₀ (F := F)) Variants.none (c : Thread nD τ) none) Set.univ (k0_part7 (F := F) i arg3 harg3 arg4 harg4 arg5 harg5 arg6 harg6 arg7 harg7 arg8 harg8 arg9 harg9 arg10 harg10 arg11 harg11 arg12 harg12)
      (fun r => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg8.view.loc (c : Thread nD τ) ↦[arg8.view.set]{fullShare} (arg8.view.writes (Elt F) f8 (outPieces (accOf (arg4.view.read (Elt F) X4) (arg5.view.read (Elt F) X5) (qa (arg3.view.read (Elt F) X3) (arg6.view.read (Elt F) X6))).1 (accOf (arg4.view.read (Elt F) X4) (arg5.view.read (Elt F) X5) (qa (arg3.view.read (Elt F) X3) (arg6.view.read (Elt F) X6))).2).tail))
        ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ ⌜r.1 = k0_pay41 (accH3 (accOf (arg4.view.read (Elt F) X4) (arg5.view.read (Elt F) X5) (qa (arg3.view.read (Elt F) X3) (arg6.view.read (Elt F) X6))).1) (lH3 (accOf (arg4.view.read (Elt F) X4) (arg5.view.read (Elt F) X5) (qa (arg3.view.read (Elt F) X3) (arg6.view.read (Elt F) X6))).2)⌝)) := by
  have hQ : arg9.view.read (Elt F) (arg9.view.writes (Elt F) (arg9.view.writes (Elt F) (arg9.view.writes (Elt F) (arg9.view.writes (Elt F) (arg9.view.writes (Elt F) f9 (pieces2 (arg3.view.read (Elt F) X3) (arg6.view.read (Elt F) X6))) (pieces3 (arg3.view.read (Elt F) X3) (arg6.view.read (Elt F) X6))) (pieces4 (arg3.view.read (Elt F) X3) (arg6.view.read (Elt F) X6))) (pieces5 (arg3.view.read (Elt F) X3) (arg6.view.read (Elt F) X6))) (lastPieces (k0_pay23 rowNo (qRows3 (arg3.view.read (Elt F) X3)) (kBound (arg6.view.read (Elt F) X6))))) = qa (arg3.view.read (Elt F) X3) (arg6.view.read (Elt F) X6) :=
    (congrArg _ (read_five arg9.view f9 _ _ _ _ _)).trans (View.read_writes_eq_canon arg9.view f9 (qaPieces (arg3.view.read (Elt F) X3) (arg6.view.read (Elt F) X6)) (qaPieces_cover _ _))
  rw [k0_part7_eq_skeleton]
  unfold k0_part7_skel
  iintro ⟨H3, H4, H5, H6, H8, H9, H10, H11, H12⟩
  rw [wp_bind]
  iapply (wp_wand _ _ _) $$ [H3 H6 H9]
  · iapply (part2_run c i arg3 harg3 arg4 harg4 arg5 harg5 arg6 harg6 arg7 harg7 arg8 harg8 arg9 harg9 arg10 harg10 arg11 harg11 arg12 harg12 X3 X6 _) $$ [H3 H6 H9]
    isplitl [H3]; · iexact H3
    isplitl [H6]; · iexact H6
    iexact H9
  iintro %r2 ⟨H3, H6, H9, %hr2⟩
  subst hr2
  rw [wp_bind]
  iapply (wp_wand _ _ _) $$ [H3 H6 H9]
  · iapply (part3_run c i arg3 harg3 arg4 harg4 arg5 harg5 arg6 harg6 arg7 harg7 arg8 harg8 arg9 harg9 arg10 harg10 arg11 harg11 arg12 harg12 X3 X6 _) $$ [H3 H6 H9]
    isplitl [H3]; · iexact H3
    isplitl [H6]; · iexact H6
    iexact H9
  iintro %r3 ⟨H3, H6, H9, %hr3⟩
  subst hr3
  rw [wp_bind]
  iapply (wp_wand _ _ _) $$ [H3 H6 H9]
  · iapply (part4_run c i arg3 harg3 arg4 harg4 arg5 harg5 arg6 harg6 arg7 harg7 arg8 harg8 arg9 harg9 arg10 harg10 arg11 harg11 arg12 harg12 X3 X6 _) $$ [H3 H6 H9]
    isplitl [H3]; · iexact H3
    isplitl [H6]; · iexact H6
    iexact H9
  iintro %r4 ⟨H3, H6, H9, %hr4⟩
  subst hr4
  rw [wp_bind]
  iapply (wp_wand _ _ _) $$ [H3 H6 H9]
  · iapply (part5_run c i arg3 harg3 arg4 harg4 arg5 harg5 arg6 harg6 arg7 harg7 arg8 harg8 arg9 harg9 arg10 harg10 arg11 harg11 arg12 harg12 X3 X6 _) $$ [H3 H6 H9]
    isplitl [H3]; · iexact H3
    isplitl [H6]; · iexact H6
    iexact H9
  iintro %r5 ⟨H3, H6, H9, %hr5⟩
  obtain ⟨w, w'⟩ := r5
  dsimp only at hr5
  subst hr5
  rw [wp_bind]
  iapply (wp_wand _ _ _) $$ [H4 H5 H8 H9 H10 H11 H12]
  · iapply (part6_run c i arg3 harg3 arg4 harg4 arg5 harg5 arg6 harg6 arg7 harg7 arg8 harg8 arg9 harg9 arg10 harg10 arg11 harg11 arg12 harg12 X4 X5 _ _ f8 _ f10 f11 f12 _ hQ) $$ [H4 H5 H8 H9 H10 H11 H12]
    isplitl [H4]; · iexact H4
    isplitl [H5]; · iexact H5
    isplitl [H8]; · iexact H8
    isplitl [H9]; · iexact H9
    isplitl [H10]; · iexact H10
    isplitl [H11]; · iexact H11
    iexact H12
  iintro %r6 ⟨H4, H5, H8, ⟨%g9, H9⟩, ⟨%g10, H10, %h10⟩, ⟨%g11, H11, %h11⟩, ⟨%g12, H12⟩, %hr6⟩
  subst hr6
  rw [← h10, ← h11]
  sl_exec
  sl_step
  isplitl [H3]; · iexact H3
  isplitl [H4]; · iexact H4
  isplitl [H5]; · iexact H5
  isplitl [H6]; · iexact H6
  isplitl [H8]; · iexact H8
  isplitl [H9]; · iexists _; iexact H9
  isplitl [H10]; · iexists _; iexact H10
  isplitl [H11]; · iexists _; iexact H11
  isplitl [H12]; · iexists _; iexact H12
  ipureintro
  rfl

/-- One grid point's body: the inputs stay, and the output block reads as `outB` of them. -/
theorem body_run (c : Dev nD) (i : grid0.Coords) (arg3 : Memref sig .tc .vmem S1x256x256 .bf16) (harg3 : arg3.IsWhole) (arg4 : Memref sig .tc .vmem S1x1x16640x128 .bf16) (harg4 : arg4.IsWhole) (arg5 : Memref sig .tc .vmem S1x64x16640 .bf16) (harg5 : arg5.IsWhole) (arg6 : Memref sig .tc .vmem S1x1x1x128 .f32) (harg6 : arg6.IsWhole) (arg7 : Memref sig .tc .hbm S2x16640x512 .bf16) (harg7 : arg7.IsWhole) (arg8 : Memref sig .tc .vmem S1x256x256 .bf16) (harg8 : arg8.IsWhole) (arg9 : Memref sig .tc .vmem S1x128x1024 .bf16) (harg9 : arg9.IsWhole) (arg10 : Memref sig .tc .vmem S64x1024 .f32) (harg10 : arg10.IsWhole) (arg11 : Memref sig .tc .vmem S1x1024 .f32) (harg11 : arg11.IsWhole) (arg12 : Memref sig .tc .vmem S1x1024 .f32) (harg12 : arg12.IsWhole) (X3 : BufTy.Contents (Elt F) arg3.view.ty) (X4 : BufTy.Contents (Elt F) arg4.view.ty) (X5 : BufTy.Contents (Elt F) arg5.view.ty) (X6 : BufTy.Contents (Elt F) arg6.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) :
    iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) : sProp 𝕄)
    ⊢ wp frame (wpE (defs₀ (F := F)) Variants.none (c : Thread nD τ) none) Set.univ (cc0_attn_concat4 (F := F) i arg3 harg3 arg4 harg4 arg5 harg5 arg6 harg6 arg7 harg7 arg8 harg8 arg9 harg9 arg10 harg10 arg11 harg11 arg12 harg12)
      (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (∃ f, (arg8.view.loc (c : Thread nD τ) ↦[arg8.view.set]{fullShare} f) ∗ ⌜arg8.view.read (Elt F) f = outB (arg3.view.read (Elt F) X3) (arg4.view.read (Elt F) X4) (arg5.view.read (Elt F) X5) (arg6.view.read (Elt F) X6)⌝)
        ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)))) := by
  rw [cc0_attn_concat4_eq_skeleton]
  unfold cc0_attn_concat4_skel
  iintro ⟨H3, H4, H5, H6, H8, H9, H10, H11, H12⟩
  rw [wp_bind]
  iapply (wp_wand _ _ _) $$ [H3 H4 H5 H6 H8 H9 H10 H11 H12]
  · iapply (part7_run c i arg3 harg3 arg4 harg4 arg5 harg5 arg6 harg6 arg7 harg7 arg8 harg8 arg9 harg9 arg10 harg10 arg11 harg11 arg12 harg12 X3 X4 X5 X6 f8 f9 f10 f11 f12) $$ [H3 H4 H5 H6 H8 H9 H10 H11 H12]
    isplitl [H3]; · iexact H3
    isplitl [H4]; · iexact H4
    isplitl [H5]; · iexact H5
    isplitl [H6]; · iexact H6
    isplitl [H8]; · iexact H8
    isplitl [H9]; · iexact H9
    isplitl [H10]; · iexact H10
    isplitl [H11]; · iexact H11
    iexact H12
  iintro %r ⟨H3, H4, H5, H6, H8, ⟨%g9, H9⟩, ⟨%g10, H10⟩, ⟨%g11, H11⟩, ⟨%g12, H12⟩, %hr⟩
  obtain ⟨w, w'⟩ := r
  dsimp only at hr
  subst hr
  sl_exec
  sl_step
  isplitl [H3]; · iexact H3
  isplitl [H4]; · iexact H4
  isplitl [H5]; · iexact H5
  isplitl [H6]; · iexact H6
  isplitl [H8]
  · iexists _; isplitl [H8]; · iexact H8
    ipureintro
    unfold outB
    generalize (accOf (arg4.view.read (Elt F) X4) (arg5.view.read (Elt F) X5) (qa (arg3.view.read (Elt F) X3) (arg6.view.read (Elt F) X6))) = A
    exact View.read_writes_eq_canon arg8.view f8 (outPieces A.1 A.2) (outPieces_cover A.1 A.2)
  isplitl [H9]; · iexists _; iexact H9
  isplitl [H10]; · iexists _; iexact H10
  isplitl [H11]; · iexists _; iexact H11
  iexists _; iexact H12

set_option warn.classDefReducibility false in
/-- The slow loop's invariant, for a run to find. -/
@[sl_loop] def loop2 (𝒱 : Variants) (c : Dev nD) (bd : Option 𝒱.V) (E : Set ℕ) (i : grid0.Coords) (arg3 : Memref sig .tc .vmem S1x256x256 .bf16) (harg3 : arg3.IsWhole) (arg4 : Memref sig .tc .vmem S1x1x16640x128 .bf16) (harg4 : arg4.IsWhole) (arg5 : Memref sig .tc .vmem S1x64x16640 .bf16) (harg5 : arg5.IsWhole) (arg6 : Memref sig .tc .vmem S1x1x1x128 .f32) (harg6 : arg6.IsWhole) (arg7 : Memref sig .tc .hbm S2x16640x512 .bf16) (harg7 : arg7.IsWhole) (arg8 : Memref sig .tc .vmem S1x256x256 .bf16) (harg8 : arg8.IsWhole) (arg9 : Memref sig .tc .vmem S1x128x1024 .bf16) (harg9 : arg9.IsWhole) (arg10 : Memref sig .tc .vmem S64x1024 .f32) (harg10 : arg10.IsWhole) (arg11 : Memref sig .tc .vmem S1x1024 .f32) (harg11 : arg11.IsWhole) (arg12 : Memref sig .tc .vmem S1x1024 .f32) (harg12 : arg12.IsWhole) (v137 : FVec F S16x256 .bf16) (v138 : Vec F S1x16x256 .bf16) (X4 : BufTy.Contents (Elt F) arg4.view.ty) (X5 : BufTy.Contents (Elt F) arg5.view.ty) (X9 : BufTy.Contents (Elt F) arg9.view.ty) :
    LoopInvTy_k0_t2 (F := F) Unit ℕ (UR sig nD τ) ℕ 𝒱 c bd E i arg3 harg3 arg4 harg4 arg5 harg5 arg6 harg6 arg7 harg7 arg8 harg8 arg9 harg9 arg10 harg10 arg11 harg11 arg12 harg12 v137 v138 := slowInv 𝒱 c bd E i arg3 harg3 arg4 harg4 arg5 harg5 arg6 harg6 arg7 harg7 arg8 harg8 arg9 harg9 arg10 harg10 arg11 harg11 arg12 harg12 v137 v138 X4 X5 X9

end Cert.Proof.GI
-- ==== Proof.GI.Run.lean ====
module

public import proofs.«01_k».proof.Proof.GI.Body
public import Idealize.ShloMosaic.Lib.Tactic
public import Idealize.ShloMosaic.Lib.VecWindow
public import Idealize.ShloMosaic.Lib.Pipeline.Kit

/-! The attention region's run: the proof data of its pipeline, the body at each point, and the frame. -/

@[expose] public section

set_option maxRecDepth 8192

noncomputable section

namespace Cert.Proof.GI

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body leaves in the output's staging buffer at point `t`. -/
def outAt (c : Dev nD) (t : Fin cfg0.N) : Vec F S1x256x256 .bf16 :=
  outB (iblk m c 0 t) (iblk m c 1 t) (iblk m c 2 t) (iblk m c 3 t)

/-- The proof data of the pipeline on core `c`: inputs stay in place, the output holds `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- A buffer held whole, as its whole memref's view holds it. -/
theorem whole_eq (c : Dev nD) (b : Ref sig .tc) (f : Buf (Elt F) ((c : Thread nD τ).loc b)) :
    (((c : Thread nD τ).loc b) ↦{fullShare} f : sProp 𝕄)
      = iprop((Memref.whole b).view.loc (c : Thread nD τ) ↦[(Memref.whole b).view.set]{fullShare} f) := by
  rw [show (Memref.whole b).view.set = Finset.univ from View.set_whole b]
theorem whole_in (c : Dev nD) (b : Ref sig .tc) (f : Buf (Elt F) ((c : Thread nD τ).loc b)) :
    (((c : Thread nD τ).loc b) ↦{fullShare} f : sProp 𝕄)
      ⊢ iprop((Memref.whole b).view.loc (c : Thread nD τ) ↦[(Memref.whole b).view.set]{fullShare} f) := by rw [whole_eq]
theorem whole_out (c : Dev nD) (b : Ref sig .tc) (f : Buf (Elt F) ((c : Thread nD τ).loc b)) :
    iprop((Memref.whole b).view.loc (c : Thread nD τ) ↦[(Memref.whole b).view.set]{fullShare} f)
      ⊢ (((c : Thread nD τ).loc b) ↦{fullShare} f : sProp 𝕄) := by rw [whole_eq]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [after0, after1, after2, after3, after4]
  simp only [before0, before1, before2, before3]
  rw [show (dats m 0 c).Φ t.succ = Pipeline.ΦA spec0 c from rfl, show (dats m 0 c).Φ t.castSucc = Pipeline.ΦA spec0 c from rfl]
  unfold Pipeline.ΦA Dat.owesAt Pipeline.owesWithin
  rw [scopedRest0_eq, show (dats m 0 c).owed t.castSucc = 0 from rfl, show (dats m 0 c).owed t.succ = 0 from rfl]
  iintro ⟨⟨⟨⟨%f9, H9⟩, ⟨%f10, H10⟩, ⟨%f11, H11⟩, ⟨%f12, H12⟩⟩, Hg⟩, ⟨%W, -, HW⟩, ⟨%d0, H0⟩, ⟨%d1, H1⟩, ⟨%d2, H2⟩, ⟨%d3, H3⟩, ⟨%d4, H4⟩⟩
  unfold owns
  icases H0 with ⟨%x0, %h0, H0⟩
  icases H1 with ⟨%x1, %h1, H1⟩
  icases H2 with ⟨%x2, %h2, H2⟩
  icases H3 with ⟨%x3, %h3, H3⟩
  icases H4 with ⟨%x4, %h4, H4⟩
  ihave H9 := (whole_in c cc0_scratch0 f9) $$ H9
  ihave H10 := (whole_in c cc0_scratch1 f10) $$ H10
  ihave H11 := (whole_in c cc0_scratch2 f11) $$ H11
  ihave H12 := (whole_in c cc0_scratch3 f12) $$ H12
  iapply (wp_wand _ _ _) $$ [H0 H1 H2 H3 H4 H9 H10 H11 H12]
  · iapply (body_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole main_v22) (Memref.isWhole_whole _) (win0_4.stage (cfg0.slots t 4)) (hstage0_4 ((cfg0.slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _) x0 x1 x2 x3 x4 f9 f10 f11 f12) $$ [H0 H1 H2 H3 H4 H9 H10 H11 H12]
    isplitl [H0]; · iexact H0
    isplitl [H1]; · iexact H1
    isplitl [H2]; · iexact H2
    isplitl [H3]; · iexact H3
    isplitl [H4]; · iexact H4
    isplitl [H9]; · iexact H9
    isplitl [H10]; · iexact H10
    isplitl [H11]; · iexact H11
    iexact H12
  iintro %r ⟨H0, H1, H2, H3, ⟨%g, H4, %hg⟩, ⟨%g9, H9⟩, ⟨%g10, H10⟩, ⟨%g11, H11⟩, ⟨%g12, H12⟩⟩
  ihave H9 := (whole_out c cc0_scratch0 g9) $$ H9
  ihave H10 := (whole_out c cc0_scratch1 g10) $$ H10
  ihave H11 := (whole_out c cc0_scratch2 g11) $$ H11
  ihave H12 := (whole_out c cc0_scratch3 g12) $$ H12
  isplitl [H9 H10 H11 H12 Hg]
  · isplitl [H9 H10 H11 H12]
    · isplitl [H9]; · iexists _; iexact H9
      isplitl [H10]; · iexists _; iexact H10
      isplitl [H11]; · iexists _; iexact H11
      iexists _; iexact H12
    iexact Hg
  isplitl [HW]
  · iexists W; isplitr; · ipureintro; exact fun _ _ => Or.inl trivial
    iexact HW
  isplitl [H0]
  · iexists _; isplitr; swap; · iexact H0
    ipureintro; exact h0
  isplitl [H1]
  · iexists _; isplitr; swap; · iexact H1
    ipureintro; exact h1
  isplitl [H2]
  · iexists _; isplitr; swap; · iexact H2
    ipureintro; exact h2
  isplitl [H3]
  · iexists _; isplitr; swap; · iexact H3
    ipureintro; exact h3
  iexists _; isplitr; swap; · iexact H4
  ipureintro
  rw [hg, h0, h1, h2, h3]
  rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole program's run: every array at its contents after the grid, every counter at zero. -/
theorem run_main : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl) (hQ' := fun _ h => h)

/-- The frame: every argument unchanged, every counter back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end Cert.Proof.GI
-- ==== Proof.DI.Loops.lean ====
module

public import proofs.«01_k».proof.Proof.Gen.Kernel3Ideal.Loops
public import proofs.«01_k».proof.Proof.Gen.Kernel3Ideal.Frame
public import Idealize.ShloMosaic.Lib.Tactic
public import Idealize.ShloMosaic.Lib.VecWindow
public import Idealize.ShloMosaic.Lib.Pipeline.Kit

/-! The two counted loops of the attention kernel, with the values they leave: the fast loop over five key tiles without a running maximum, and the slow loop over sixty-five
key tiles with one. What a loop leaves is a fold of the kernel's own tile step over its tiles. -/

@[expose] public section

set_option maxRecDepth 8192

noncomputable section

namespace Cert.Proof.DI

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## Whole stores -/

theorem read_put128 {κ' : Kind} {sp : Space} (v : View sig κ' sp S128x1024 .f32) (f : v.ty.Contents (Elt F)) (w : Vec F S128x1024 .f32)
    (L : List (View.Piece (Elt F) S128x1024 .f32)) :
    v.read (Elt F) (v.writes (Elt F) f (⟨Rect.unit (s := S128x1024) ![0, 0] S128x1024.size inb_S128x1024_S128x1024_0_0, w⟩ :: L)) = w :=
  View.read_writes_full v f inb_S128x1024_S128x1024_0_0 w L

theorem read_put1 {κ' : Kind} {sp : Space} (v : View sig κ' sp S1x1024 .f32) (f : v.ty.Contents (Elt F)) (w : Vec F S1x1024 .f32)
    (L : List (View.Piece (Elt F) S1x1024 .f32)) :
    v.read (Elt F) (v.writes (Elt F) f (⟨Rect.unit (s := S1x1024) ![0, 0] S1x1024.size inb_S1x1024_S1x1024_0_0, w⟩ :: L)) = w :=
  View.read_writes_full v f inb_S1x1024_S1x1024_0_0 w L

/-! ## The tile steps on values -/

/-- The widened queries of softmax 0. -/
abbrev qHalf0 (Q : Vec F S2x128x512 .bf16) : Vec F S1x128x512 .bf16 :=
  View.ld (Val := Elt F) Q (Rect.unit (s := S2x128x512) ![0, 0, 0] S1x128x512.size inb_S2x128x512_S1x128x512_0_0_0)

/-- The widened queries of softmax 1. -/
abbrev qHalf1 (Q : Vec F S2x128x512 .bf16) : Vec F S1x128x512 .bf16 :=
  View.ld (Val := Elt F) Q (Rect.unit (s := S2x128x512) ![1, 0, 0] S1x128x512.size inb_S2x128x512_S1x128x512_1_0_0)

/-- The key tile of softmax 0 in the fast loop's trip `k`. -/
abbrev kTile1a (K : Vec F S1x2x16640x128 .bf16) (k : Fin k0_t1_loop.trips) : Vec F S1x1x3328x128 .bf16 :=
  View.ld (Val := Elt F) K (Rect.unit (s := S1x2x16640x128) (k0_off1 k) S1x1x3328x128.size (k0_off1_inb k))

/-- The key tile of softmax 1 in the fast loop's trip `k`. -/
abbrev kTile1b (K : Vec F S1x2x16640x128 .bf16) (k : Fin k0_t1_loop.trips) : Vec F S1x1x3328x128 .bf16 :=
  View.ld (Val := Elt F) K (Rect.unit (s := S1x2x16640x128) (k0_off2 k) S1x1x3328x128.size (k0_off2_inb k))

/-- The value tile of the fast loop's trip `k`. -/
abbrev vTile1 (V : Vec F S1x128x16640 .bf16) (k : Fin k0_t1_loop.trips) : Vec F S1x128x3328 .bf16 :=
  View.ld (Val := Elt F) V (Rect.unit (s := S1x128x16640) (k0_off3 k) S1x128x3328.size (k0_off3_inb k))

/-- The key tile of softmax 0 in the slow loop's trip `k`. -/
abbrev kTile2a (K : Vec F S1x2x16640x128 .bf16) (k : Fin k0_t2_loop.trips) : Vec F S1x1x256x128 .bf16 :=
  View.ld (Val := Elt F) K (Rect.unit (s := S1x2x16640x128) (k0_off4 k) S1x1x256x128.size (k0_off4_inb k))

/-- The key tile of softmax 1 in the slow loop's trip `k`. -/
abbrev kTile2b (K : Vec F S1x2x16640x128 .bf16) (k : Fin k0_t2_loop.trips) : Vec F S1x1x256x128 .bf16 :=
  View.ld (Val := Elt F) K (Rect.unit (s := S1x2x16640x128) (k0_off5 k) S1x1x256x128.size (k0_off5_inb k))

/-- The value tile of the slow loop's trip `k`. -/
abbrev vTile2 (V : Vec F S1x128x16640 .bf16) (k : Fin k0_t2_loop.trips) : Vec F S1x128x256 .bf16 :=
  View.ld (Val := Elt F) V (Rect.unit (s := S1x128x16640) (k0_off6 k) S1x128x256.size (k0_off6_inb k))

/-- Accumulator and denominator after the first `k` trips of the fast loop. -/
def fast (K : Vec F S1x2x16640x128 .bf16) (V : Vec F S1x128x16640 .bf16) (Q : Vec F S2x128x512 .bf16) : ℕ → Vec F S128x1024 .f32 × Vec F S1x1024 .f32
  | 0 => (k0_pay18, k0_pay19)
  | k + 1 =>
    if h : k < k0_t1_loop.trips then
      (k0_pay20 (k0_pay3 (kTile1a K ⟨k, h⟩) (qHalf0 Q) (kTile1b K ⟨k, h⟩) (qHalf1 Q) (fast K V Q k).1 (vTile1 V ⟨k, h⟩)), k0_pay2 (kTile1a K ⟨k, h⟩) (qHalf0 Q) (kTile1b K ⟨k, h⟩) (qHalf1 Q) (fast K V Q k).2)
    else fast K V Q k

/-- Accumulator, denominator and running maximum after the first `k` trips of the slow loop. -/
def slow (K : Vec F S1x2x16640x128 .bf16) (V : Vec F S1x128x16640 .bf16) (Q : Vec F S2x128x512 .bf16) :
    ℕ → Vec F S128x1024 .f32 × Vec F S1x1024 .f32 × Vec F S1x1024 .f32
  | 0 => (k0_pay22, k0_pay23, k0_pay24)
  | k + 1 =>
    if h : k < k0_t2_loop.trips then
      (k0_pay25 (k0_pay6 (kTile2a K ⟨k, h⟩) (qHalf0 Q) (kTile2b K ⟨k, h⟩) (qHalf1 Q) (slow K V Q k).2.2) (k0_pay7 (kTile2a K ⟨k, h⟩) (qHalf0 Q) (kTile2b K ⟨k, h⟩) (qHalf1 Q) (slow K V Q k).2.2) (slow K V Q k).1 (vTile2 V ⟨k, h⟩),
        k0_pay8 (kTile2a K ⟨k, h⟩) (qHalf0 Q) (kTile2b K ⟨k, h⟩) (qHalf1 Q) (slow K V Q k).2.2 (slow K V Q k).2.1,
        k0_pay26 (k0_pay5 (kTile2a K ⟨k, h⟩) (qHalf0 Q) (kTile2b K ⟨k, h⟩) (qHalf1 Q) (slow K V Q k).2.2))
    else slow K V Q k

theorem fast_zero (K : Vec F S1x2x16640x128 .bf16) (V : Vec F S1x128x16640 .bf16) (Q : Vec F S2x128x512 .bf16) : fast K V Q 0 = (k0_pay18, k0_pay19) := rfl

theorem fast_succ (K : Vec F S1x2x16640x128 .bf16) (V : Vec F S1x128x16640 .bf16) (Q : Vec F S2x128x512 .bf16) (k : Fin k0_t1_loop.trips) :
    fast K V Q (k.val + 1) = (k0_pay20 (k0_pay3 (kTile1a K k) (qHalf0 Q) (kTile1b K k) (qHalf1 Q) (fast K V Q k).1 (vTile1 V k)), k0_pay2 (kTile1a K k) (qHalf0 Q) (kTile1b K k) (qHalf1 Q) (fast K V Q k).2) := by
  rw [fast, dif_pos k.isLt]

theorem slow_zero (K : Vec F S1x2x16640x128 .bf16) (V : Vec F S1x128x16640 .bf16) (Q : Vec F S2x128x512 .bf16) : slow K V Q 0 = (k0_pay22, k0_pay23, k0_pay24) := rfl

theorem slow_succ (K : Vec F S1x2x16640x128 .bf16) (V : Vec F S1x128x16640 .bf16) (Q : Vec F S2x128x512 .bf16) (k : Fin k0_t2_loop.trips) :
    slow K V Q (k.val + 1)
      = (k0_pay25 (k0_pay6 (kTile2a K k) (qHalf0 Q) (kTile2b K k) (qHalf1 Q) (slow K V Q k).2.2) (k0_pay7 (kTile2a K k) (qHalf0 Q) (kTile2b K k) (qHalf1 Q) (slow K V Q k).2.2) (slow K V Q k).1 (vTile2 V k),
        k0_pay8 (kTile2a K k) (qHalf0 Q) (kTile2b K k) (qHalf1 Q) (slow K V Q k).2.2 (slow K V Q k).2.1,
        k0_pay26 (k0_pay5 (kTile2a K k) (qHalf0 Q) (kTile2b K k) (qHalf1 Q) (slow K V Q k).2.2)) := by
  rw [slow, dif_pos k.isLt]

attribute [irreducible] fast slow

/-- Whether the fast loop's denominators `l` are too small somewhere, as the kernel's branch decides it. -/
def redo (l : Vec F S1x1024 .f32) : BitVec 1 :=
  Scalar.cmpi .ne (Scalar.extui (Scalar.xori (Scalar.cmpf .oge (k0_pay21 l) (Scalar.ofBits (F := F) .f32 0x17800000#32)) 1#1) : BitVec 32) 0#32

variable (𝒱 : Variants) (c : Dev nD) (bd : Option 𝒱.V) (E : Set ℕ) (i : grid0.Coords)
  (arg3 : Memref sig .tc .vmem S1x128x512 .bf16) (harg3 : arg3.IsWhole)
  (arg4 : Memref sig .tc .vmem S1x2x16640x128 .bf16) (harg4 : arg4.IsWhole)
  (arg5 : Memref sig .tc .vmem S1x128x16640 .bf16) (harg5 : arg5.IsWhole)
  (arg6 : Memref sig .tc .vmem S1x2x1x128 .f32) (harg6 : arg6.IsWhole)
  (arg7 : Memref sig .tc .vmem S4x64 .f32) (harg7 : arg7.IsWhole)
  (arg8 : Memref sig .tc .vmem S1x128 .f32) (harg8 : arg8.IsWhole)
  (arg9 : Memref sig .tc .hbm S2x16640x512 .bf16) (harg9 : arg9.IsWhole)
  (arg10 : Memref sig .tc .vmem S1x512x128 .bf16) (harg10 : arg10.IsWhole)
  (arg11 : Memref sig .tc .vmem S2x128x512 .bf16) (harg11 : arg11.IsWhole)
  (arg12 : Memref sig .tc .vmem S128x1024 .f32) (harg12 : arg12.IsWhole)
  (arg13 : Memref sig .tc .vmem S1x1024 .f32) (harg13 : arg13.IsWhole)
  (arg14 : Memref sig .tc .vmem S1x1024 .f32) (harg14 : arg14.IsWhole)
  (cst : F .bf16) (X4 : BufTy.Contents (Elt F) arg4.view.ty) (X5 : BufTy.Contents (Elt F) arg5.view.ty) (X11 : BufTy.Contents (Elt F) arg11.view.ty)

set_option warn.classDefReducibility false in
/-- The fast loop by its invariant: what it accumulates reads as the fold over the tiles before trip `k`. -/
@[sl_loop] def loop1 : LoopInvTy_k0_t1 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 cst where
  inv k _ := iprop((arg4.view.loc (c : Thread nD τ) ↦[arg4.view.set]{fullShare} X4) ∗ (arg5.view.loc (c : Thread nD τ) ↦[arg5.view.set]{fullShare} X5) ∗ (arg11.view.loc (c : Thread nD τ) ↦[arg11.view.set]{fullShare} X11)
      ∗ (∃ f, (arg12.view.loc (c : Thread nD τ) ↦[arg12.view.set]{fullShare} f) ∗ ⌜arg12.view.read (Elt F) f = (fast (arg4.view.read (Elt F) X4) (arg5.view.read (Elt F) X5) (arg11.view.read (Elt F) X11) k).1⌝)
      ∗ (∃ f, (arg13.view.loc (c : Thread nD τ) ↦[arg13.view.set]{fullShare} f) ∗ ⌜arg13.view.read (Elt F) f = (fast (arg4.view.read (Elt F) X4) (arg5.view.read (Elt F) X5) (arg11.view.read (Elt F) X11) k).2⌝))
  step k acc := by
    have hk : k.val < 5 := Nat.lt_of_lt_of_le k.isLt k0_t1_abs.2.1
    iintro ⟨H4, H5, H11, ⟨%f12, H12, %h12⟩, ⟨%f13, H13, %h13⟩⟩
    unfold k0_t1_body
    rw [k0_part1_eq_skeleton]
    unfold k0_part1_skel
    sl_exec
    sl_step
    rw [View.readAt_full, View.readAt_full]
    isplitl [H4]; · iexact H4
    isplitl [H5]; · iexact H5
    isplitl [H11]; · iexact H11
    isplitl [H12]
    · iexists _; isplitl [H12]; · iexact H12
      ipureintro; rw [read_put128, fast_succ, h12]; rfl
    iexists _; isplitl [H13]; · iexact H13
    ipureintro; rw [read_put1, fast_succ, h13]; rfl

set_option warn.classDefReducibility false in
/-- The slow loop by its invariant: what it accumulates reads as the fold over the tiles before trip `k`. -/
def slowInv : LoopInvTy_k0_t2 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 cst where
  inv k _ := iprop((arg4.view.loc (c : Thread nD τ) ↦[arg4.view.set]{fullShare} X4) ∗ (arg5.view.loc (c : Thread nD τ) ↦[arg5.view.set]{fullShare} X5) ∗ (arg11.view.loc (c : Thread nD τ) ↦[arg11.view.set]{fullShare} X11)
      ∗ (∃ f, (arg12.view.loc (c : Thread nD τ) ↦[arg12.view.set]{fullShare} f) ∗ ⌜arg12.view.read (Elt F) f = (slow (arg4.view.read (Elt F) X4) (arg5.view.read (Elt F) X5) (arg11.view.read (Elt F) X11) k).1⌝)
      ∗ (∃ f, (arg13.view.loc (c : Thread nD τ) ↦[arg13.view.set]{fullShare} f) ∗ ⌜arg13.view.read (Elt F) f = (slow (arg4.view.read (Elt F) X4) (arg5.view.read (Elt F) X5) (arg11.view.read (Elt F) X11) k).2.1⌝)
      ∗ (∃ f, (arg14.view.loc (c : Thread nD τ) ↦[arg14.view.set]{fullShare} f) ∗ ⌜arg14.view.read (Elt F) f = (slow (arg4.view.read (Elt F) X4) (arg5.view.read (Elt F) X5) (arg11.view.read (Elt F) X11) k).2.2⌝))
  step k acc := by
    have hk : k.val < 65 := Nat.lt_of_lt_of_le k.isLt k0_t2_abs.2.1
    iintro ⟨H4, H5, H11, ⟨%f12, H12, %h12⟩, ⟨%f13, H13, %h13⟩, ⟨%f14, H14, %h14⟩⟩
    unfold k0_t2_body
    rw [k0_part2_eq_skeleton]
    unfold k0_part2_skel
    sl_exec
    sl_step
    rw [View.readAt_full, View.readAt_full, View.readAt_full]
    isplitl [H4]; · iexact H4
    isplitl [H5]; · iexact H5
    isplitl [H11]; · iexact H11
    isplitl [H12]
    · iexists _; isplitl [H12]; · iexact H12
      ipureintro; rw [read_put128, slow_succ, h12, h14]; rfl
    isplitl [H13]
    · iexists _; isplitl [H13]; · iexact H13
      ipureintro; rw [read_put1, slow_succ, h13, h14]; rfl
    iexists _; isplitl [H14]; · iexact H14
    ipureintro; rw [read_put1, slow_succ, h14]; rfl

/-- The slow loop's invariant, spelled out. -/
theorem slowInv_inv (k : ℕ) (acc : Unit) :
    (slowInv (F := F) 𝒱 c bd E i arg3 harg3 arg4 harg4 arg5 harg5 arg6 harg6 arg7 harg7 arg8 harg8 arg9 harg9 arg10 harg10 arg11 harg11 arg12 harg12 arg13 harg13 arg14 harg14 cst X4 X5 X11).inv k acc = iprop((arg4.view.loc (c : Thread nD τ) ↦[arg4.view.set]{fullShare} X4) ∗ (arg5.view.loc (c : Thread nD τ) ↦[arg5.view.set]{fullShare} X5) ∗ (arg11.view.loc (c : Thread nD τ) ↦[arg11.view.set]{fullShare} X11)
      ∗ (∃ f, (arg12.view.loc (c : Thread nD τ) ↦[arg12.view.set]{fullShare} f) ∗ ⌜arg12.view.read (Elt F) f = (slow (arg4.view.read (Elt F) X4) (arg5.view.read (Elt F) X5) (arg11.view.read (Elt F) X11) k).1⌝)
      ∗ (∃ f, (arg13.view.loc (c : Thread nD τ) ↦[arg13.view.set]{fullShare} f) ∗ ⌜arg13.view.read (Elt F) f = (slow (arg4.view.read (Elt F) X4) (arg5.view.read (Elt F) X5) (arg11.view.read (Elt F) X11) k).2.1⌝)
      ∗ (∃ f, (arg14.view.loc (c : Thread nD τ) ↦[arg14.view.set]{fullShare} f) ∗ ⌜arg14.view.read (Elt F) f = (slow (arg4.view.read (Elt F) X4) (arg5.view.read (Elt F) X5) (arg11.view.read (Elt F) X11) k).2.2⌝)) := rfl

/-- The same as an entailment. -/
theorem slowInv_out (k : ℕ) (acc : Unit) :
    (slowInv (F := F) 𝒱 c bd E i arg3 harg3 arg4 harg4 arg5 harg5 arg6 harg6 arg7 harg7 arg8 harg8 arg9 harg9 arg10 harg10 arg11 harg11 arg12 harg12 arg13 harg13 arg14 harg14 cst X4 X5 X11).inv k acc ⊢ iprop((arg4.view.loc (c : Thread nD τ) ↦[arg4.view.set]{fullShare} X4) ∗ (arg5.view.loc (c : Thread nD τ) ↦[arg5.view.set]{fullShare} X5) ∗ (arg11.view.loc (c : Thread nD τ) ↦[arg11.view.set]{fullShare} X11)
      ∗ (∃ f, (arg12.view.loc (c : Thread nD τ) ↦[arg12.view.set]{fullShare} f) ∗ ⌜arg12.view.read (Elt F) f = (slow (arg4.view.read (Elt F) X4) (arg5.view.read (Elt F) X5) (arg11.view.read (Elt F) X11) k).1⌝)
      ∗ (∃ f, (arg13.view.loc (c : Thread nD τ) ↦[arg13.view.set]{fullShare} f) ∗ ⌜arg13.view.read (Elt F) f = (slow (arg4.view.read (Elt F) X4) (arg5.view.read (Elt F) X5) (arg11.view.read (Elt F) X11) k).2.1⌝)
      ∗ (∃ f, (arg14.view.loc (c : Thread nD τ) ↦[arg14.view.set]{fullShare} f) ∗ ⌜arg14.view.read (Elt F) f = (slow (arg4.view.read (Elt F) X4) (arg5.view.read (Elt F) X5) (arg11.view.read (Elt F) X11) k).2.2⌝)) := .rfl

end Cert.Proof.DI
-- ==== Proof.DI.Body.lean ====
module

public import proofs.«01_k».proof.Proof.DI.Loops
public import Idealize.ShloMosaic.Lib.Tactic
public import Idealize.ShloMosaic.Lib.VecWindow
public import Idealize.ShloMosaic.Lib.Pipeline.Kit

/-! One grid point of the attention kernel: what its body leaves in the output block, as a function of the six input blocks. -/

@[expose] public section

set_option maxRecDepth 8192

noncomputable section

namespace Cert.Proof.DI

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

theorem read_last {κ' : Kind} {sp : Space} {s : Shape} {e : EltTy} (v : View sig κ' sp s e) (f : v.ty.Contents (Elt F)) (L L' : List (View.Piece (Elt F) s e)) :
    v.writes (Elt F) (v.writes (Elt F) f L) L' = v.writes (Elt F) f (L' ++ L) := by
  induction L' with
  | nil => rfl
  | cons p L' ih => exact congrArg (fun g => View.write (Elt F) (v.slice p.fst) g p.snd Finset.univ) ih

theorem read_putO {κ' : Kind} {sp : Space} (v : View sig κ' sp S1x512x128 .bf16) (f : v.ty.Contents (Elt F)) (w : Vec F S1x512x128 .bf16)
    (L : List (View.Piece (Elt F) S1x512x128 .bf16)) :
    v.read (Elt F) (v.writes (Elt F) f (⟨Rect.unit (s := S1x512x128) ![0, 0, 0] S1x512x128.size inb_S1x512x128_S1x512x128_0_0_0, w⟩ :: L)) = w :=
  View.read_writes_full v f inb_S1x512x128_S1x512x128_0_0_0 w L

/-- The row numbers the shift row is selected by. -/
abbrev rowNo : IVec S16x512 32 := iota .tc S16x512 32 [0] iota_S16x512_d0_w32

/-- The 64 rows of the queries of softmax 0. -/
abbrev qRows0 (x3 : Vec F S1x128x512 .bf16) : Vec F S1x64x512 .bf16 :=
  View.ld (Val := Elt F) x3 (Rect.unit (s := S1x128x512) ![0, 0, 0] S1x64x512.size inb_S1x128x512_S1x64x512_0_0_0)

/-- The key bound of softmax 0. -/
abbrev kBound0 (x6 : Vec F S1x2x1x128 .f32) : Vec F S1x1x1x1 .f32 :=
  View.ld (Val := Elt F) x6 (Rect.unit (s := S1x2x1x128) ![0, 0, 0, 0] S1x1x1x1.size inb_S1x2x1x128_S1x1x1x1_0_0_0_0)

/-- The 64 rows of the queries of softmax 1. -/
abbrev qRows1 (x3 : Vec F S1x128x512 .bf16) : Vec F S1x64x512 .bf16 :=
  View.ld (Val := Elt F) x3 (Rect.unit (s := S1x128x512) ![0, 64, 0] S1x64x512.size inb_S1x128x512_S1x64x512_0_64_0)

/-- The key bound of softmax 1. -/
abbrev kBound1 (x6 : Vec F S1x2x1x128 .f32) : Vec F S1x1x1x1 .f32 :=
  View.ld (Val := Elt F) x6 (Rect.unit (s := S1x2x1x128) ![0, 1, 0, 0] S1x1x1x1.size inb_S1x2x1x128_S1x1x1x1_0_1_0_0)

/-- The stores of part 3 into the widened queries, last first. -/
abbrev pieces3 (x3 : Vec F S1x128x512 .bf16) (x6 : Vec F S1x2x1x128 .f32) : List (View.Piece (Elt F) S2x128x512 .bf16) :=
  [⟨Rect.unit (s := S2x128x512) ![0, 64, 0] S1x16x512.size inb_S2x128x512_S1x16x512_0_64_0, k0_pay11 (qRows0 x3) (kBound0 x6)⟩,
    ⟨Rect.unit (s := S2x128x512) ![0, 0, 0] S1x64x512.size inb_S2x128x512_S1x64x512_0_0_0, k0_pay10 (qRows0 x3)⟩]

/-- The stores of part 4 into the widened queries, last first. -/
abbrev pieces4 (x3 : Vec F S1x128x512 .bf16) (x6 : Vec F S1x2x1x128 .f32) : List (View.Piece (Elt F) S2x128x512 .bf16) :=
  [⟨Rect.unit (s := S2x128x512) ![1, 64, 0] S1x16x512.size inb_S2x128x512_S1x16x512_1_64_0, k0_pay16 rowNo (qRows1 x3) (kBound1 x6)⟩,
    ⟨Rect.unit (s := S2x128x512) ![1, 0, 0] S1x64x512.size inb_S2x128x512_S1x64x512_1_0_0, k0_pay15 (qRows1 x3)⟩,
    ⟨Rect.unit (s := S2x128x512) ![0, 80, 0] S1x48x512.size inb_S2x128x512_S1x48x512_0_80_0, k0_pay13 k0_pay12⟩]

/-- The last store into the widened queries. -/
abbrev lastPieces : List (View.Piece (Elt F) S2x128x512 .bf16) :=
  [⟨Rect.unit (s := S2x128x512) ![1, 80, 0] S1x48x512.size inb_S2x128x512_S1x48x512_1_80_0, k0_pay17 (Scalar.ofBits .bf16 0x0000#16)⟩]

/-- All the stores that fill the widened queries, last first. -/
abbrev qaPieces (x3 : Vec F S1x128x512 .bf16) (x6 : Vec F S1x2x1x128 .f32) : List (View.Piece (Elt F) S2x128x512 .bf16) :=
  (lastPieces ++ pieces4 x3 x6) ++ pieces3 x3 x6

/-- The queries widened by the score shift, one slab for each softmax. -/
def qa (x3 : Vec F S1x128x512 .bf16) (x6 : Vec F S1x2x1x128 .f32) : Vec F S2x128x512 .bf16 := View.canon (Val := Elt F) (qaPieces x3 x6)

theorem qaPieces_cover (x3 : Vec F S1x128x512 .bf16) (x6 : Vec F S1x2x1x128 .f32) (y : S2x128x512.Idx) : ∃ p ∈ qaPieces x3 x6, y ∈ p.1.set := by
  have h0 : (y 0).val < 2 := (y 0).isLt
  have h1 : (y 1).val < 128 := (y 1).isLt
  have h2 : (y 2).val < 512 := (y 2).isLt
  by_cases a0 : (y 0).val = 1 ∧ 80 ≤ (y 1).val ∧ (y 1).val < 128
  · refine ⟨_, List.mem_cons_self .., ?_⟩
    rw [Rect.mem_set_unit]
    intro b; fin_cases b <;> simp <;> omega
  by_cases a1 : (y 0).val = 1 ∧ 64 ≤ (y 1).val ∧ (y 1).val < 80
  · refine ⟨_, List.mem_cons_of_mem _ (List.mem_cons_self ..), ?_⟩
    rw [Rect.mem_set_unit]
    intro b; fin_cases b <;> simp <;> omega
  by_cases a2 : (y 0).val = 1 ∧ 0 ≤ (y 1).val ∧ (y 1).val < 64
  · refine ⟨_, List.mem_cons_of_mem _ (List.mem_cons_of_mem _ (List.mem_cons_self ..)), ?_⟩
    rw [Rect.mem_set_unit]
    intro b; fin_cases b <;> simp <;> omega
  by_cases a3 : (y 0).val = 0 ∧ 80 ≤ (y 1).val ∧ (y 1).val < 128
  · refine ⟨_, List.mem_cons_of_mem _ (List.mem_cons_of_mem _ (List.mem_cons_of_mem _ (List.mem_cons_self ..))), ?_⟩
    rw [Rect.mem_set_unit]
    intro b; fin_cases b <;> simp <;> omega
  by_cases a4 : (y 0).val = 0 ∧ 64 ≤ (y 1).val ∧ (y 1).val < 80
  · refine ⟨_, List.mem_cons_of_mem _ (List.mem_cons_of_mem _ (List.mem_cons_of_mem _ (List.mem_cons_of_mem _ (List.mem_cons_self ..)))), ?_⟩
    rw [Rect.mem_set_unit]
    intro b; fin_cases b <;> simp <;> omega
  · refine ⟨_, List.mem_cons_of_mem _ (List.mem_cons_of_mem _ (List.mem_cons_of_mem _ (List.mem_cons_of_mem _ (List.mem_cons_of_mem _ (List.mem_cons_self ..))))), ?_⟩
    rw [Rect.mem_set_unit]
    intro b; fin_cases b <;> simp <;> omega

/-- Accumulator and denominator at the end: the fast loop's, or the slow loop's where the kernel does the tile over. -/
def accOf (K : Vec F S1x2x16640x128 .bf16) (V : Vec F S1x128x16640 .bf16) (Q : Vec F S2x128x512 .bf16) : Vec F S128x1024 .f32 × Vec F S1x1024 .f32 :=
  if redo (fast K V Q k0_t1_loop.trips).2 = 1#1 then ((slow K V Q k0_t2_loop.trips).1, (slow K V Q k0_t2_loop.trips).2.1)
  else fast K V Q k0_t1_loop.trips

/-- The accumulator and the denominators of softmax 0. -/
abbrev accH0 (a : Vec F S128x1024 .f32) : Vec F S128x512 .f32 :=
  View.ld (Val := Elt F) a (Rect.unit (s := S128x1024) ![0, 0] S128x512.size inb_S128x1024_S128x512_0_0)
abbrev lH0 (l : Vec F S1x1024 .f32) : Vec F S1x512 .f32 :=
  View.ld (Val := Elt F) l (Rect.unit (s := S1x1024) ![0, 0] S1x512.size inb_S1x1024_S1x512_0_0)

/-- The accumulator and the denominators of softmax 1. -/
abbrev accH1 (a : Vec F S128x1024 .f32) : Vec F S128x512 .f32 :=
  View.ld (Val := Elt F) a (Rect.unit (s := S128x1024) ![0, 512] S128x512.size inb_S128x1024_S128x512_0_512)
abbrev lH1 (l : Vec F S1x1024 .f32) : Vec F S1x512 .f32 :=
  View.ld (Val := Elt F) l (Rect.unit (s := S1x1024) ![0, 512] S1x512.size inb_S1x1024_S1x512_0_512)

/-- The output block from the final accumulators. -/
def outOf (A : Vec F S128x1024 .f32 × Vec F S1x1024 .f32) (x7 : Vec F S4x64 .f32) (x8 : Vec F S1x128 .f32) : Vec F S1x512x128 .bf16 :=
  k0_pay28 (k0_pay27 (accH0 A.1) (lH0 A.2)) (accH1 A.1) (lH1 A.2) x7 x8

/-- The output block of a grid point. -/
def outB (x3 : Vec F S1x128x512 .bf16) (x4 : Vec F S1x2x16640x128 .bf16) (x5 : Vec F S1x128x16640 .bf16) (x6 : Vec F S1x2x1x128 .f32)
    (x7 : Vec F S4x64 .f32) (x8 : Vec F S1x128 .f32) : Vec F S1x512x128 .bf16 :=
  outOf (accOf x4 x5 (qa x3 x6)) x7 x8

section
variable (c : Dev nD) (i : grid0.Coords)
  (arg3 : Memref sig .tc .vmem S1x128x512 .bf16) (harg3 : arg3.IsWhole)
  (arg4 : Memref sig .tc .vmem S1x2x16640x128 .bf16) (harg4 : arg4.IsWhole)
  (arg5 : Memref sig .tc .vmem S1x128x16640 .bf16) (harg5 : arg5.IsWhole)
  (arg6 : Memref sig .tc .vmem S1x2x1x128 .f32) (harg6 : arg6.IsWhole)
  (arg7 : Memref sig .tc .vmem S4x64 .f32) (harg7 : arg7.IsWhole)
  (arg8 : Memref sig .tc .vmem S1x128 .f32) (harg8 : arg8.IsWhole)
  (arg9 : Memref sig .tc .hbm S2x16640x512 .bf16) (harg9 : arg9.IsWhole)
  (arg10 : Memref sig .tc .vmem S1x512x128 .bf16) (harg10 : arg10.IsWhole)
  (arg11 : Memref sig .tc .vmem S2x128x512 .bf16) (harg11 : arg11.IsWhole)
  (arg12 : Memref sig .tc .vmem S128x1024 .f32) (harg12 : arg12.IsWhole)
  (arg13 : Memref sig .tc .vmem S1x1024 .f32) (harg13 : arg13.IsWhole)
  (arg14 : Memref sig .tc .vmem S1x1024 .f32) (harg14 : arg14.IsWhole)

/-- Part 3: its stores into the widened queries. -/
theorem part3_run (X3 : BufTy.Contents (Elt F) arg3.view.ty) (X6 : BufTy.Contents (Elt F) arg6.view.ty) (f11 : BufTy.Contents (Elt F) arg11.view.ty) :
    iprop((arg3.view.loc (c : Thread nD τ) ↦[arg3.view.set]{fullShare} X3) ∗ (arg6.view.loc (c : Thread nD τ) ↦[arg6.view.set]{fullShare} X6) ∗ (arg11.view.loc (c : Thread nD τ) ↦[arg11.view.set]{fullShare} f11) : sProp 𝕄)
    ⊢ wp frame (wpE (defs₀ (F := F)) Variants.none (c : Thread nD τ) none) Set.univ (k0_part3 (F := F) i arg3 harg3 arg4 harg4 arg5 harg5 arg6 harg6 arg7 harg7 arg8 harg8 arg9 harg9 arg10 harg10 arg11 harg11 arg12 harg12 arg13 harg13 arg14 harg14)
      (fun r => iprop((arg3.view.loc (c : Thread nD τ) ↦[arg3.view.set]{fullShare} X3) ∗ (arg6.view.loc (c : Thread nD τ) ↦[arg6.view.set]{fullShare} X6) ∗ (arg11.view.loc (c : Thread nD τ) ↦[arg11.view.set]{fullShare} (arg11.view.writes (Elt F) f11 (pieces3 (arg3.view.read (Elt F) X3) (arg6.view.read (Elt F) X6)))) ∗ ⌜r = ⟨rowNo, k0_pay12⟩⌝)) := by
  rw [k0_part3_eq_skeleton]
  unfold k0_part3_skel
  iintro ⟨H3, H6, H11⟩
  sl_exec
  sl_step
  isplitl [H3]; · iexact H3
  isplitl [H6]; · iexact H6
  isplitl [H11]; · iexact H11
  ipureintro
  rfl

/-- Part 4: its stores into the widened queries. -/
theorem part4_run (X3 : BufTy.Contents (Elt F) arg3.view.ty) (X6 : BufTy.Contents (Elt F) arg6.view.ty) (f11 : BufTy.Contents (Elt F) arg11.view.ty) :
    iprop((arg3.view.loc (c : Thread nD τ) ↦[arg3.view.set]{fullShare} X3) ∗ (arg6.view.loc (c : Thread nD τ) ↦[arg6.view.set]{fullShare} X6) ∗ (arg11.view.loc (c : Thread nD τ) ↦[arg11.view.set]{fullShare} f11) : sProp 𝕄)
    ⊢ wp frame (wpE (defs₀ (F := F)) Variants.none (c : Thread nD τ) none) Set.univ (k0_part4 (F := F) i arg3 harg3 arg4 harg4 arg5 harg5 arg6 harg6 arg7 harg7 arg8 harg8 arg9 harg9 arg10 harg10 arg11 harg11 arg12 harg12 arg13 harg13 arg14 harg14 rowNo k0_pay12)
      (fun r => iprop((arg3.view.loc (c : Thread nD τ) ↦[arg3.view.set]{fullShare} X3) ∗ (arg6.view.loc (c : Thread nD τ) ↦[arg6.view.set]{fullShare} X6) ∗ (arg11.view.loc (c : Thread nD τ) ↦[arg11.view.set]{fullShare} (arg11.view.writes (Elt F) f11 (pieces4 (arg3.view.read (Elt F) X3) (arg6.view.read (Elt F) X6)))) ∗ ⌜r = Scalar.ofBits .bf16 0x0000#16⌝)) := by
  rw [k0_part4_eq_skeleton]
  unfold k0_part4_skel
  iintro ⟨H3, H6, H11⟩
  sl_exec
  sl_step
  isplitl [H3]; · iexact H3
  isplitl [H6]; · iexact H6
  isplitl [H11]; · iexact H11
  ipureintro
  rfl

end

/-- What the output is computed from once the accumulators are final: the loads after the loops. -/
theorem part5_run (c : Dev nD) (i : grid0.Coords) (arg3 : Memref sig .tc .vmem S1x128x512 .bf16) (harg3 : arg3.IsWhole) (arg4 : Memref sig .tc .vmem S1x2x16640x128 .bf16) (harg4 : arg4.IsWhole) (arg5 : Memref sig .tc .vmem S1x128x16640 .bf16) (harg5 : arg5.IsWhole) (arg6 : Memref sig .tc .vmem S1x2x1x128 .f32) (harg6 : arg6.IsWhole) (arg7 : Memref sig .tc .vmem S4x64 .f32) (harg7 : arg7.IsWhole) (arg8 : Memref sig .tc .vmem S1x128 .f32) (harg8 : arg8.IsWhole) (arg9 : Memref sig .tc .hbm S2x16640x512 .bf16) (harg9 : arg9.IsWhole) (arg10 : Memref sig .tc .vmem S1x512x128 .bf16) (harg10 : arg10.IsWhole) (arg11 : Memref sig .tc .vmem S2x128x512 .bf16) (harg11 : arg11.IsWhole) (arg12 : Memref sig .tc .vmem S128x1024 .f32) (harg12 : arg12.IsWhole) (arg13 : Memref sig .tc .vmem S1x1024 .f32) (harg13 : arg13.IsWhole) (arg14 : Memref sig .tc .vmem S1x1024 .f32) (harg14 : arg14.IsWhole) (X4 : BufTy.Contents (Elt F) arg4.view.ty) (X5 : BufTy.Contents (Elt F) arg5.view.ty) (f11 : BufTy.Contents (Elt F) arg11.view.ty) (f12 : BufTy.Contents (Elt F) arg12.view.ty) (f13 : BufTy.Contents (Elt F) arg13.view.ty) (f14 : BufTy.Contents (Elt F) arg14.view.ty) (Q : Vec F S2x128x512 .bf16)
    (hQ : arg11.view.read (Elt F) (arg11.view.writes (Elt F) f11 lastPieces) = Q) :
    iprop((arg4.view.loc (c : Thread nD τ) ↦[arg4.view.set]{fullShare} X4) ∗ (arg5.view.loc (c : Thread nD τ) ↦[arg5.view.set]{fullShare} X5) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) : sProp 𝕄)
    ⊢ wp frame (wpE (defs₀ (F := F)) Variants.none (c : Thread nD τ) none) Set.univ (k0_part5 (F := F) i arg3 harg3 arg4 harg4 arg5 harg5 arg6 harg6 arg7 harg7 arg8 harg8 arg9 harg9 arg10 harg10 arg11 harg11 arg12 harg12 arg13 harg13 arg14 harg14 (Scalar.ofBits .bf16 0x0000#16))
      (fun r => iprop((arg4.view.loc (c : Thread nD τ) ↦[arg4.view.set]{fullShare} X4) ∗ (arg5.view.loc (c : Thread nD τ) ↦[arg5.view.set]{fullShare} X5) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f))
        ∗ ⌜r = ⟨k0_pay27 (accH0 (accOf (arg4.view.read (Elt F) X4) (arg5.view.read (Elt F) X5) Q).1) (lH0 (accOf (arg4.view.read (Elt F) X4) (arg5.view.read (Elt F) X5) Q).2), accH1 (accOf (arg4.view.read (Elt F) X4) (arg5.view.read (Elt F) X5) Q).1, lH1 (accOf (arg4.view.read (Elt F) X4) (arg5.view.read (Elt F) X5) Q).2⟩⌝)) := by
  rw [k0_part5_eq_skeleton]
  unfold k0_part5_skel
  have e12 : arg12.view.read (Elt F) (arg12.view.writes (Elt F) arg12.view.junk [⟨Rect.unit (s := S128x1024) ![0, 0] S128x1024.size inb_S128x1024_S128x1024_0_0, k0_pay18⟩])
      = (fast (arg4.view.read (Elt F) X4) (arg5.view.read (Elt F) X5) (arg11.view.read (Elt F) (arg11.view.writes (Elt F) f11 lastPieces)) 0).1 := by rw [read_put128, fast_zero]
  have e13 : arg13.view.read (Elt F) (arg13.view.writes (Elt F) arg13.view.junk [⟨Rect.unit (s := S1x1024) ![0, 0] S1x1024.size inb_S1x1024_S1x1024_0_0, k0_pay19⟩])
      = (fast (arg4.view.read (Elt F) X4) (arg5.view.read (Elt F) X5) (arg11.view.read (Elt F) (arg11.view.writes (Elt F) f11 lastPieces)) 0).2 := by rw [read_put1, fast_zero]
  iintro ⟨H4, H5, H11, H12, H13, H14⟩
  sl_exec
  have hv : part5_run.sl.v90 c arg13 fL1 = redo (fast (arg4.view.read (Elt F) X4) (arg5.view.read (Elt F) X5) Q k0_t1_loop.trips).2 := by
    refine (show part5_run.sl.v90 c arg13 fL1 = redo (arg13.view.readAt (Elt F) (Rect.unit (s := S1x1024) ![0, 0] S1x1024.size inb_S1x1024_S1x1024_0_0).toLoadRect fL1) from rfl).trans ?_
    rw [View.readAt_full, hL6, hQ]
  by_cases hr : redo (fast (arg4.view.read (Elt F) X4) (arg5.view.read (Elt F) X5) Q k0_t1_loop.trips).2 = 1#1
  · rw [if_pos (hv.trans hr)]
    clear e12 e13 hL4 hL6 hv
    generalize (arg11.view.writes (Elt F) f11 lastPieces) = g at hQ ⊢
    sl_exec
    iapply (exec_loop _ _ _ _ _ _ _ _ _ (slowInv (F := F) Variants.none c none Set.univ i arg3 harg3 arg4 harg4 arg5 harg5 arg6 harg6 arg7 harg7 arg8 harg8 arg9 harg9 arg10 harg10 arg11 harg11 arg12 harg12 arg13 harg13 arg14 harg14 (Scalar.ofBits .bf16 0x0000#16) X4 X5 g)) $$ [H4 H5 H11 H12 H13 H14]
    · rw [slowInv_inv]
      isplitl [H4]; · iexact H4
      isplitl [H5]; · iexact H5
      isplitl [H11]; · iexact H11
      isplitl [H12]
      · iexists _; isplitl [H12]; · iexact H12
        ipureintro; unfold part5_run.sl.H12_1_1; rw [read_put128, slow_zero]
      isplitl [H13]
      · iexists _; isplitl [H13]; · iexact H13
        ipureintro; unfold part5_run.sl.H13_1_1; rw [read_put1, slow_zero]
      iexists _; isplitl [H14]; · iexact H14
      ipureintro
      unfold part5_run.sl.H14_1
      rw [read_put1, slow_zero]
    iintro %acc HL
    ihave HL := (slowInv_out (F := F) Variants.none c none Set.univ i arg3 harg3 arg4 harg4 arg5 harg5 arg6 harg6 arg7 harg7 arg8 harg8 arg9 harg9 arg10 harg10 arg11 harg11 arg12 harg12 arg13 harg13 arg14 harg14 (Scalar.ofBits .bf16 0x0000#16) X4 X5 g _ acc) $$ HL
    icases HL with ⟨H4, H5, H11, ⟨%g12, H12, %h12⟩, ⟨%g13, H13, %h13⟩, ⟨%g14, H14, %h14⟩⟩
    sl_exec
    sl_step
    isplitl [H4]; · iexact H4
    isplitl [H5]; · iexact H5
    isplitl [H11]; · iexists _; iexact H11
    isplitl [H12]; · iexists _; iexact H12
    isplitl [H13]; · iexists _; iexact H13
    isplitl [H14]; · iexists _; iexact H14
    have q12 : arg12.view.read (Elt F) _ = (accOf (arg4.view.read (Elt F) X4) (arg5.view.read (Elt F) X5) Q).1 := h12.trans (by unfold accOf; rw [if_pos hr, hQ])
    have q13 : arg13.view.read (Elt F) _ = (accOf (arg4.view.read (Elt F) X4) (arg5.view.read (Elt F) X5) Q).2 := h13.trans (by unfold accOf; rw [if_pos hr, hQ])
    ipureintro
    rw [← q12, ← q13]
    rfl
  · rw [if_neg (fun h => hr (hv.symm.trans h))]
    sl_exec
    sl_step
    isplitl [H4]; · iexact H4
    isplitl [H5]; · iexact H5
    isplitl [H11]; · iexists _; iexact H11
    isplitl [H12]; · iexists _; iexact H12
    isplitl [H13]; · iexists _; iexact H13
    isplitl [H14]; · iexists _; iexact H14
    have q12 : arg12.view.read (Elt F) _ = (accOf (arg4.view.read (Elt F) X4) (arg5.view.read (Elt F) X5) Q).1 := hL4.trans (by unfold accOf; rw [if_neg hr, hQ])
    have q13 : arg13.view.read (Elt F) _ = (accOf (arg4.view.read (Elt F) X4) (arg5.view.read (Elt F) X5) Q).2 := hL6.trans (by unfold accOf; rw [if_neg hr, hQ])
    ipureintro
    rw [← q12, ← q13]
    rfl

section
variable (c : Dev nD) (i : grid0.Coords)
  (arg3 : Memref sig .tc .vmem S1x128x512 .bf16) (harg3 : arg3.IsWhole)
  (arg4 : Memref sig .tc .vmem S1x2x16640x128 .bf16) (harg4 : arg4.IsWhole)
  (arg5 : Memref sig .tc .vmem S1x128x16640 .bf16) (harg5 : arg5.IsWhole)
  (arg6 : Memref sig .tc .vmem S1x2x1x128 .f32) (harg6 : arg6.IsWhole)
  (arg7 : Memref sig .tc .vmem S4x64 .f32) (harg7 : arg7.IsWhole)
  (arg8 : Memref sig .tc .vmem S1x128 .f32) (harg8 : arg8.IsWhole)
  (arg9 : Memref sig .tc .hbm S2x16640x512 .bf16) (harg9 : arg9.IsWhole)
  (arg10 : Memref sig .tc .vmem S1x512x128 .bf16) (harg10 : arg10.IsWhole)
  (arg11 : Memref sig .tc .vmem S2x128x512 .bf16) (harg11 : arg11.IsWhole)
  (arg12 : Memref sig .tc .vmem S128x1024 .f32) (harg12 : arg12.IsWhole)
  (arg13 : Memref sig .tc .vmem S1x1024 .f32) (harg13 : arg13.IsWhole)
  (arg14 : Memref sig .tc .vmem S1x1024 .f32) (harg14 : arg14.IsWhole)

/-- One grid point's body: the inputs stay, and the output block reads as `outB` of them. -/
theorem body_run (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) :
    iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) : sProp 𝕄)
    ⊢ wp frame (wpE (defs₀ (F := F)) Variants.none (c : Thread nD τ) none) Set.univ (cc0_attn_diff2 (F := F) i arg3 harg3 arg4 harg4 arg5 harg5 arg6 harg6 arg7 harg7 arg8 harg8 arg9 harg9 arg10 harg10 arg11 harg11 arg12 harg12 arg13 harg13 arg14 harg14)
      (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ f, (arg10.view.loc (c : Thread nD τ) ↦[arg10.view.set]{fullShare} f) ∗ ⌜arg10.view.read (Elt F) f = outB (arg3.view.read (Elt F) X3) (arg4.view.read (Elt F) X4) (arg5.view.read (Elt F) X5) (arg6.view.read (Elt F) X6) (arg7.view.read (Elt F) X7) (arg8.view.read (Elt F) X8)⌝)
        ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)))) := by
  have hQ : arg11.view.read (Elt F) (arg11.view.writes (Elt F) (arg11.view.writes (Elt F) (arg11.view.writes (Elt F) f11 (pieces3 (arg3.view.read (Elt F) X3) (arg6.view.read (Elt F) X6))) (pieces4 (arg3.view.read (Elt F) X3) (arg6.view.read (Elt F) X6))) lastPieces) = qa (arg3.view.read (Elt F) X3) (arg6.view.read (Elt F) X6) := by
    rw [read_last, read_last]
    exact View.read_writes_eq_canon arg11.view f11 (qaPieces (arg3.view.read (Elt F) X3) (arg6.view.read (Elt F) X6)) (qaPieces_cover _ _)
  rw [cc0_attn_diff2_eq_skeleton]
  unfold cc0_attn_diff2_skel
  rw [k0_part6_eq_skeleton]
  unfold k0_part6_skel
  iintro ⟨H3, H4, H5, H6, H7, H8, H10, H11, H12, H13, H14⟩
  rw [wp_bind, wp_bind]
  iapply (wp_wand _ _ _) $$ [H3 H6 H11]
  · iapply (part3_run c i arg3 harg3 arg4 harg4 arg5 harg5 arg6 harg6 arg7 harg7 arg8 harg8 arg9 harg9 arg10 harg10 arg11 harg11 arg12 harg12 arg13 harg13 arg14 harg14 X3 X6 f11) $$ [H3 H6 H11]
    isplitl [H3]; · iexact H3
    isplitl [H6]; · iexact H6
    iexact H11
  iintro %r3 ⟨H3, H6, H11, %hr3⟩
  subst hr3
  rw [wp_bind]
  iapply (wp_wand _ _ _) $$ [H3 H6 H11]
  · iapply (part4_run c i arg3 harg3 arg4 harg4 arg5 harg5 arg6 harg6 arg7 harg7 arg8 harg8 arg9 harg9 arg10 harg10 arg11 harg11 arg12 harg12 arg13 harg13 arg14 harg14 X3 X6 _) $$ [H3 H6 H11]
    isplitl [H3]; · iexact H3
    isplitl [H6]; · iexact H6
    iexact H11
  iintro %r4 ⟨H3, H6, H11, %hr4⟩
  subst hr4
  rw [wp_bind]
  iapply (wp_wand _ _ _) $$ [H4 H5 H11 H12 H13 H14]
  · iapply (part5_run c i arg3 harg3 arg4 harg4 arg5 harg5 arg6 harg6 arg7 harg7 arg8 harg8 arg9 harg9 arg10 harg10 arg11 harg11 arg12 harg12 arg13 harg13 arg14 harg14 X4 X5 _ f12 f13 f14 _ hQ) $$ [H4 H5 H11 H12 H13 H14]
    isplitl [H4]; · iexact H4
    isplitl [H5]; · iexact H5
    isplitl [H11]; · iexact H11
    isplitl [H12]; · iexact H12
    isplitl [H13]; · iexact H13
    iexact H14
  iintro %r5 ⟨H4, H5, ⟨%g11, H11⟩, ⟨%g12, H12⟩, ⟨%g13, H13⟩, ⟨%g14, H14⟩, %hr5⟩
  subst hr5
  sl_exec
  sl_step
  isplitl [H3]; · iexact H3
  isplitl [H4]; · iexact H4
  isplitl [H5]; · iexact H5
  isplitl [H6]; · iexact H6
  isplitl [H7]; · iexact H7
  isplitl [H8]; · iexact H8
  isplitl [H10]
  · iexists _; isplitl [H10]; · iexact H10
    ipureintro
    rw [read_putO, View.readAt_full, View.readAt_full]
    rfl
  isplitl [H11]; · iexists _; iexact H11
  isplitl [H12]; · iexists _; iexact H12
  isplitl [H13]; · iexists _; iexact H13
  iexists _; iexact H14

set_option warn.classDefReducibility false in
/-- The slow loop's invariant, for a run to find. -/
@[sl_loop] def loop2 (𝒱 : Variants) (bd : Option 𝒱.V) (E : Set ℕ) (cst : F .bf16) (X4 : BufTy.Contents (Elt F) arg4.view.ty) (X5 : BufTy.Contents (Elt F) arg5.view.ty) (X11 : BufTy.Contents (Elt F) arg11.view.ty) :
    LoopInvTy_k0_t2 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 cst := slowInv 𝒱 c bd E i arg3 harg3 arg4 harg4 arg5 harg5 arg6 harg6 arg7 harg7 arg8 harg8 arg9 harg9 arg10 harg10 arg11 harg11 arg12 harg12 arg13 harg13 arg14 harg14 cst X4 X5 X11

end

end Cert.Proof.DI
-- ==== Proof.DI.Run.lean ====
module

public import proofs.«01_k».proof.Proof.DI.Body
public import Idealize.ShloMosaic.Lib.Tactic
public import Idealize.ShloMosaic.Lib.VecWindow
public import Idealize.ShloMosaic.Lib.Pipeline.Kit

/-! The attention region's run: the proof data of its pipeline, the body at each point, and the frame. -/

@[expose] public section

set_option maxRecDepth 8192

noncomputable section

namespace Cert.Proof.DI

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body leaves in the output's staging buffer at point `t`. -/
def outAt (c : Dev nD) (t : Fin cfg0.N) : Vec F S1x512x128 .bf16 :=
  outB (X0_0 m c t) (iblk m c 1 t) (iblk m c 2 t) (iblk m c 3 t) (iblk m c 4 t) (iblk m c 5 t)

/-- The proof data of the pipeline on core `c`: inputs stay in place, the output holds `outAt`. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = X0_0 m c t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outAt m c t := by dsimp only [dats]
theorem before0 (c : Dev nD) (t : Fin cfg0.N) (d) : (dats m 0 c).before 0 t d = X0_0 m c t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- A buffer held whole, as its whole memref's view holds it. -/
theorem whole_eq (c : Dev nD) (b : Ref sig .tc) (f : Buf (Elt F) ((c : Thread nD τ).loc b)) :
    (((c : Thread nD τ).loc b) ↦{fullShare} f : sProp 𝕄)
      = iprop((Memref.whole b).view.loc (c : Thread nD τ) ↦[(Memref.whole b).view.set]{fullShare} f) := by
  rw [show (Memref.whole b).view.set = Finset.univ from View.set_whole b]
theorem whole_in (c : Dev nD) (b : Ref sig .tc) (f : Buf (Elt F) ((c : Thread nD τ).loc b)) :
    (((c : Thread nD τ).loc b) ↦{fullShare} f : sProp 𝕄)
      ⊢ iprop((Memref.whole b).view.loc (c : Thread nD τ) ↦[(Memref.whole b).view.set]{fullShare} f) := by rw [whole_eq]
theorem whole_out (c : Dev nD) (b : Ref sig .tc) (f : Buf (Elt F) ((c : Thread nD τ).loc b)) :
    iprop((Memref.whole b).view.loc (c : Thread nD τ) ↦[(Memref.whole b).view.set]{fullShare} f)
      ⊢ (((c : Thread nD τ).loc b) ↦{fullShare} f : sProp 𝕄) := by rw [whole_eq]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [after0, after1, after2, after3, after4, after5, after6]
  simp only [before0, before1, before2, before3, before4, before5]
  rw [show (dats m 0 c).Φ t.succ = Pipeline.ΦA spec0 c from rfl, show (dats m 0 c).Φ t.castSucc = Pipeline.ΦA spec0 c from rfl]
  unfold Pipeline.ΦA Dat.owesAt Pipeline.owesWithin
  rw [scopedRest0_eq, show (dats m 0 c).owed t.castSucc = 0 from rfl, show (dats m 0 c).owed t.succ = 0 from rfl]
  iintro ⟨⟨⟨⟨%f11, H11⟩, ⟨%f12, H12⟩, ⟨%f13, H13⟩, ⟨%f14, H14⟩⟩, Hg⟩, ⟨%W, -, HW⟩, ⟨%d0, H0⟩, ⟨%d1, H1⟩, ⟨%d2, H2⟩, ⟨%d3, H3⟩, ⟨%d4, H4⟩, ⟨%d5, H5⟩, ⟨%d6, H6⟩⟩
  unfold owns
  icases H0 with ⟨%x0, %h0, H0⟩
  icases H1 with ⟨%x1, %h1, H1⟩
  icases H2 with ⟨%x2, %h2, H2⟩
  icases H3 with ⟨%x3, %h3, H3⟩
  icases H4 with ⟨%x4, %h4, H4⟩
  icases H5 with ⟨%x5, %h5, H5⟩
  icases H6 with ⟨%x6, %h6, H6⟩
  ihave H11 := (whole_in c cc0_scratch0 f11) $$ H11
  ihave H12 := (whole_in c cc0_scratch1 f12) $$ H12
  ihave H13 := (whole_in c cc0_scratch2 f13) $$ H13
  ihave H14 := (whole_in c cc0_scratch3 f14) $$ H14
  iapply (wp_wand _ _ _) $$ [H0 H1 H2 H3 H4 H5 H6 H11 H12 H13 H14]
  · iapply (body_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole main_v23) (Memref.isWhole_whole _) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) x0 x1 x2 x3 x4 x5 x6 f11 f12 f13 f14) $$ [H0 H1 H2 H3 H4 H5 H6 H11 H12 H13 H14]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H11]; · iexact H11
    isplitl [H12]; · iexact H12
    isplitl [H13]; · iexact H13
    iexact H14
  iintro %r ⟨H0, H1, H2, H3, H4, H5, ⟨%g, H6, %hg⟩, ⟨%g11, H11⟩, ⟨%g12, H12⟩, ⟨%g13, H13⟩, ⟨%g14, H14⟩⟩
  ihave H11 := (whole_out c cc0_scratch0 g11) $$ H11
  ihave H12 := (whole_out c cc0_scratch1 g12) $$ H12
  ihave H13 := (whole_out c cc0_scratch2 g13) $$ H13
  ihave H14 := (whole_out c cc0_scratch3 g14) $$ H14
  isplitl [H11 H12 H13 H14 Hg]
  · isplitl [H11 H12 H13 H14]
    · isplitl [H11]; · iexists _; iexact H11
      isplitl [H12]; · iexists _; iexact H12
      isplitl [H13]; · iexists _; iexact H13
      iexists _; iexact H14
    iexact Hg
  isplitl [HW]
  · iexists W; isplitr; · ipureintro; exact fun _ _ => Or.inl trivial
    iexact HW
  isplitl [H0]
  · iexists _; isplitr; swap; · iexact H0
    ipureintro; exact h0
  isplitl [H1]
  · iexists _; isplitr; swap; · iexact H1
    ipureintro; exact h1
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  iexists _; isplitr; swap; · iexact H6
  ipureintro
  rw [hg, h0, h1, h2, h3, h4, h5]
  rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole program's run: every array at its contents after the grid, every counter at zero. -/
theorem run_main : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl) (hQ' := fun _ h => h)

/-- The frame: every argument unchanged, every counter back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).1 4).trans (((dats m 0 c).arrAt_in 4 rfl _).trans ((A_eq m c 4).trans (V_main_arg5 m c))),
      ((h.1 c).2 main_arg6 (Pipeline.mem_restRefs_of main_arg6 (by decide) (by decide))).trans (V_main_arg6 m c)⟩, h.2⟩) (run_main m ρ)

end Cert.Proof.DI
-- ==== Proof.Frames.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_qk
public import proofs.«01_k».proof.Proof.Gen.ReferenceIdeal.Run
public import proofs.«01_k».proof.Proof.PI.Run
public import proofs.«01_k».proof.Proof.PK.Run
public import proofs.«01_k».proof.Proof.Gen.Kernel2
public import proofs.«01_k».proof.Proof.Gen.Kernel2Ideal
public import proofs.«01_k».proof.Proof.Gen.Reference2Ideal
public import proofs.«01_k».proof.Proof.Gen.Pre_finite_qk2
public import proofs.«01_k».proof.Proof.Gen.Reference2Ideal.Run
public import proofs.«01_k».proof.Proof.GI.Run
public import proofs.«01_k».proof.Proof.GK.Run
public import proofs.«01_k».proof.Proof.Gen.Kernel3
public import proofs.«01_k».proof.Proof.Gen.Kernel3Ideal
public import proofs.«01_k».proof.Proof.Gen.Reference3Ideal
public import proofs.«01_k».proof.Proof.Gen.Pre_finite_qkv3
public import proofs.«01_k».proof.Proof.Gen.Reference3Ideal.Run
public import proofs.«01_k».proof.Proof.DI.Run
public import proofs.«01_k».proof.Proof.DK.Run
public import Idealize.ShloMosaic.Adequacy
public import Idealize.ShloMosaic.Lib.Quiescent

/-! The claims on the programs' runs, and those on the named constants. -/

@[expose] public section

noncomputable section

namespace Cert.Proof

open Idealize.ShloMosaic Idealize.SL.Sem

theorem frame_k : Cert.quiescent_Kernel := fun m ρ _ => Cert.Proof.KB.frame (F := Bits) m ρ

theorem frame_ki : Cert.quiescent_KernelIdeal := fun m ρ _ => Cert.Proof.KI.frame (F := Ideal) m ρ

theorem frame_ki_pre : Cert.quiescent_KernelIdeal_pre_finite_qk := fun m ρ _ => Cert.Proof.KI.frame (F := Ideal) m ρ

/-- The reference runs operations of @main only: it declares no counter. -/
theorem frame_ri : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

theorem frame_ri_pre : Cert.quiescent_ReferenceIdeal_pre_finite_qk := by
  intro m ρ _
  exact (θ_run Cert.ReferenceIdeal.defs _ _).mono (fun r h => ⟨fun c => (h c).2, sem_eq_zero_of_no_sems (by decide) r.2⟩)
    (Cert.ReferenceIdeal.Value.run (F := Ideal) m ρ)

theorem scale_named : Cert.preserves_Kernel_KernelIdeal :=
  IdealRules.named_const.statement Cert.KernelIdeal.κ "q_scale" .f32 0x3E16C740#32 (((3424635 / 33554432) * (Real.log 2)⁻¹ : ℝ) : EReal) rfl

theorem frame_k2 : Cert.quiescent_Kernel2 := fun m ρ _ => Cert.Proof.GB.frame (F := Bits) m ρ

theorem frame_ki2 : Cert.quiescent_Kernel2Ideal := fun m ρ _ => Cert.Proof.GI.frame (F := Ideal) m ρ

theorem frame_ki2_pre : Cert.quiescent_Kernel2Ideal_pre_finite_qk2 := fun m ρ _ => Cert.Proof.GI.frame (F := Ideal) m ρ

/-- The second reference runs operations of @main only: it declares no counter. -/
theorem frame_ri2 : Cert.quiescent_Reference2Ideal := by
  intro m ρ _
  exact (θ_run Cert.Reference2Ideal.defs _ _).mono (fun r h => ⟨fun c => (h c).2, sem_eq_zero_of_no_sems (by decide) r.2⟩)
    (Cert.Reference2Ideal.Value.run (F := Ideal) m ρ)

theorem frame_ri2_pre : Cert.quiescent_Reference2Ideal_pre_finite_qk2 := by
  intro m ρ _
  exact (θ_run Cert.Reference2Ideal.defs _ _).mono (fun r h => ⟨fun c => (h c).2, sem_eq_zero_of_no_sems (by decide) r.2⟩)
    (Cert.Reference2Ideal.Value.run (F := Ideal) m ρ)

theorem scale_named2 : Cert.preserves_Kernel2_Kernel2Ideal :=
  IdealRules.named_const.statement Cert.Kernel2Ideal.κ "q_scale" .f32 0x3E38AA3B#32 (((1 / 8) * (Real.log 2)⁻¹ : ℝ) : EReal) rfl

theorem frame_k3 : Cert.quiescent_Kernel3 := fun m ρ _ => Cert.Proof.DB.frame (F := Bits) m ρ

theorem frame_ki3 : Cert.quiescent_Kernel3Ideal := fun m ρ _ => Cert.Proof.DI.frame (F := Ideal) m ρ

theorem frame_ki3_pre : Cert.quiescent_Kernel3Ideal_pre_finite_qkv3 := fun m ρ _ => Cert.Proof.DI.frame (F := Ideal) m ρ

/-- The third reference runs operations of @main only: it declares no counter. -/
theorem frame_ri3 : Cert.quiescent_Reference3Ideal := by
  intro m ρ _
  exact (θ_run Cert.Reference3Ideal.defs _ _).mono (fun r h => ⟨fun c => (h c).2, sem_eq_zero_of_no_sems (by decide) r.2⟩)
    (Cert.Reference3Ideal.Value.run (F := Ideal) m ρ)

theorem frame_ri3_pre : Cert.quiescent_Reference3Ideal_pre_finite_qkv3 := by
  intro m ρ _
  exact (θ_run Cert.Reference3Ideal.defs _ _).mono (fun r h => ⟨fun c => (h c).2, sem_eq_zero_of_no_sems (by decide) r.2⟩)
    (Cert.Reference3Ideal.Value.run (F := Ideal) m ρ)

theorem scale_named3 : Cert.preserves_Kernel3_Kernel3Ideal :=
  IdealRules.named_const.statement Cert.Kernel3Ideal.κ "q_scale" .f32 0x3E38AA3B#32 (((1 / 8) * (Real.log 2)⁻¹ : ℝ) : EReal) rfl

end Cert.Proof

end
-- ==== Proof.Softmax.lean ====
module

public import Idealize.ShloMosaic.PureOps.Ideal
public import Mathlib.Analysis.SpecialFunctions.Pow.Real

/-! Softmax averages over the extended reals: weights that are ratios of real exponentials, values that may be infinite. -/

@[expose] public section

noncomputable section

namespace Cert.Proof.Sm

open Idealize.ShloMosaic

theorem ofBits_bot : Ideal.ofBits .f32 0xFF800000#32 = (⊥ : EReal) := by
  simp [Ideal.ofBits, Ideal.ieee]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor that is not negative goes into a sum of extended reals. -/
theorem mul_sum_coe {ι : Type} (s : Finset ι) (c : ℝ) (hc : 0 ≤ c) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

/-- The maximum of finitely many reals, at least one, is a real. -/
theorem fold_max_real {ι : Type} (s : Finset ι) (hs : s.Nonempty) (f : ι → ℝ) : ∃ M : ℝ, s.fold max (⊥ : EReal) (fun i => (f i : EReal)) = M := by
  classical
  have key : ∀ s : Finset ι, s.fold max (⊥ : EReal) (fun i => (f i : EReal)) = ⊥ ∧ s = ∅ ∨ ∃ M : ℝ, s.fold max (⊥ : EReal) (fun i => (f i : EReal)) = M := by
    intro s
    induction s using Finset.induction_on with
    | empty => exact .inl ⟨Finset.fold_empty, rfl⟩
    | insert a s ha ih =>
      rw [Finset.fold_insert ha]
      rcases ih with ⟨h, _⟩ | ⟨M, h⟩
      · exact .inr ⟨f a, by rw [h]; exact max_eq_left bot_le⟩
      · exact .inr ⟨max (f a) M, by rw [h]; exact (EReal.coe_strictMono.monotone.map_max).symm⟩
  rcases key s with ⟨_, h⟩ | h
  · exact absurd h hs.ne_empty
  · exact h

theorem max_real (x : EReal) (M : ℝ) (hx : x = ⊥ ∨ ∃ y : ℝ, x = y) : ∃ M' : ℝ, max x (M : EReal) = M' := by
  rcases hx with rfl | ⟨y, rfl⟩
  · exact ⟨M, max_eq_right bot_le⟩
  · exact ⟨max y M, (EReal.coe_strictMono.monotone.map_max).symm⟩

/-- Two to a real power. -/
def pw (x : ℝ) : ℝ := Real.rpow 2 x

theorem pw_eq (x : ℝ) : pw x = Real.exp (x * Real.log 2) := by
  unfold pw
  rw [Real.rpow_eq_pow, Real.rpow_def_of_pos (by norm_num), mul_comm]

theorem pw_pos (x : ℝ) : 0 < pw x := by rw [pw_eq]; exact Real.exp_pos _

theorem pw_add (x y : ℝ) : pw (x + y) = pw x * pw y := by
  rw [pw_eq, pw_eq, pw_eq, add_mul, Real.exp_add]

theorem exp2_pw (x : ℝ) : Ideal.exp2 (x : EReal) = (pw x : EReal) := by rw [Ideal.exp2_coe]; rfl

/-- `l` and `acc` are the denominator and the weighted sums over the first `N` scores `σ`, shifted by `M`. -/
def Good {n : ℕ} (σ : ℕ → ℝ) (v : Fin n → ℕ → EReal) (N : ℕ) (M : ℝ) (l : EReal) (acc : Fin n → EReal) : Prop :=
  l = ((∑ x ∈ Finset.range N, pw (σ x - M) : ℝ) : EReal) ∧ ∀ d, acc d = ∑ x ∈ Finset.range N, v d x * (pw (σ x - M) : EReal)

theorem good_zero {n : ℕ} (σ : ℕ → ℝ) (v : Fin n → ℕ → EReal) (M : ℝ) : Good σ v 0 M 0 (fun _ => 0) := by
  constructor
  · simp
  · intro d; simp

/-- One more tile, no change of the shift. -/
theorem good_add {n : ℕ} {σ : ℕ → ℝ} {v : Fin n → ℕ → EReal} {N : ℕ} {M : ℝ} {l : EReal} {acc : Fin n → EReal} (h : Good σ v N M l acc) (T : ℕ) :
    Good σ v (N + T) M (l + ∑ x : Fin T, (pw (σ (N + x) - M) : EReal)) (fun d => acc d + ∑ x : Fin T, v d (N + x) * (pw (σ (N + x) - M) : EReal)) := by
  constructor
  · rw [Finset.sum_range_add, EReal.coe_add, ← h.1, coe_sum (Finset.range T), ← Fin.sum_univ_eq_sum_range (fun x => ((pw (σ (N + x) - M) : ℝ) : EReal)) T]
  · intro d
    rw [Finset.sum_range_add, ← h.2 d, ← Fin.sum_univ_eq_sum_range (fun x => v d (N + x) * ((pw (σ (N + x) - M) : ℝ) : EReal)) T]

/-- A change of the shift. -/
theorem good_shift {n : ℕ} {σ : ℕ → ℝ} {v : Fin n → ℕ → EReal} {N : ℕ} {M : ℝ} {l : EReal} {acc : Fin n → EReal} (h : Good σ v N M l acc) (M' : ℝ) :
    Good σ v N M' ((pw (M - M') : EReal) * l) (fun d => (pw (M - M') : EReal) * acc d) := by
  have e : ∀ x, pw (M - M') * pw (σ x - M) = pw (σ x - M') := fun x => by rw [← pw_add]; congr 1; ring
  constructor
  · rw [h.1, ← EReal.coe_mul, Finset.mul_sum]; simp only [e]
  · intro d
    dsimp only
    rw [h.2 d, mul_sum_coe _ _ (pw_pos _).le]
    refine Finset.sum_congr rfl fun x _ => ?_
    rw [mul_left_comm, ← EReal.coe_mul, e]

/-- The softmax average of the values `v` at scores `t`. -/
def attn (t : ℕ → ℝ) (v : ℕ → EReal) (N : ℕ) : EReal :=
  ∑ x ∈ Finset.range N, v x * ((Real.exp (t x) / ∑ y ∈ Finset.range N, Real.exp (t y) : ℝ) : EReal)

theorem sum_exp_pos (t : ℕ → ℝ) {N : ℕ} (hN : 0 < N) : 0 < ∑ y ∈ Finset.range N, Real.exp (t y) :=
  Finset.sum_pos (fun _ _ => Real.exp_pos _) ⟨0, Finset.mem_range.mpr hN⟩

/-- The quotient that the kernel takes is the softmax average, whatever shift it took off the scores. -/
theorem good_div {n : ℕ} {σ : ℕ → ℝ} {v : Fin n → ℕ → EReal} {N : ℕ} {M : ℝ} {l : EReal} {acc : Fin n → EReal} (h : Good σ v N M l acc) (hN : 0 < N)
    (t : ℕ → ℝ) (β : ℝ) (ht : ∀ x < N, σ x * Real.log 2 = t x - β) (d : Fin n) : Ideal.div (acc d) l = attn t (v d) N := by
  have e : ∀ x ∈ Finset.range N, pw (σ x - M) = Real.exp (-β - M * Real.log 2) * Real.exp (t x) := fun x hx => by
    rw [pw_eq, ← Real.exp_add]; congr 1; rw [sub_mul, ht x (Finset.mem_range.mp hx)]; ring
  have hc := Real.exp_pos (-β - M * Real.log 2)
  have hS := sum_exp_pos t hN
  rw [h.1, h.2 d, Finset.sum_congr rfl e, ← Finset.mul_sum, Ideal.div_coe (mul_pos hc hS).ne', mul_comm, mul_sum_coe _ _ (one_div_pos.mpr (mul_pos hc hS)).le]
  refine Finset.sum_congr rfl fun x hx => ?_
  rw [mul_left_comm, ← EReal.coe_mul, e x hx]
  congr 2
  field_simp

/-- Softmax weights do not see a shift of the scores. -/
theorem weight_shift (t : ℕ → ℝ) (N : ℕ) (hN : 0 < N) (m : ℝ) (x : ℕ) :
    Real.exp (t x - m) / ∑ y ∈ Finset.range N, Real.exp (t y - m) = Real.exp (t x) / ∑ y ∈ Finset.range N, Real.exp (t y) := by
  have hS := sum_exp_pos t hN
  have e : ∀ y, Real.exp (t y - m) = Real.exp (-m) * Real.exp (t y) := fun y => by rw [← Real.exp_add]; congr 1; ring
  simp only [e, ← Finset.mul_sum]
  have hm := Real.exp_pos (-m)
  field_simp

/-- The place, among the kernel's keys, of the reference's key `j`: the reference lists the 256 context keys first, the kernel last. -/
def rot (j : ℕ) : ℕ := if j < 256 then 16384 + j else j - 256

theorem sum_rot {A : Type} [AddCommMonoid A] (g : ℕ → A) : ∑ j : Fin 16640, g (rot j) = ∑ x ∈ Finset.range 16640, g x := by
  have e1 : ∀ f : ℕ → A, ∑ x ∈ Finset.range 16640, f x = ∑ x ∈ Finset.range 256, f x + ∑ x ∈ Finset.range 16384, f (256 + x) := fun f => Finset.sum_range_add f 256 16384
  have e2 : ∀ f : ℕ → A, ∑ x ∈ Finset.range 16640, f x = ∑ x ∈ Finset.range 16384, f x + ∑ x ∈ Finset.range 256, f (16384 + x) := fun f => Finset.sum_range_add f 16384 256
  have h1 : ∀ x ∈ Finset.range 16384, g (rot (256 + x)) = g x := fun x _ => by
    rw [rot, if_neg (by omega), Nat.add_sub_cancel_left]
  have h2 : ∀ x ∈ Finset.range 256, g (rot x) = g (16384 + x) := fun x hx => by
    rw [rot, if_pos (Finset.mem_range.mp hx)]
  rw [Fin.sum_univ_eq_sum_range (fun j => g (rot j)) 16640, e1, e2, Finset.sum_congr rfl h1, Finset.sum_congr rfl h2, add_comm]

/-- The reference's average. -/
theorem ref_attn (t : ℕ → ℝ) (v : ℕ → EReal) (m : ℝ) :
    ∑ j : Fin 16640, Ideal.div (Ideal.exp ((t (rot j) : EReal) - (m : EReal))) (∑ i : Fin 16640, Ideal.exp ((t (rot i) : EReal) - (m : EReal))) * v (rot j)
      = attn t v 16640 := by
  have e : ∀ x, Ideal.exp ((t x : EReal) - (m : EReal)) = (Real.exp (t x - m) : EReal) := fun x => by rw [← EReal.coe_sub, Ideal.exp_coe]
  simp only [e]
  have hS : 0 < ∑ y ∈ Finset.range 16640, Real.exp (t y - m) := sum_exp_pos (fun y => t y - m) (by norm_num)
  rw [sum_rot (fun x => ((Real.exp (t x - m) : ℝ) : EReal)), ← coe_sum,
    sum_rot (fun x => Ideal.div ((Real.exp (t x - m) : ℝ) : EReal) ((∑ y ∈ Finset.range 16640, Real.exp (t y - m) : ℝ) : EReal) * v x)]
  unfold attn
  refine Finset.sum_congr rfl fun x _ => ?_
  rw [Ideal.div_coe hS.ne', ← EReal.coe_mul, mul_comm, ← weight_shift t 16640 (by norm_num) m, mul_one_div]

end Cert.Proof.Sm

end
-- ==== Proof.PI.Fold.lean ====
module

public import proofs.«01_k».proof.Proof.PI.Body
public import proofs.«01_k».proof.Proof.Softmax
public import Idealize.ShloMosaic.Lib.Pointwise
public import Idealize.ShloMosaic.Lib.Pipeline.ValueKit

/-! What the two loops of the attention kernel accumulate over the reals, column by column. -/

@[expose] public section

set_option maxRecDepth 16384

noncomputable section

namespace Cert.Proof.KI

open Cert.KernelIdeal Cert.KernelIdeal.Gen
open Idealize.ShloMosaic Cert.Proof.Sm

theorem off1_eq : ∀ k : Fin k0_t1_loop.trips, k0_off1 k = ![0, 0, 3328 * k.val, 0] := by decide +kernel
theorem off2_eq : ∀ k : Fin k0_t1_loop.trips, k0_off2 k = ![0, 0, 3328 * k.val] := by decide +kernel
theorem off3_eq : ∀ k : Fin k0_t2_loop.trips, k0_off3 k = ![0, 0, 256 * k.val, 0] := by decide +kernel
theorem off4_eq : ∀ k : Fin k0_t2_loop.trips, k0_off4 k = ![0, 0, 256 * k.val] := by decide +kernel
theorem trips1 : k0_t1_loop.trips = 5 := by decide +kernel
theorem trips2 : k0_t2_loop.trips = 65 := by decide +kernel

/-- The score of key `j` for query column `r`. -/
def sc (K : Vec Ideal S1x1x16640x128 .bf16) (Q : Vec Ideal S1x128x1024 .bf16) (r : Fin 1024) (j : Fin 16640) : EReal :=
  ∑ d : Fin 128, K (ix4 0 0 j d) * Q (ix3 0 d r)

/-! ## A tile's elements -/

theorem kTile1_apply (K : Vec Ideal S1x1x16640x128 .bf16) (k : Fin k0_t1_loop.trips) (x : Fin 3328) (d : Fin 128) (h : 3328 * k.val + x.val < 16640) :
    kTile1 K k (ix4 0 0 x d) = K (ix4 0 0 ⟨3328 * k.val + x.val, h⟩ d) :=
  View.ld_unit_apply_of K _ _ _ _ _ fun a => by
    refine Eq.trans ?_ (congrArg (· + _) (congrFun (off1_eq k) a).symm)
    fin_cases a <;> simp

theorem vTile1_apply (V : Vec Ideal S1x128x16640 .bf16) (k : Fin k0_t1_loop.trips) (x : Fin 3328) (d : Fin 128) (h : 3328 * k.val + x.val < 16640) :
    vTile1 V k (ix3 0 d x) = V (ix3 0 d ⟨3328 * k.val + x.val, h⟩) :=
  View.ld_unit_apply_of V _ _ _ _ _ fun a => by
    refine Eq.trans ?_ (congrArg (· + _) (congrFun (off2_eq k) a).symm)
    fin_cases a <;> simp

theorem kTile2_apply (K : Vec Ideal S1x1x16640x128 .bf16) (k : Fin k0_t2_loop.trips) (x : Fin 256) (d : Fin 128) (h : 256 * k.val + x.val < 16640) :
    kTile2 K k (ix4 0 0 x d) = K (ix4 0 0 ⟨256 * k.val + x.val, h⟩ d) :=
  View.ld_unit_apply_of K _ _ _ _ _ fun a => by
    refine Eq.trans ?_ (congrArg (· + _) (congrFun (off3_eq k) a).symm)
    fin_cases a <;> simp

theorem vTile2_apply (V : Vec Ideal S1x128x16640 .bf16) (k : Fin k0_t2_loop.trips) (x : Fin 256) (d : Fin 128) (h : 256 * k.val + x.val < 16640) :
    vTile2 V k (ix3 0 d x) = V (ix3 0 d ⟨256 * k.val + x.val, h⟩) :=
  View.ld_unit_apply_of V _ _ _ _ _ fun a => by
    refine Eq.trans ?_ (congrArg (· + _) (congrFun (off4_eq k) a).symm)
    fin_cases a <;> simp

/-! ## The steps at an element -/

theorem pay15_apply (K : Vec Ideal S1x1x16640x128 .bf16) (Q : Vec Ideal S1x128x1024 .bf16) (l : Vec Ideal S1x1024 .f32) (k : Fin k0_t1_loop.trips) (r : Fin 1024) :
    k0_pay15 (kTile1 K k) Q l (ix2 0 r) = l (ix2 0 r) + ∑ x : Fin 3328, Ideal.exp2 (∑ d : Fin 128, kTile1 K k (ix4 0 0 x d) * Q (ix3 0 d r)) := by
  unfold k0_pay15 k0_pay14
  pointwise []
  rfl

theorem pay16_apply (K : Vec Ideal S1x1x16640x128 .bf16) (V : Vec Ideal S1x128x16640 .bf16) (Q : Vec Ideal S1x128x1024 .bf16) (a : Vec Ideal S128x1024 .f32)
    (k : Fin k0_t1_loop.trips) (e : Fin 128) (r : Fin 1024) :
    k0_pay16 (kTile1 K k) Q a (vTile1 V k) (ix2 e r)
      = a (ix2 e r) + ∑ x : Fin 3328, vTile1 V k (ix3 0 e x) * Ideal.exp2 (∑ d : Fin 128, kTile1 K k (ix4 0 0 x d) * Q (ix3 0 d r)) := by
  unfold k0_pay16 k0_pay14
  pointwise []
  rfl

theorem pay2_apply (K : Vec Ideal S1x1x16640x128 .bf16) (Q : Vec Ideal S1x128x1024 .bf16) (a : Vec Ideal S1x1024 .f32) (k : Fin k0_t2_loop.trips) (r : Fin 1024) :
    k0_pay2 (kTile2 K k) Q a (ix2 0 r)
      = max (a (ix2 0 r)) (Finset.univ.fold max (Ideal.ofBits FTy.f32 0xFF800000#32) fun x : Fin 256 => ∑ d : Fin 128, kTile2 K k (ix4 0 0 x d) * Q (ix3 0 d r)) := by
  unfold k0_pay2 k0_pay1
  pointwise []

theorem pay5_apply (K : Vec Ideal S1x1x16640x128 .bf16) (Q : Vec Ideal S1x128x1024 .bf16) (mm a : Vec Ideal S1x1024 .f32) (k : Fin k0_t2_loop.trips) (r : Fin 1024) :
    k0_pay5 (kTile2 K k) Q mm a (ix2 0 r)
      = Ideal.exp2 (mm (ix2 0 r) - k0_pay2 (kTile2 K k) Q mm (ix2 0 r)) * a (ix2 0 r)
        + ∑ x : Fin 256, Ideal.exp2 (∑ d : Fin 128, kTile2 K k (ix4 0 0 x d) * Q (ix3 0 d r) - k0_pay2 (kTile2 K k) Q mm (ix2 0 r)) := by
  unfold k0_pay5 k0_pay3 k0_pay4 k0_pay1
  pointwise []
  rfl

theorem pay6_apply (K : Vec Ideal S1x1x16640x128 .bf16) (V : Vec Ideal S1x128x16640 .bf16) (Q : Vec Ideal S1x128x1024 .bf16) (mm : Vec Ideal S1x1024 .f32)
    (a : Vec Ideal S128x1024 .f32) (k : Fin k0_t2_loop.trips) (e : Fin 128) (r : Fin 1024) :
    k0_pay6 (kTile2 K k) Q mm a (vTile2 V k) (ix2 e r)
      = Ideal.exp2 (mm (ix2 0 r) - k0_pay2 (kTile2 K k) Q mm (ix2 0 r)) * a (ix2 e r)
        + ∑ x : Fin 256, vTile2 V k (ix3 0 e x) * Ideal.exp2 (∑ d : Fin 128, kTile2 K k (ix4 0 0 x d) * Q (ix3 0 d r) - k0_pay2 (kTile2 K k) Q mm (ix2 0 r)) := by
  unfold k0_pay6 k0_pay3 k0_pay4 k0_pay1
  pointwise []
  rfl

theorem zeros_apply (e : Fin 128) (r : Fin 1024) : k0_pay12 (F := Ideal) (ix2 e r) = 0 ∧ k0_pay13 (F := Ideal) (ix2 0 r) = 0
    ∧ k0_pay18 (F := Ideal) (ix2 e r) = 0 ∧ k0_pay19 (F := Ideal) (ix2 0 r) = 0 ∧ k0_pay20 (F := Ideal) (ix2 0 r) = ⊥ := by
  unfold k0_pay12 k0_pay13 k0_pay18 k0_pay19 k0_pay20
  refine ⟨?_, ?_, ?_, ?_, ?_⟩ <;> pointwise []
  exact ofBits_bot

theorem pay21_eq (a : FVec Ideal S128x1024 .f32) : k0_pay21 a = a := by funext i; idx_vars i; unfold k0_pay21; pointwise []
theorem pay22_eq (a : FVec Ideal S1x1024 .f32) : k0_pay22 a = a := by funext i; idx_vars i; unfold k0_pay22; pointwise []

/-! ## The loops -/

section
variable (K : Vec Ideal S1x1x16640x128 .bf16) (V : Vec Ideal S1x128x16640 .bf16) (Q : Vec Ideal S1x128x1024 .bf16) (r : Fin 1024)
  (σ : ℕ → ℝ) (v : Fin 128 → ℕ → EReal) (hσ : ∀ j : Fin 16640, sc K Q r j = σ j.val) (hv : ∀ (e : Fin 128) (j : Fin 16640), V (ix3 0 e j) = v e j.val)

include hσ in
theorem tile1_score (k : Fin k0_t1_loop.trips) (x : Fin 3328) :
    ∑ d : Fin 128, kTile1 K k (ix4 0 0 x d) * Q (ix3 0 d r) = (σ (3328 * k.val + x.val) : EReal) := by
  have hk : k.val < 5 := Nat.lt_of_lt_of_le k.isLt trips1.le
  have hx := x.isLt
  have h : 3328 * k.val + x.val < 16640 := by omega
  rw [← hσ ⟨_, h⟩]
  exact Finset.sum_congr rfl fun d _ => by rw [kTile1_apply K k x d h]

include hσ in
theorem tile2_score (k : Fin k0_t2_loop.trips) (x : Fin 256) :
    ∑ d : Fin 128, kTile2 K k (ix4 0 0 x d) * Q (ix3 0 d r) = (σ (256 * k.val + x.val) : EReal) := by
  have hk : k.val < 65 := Nat.lt_of_lt_of_le k.isLt trips2.le
  have hx := x.isLt
  have h : 256 * k.val + x.val < 16640 := by omega
  rw [← hσ ⟨_, h⟩]
  exact Finset.sum_congr rfl fun d _ => by rw [kTile2_apply K k x d h]

include hv in
theorem tile1_value (k : Fin k0_t1_loop.trips) (x : Fin 3328) (e : Fin 128) : vTile1 V k (ix3 0 e x) = v e (3328 * k.val + x.val) := by
  have hk : k.val < 5 := Nat.lt_of_lt_of_le k.isLt trips1.le
  have hx := x.isLt
  have h : 3328 * k.val + x.val < 16640 := by omega
  rw [vTile1_apply V k x e h, hv]

include hv in
theorem tile2_value (k : Fin k0_t2_loop.trips) (x : Fin 256) (e : Fin 128) : vTile2 V k (ix3 0 e x) = v e (256 * k.val + x.val) := by
  have hk : k.val < 65 := Nat.lt_of_lt_of_le k.isLt trips2.le
  have hx := x.isLt
  have h : 256 * k.val + x.val < 16640 := by omega
  rw [vTile2_apply V k x e h, hv]

include hσ hv in
theorem fast_good (n : ℕ) (hn : n ≤ 5) : Good σ v (3328 * n) 0 ((fast K V Q n).2 (ix2 0 r)) (fun e => (fast K V Q n).1 (ix2 e r)) := by
  induction n with
  | zero =>
    rw [fast_zero]
    simp only [(zeros_apply _ r).1, (zeros_apply 0 r).2.1]
    exact good_zero σ v 0
  | succ n ih =>
    have h : n < k0_t1_loop.trips := Nat.lt_of_lt_of_le (Nat.lt_of_succ_le hn) trips1.ge
    rw [fast_succ K V Q ⟨n, h⟩]
    dsimp only
    simp only [pay15_apply, pay16_apply, tile1_score K Q r σ hσ, tile1_value V v hv, exp2_pw]
    have := good_add (ih (by omega)) 3328
    simpa only [sub_zero, Nat.mul_succ] using this

include hσ hv in
theorem slow_good (n : ℕ) (hn : n ≤ 65) :
    (n = 0 ∧ (slow K V Q n).2.2 (ix2 0 r) = ⊥ ∧ (slow K V Q n).2.1 (ix2 0 r) = 0 ∧ ∀ e, (slow K V Q n).1 (ix2 e r) = 0)
    ∨ ∃ M : ℝ, (slow K V Q n).2.2 (ix2 0 r) = M ∧ Good σ v (256 * n) M ((slow K V Q n).2.1 (ix2 0 r)) (fun e => (slow K V Q n).1 (ix2 e r)) := by
  induction n with
  | zero =>
    left
    rw [slow_zero]
    exact ⟨rfl, (zeros_apply 0 r).2.2.2.2, (zeros_apply 0 r).2.2.2.1, fun e => (zeros_apply e r).2.2.1⟩
  | succ n ih =>
    right
    have h : n < k0_t2_loop.trips := Nat.lt_of_lt_of_le (Nat.lt_of_succ_le hn) trips2.ge
    rw [slow_succ K V Q ⟨n, h⟩]
    dsimp only
    rw [pay21_eq, pay22_eq]
    simp only [pay5_apply, pay6_apply, tile2_score K Q r σ hσ, tile2_value V v hv]
    have hm : ∃ M' : ℝ, k0_pay2 (kTile2 K ⟨n, h⟩) Q (slow K V Q n).2.2 (ix2 0 r) = M' := by
      rw [pay2_apply]
      simp only [tile2_score K Q r σ hσ]
      rw [ofBits_bot]
      obtain ⟨M, hM⟩ := fold_max_real (Finset.univ : Finset (Fin 256)) ⟨0, Finset.mem_univ _⟩ (fun x => σ (256 * n + x.val))
      rw [hM]
      refine max_real _ _ ?_
      rcases ih (by omega) with ⟨_, h, _⟩ | ⟨M, h, _⟩
      · exact .inl h
      · exact .inr ⟨M, h⟩
    obtain ⟨M', hM'⟩ := hm
    refine ⟨M', hM', ?_⟩
    simp only [hM', ← EReal.coe_sub, exp2_pw]
    rcases ih (by omega) with ⟨h0, h1, h2, h3⟩ | ⟨M, h1, h2⟩
    · have := good_add (good_zero σ v M') 256
      subst h0
      simpa only [h2, h3, mul_zero] using this
    · have := good_add (good_shift h2 M') 256
      simpa only [h1, ← EReal.coe_sub, exp2_pw, Nat.mul_succ] using this

include hσ hv in
theorem accOf_good : ∃ M : ℝ, Good σ v 16640 M ((accOf K V Q).2 (ix2 0 r)) (fun e => (accOf K V Q).1 (ix2 e r)) := by
  unfold accOf
  split_ifs
  · rw [trips2]
    rcases slow_good K V Q r σ v hσ hv 65 le_rfl with ⟨h, _⟩ | ⟨M, _, h⟩
    · exact absurd h (by norm_num)
    · exact ⟨M, h⟩
  · rw [trips1]
    exact ⟨0, fast_good K V Q r σ v hσ hv 5 le_rfl⟩

end

theorem pay23_apply (a : Vec Ideal S128x1024 .f32) (l : Vec Ideal S1x1024 .f32) (r : Fin 1024) (e : Fin 128) :
    k0_pay23 a l (ix3 0 r e) = Ideal.div (a (ix2 e r)) (l (ix2 0 r)) := by
  unfold k0_pay23
  pointwise []

/-- The output block of a grid point, where the widened queries' scores are real. -/
theorem outB_apply (x3 : Vec Ideal S1x128x1024 .bf16) (K : Vec Ideal S1x1x16640x128 .bf16) (V : Vec Ideal S1x128x16640 .bf16) (x6 : Vec Ideal S1x1x1x128 .f32)
    (r : Fin 1024) (e : Fin 128) (σ t : ℕ → ℝ) (v : Fin 128 → ℕ → EReal) (β : ℝ) (hσ : ∀ j : Fin 16640, sc K (qa x3 x6) r j = σ j.val)
    (hv : ∀ (e : Fin 128) (j : Fin 16640), V (ix3 0 e j) = v e j.val) (ht : ∀ x < 16640, σ x * Real.log 2 = t x - β) :
    outB x3 K V x6 (ix3 0 r e) = attn t (v e) 16640 := by
  unfold outB
  rw [pay23_apply]
  obtain ⟨M, h⟩ := accOf_good K V (qa x3 x6) r σ v hσ hv
  exact good_div h (by norm_num) t β ht e

end Cert.Proof.KI

end
-- ==== Proof.PI.Widen.lean ====
module

public import proofs.«01_k».proof.Proof.PI.Fold

/-! The widened queries at an element, and the scores they give against the widened keys. -/

@[expose] public section

set_option maxRecDepth 16384

noncomputable section

namespace Cert.Proof.KI

open Cert.KernelIdeal Cert.KernelIdeal.Gen
open Idealize.ShloMosaic Cert.Proof.Sm

/-- The factor of the queries: the score's scale over the natural logarithm of two. -/
def qs : ℝ := (3424635 / 33554432) * (Real.log 2)⁻¹

theorem named_qs : (Named.named κ "q_scale" 0x3E16C740#32 : Ideal .f32) = (qs : EReal) :=
  IdealRules.named_const.ideal_named_scalar _ _ _ _ rfl

theorem qRows_apply (x3 : Vec Ideal S1x128x1024 .bf16) (d : Fin 96) (r : Fin 1024) : qRows x3 (ix3 0 d r) = x3 (ix3 0 ⟨d.val, by omega⟩ r) :=
  View.ld_unit_apply_of x3 _ _ _ _ _ fun a => by fin_cases a <;> simp

theorem kBound_apply (x6 : Vec Ideal S1x1x1x128 .f32) : kBound x6 (ix4 0 0 0 0) = x6 (ix4 0 0 0 0) :=
  View.ld_unit_apply_of x6 _ _ _ _ _ fun a => by fin_cases a <;> simp

/-- The score shift of column `r`. -/
def bnd (x3 : Vec Ideal S1x128x1024 .bf16) (x6 : Vec Ideal S1x1x1x128 .f32) (r : Fin 1024) : EReal :=
  Ideal.sqrt (∑ x : Fin 96, x3 (ix3 0 ⟨x.val, by omega⟩ r) * (qs : EReal) * (x3 (ix3 0 ⟨x.val, by omega⟩ r) * (qs : EReal)))
    * x6 (ix4 0 0 0 0) * Ideal.ofBits .f32 0x3F820000#32

/-- An element of the widened queries. -/
def qaVal (x3 : Vec Ideal S1x128x1024 .bf16) (x6 : Vec Ideal S1x1x1x128 .f32) (d : Fin 128) (r : Fin 1024) : EReal :=
  if d.val < 96 then x3 (ix3 0 d r) * (qs : EReal) else if d.val = 96 then 0 - bnd x3 x6 r else 0

theorem pay8_apply (x3 : Vec Ideal S1x128x1024 .bf16) (d : Fin 96) (r : Fin 1024) :
    k0_pay8 (qRows x3) (ix3 0 d r) = x3 (ix3 0 ⟨d.val, by omega⟩ r) * (qs : EReal) := by
  unfold k0_pay8 k0_pay7
  pointwise []
  rw [qRows_apply, named_qs]

theorem pay9_gen (v1 : Vec Ideal S1x96x1024 .bf16) (v12 : Vec Ideal S1x1x1x1 .f32) (d : Fin 16) (r : Fin 1024) :
    k0_pay9 v1 v12 (ix3 0 d r) = if d.val = 0 then 0 - Ideal.sqrt (∑ x : Fin 96, v1 (ix3 0 x r) * (qs : EReal) * (v1 (ix3 0 x r) * (qs : EReal)))
      * v12 (ix4 0 0 0 0) * Ideal.ofBits .f32 0x3F820000#32 else 0 := by
  unfold k0_pay9 k0_pay7
  pointwise []
  simp only [named_qs]
  generalize Ideal.sqrt (∑ x : Fin 96, v1 (ix3 0 x r) * (qs : EReal) * (v1 (ix3 0 x r) * (qs : EReal)))
    * v12 (ix4 0 0 0 0) * Ideal.ofBits .f32 0x3F820000#32 = B
  fin_cases d <;> rfl

theorem pay9_apply (x3 : Vec Ideal S1x128x1024 .bf16) (x6 : Vec Ideal S1x1x1x128 .f32) (d : Fin 16) (r : Fin 1024) :
    k0_pay9 (qRows x3) (kBound x6) (ix3 0 d r) = if d.val = 0 then 0 - bnd x3 x6 r else 0 := by
  rw [pay9_gen]
  unfold bnd
  rw [kBound_apply, Finset.sum_congr rfl fun x _ => by rw [qRows_apply]]

theorem pay11_apply (d : Fin 16) (r : Fin 1024) : k0_pay11 (k0_pay10 (F := Ideal)) (ix3 0 d r) = 0 := by
  unfold k0_pay11 k0_pay10
  pointwise []

theorem qa_apply (x3 : Vec Ideal S1x128x1024 .bf16) (x6 : Vec Ideal S1x1x1x128 .f32) (d : Fin 128) (r : Fin 1024) :
    qa x3 x6 (ix3 0 d r) = qaVal x3 x6 d r := by
  unfold qa qaPieces
  canon_tiles x h using qaPieces_cover x3 x6 (ix3 0 d r)
  · obtain ⟨u, a, b, rfl⟩ : ∃ u a b, x = ix3 u a b := ⟨_, _, _, eq_ix3 x⟩
    have hu : u = 0 := Subsingleton.elim _ _
    subst hu
    rw [pay11_apply]
    unfold qaVal
    rw [if_neg, if_neg]
    · simp at h1; omega
    · simp at h1; omega
  · obtain ⟨u, a, b, rfl⟩ : ∃ u a b, x = ix3 u a b := ⟨_, _, _, eq_ix3 x⟩
    have hu : u = 0 := Subsingleton.elim _ _
    have hb : b = r := Fin.ext h2.symm
    have h1' : d.val = 96 + a.val := h1
    subst hu hb
    rw [pay9_apply]
    unfold qaVal
    rw [if_neg (show ¬ d.val < 96 by omega)]
    by_cases ha : a.val = 0
    · rw [if_pos ha, if_pos (by omega)]
    · rw [if_neg ha, if_neg (by omega)]
  · obtain ⟨u, a, b, rfl⟩ : ∃ u a b, x = ix3 u a b := ⟨_, _, _, eq_ix3 x⟩
    have hu : u = 0 := Subsingleton.elim _ _
    have hb : b = r := Fin.ext h2.symm
    have h1' : d.val = a.val := h1
    subst hu hb
    rw [pay8_apply]
    unfold qaVal
    rw [if_pos (by omega)]
    congr 3
    exact Fin.ext h1'.symm

/-- The scores: the scaled products less a shift that does not depend on the key. -/
theorem sc_qa (x3 : Vec Ideal S1x128x1024 .bf16) (K : Vec Ideal S1x1x16640x128 .bf16) (x6 : Vec Ideal S1x1x1x128 .f32) (r : Fin 1024)
    (qf : Fin 96 → ℝ) (kf : Fin 96 → ℕ → ℝ) (kb : ℝ) (hq : ∀ d : Fin 96, x3 (ix3 0 ⟨d.val, by omega⟩ r) = (qf d : EReal))
    (hk : ∀ (j : Fin 16640) (d : Fin 96), K (ix4 0 0 j ⟨d.val, by omega⟩) = (kf d j.val : EReal)) (hk1 : ∀ j : Fin 16640, K (ix4 0 0 j 96) = 1)
    (hb : x6 (ix4 0 0 0 0) = (kb : EReal)) :
    ∃ β : ℝ, ∀ j : Fin 16640, sc K (qa x3 x6) r j = (((∑ d : Fin 96, kf d j.val * qf d) * qs - β : ℝ) : EReal) := by
  have h1 : ∃ β : ℝ, bnd x3 x6 r = (β : EReal) := by
    unfold bnd
    simp only [hq, hb, ← EReal.coe_mul]
    rw [← coe_sum Finset.univ fun x : Fin 96 => qf x * qs * (qf x * qs), Ideal.sqrt_coe, if_neg (not_lt.mpr (Finset.sum_nonneg fun i _ => mul_self_nonneg _)),
      show Ideal.ofBits .f32 0x3F820000#32 = ((65 / 64 : ℝ) : EReal) from by simp [Ideal.ofBits, Ideal.ieee, -EReal.coe_mul]; norm_num]
    exact ⟨_, by rw [← EReal.coe_mul, ← EReal.coe_mul]⟩
  obtain ⟨β, hβ⟩ := h1
  refine ⟨β, fun j => ?_⟩
  unfold sc
  simp only [qa_apply]
  have e1 : ∀ f : Fin 128 → EReal, ∑ d, f d = (∑ d : Fin 96, f ⟨d.val, by omega⟩) + ∑ d : Fin 32, f ⟨96 + d.val, by omega⟩ := fun f =>
    Fin.sum_univ_add (a := 96) (b := 32) f
  rw [e1, Fin.sum_univ_succ (n := 31)]
  have e2 : ∀ d : Fin 31, K (ix4 0 0 j ⟨96 + (d.succ : Fin 32).val, by omega⟩) * qaVal x3 x6 ⟨96 + (d.succ : Fin 32).val, by omega⟩ r = 0 := fun d => by
    unfold qaVal
    rw [if_neg (by simp), if_neg (by simp), mul_zero]
  have e3 : K (ix4 0 0 j ⟨96 + (0 : Fin 32).val, by omega⟩) * qaVal x3 x6 ⟨96 + (0 : Fin 32).val, by omega⟩ r = 0 - (β : EReal) := by
    unfold qaVal
    rw [if_neg (by simp), if_pos (by simp), hβ]
    exact (congrArg (· * _) (hk1 j)).trans (one_mul _)
  have e4 : ∀ d : Fin 96, K (ix4 0 0 j ⟨d.val, by omega⟩) * qaVal x3 x6 ⟨d.val, by omega⟩ r = ((kf d j.val * qf d * qs : ℝ) : EReal) := fun d => by
    unfold qaVal
    rw [if_pos d.isLt, hk, hq, ← EReal.coe_mul, ← EReal.coe_mul, mul_assoc]
  rw [Finset.sum_congr rfl fun d _ => e4 d, Finset.sum_congr rfl fun d _ => e2 d, e3, ← coe_sum, Finset.sum_const_zero, add_zero, zero_sub,
    ← EReal.coe_neg, ← EReal.coe_add, Finset.sum_mul, sub_eq_add_neg]

end Cert.Proof.KI

end
-- ==== Proof.PI.HostTerms.lean ====
module

public import proofs.«01_k».proof.Proof.Gen.KernelIdeal.Frame
public import Idealize.ShloMosaic.Lib.Pointwise
public import Idealize.ShloMosaic.Lib.StableHlo.Run

/-! The host terms the attention call stages, read at an element. -/

@[expose] public section

set_option maxRecDepth 16384

noncomputable section

namespace Cert.Proof.KI

open Cert.KernelIdeal Cert.KernelIdeal.Gen
open Idealize.ShloMosaic Idealize.ShloMosaic.TcCoe Idealize.ShloMosaic.StableHlo

/-- The staged queries: widened to whole lanes, transposed. -/
def hq (q : FVec Ideal S2x16384x4x96 .f32) : FVec Ideal S2x512x16640 .bf16 :=
  truncf .bf16 (transpose S2x512x16640 [0, 2, 1] (shapeCast S2x16640x512 (pad S2x16640x4x128 ![0, 0, 0, 0] ![0, 256, 0, 32] ![0, 0, 0, 0] q (sitofp .f32 (constantI S_ 32 0#32)) pads_S2x16384x4x96_S2x16640x4x128_000_02560_000_0320 h_S_) shapeCasts_S2x16640x4x128_S2x16640x512) transposes_S2x16640x512_S2x512x16640_0_2_1) bitsLt_bf16_f32

/-- The rows by head and lane, transposed, read at an element. -/
theorem flat_apply (x : FVec Ideal S2x16640x4x128 .f32) (b : Fin 2) (h : Fin 4) (d : Fin 128) (j : Fin 16640) :
    truncf .bf16 (transpose S2x512x16640 [0, 2, 1] (shapeCast S2x16640x512 x shapeCasts_S2x16640x4x128_S2x16640x512) transposes_S2x16640x512_S2x512x16640_0_2_1) bitsLt_bf16_f32 (ix3 b ⟨128 * h.val + d.val, by omega⟩ j) = x (ix4 b j h d) := by
  have e1 : ∀ (y : FVec Ideal S2x16640x512 .f32) (c : Fin 512), truncf .bf16 (transpose S2x512x16640 [0, 2, 1] y transposes_S2x16640x512_S2x512x16640_0_2_1) bitsLt_bf16_f32 (ix3 b c j) = y (ix3 b j c) := by
    intro y c; pointwise []
  rw [e1]
  refine shapeCast_apply _ _ _ _ ?_
  rw [Shape.rowMajor_val_four, Shape.rowMajor_val_three]
  simp
  ring

theorem pad_apply (q : FVec Ideal S2x16384x4x96 .f32) (z : FVec Ideal S_ .f32) (b : Fin 2) (h : Fin 4) (d : Fin 96) (i : Fin 16384) :
    pad S2x16640x4x128 ![0, 0, 0, 0] ![0, 256, 0, 32] ![0, 0, 0, 0] q z pads_S2x16384x4x96_S2x16640x4x128_000_02560_000_0320 h_S_ (ix4 b ⟨i.val, by omega⟩ h ⟨d.val, by omega⟩) = q (ix4 b i h d) := by
  pointwise []
  try exact dif_pos ⟨i.isLt, d.isLt⟩

theorem hq_apply (q : FVec Ideal S2x16384x4x96 .f32) (b : Fin 2) (h : Fin 4) (d : Fin 96) (i : Fin 16384) :
    hq q (ix3 b ⟨128 * h.val + d.val, by omega⟩ ⟨i.val, by omega⟩) = q (ix4 b i h d) := by
  unfold hq
  exact (flat_apply _ b h ⟨d.val, by omega⟩ ⟨i.val, by omega⟩).trans (pad_apply q _ b h d i)

/-- Latent rows, then context rows. -/
def hvt (vc : FVec Ideal S2x256x4x128 .f32) (vl : FVec Ideal S2x16384x4x128 .f32) : FVec Ideal S2x16640x4x128 .f32 :=
  concatenate S2x16640x4x128 1 [⟨S2x16384x4x128, vl⟩, ⟨S2x256x4x128, vc⟩] concatenates_S2x16384x4x128_S2x256x4x128_S2x16640x4x128_d1

theorem hvt_apply (vc : FVec Ideal S2x256x4x128 .f32) (vl : FVec Ideal S2x16384x4x128 .f32) (b : Fin 2) (h : Fin 4) (d : Fin 128) (j : Fin 16640) :
    hvt vc vl (ix4 b j h d) = if p : j.val < 16384 then vl (ix4 b ⟨j.val, p⟩ h d) else vc (ix4 b ⟨j.val - 16384, by omega⟩ h d) := by
  unfold hvt
  pointwise []

/-- The staged values: by head and lane, then by row. -/
def hv (vc : FVec Ideal S2x256x4x128 .f32) (vl : FVec Ideal S2x16384x4x128 .f32) : FVec Ideal S2x512x16640 .bf16 :=
  truncf .bf16 (transpose S2x512x16640 [0, 2, 1] (shapeCast S2x16640x512 (hvt vc vl) shapeCasts_S2x16640x4x128_S2x16640x512) transposes_S2x16640x512_S2x512x16640_0_2_1) bitsLt_bf16_f32

theorem hv_apply (vc : FVec Ideal S2x256x4x128 .f32) (vl : FVec Ideal S2x16384x4x128 .f32) (b : Fin 2) (h : Fin 4) (d : Fin 128) (j : Fin 16640) :
    hv vc vl (ix3 b ⟨128 * h.val + d.val, by omega⟩ j) = hvt vc vl (ix4 b j h d) := by
  unfold hv
  exact flat_apply _ b h d j

/-- The keys of both row sets, by head. -/
def hkt (kc : FVec Ideal S2x256x4x96 .f32) (kl : FVec Ideal S2x16384x4x96 .f32) : FVec Ideal S2x4x16640x96 .f32 :=
  transpose S2x4x16640x96 [0, 2, 1, 3] (concatenate S2x16640x4x96 1 [⟨S2x16384x4x96, kl⟩, ⟨S2x256x4x96, kc⟩] concatenates_S2x16384x4x96_S2x256x4x96_S2x16640x4x96_d1) transposes_S2x16640x4x96_S2x4x16640x96_0_2_1_3

theorem hkt_apply (kc : FVec Ideal S2x256x4x96 .f32) (kl : FVec Ideal S2x16384x4x96 .f32) (b : Fin 2) (h : Fin 4) (d : Fin 96) (j : Fin 16640) :
    hkt kc kl (ix4 b h j d) = if p : j.val < 16384 then kl (ix4 b ⟨j.val, p⟩ h d) else kc (ix4 b ⟨j.val - 16384, by omega⟩ h d) := by
  unfold hkt
  pointwise []

theorem lanes_apply (x : FVec Ideal S2x4x16640x96 .f32) (y : FVec Ideal S2x4x16640x1 .f32) (z : FVec Ideal S2x4x16640x31 .f32) (b : Fin 2) (h : Fin 4) (d : Fin 128) (j : Fin 16640) :
    concatenate S2x4x16640x128 3 [⟨S2x4x16640x96, x⟩, ⟨S2x4x16640x1, y⟩, ⟨S2x4x16640x31, z⟩] concatenates_S2x4x16640x96_S2x4x16640x1_S2x4x16640x31_S2x4x16640x128_d3 (ix4 b h j d)
      = (if h1 : d.val < 96 then x (ix4 b h j ⟨d.val, h1⟩)
        else if h2 : d.val - 96 < 1 then y (ix4 b h j ⟨d.val - 96, h2⟩) else z (ix4 b h j ⟨d.val - 96 - 1, by omega⟩)) := by
  pointwise []

/-- The staged keys: a one after each key's own lanes, then zeros. -/
def hk (kc : FVec Ideal S2x256x4x96 .f32) (kl : FVec Ideal S2x16384x4x96 .f32) : FVec Ideal S2x4x16640x128 .bf16 :=
  truncf .bf16 (concatenate S2x4x16640x128 3 [⟨S2x4x16640x96, hkt kc kl⟩, ⟨S2x4x16640x1, broadcastInDim S2x4x16640x1 ![] bcast_S_S2x4x16640x1 (constant S_ .f32 0x3F800000#32)⟩, ⟨S2x4x16640x31, broadcastInDim S2x4x16640x31 ![] bcast_S_S2x4x16640x31 (constant S_ .f32 0x00000000#32)⟩] concatenates_S2x4x16640x96_S2x4x16640x1_S2x4x16640x31_S2x4x16640x128_d3) bitsLt_bf16_f32

theorem hk_apply (kc : FVec Ideal S2x256x4x96 .f32) (kl : FVec Ideal S2x16384x4x96 .f32) (b : Fin 2) (h : Fin 4) (j : Fin 16640) :
    (∀ d : Fin 96, hk kc kl (ix4 b h j ⟨d.val, by omega⟩) = hkt kc kl (ix4 b h j d)) ∧ hk kc kl (ix4 b h j 96) = 1 := by
  have e : ∀ (x : FVec Ideal S2x4x16640x128 .f32) (d : Fin 128), truncf .bf16 x bitsLt_bf16_f32 (ix4 b h j d) = x (ix4 b h j d) := fun x d => by pointwise []
  refine ⟨fun d => ?_, ?_⟩
  · unfold hk
    rw [e, lanes_apply, dif_pos d.isLt]
  · unfold hk
    rw [e, lanes_apply, dif_neg (by decide), dif_pos (by decide)]
    pointwise []

theorem maxred_apply (s : FVec Ideal S2x4x16640 .f32) (b : Fin 2) (h : Fin 4) :
    Host.reduce FloatOps.maximumf s (constant S_ .f32 0xFF800000#32) reducesTo_S2x4x16640_S2x4_d2 h_S_ (ix2 b h) = Finset.univ.fold max (Ideal.ofBits .f32 0xFF800000#32) fun j : Fin 16640 => s (ix3 b h j) := by
  pointwise []

theorem sqsum_apply (x : FVec Ideal S2x4x16640x96 .f32) (b : Fin 2) (h : Fin 4) (j : Fin 16640) :
    Host.reduceAdd (mulf (extf .f32 (truncf .bf16 x bitsLt_bf16_f32) bitsLt_bf16_f32) (extf .f32 (truncf .bf16 x bitsLt_bf16_f32) bitsLt_bf16_f32)) (constant S_ .f32 0x00000000#32) reducesTo_S2x4x16640x96_S2x4x16640_d3 h_S_ (ix3 b h j)
      = ∑ y : Fin 96, x (ix4 b h j y) * x (ix4 b h j y) := by
  pointwise []

theorem spread_apply (x : FVec Ideal S2x4 .f32) (b : Fin 2) (h : Fin 4) (j : Fin 128) :
    broadcastInDim S2x4x1x128 ![0, 1, 2, 3] bcast_S2x4x1x1_S2x4x1x128_0_1_2_3 (broadcastInDim S2x4x1x1 ![0, 1] bcast_S2x4_S2x4x1x1_0_1 (Host.sqrt x)) (ix4 b h 0 j) = Ideal.sqrt (x (ix2 b h)) := by
  pointwise []

/-- The largest key norm of each head. -/
def hm (kc : FVec Ideal S2x256x4x96 .f32) (kl : FVec Ideal S2x16384x4x96 .f32) : FVec Ideal S2x4x1x128 .f32 :=
  broadcastInDim S2x4x1x128 ![0, 1, 2, 3] bcast_S2x4x1x1_S2x4x1x128_0_1_2_3 (broadcastInDim S2x4x1x1 ![0, 1] bcast_S2x4_S2x4x1x1_0_1 (Host.sqrt (Host.reduce FloatOps.maximumf (Host.reduceAdd (mulf (extf .f32 (truncf .bf16 (hkt kc kl) bitsLt_bf16_f32) bitsLt_bf16_f32) (extf .f32 (truncf .bf16 (hkt kc kl) bitsLt_bf16_f32) bitsLt_bf16_f32)) (constant S_ .f32 0x00000000#32) reducesTo_S2x4x16640x96_S2x4x16640_d3 h_S_) (constant S_ .f32 0xFF800000#32) reducesTo_S2x4x16640_S2x4_d2 h_S_)))

theorem hm_apply (kc : FVec Ideal S2x256x4x96 .f32) (kl : FVec Ideal S2x16384x4x96 .f32) (b : Fin 2) (h : Fin 4) (j : Fin 128) :
    hm kc kl (ix4 b h 0 j) = Ideal.sqrt (Finset.univ.fold max (Ideal.ofBits .f32 0xFF800000#32)
      fun x : Fin 16640 => ∑ y : Fin 96, hkt kc kl (ix4 b h x y) * hkt kc kl (ix4 b h x y)) := by
  unfold hm
  rw [spread_apply, maxred_apply]
  simp only [sqsum_apply]

/-- The array of zeros the call's result starts as. -/
def hz : FVec Ideal S2x16640x512 .bf16 := broadcastInDim S2x16640x512 ![] bcast_S_S2x16640x512 (constant S_ .bf16 0x0000#16)

theorem hz_apply (b : Fin 2) (i : Fin 16640) (y : Fin 512) : hz (ix3 b i y) = 0 := by
  unfold hz
  pointwise []

end Cert.Proof.KI

end
-- ==== Proof.PI.HostQ.lean ====
module

public import proofs.«01_k».proof.Proof.Gen.KernelIdeal.Frame
public import Idealize.ShloMosaic.Lib.Pointwise
public import Idealize.ShloMosaic.Lib.StableHlo.Run
public import proofs.«01_k».proof.Proof.PI.HostTerms

/-! What the host leaves in one array of the attention call. -/

@[expose] public section

set_option maxRecDepth 16384

noncomputable section

namespace Cert.Proof.KI

open Cert.KernelIdeal Cert.KernelIdeal.Gen
open Idealize.ShloMosaic Idealize.ShloMosaic.TcCoe Idealize.ShloMosaic.StableHlo

variable (m : (ℓ : Loc nD τ sig) → Buf (Elt Ideal) ℓ) (c : Dev nD)

theorem V_main_v3 : V m c main_v3 = hq (m ((c : Thread nD τ).loc main_arg0)) := by
  unfold V
  simp only [hostOps0, hostOps0_1, hostOps0_2, List.flatten_cons, List.flatten_nil, List.append_nil, List.cons_append, List.nil_append, TRef.binary, TRef.unary, TRef.toBuf, TRef.ofBuf, cast_eq]
  after_results_simp <;> rfl

end Cert.Proof.KI

end
-- ==== Proof.PI.HostK.lean ====
module

public import proofs.«01_k».proof.Proof.Gen.KernelIdeal.Frame
public import Idealize.ShloMosaic.Lib.Pointwise
public import Idealize.ShloMosaic.Lib.StableHlo.Run
public import proofs.«01_k».proof.Proof.PI.HostTerms

/-! What the host leaves in one array of the attention call. -/

@[expose] public section

set_option maxRecDepth 16384

noncomputable section

namespace Cert.Proof.KI

open Cert.KernelIdeal Cert.KernelIdeal.Gen
open Idealize.ShloMosaic Idealize.ShloMosaic.TcCoe Idealize.ShloMosaic.StableHlo

variable (m : (ℓ : Loc nD τ sig) → Buf (Elt Ideal) ℓ) (c : Dev nD)

theorem V_main_v9 : V m c main_v9 = hk (m ((c : Thread nD τ).loc main_arg1)) (m ((c : Thread nD τ).loc main_arg2)) := by
  unfold V
  simp only [hostOps0, hostOps0_1, hostOps0_2, List.flatten_cons, List.flatten_nil, List.append_nil, List.cons_append, List.nil_append, TRef.binary, TRef.unary, TRef.toBuf, TRef.ofBuf, cast_eq]
  after_results_simp <;> rfl

end Cert.Proof.KI

end
-- ==== Proof.PI.HostM.lean ====
module

public import proofs.«01_k».proof.Proof.Gen.KernelIdeal.Frame
public import Idealize.ShloMosaic.Lib.Pointwise
public import Idealize.ShloMosaic.Lib.StableHlo.Run
public import proofs.«01_k».proof.Proof.PI.HostTerms

/-! What the host leaves in one array of the attention call. -/

@[expose] public section

set_option maxRecDepth 16384

noncomputable section

namespace Cert.Proof.KI

open Cert.KernelIdeal Cert.KernelIdeal.Gen
open Idealize.ShloMosaic Idealize.ShloMosaic.TcCoe Idealize.ShloMosaic.StableHlo

variable (m : (ℓ : Loc nD τ sig) → Buf (Elt Ideal) ℓ) (c : Dev nD)

theorem V_main_v17 : V m c main_v17 = hm (m ((c : Thread nD τ).loc main_arg1)) (m ((c : Thread nD τ).loc main_arg2)) := by
  unfold V
  simp only [hostOps0, hostOps0_1, hostOps0_2, List.flatten_cons, List.flatten_nil, List.append_nil, List.cons_append, List.nil_append, TRef.binary, TRef.unary, TRef.toBuf, TRef.ofBuf, cast_eq]
  after_results_simp <;> rfl

end Cert.Proof.KI

end
-- ==== Proof.PI.HostV.lean ====
module

public import proofs.«01_k».proof.Proof.Gen.KernelIdeal.Frame
public import Idealize.ShloMosaic.Lib.Pointwise
public import Idealize.ShloMosaic.Lib.StableHlo.Run
public import proofs.«01_k».proof.Proof.PI.HostTerms

/-! What the host leaves in one array of the attention call. -/

@[expose] public section

set_option maxRecDepth 16384

noncomputable section

namespace Cert.Proof.KI

open Cert.KernelIdeal Cert.KernelIdeal.Gen
open Idealize.ShloMosaic Idealize.ShloMosaic.TcCoe Idealize.ShloMosaic.StableHlo

variable (m : (ℓ : Loc nD τ sig) → Buf (Elt Ideal) ℓ) (c : Dev nD)

theorem V_main_v21 : V m c main_v21 = hv (m ((c : Thread nD τ).loc main_arg3)) (m ((c : Thread nD τ).loc main_arg4)) := by
  unfold V
  simp only [hostOps0, hostOps0_1, hostOps0_2, List.flatten_cons, List.flatten_nil, List.append_nil, List.cons_append, List.nil_append, TRef.binary, TRef.unary, TRef.toBuf, TRef.ofBuf, cast_eq]
  after_results_simp <;> rfl

end Cert.Proof.KI

end
-- ==== Proof.PI.HostZ.lean ====
module

public import proofs.«01_k».proof.Proof.Gen.KernelIdeal.Frame
public import Idealize.ShloMosaic.Lib.Pointwise
public import Idealize.ShloMosaic.Lib.StableHlo.Run
public import proofs.«01_k».proof.Proof.PI.HostTerms

/-! What the host leaves in one array of the attention call. -/

@[expose] public section

set_option maxRecDepth 16384

noncomputable section

namespace Cert.Proof.KI

open Cert.KernelIdeal Cert.KernelIdeal.Gen
open Idealize.ShloMosaic Idealize.ShloMosaic.TcCoe Idealize.ShloMosaic.StableHlo

variable (m : (ℓ : Loc nD τ sig) → Buf (Elt Ideal) ℓ) (c : Dev nD)

theorem V_main_v23 : V m c main_v23 = hz := by
  unfold V
  simp only [hostOps0, hostOps0_1, hostOps0_2, List.flatten_cons, List.flatten_nil, List.append_nil, List.cons_append, List.nil_append, TRef.binary, TRef.unary, TRef.toBuf, TRef.ofBuf, cast_eq]
  after_results_simp <;> rfl

end Cert.Proof.KI

end
-- ==== Proof.Spec.lean ====
module

public import proofs.«01_k».proof.Proof.Softmax
public import Idealize.ShloMosaic.Lib.Pointwise

/-! The result both programs compute, as a function of the call's arguments. -/

@[expose] public section

noncomputable section

namespace Cert.Proof.Sm

open Idealize.ShloMosaic

/-- Lane `d` of head `h` in row `j` of batch `b`: the latent rows, then the context rows. -/
def cat {H D : ℕ} (lat : FVec Ideal ⟨4, ![2, 16384, H, D]⟩ .f32) (ctx : FVec Ideal ⟨4, ![2, 256, H, D]⟩ .f32) (b : Fin 2) (h : Fin H) (d : Fin D) (j : ℕ) : EReal :=
  if p : j < 16384 then lat (ix4 b ⟨j, p⟩ h d) else if p : j - 16384 < 256 then ctx (ix4 b ⟨j - 16384, p⟩ h d) else 0

/-- The scaled score of query `i` against row `j`. -/
def tsc (q : FVec Ideal ⟨4, ![2, 16384, 4, 96]⟩ .f32) (kc : FVec Ideal ⟨4, ![2, 256, 4, 96]⟩ .f32) (kl : FVec Ideal ⟨4, ![2, 16384, 4, 96]⟩ .f32)
    (b : Fin 2) (h : Fin 4) (i : Fin 16384) (j : ℕ) : ℝ :=
  (∑ d : Fin 96, (cat kl kc b h d j).toReal * (q (ix4 b i h d)).toReal) * (3424635 / 33554432)

/-- The result: attention in the latent rows, zeros in the context rows. -/
def goal (q : FVec Ideal ⟨4, ![2, 16384, 4, 96]⟩ .f32) (kc : FVec Ideal ⟨4, ![2, 256, 4, 96]⟩ .f32) (kl : FVec Ideal ⟨4, ![2, 16384, 4, 96]⟩ .f32)
    (vc : FVec Ideal ⟨4, ![2, 256, 4, 128]⟩ .f32) (vl : FVec Ideal ⟨4, ![2, 16384, 4, 128]⟩ .f32) : FVec Ideal ⟨3, ![2, 16640, 512]⟩ .bf16 := fun x =>
  have hx : (x 2).val < 512 := (x 2).isLt
  if p : (x 1).val < 16384 then
    attn (tsc q kc kl (x 0) ⟨(x 2).val / 128, by omega⟩ ⟨(x 1).val, p⟩) (cat vl vc (x 0) ⟨(x 2).val / 128, by omega⟩ ⟨(x 2).val % 128, by omega⟩) 16640
  else (0 : EReal)

section
variable (q : FVec Ideal ⟨4, ![2, 16384, 4, 96]⟩ .f32) (kc : FVec Ideal ⟨4, ![2, 256, 4, 96]⟩ .f32) (kl : FVec Ideal ⟨4, ![2, 16384, 4, 96]⟩ .f32)
  (vc : FVec Ideal ⟨4, ![2, 256, 4, 128]⟩ .f32) (vl : FVec Ideal ⟨4, ![2, 16384, 4, 128]⟩ .f32)

theorem goal_apply (b : Fin 2) (i : Fin 16384) (h : Fin 4) (e : Fin 128) (i' : Fin 16640) (y : Fin 512) (hi : i'.val = i.val) (hy : y.val = 128 * h.val + e.val) :
    goal q kc kl vc vl (ix3 b i' y) = attn (tsc q kc kl b h i) (cat vl vc b h e) 16640 := by
  have b1 : i.val < 16640 := by have := i.isLt; omega
  have b2 : 128 * h.val + e.val < 512 := by have := h.isLt; have := e.isLt; omega
  have e1 : i' = ⟨i.val, b1⟩ := Fin.ext hi
  have e2 : y = ⟨128 * h.val + e.val, b2⟩ := Fin.ext hy
  clear hi hy
  subst e1 e2
  have h1 : (⟨(128 * h.val + e.val) / 128, by omega⟩ : Fin 4) = h := Fin.ext (by simp only []; omega)
  have h2 : (⟨(128 * h.val + e.val) % 128, by omega⟩ : Fin 128) = e := Fin.ext (by simp only []; omega)
  unfold goal
  refine (dif_pos i.isLt).trans ?_
  show attn (tsc q kc kl b (⟨(128 * h.val + e.val) / 128, by omega⟩ : Fin 4) i)
    (cat vl vc b (⟨(128 * h.val + e.val) / 128, by omega⟩ : Fin 4) (⟨(128 * h.val + e.val) % 128, by omega⟩ : Fin 128)) 16640 = _
  rw [h1, h2]

theorem goal_pad (b : Fin 2) (i : Fin 16640) (y : Fin 512) (hi : ¬ i.val < 16384) : goal q kc kl vc vl (ix3 b i y) = 0 := by
  unfold goal
  exact dif_neg hi

end

/-- A vector of finite elements. -/
def Fin' {s : Shape} (x : FVec Ideal s .f32) : Prop := ∀ i, x i = ((EReal.toReal (x i) : ℝ) : EReal)

theorem cat_real {H D : ℕ} (lat : FVec Ideal ⟨4, ![2, 16384, H, D]⟩ .f32) (ctx : FVec Ideal ⟨4, ![2, 256, H, D]⟩ .f32) (hl : Fin' lat) (hc : Fin' ctx)
    (b : Fin 2) (h : Fin H) (d : Fin D) (j : ℕ) : cat lat ctx b h d j = ((cat lat ctx b h d j).toReal : EReal) := by
  unfold cat
  split_ifs
  · exact hl _
  · exact hc _
  · rfl

end Cert.Proof.Sm

end
-- ==== Proof.PI.Blocks.lean ====
module

public import proofs.«01_k».proof.Proof.PI.Run
public import proofs.«01_k».proof.Proof.PI.Widen
public import proofs.«01_k».proof.Proof.PI.HostQ
public import proofs.«01_k».proof.Proof.PI.HostK
public import proofs.«01_k».proof.Proof.PI.HostM
public import proofs.«01_k».proof.Proof.PI.HostV
public import proofs.«01_k».proof.Proof.PI.HostZ
public import proofs.«01_k».proof.Proof.Spec

/-! The blocks of one grid point, read at an element of the arguments, and the block it leaves. -/

@[expose] public section

set_option maxRecDepth 16384

noncomputable section

namespace Cert.Proof.KI

open Cert.KernelIdeal Cert.KernelIdeal.Gen
open Idealize.ShloMosaic Idealize.ShloMosaic.TcCoe Cert.Proof.Sm

theorem idx0 : ∀ t : Fin grid0.N, win0_0.index t = ![t.val / 64, t.val / 16 % 4, t.val % 16] := by decide +kernel
theorem idx1 : ∀ t : Fin grid0.N, win0_1.index t = ![t.val / 64, t.val / 16 % 4, 0, 0] := by decide +kernel
theorem idx2 : ∀ t : Fin grid0.N, win0_2.index t = ![t.val / 64, t.val / 16 % 4, 0] := by decide +kernel
theorem idx3 : ∀ t : Fin grid0.N, win0_3.index t = ![t.val / 64, t.val / 16 % 4, 0, 0] := by decide +kernel
theorem idx4 : ∀ t : Fin grid0.N, win0_4.index t = ![t.val / 64, t.val % 16, t.val / 16 % 4] := by decide +kernel
theorem points : grid0.N = 128 := by decide +kernel

/-- A point's batch, head and query tile. -/
def pb (t : Fin cfg0.N) : Fin 2 := ⟨t.val / 64, by have := Nat.lt_of_lt_of_le t.isLt points.le; omega⟩
def ph (t : Fin cfg0.N) : Fin 4 := ⟨t.val / 16 % 4, by omega⟩
def pq (t : Fin cfg0.N) : Fin 16 := ⟨t.val % 16, by omega⟩

variable (m : (ℓ : Loc nD τ sig) → Buf (Elt Ideal) ℓ) (c : Dev nD) (t : Fin cfg0.N)

theorem ext3 {n0 n1 n2 : ℕ} (x y : (⟨3, ![n0, n1, n2]⟩ : Shape).Idx) (h0 : (x 0).val = (y 0).val) (h1 : (x 1).val = (y 1).val) (h2 : (x 2).val = (y 2).val) : x = y := by
  funext a; apply Fin.ext; fin_cases a; exacts [h0, h1, h2]

theorem X0_fill (j : (cfg0.win 0).block.Idx) :
    X0_0 m c t j = iblk m c 0 t (fun a => ⟨(j a).val, ((cfg0.win 0).moved_iff _ j).mp (moved0_0 t j) a⟩) := by
  unfold X0_0
  generalize iblk m c 0 t = g
  unfold Pipeline.Window.fill
  exact dif_pos (moved0_0 t j)

theorem emb0_0 (y : ((cfg0.win 0).xblock (cfg0.grid.coords t)).Idx) :
    (((cfg0.win 0).blk t).view.emb y 0).val = t.val / 64 * 1 + (y 0).val := by
  blk_simp [idx0]

theorem emb0_1 (y : ((cfg0.win 0).xblock (cfg0.grid.coords t)).Idx) :
    (((cfg0.win 0).blk t).view.emb y 1).val = t.val / 16 % 4 * 128 + (y 1).val := by
  blk_simp [idx0]

theorem emb0_2 (y : ((cfg0.win 0).xblock (cfg0.grid.coords t)).Idx) :
    (((cfg0.win 0).blk t).view.emb y 2).val = t.val % 16 * 1024 + (y 2).val := by
  blk_simp [idx0]

theorem emb2_0 (y : ((cfg0.win 2).xblock (cfg0.grid.coords t)).Idx) :
    (((cfg0.win 2).blk t).view.emb y 0).val = t.val / 64 * 1 + (y 0).val := by
  blk_simp [idx2]

theorem emb2_1 (y : ((cfg0.win 2).xblock (cfg0.grid.coords t)).Idx) :
    (((cfg0.win 2).blk t).view.emb y 1).val = t.val / 16 % 4 * 128 + (y 1).val := by
  blk_simp [idx2]

theorem emb2_2 (y : ((cfg0.win 2).xblock (cfg0.grid.coords t)).Idx) :
    (((cfg0.win 2).blk t).view.emb y 2).val = (y 2).val := by
  blk_simp [idx2]

theorem iblk0_gen (y : ((cfg0.win 0).xblock (cfg0.grid.coords t)).Idx) (Y : S2x512x16640.Idx) (h : ((cfg0.win 0).blk t).view.emb y = Y) :
    iblk m c 0 t y = V m c main_v3 Y := by
  unfold iblk
  rw [View.read_apply]
  generalize V m c = W
  refine eq_of_heq ((cast_heq _ _).trans ?_)
  rw [h]

theorem iblk2_gen (y : ((cfg0.win 2).xblock (cfg0.grid.coords t)).Idx) (Y : S2x512x16640.Idx) (h : ((cfg0.win 2).blk t).view.emb y = Y) :
    iblk m c 2 t y = V m c main_v21 Y := by
  unfold iblk
  rw [View.read_apply]
  generalize V m c = W
  refine eq_of_heq ((cast_heq _ _).trans ?_)
  rw [h]

theorem X0_apply (y : Fin 128) (r : Fin 1024) (b : Fin 2) (k : Fin 512) (i : Fin 16640) (hb : b.val = t.val / 64) (hk : k.val = 128 * (t.val / 16 % 4) + y.val)
    (hi : i.val = 1024 * (t.val % 16) + r.val) : X0_0 m c t (ix3 0 y r) = V m c main_v3 (ix3 b k i) := by
  refine (X0_fill m c t _).trans (iblk0_gen m c t _ _ (ext3 _ _ ?_ ?_ ?_))
  · refine (emb0_0 t _).trans ?_
    show t.val / 64 * 1 + 0 = b.val
    omega
  · refine (emb0_1 t _).trans ?_
    show t.val / 16 % 4 * 128 + y.val = k.val
    omega
  · refine (emb0_2 t _).trans ?_
    show t.val % 16 * 1024 + r.val = i.val
    omega

theorem iblk2_apply (e : Fin 128) (j : Fin 16640) (b : Fin 2) (k : Fin 512) (hb : b.val = t.val / 64) (hk : k.val = 128 * (t.val / 16 % 4) + e.val) :
    iblk m c 2 t (ix3 0 e j) = V m c main_v21 (ix3 b k j) := by
  refine iblk2_gen m c t _ _ (ext3 _ _ ?_ ?_ ?_)
  · refine (emb2_0 t _).trans ?_
    show t.val / 64 * 1 + 0 = b.val
    omega
  · refine (emb2_1 t _).trans ?_
    show t.val / 16 % 4 * 128 + e.val = k.val
    omega
  · exact emb2_2 t _

theorem iblk1_apply (j : Fin 16640) (d : Fin 128) : iblk m c 1 t (ix4 0 0 j d) = V m c main_v9 (ix4 (pb t) (ph t) j d) := by
  unfold iblk
  refine congrArg (V m c main_v9) ?_
  funext a
  apply Fin.ext
  fin_cases a <;> blk_simp [idx1] <;> rfl

theorem iblk3_apply : iblk m c 3 t (ix4 0 0 0 0) = V m c main_v17 (ix4 (pb t) (ph t) 0 0) := by
  unfold iblk
  refine congrArg (V m c main_v17) ?_
  funext a
  apply Fin.ext
  fin_cases a <;> blk_simp [idx3] <;> rfl

end Cert.Proof.KI

end
-- ==== Proof.PI.Value.lean ====
module

public import proofs.«01_k».proof.Proof.PI.Widen
public import proofs.«01_k».proof.Proof.PI.HostTerms
public import proofs.«01_k».proof.Proof.Spec

/-! One grid point's block, from blocks that read the arguments. -/

@[expose] public section

set_option maxRecDepth 16384

noncomputable section

namespace Cert.Proof.KI

open Cert.KernelIdeal Cert.KernelIdeal.Gen
open Idealize.ShloMosaic Idealize.ShloMosaic.TcCoe Cert.Proof.Sm

theorem hkt_cat (kc : FVec Ideal S2x256x4x96 .f32) (kl : FVec Ideal S2x16384x4x96 .f32) (b : Fin 2) (h : Fin 4) (j : Fin 16640) (d : Fin 96) :
    hkt kc kl (ix4 b h j d) = cat kl kc b h d j.val := by
  rw [hkt_apply]
  unfold cat
  by_cases p : j.val < 16384
  · rw [dif_pos p, dif_pos p]
  · rw [dif_neg p, dif_neg p, dif_pos (by have := j.isLt; omega)]

theorem hvt_cat (vc : FVec Ideal S2x256x4x128 .f32) (vl : FVec Ideal S2x16384x4x128 .f32) (b : Fin 2) (h : Fin 4) (j : Fin 16640) (d : Fin 128) :
    hvt vc vl (ix4 b j h d) = cat vl vc b h d j.val := by
  rw [hvt_apply]
  unfold cat
  by_cases p : j.val < 16384
  · rw [dif_pos p, dif_pos p]
  · rw [dif_neg p, dif_neg p, dif_pos (by have := j.isLt; omega)]

theorem hm_real (kc : FVec Ideal S2x256x4x96 .f32) (kl : FVec Ideal S2x16384x4x96 .f32) (hc : Fin' kc) (hl : Fin' kl) (b : Fin 2) (h : Fin 4) (j : Fin 128) :
    ∃ M : ℝ, hm kc kl (ix4 b h 0 j) = M := by
  rw [hm_apply]
  have e : ∀ x : Fin 16640, (∑ y : Fin 96, hkt kc kl (ix4 b h x y) * hkt kc kl (ix4 b h x y))
      = ((∑ y : Fin 96, (cat kl kc b h y x.val).toReal * (cat kl kc b h y x.val).toReal : ℝ) : EReal) := fun x => by
    rw [coe_sum]
    refine Finset.sum_congr rfl fun y _ => ?_
    rw [hkt_cat, EReal.coe_mul, ← cat_real kl kc hl hc]
  simp only [e, ofBits_bot]
  obtain ⟨M, hM⟩ := fold_max_real (Finset.univ : Finset (Fin 16640)) ⟨0, Finset.mem_univ _⟩
    (fun x => ∑ y : Fin 96, (cat kl kc b h y x.val).toReal * (cat kl kc b h y x.val).toReal)
  have h0 : (0 : ℝ) ≤ M := by
    have h1 : (((∑ y : Fin 96, (cat kl kc b h y (0 : Fin 16640).val).toReal * (cat kl kc b h y (0 : Fin 16640).val).toReal : ℝ)) : EReal) ≤ (M : EReal) := by
      rw [← hM]
      exact Finset.le_fold_max _ |>.mpr (.inr ⟨0, Finset.mem_univ _, le_rfl⟩)
    exact (Finset.sum_nonneg fun y _ => mul_self_nonneg _).trans (EReal.coe_le_coe_iff.mp h1)
  rw [hM]
  exact ⟨Real.sqrt M, by rw [Ideal.sqrt_coe, if_neg (not_lt.mpr h0)]⟩

theorem out_val (q : FVec Ideal S2x16384x4x96 .f32) (kc : FVec Ideal S2x256x4x96 .f32) (kl : FVec Ideal S2x16384x4x96 .f32)
    (vc : FVec Ideal S2x256x4x128 .f32) (vl : FVec Ideal S2x16384x4x128 .f32) (hq : Fin' q) (hc : Fin' kc) (hl : Fin' kl)
    (x3 : Vec Ideal S1x128x1024 .bf16) (K : Vec Ideal S1x1x16640x128 .bf16) (V : Vec Ideal S1x128x16640 .bf16) (x6 : Vec Ideal S1x1x1x128 .f32)
    (b : Fin 2) (h : Fin 4) (i : Fin 16384) (r : Fin 1024) (e : Fin 128)
    (hx3 : ∀ d : Fin 96, x3 (ix3 0 ⟨d.val, by omega⟩ r) = q (ix4 b i h d))
    (hK : ∀ (j : Fin 16640) (d : Fin 128), K (ix4 0 0 j d) = hk kc kl (ix4 b h j d))
    (hV : ∀ (e : Fin 128) (j : Fin 16640), V (ix3 0 e j) = hv vc vl (ix3 b ⟨128 * h.val + e.val, by omega⟩ j))
    (hx6 : x6 (ix4 0 0 0 0) = hm kc kl (ix4 b h 0 0)) :
    outB (F := Ideal) x3 K V x6 (ix3 0 r e) = attn (tsc q kc kl b h i) (cat vl vc b h e) 16640 := by
  obtain ⟨M, hM⟩ := hm_real kc kl hc hl b h 0
  obtain ⟨β, hβ⟩ := sc_qa x3 K x6 r (fun d => (q (ix4 b i h d)).toReal) (fun d j => (cat kl kc b h d j).toReal) M
    (fun d => (hx3 d).trans (hq _)) (fun j d => by rw [hK, (hk_apply kc kl b h j).1 d, hkt_cat]; exact cat_real kl kc hl hc b h d j.val)
    (fun j => by rw [hK, (hk_apply kc kl b h j).2]) (hx6.trans hM)
  refine outB_apply x3 K V x6 r e (fun x => (∑ d : Fin 96, (cat kl kc b h d x).toReal * (q (ix4 b i h d)).toReal) * qs - β) (tsc q kc kl b h i)
    (fun e j => cat vl vc b h e j) (β * Real.log 2) hβ (fun e j => by rw [hV, hv_apply, hvt_cat]) fun x _ => ?_
  have hlog : Real.log 2 ≠ 0 := (Real.log_pos one_lt_two).ne'
  unfold tsc qs
  field_simp

end Cert.Proof.KI

end
-- ==== Proof.PI.Out.lean ====
module

public import proofs.«01_k».proof.Proof.PI.Blocks
public import proofs.«01_k».proof.Proof.PI.Value
public import Idealize.ShloMosaic.Lib.Pipeline.ValueKit
public import Idealize.ShloMosaic.Lib.Claim

/-! The kernel's output array is the attention of the arguments. -/

@[expose] public section

set_option maxRecDepth 16384

noncomputable section

namespace Cert.Proof.KI

open Cert.KernelIdeal Cert.KernelIdeal.Gen
open Idealize.ShloMosaic Idealize.ShloMosaic.TcCoe Cert.Proof.Sm

variable (m : (ℓ : Loc nD τ sig) → Buf (Elt Ideal) ℓ) (c : Dev nD)

/-- The result as a function of the launched arguments. -/
def res : FVec Ideal S2x16640x512 .bf16 :=
  goal (m ((c : Thread nD τ).loc main_arg0)) (m ((c : Thread nD τ).loc main_arg1)) (m ((c : Thread nD τ).loc main_arg2))
    (m ((c : Thread nD τ).loc main_arg3)) (m ((c : Thread nD τ).loc main_arg4))

/-- The arguments the scores are made of are finite. -/
def Real3 : Prop :=
  Fin' (s := S2x16384x4x96) (m ((c : Thread nD τ).loc main_arg0)) ∧ Fin' (s := S2x256x4x96) (m ((c : Thread nD τ).loc main_arg1)) ∧
    Fin' (s := S2x16384x4x96) (m ((c : Thread nD τ).loc main_arg2))

theorem out_point (hf : Real3 m c) (t : Fin cfg0.N) (r : Fin 1024) (e : Fin 128) (i : Fin 16384) (hi : i.val = 1024 * (t.val % 16) + r.val) :
    outAt (F := Ideal) m c t (ix3 0 r e) = attn (tsc (m ((c : Thread nD τ).loc main_arg0)) (m ((c : Thread nD τ).loc main_arg1)) (m ((c : Thread nD τ).loc main_arg2)) (pb t) (ph t) i)
      (cat (m ((c : Thread nD τ).loc main_arg4)) (m ((c : Thread nD τ).loc main_arg3)) (pb t) (ph t) e) 16640 := by
  unfold outAt
  refine out_val _ _ _ _ _ hf.1 hf.2.1 hf.2.2 _ _ _ _ (pb t) (ph t) i r e (fun d => ?_) (fun j d => ?_) (fun e j => ?_) ?_
  · refine (X0_apply m c t ⟨d.val, by omega⟩ r (pb t) ⟨128 * (ph t).val + d.val, by have := (ph t).isLt; omega⟩ ⟨i.val, by omega⟩ rfl rfl hi).trans ?_
    rw [V_main_v3, hq_apply]
  · rw [iblk1_apply, V_main_v9]
  · refine (iblk2_apply m c t e j (pb t) ⟨128 * (ph t).val + e.val, by have := (ph t).isLt; omega⟩ rfl rfl).trans ?_
    rw [V_main_v21]
  · rw [iblk3_apply, V_main_v17]

theorem emb4_0 (t : Fin cfg0.N) (y : ((cfg0.win 4).xblock (cfg0.grid.coords t)).Idx) :
    (((cfg0.win 4).blk t).view.emb y 0).val = t.val / 64 * 1 + (y 0).val := by
  blk_simp [idx4]
theorem emb4_1 (t : Fin cfg0.N) (y : ((cfg0.win 4).xblock (cfg0.grid.coords t)).Idx) :
    (((cfg0.win 4).blk t).view.emb y 1).val = t.val % 16 * 1024 + (y 1).val := by
  blk_simp [idx4]
theorem emb4_2 (t : Fin cfg0.N) (y : ((cfg0.win 4).xblock (cfg0.grid.coords t)).Idx) :
    (((cfg0.win 4).blk t).view.emb y 2).val = t.val / 16 % 4 * 128 + (y 2).val := by
  blk_simp [idx4]

theorem goal_emb (hf : Real3 m c) (t : Fin cfg0.N) (x : S1x1024x128.Idx) (Y : S2x16640x512.Idx) (h0 : (Y 0).val = t.val / 64 * 1 + (x 0).val)
    (h1 : (Y 1).val = t.val % 16 * 1024 + (x 1).val) (h2 : (Y 2).val = t.val / 16 % 4 * 128 + (x 2).val) : outAt m c t x = res m c Y := by
  obtain ⟨z, r, e, rfl⟩ : ∃ z r e, x = ix3 z r e := ⟨_, _, _, eq_ix3 x⟩
  obtain ⟨b, i, y, rfl⟩ : ∃ b i y, Y = ix3 b i y := ⟨_, _, _, eq_ix3 Y⟩
  obtain rfl : z = 0 := Subsingleton.elim _ _
  have h0' : b.val = t.val / 64 := by
    have : b.val = t.val / 64 * 1 + 0 := h0
    omega
  have h1' : i.val = t.val % 16 * 1024 + r.val := h1
  have h2' : y.val = t.val / 16 % 4 * 128 + e.val := h2
  have hb : b = pb t := Fin.ext h0'
  have hi : i.val < 16384 := by have := r.isLt; omega
  rw [hb]
  refine (out_point m c hf t r e ⟨i.val, hi⟩ (by simp only []; omega)).trans ?_
  exact (goal_apply _ _ _ _ _ (pb t) ⟨i.val, hi⟩ (ph t) e i y rfl (by unfold ph; simp only []; omega)).symm

theorem zero_rows (Y : S2x16640x512.Idx) (h : ¬ (Y 1).val < 16384) : V m c main_v23 Y = res m c Y := by
  obtain ⟨b, i, y, rfl⟩ : ∃ b i y, Y = ix3 b i y := ⟨_, _, _, eq_ix3 Y⟩
  rw [V_main_v23, hz_apply]
  exact (goal_pad _ _ _ _ _ b i y h).symm

theorem out_array (hf : Real3 m c) : (dats m 0 c).arrAt 4 cfg0.N = res m c := by
  refine (dats m 0 c).arrAt_eq_of_coversWhere_of_agree 4 (res m c) (fun β => β (1 : Fin 3) < 16) (by decide +kernel) (fun t _ y => ?_) (fun j hj => ?_)
  · refine eq_of_heq ((cast_heq _ _).trans ?_)
    rw [after4]
    exact heq_of_eq (goal_emb m c hf t _ _ (emb4_0 t y) (emb4_1 t y) (emb4_2 t y))
  · rw [A_eq]
    refine zero_rows m c _ fun h => hj ?_
    have h' : (j 1).val < 16384 := h
    rw [Pipeline.Window.cell_apply]
    show (j 1).val / 1024 < 16
    omega

/-- The run: the result is `res` and the arguments are unchanged. -/
theorem value (ρ : Dev nD → PrngReg) (hf : ∀ c, Real3 m c) : θ_run defs (onTc (τ := τ) (main (F := Ideal))) ⟨m, fun _ => 0, ρ⟩ (fun r => ∀ c : Dev nD,
    r.2.mem ((c.tc : Thread nD τ).loc main_v23) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1.1 c).1 4).trans (out_array m c (hf c)), h.2.1 c⟩)
    (θ_run_and (run_main m ρ) (frame m ρ))

end Cert.Proof.KI

end
-- ==== Proof.RI.lean ====
module

public import proofs.«01_k».proof.Proof.Gen.ReferenceIdeal.Run
public import proofs.«01_k».proof.Proof.Softmax
public import Idealize.ShloMosaic.Lib.Pointwise

/-! The reference's result, read at an element. -/

@[expose] public section

set_option maxRecDepth 16384

noncomputable section

namespace Cert.Proof.RI

open Cert.ReferenceIdeal Cert.ReferenceIdeal.Gen Cert.ReferenceIdeal.Value
open Idealize.ShloMosaic Cert.Proof.Sm Idealize.ShloMosaic.TcCoe

/-- The keys, context rows first. -/
def rK (kc : FVec Ideal S2x256x4x96 .f32) (kl : FVec Ideal S2x16384x4x96 .f32) : FVec Ideal S2x4x16640x96 .f32 :=
  concatenate S2x4x16640x96 2 [⟨S2x4x256x96, (transpose S2x4x256x96 [0, 2, 1, 3] kc transposes_S2x256x4x96_S2x4x256x96_0_2_1_3)⟩, ⟨S2x4x16384x96, (transpose S2x4x16384x96 [0, 2, 1, 3] kl transposes_S2x16384x4x96_S2x4x16384x96_0_2_1_3)⟩] concatenates_S2x4x256x96_S2x4x16384x96_S2x4x16640x96_d2

/-- The values, context rows first. -/
def rV (vc : FVec Ideal S2x256x4x128 .f32) (vl : FVec Ideal S2x16384x4x128 .f32) : FVec Ideal S2x4x16640x128 .f32 :=
  concatenate S2x4x16640x128 2 [⟨S2x4x256x128, (transpose S2x4x256x128 [0, 2, 1, 3] vc transposes_S2x256x4x128_S2x4x256x128_0_2_1_3)⟩, ⟨S2x4x16384x128, (transpose S2x4x16384x128 [0, 2, 1, 3] vl transposes_S2x16384x4x128_S2x4x16384x128_0_2_1_3)⟩] concatenates_S2x4x256x128_S2x4x16384x128_S2x4x16640x128_d2

/-- The scaled scores. -/
def rS (q : FVec Ideal S2x16384x4x96 .f32) (k : FVec Ideal S2x4x16640x96 .f32) : FVec Ideal S2x4x16384x16640 .f32 :=
  mulf (Host.dotGeneral dot_S2x16384x4x96_S2x4x16640x96_S2x4x16384x16640_3_3_1_2_02_01 none q k) (broadcastInDim S2x4x16384x16640 ![] bcast_S_S2x4x16384x16640 (constant S_ .f32 0x3DD105EC#32))

/-- The largest score of each row. -/
def rM (s : FVec Ideal S2x4x16384x16640 .f32) : FVec Ideal S2x4x16384 .f32 :=
  maximumf (broadcastInDim S2x4x16384 ![] bcast_S_S2x4x16384 (constant S_ .f32 0xFF800000#32)) (Host.reduce FloatOps.maximumf s (constant S_ .f32 0xFF800000#32) reducesTo_S2x4x16384x16640_S2x4x16384_d3 h_S_)

/-- The exponentials of the shifted scores. -/
def rE (s : FVec Ideal S2x4x16384x16640 .f32) : FVec Ideal S2x4x16384x16640 .f32 :=
  Host.exp (subf s (broadcastInDim S2x4x16384x16640 ![0, 1, 2, 3] bcast_S2x4x16384x1_S2x4x16384x16640_0_1_2_3 (broadcastInDim S2x4x16384x1 ![0, 1, 2] bcast_S2x4x16384_S2x4x16384x1_0_1_2 (rM s))))

/-- The weights. -/
def rP (e : FVec Ideal S2x4x16384x16640 .f32) : FVec Ideal S2x4x16384x16640 .f32 :=
  Host.divf e (broadcastInDim S2x4x16384x16640 ![0, 1, 2, 3] bcast_S2x4x16384x1_S2x4x16384x16640_0_1_2_3 (broadcastInDim S2x4x16384x1 ![0, 1, 2] bcast_S2x4x16384_S2x4x16384x1_0_1_2 (Host.reduceAdd e (constant S_ .f32 0x00000000#32) reducesTo_S2x4x16384x16640_S2x4x16384_d3 h_S_)))

/-- The weighted sums, as the result's rows. -/
def rO (p : FVec Ideal S2x4x16384x16640 .f32) (v : FVec Ideal S2x4x16640x128 .f32) : FVec Ideal S2x16640x512 .bf16 :=
  truncf .bf16 (pad S2x16640x512 ![0, 0, 0] ![0, 256, 0] ![0, 0, 0] (shapeCast S2x16384x512 (transpose S2x16384x4x128 [0, 2, 1, 3] (Host.dotGeneral dot_S2x4x16384x16640_S2x4x16640x128_S2x4x16384x128_3_2_2_3_01_01 none p v) transposes_S2x4x16384x128_S2x16384x4x128_0_2_1_3) shapeCasts_S2x16384x4x128_S2x16384x512) (sitofp .f32 (constantI S_ 32 0#32)) pads_S2x16384x512_S2x16640x512_000_02560_000 h_S_) bitsLt_bf16_f32

variable (m : (ℓ : Loc nD τ sig) → Buf (Elt Ideal) ℓ) (c : Dev nD)

theorem res_eq : res_main_v24 m c = rO (rP (rE (rS (m ((c.tc : Thread nD τ).loc main_arg0)) (rK (m ((c.tc : Thread nD τ).loc main_arg1)) (m ((c.tc : Thread nD τ).loc main_arg2))))))
    (rV (m ((c.tc : Thread nD τ).loc main_arg3)) (m ((c.tc : Thread nD τ).loc main_arg4))) := by
  unfold res_main_v24 rO rP rE rM rS rK rV
  rfl

theorem rK_apply (kc : FVec Ideal S2x256x4x96 .f32) (kl : FVec Ideal S2x16384x4x96 .f32) (b : Fin 2) (h : Fin 4) (j : Fin 16640) (d : Fin 96) :
    rK kc kl (ix4 b h j d) = if p : j.val < 256 then kc (ix4 b ⟨j.val, p⟩ h d) else kl (ix4 b ⟨j.val - 256, by omega⟩ h d) := by
  unfold rK
  pointwise []

theorem rV_apply (kc : FVec Ideal S2x256x4x128 .f32) (kl : FVec Ideal S2x16384x4x128 .f32) (b : Fin 2) (h : Fin 4) (j : Fin 16640) (d : Fin 128) :
    rV kc kl (ix4 b h j d) = if p : j.val < 256 then kc (ix4 b ⟨j.val, p⟩ h d) else kl (ix4 b ⟨j.val - 256, by omega⟩ h d) := by
  unfold rV
  pointwise []

theorem rS_apply (q : FVec Ideal S2x16384x4x96 .f32) (k : FVec Ideal S2x4x16640x96 .f32) (b : Fin 2) (h : Fin 4) (i : Fin 16384) (j : Fin 16640) :
    rS q k (ix4 b h i j) = (∑ d : Fin 96, q (ix4 b i h d) * k (ix4 b h j d)) * Ideal.ofBits .f32 0x3DD105EC#32 := by
  unfold rS
  pointwise []

theorem maxred_apply (s : FVec Ideal S2x4x16384x16640 .f32) (z : FVec Ideal S_ .f32) (b : Fin 2) (h : Fin 4) (i : Fin 16384) :
    Host.reduce FloatOps.maximumf s z reducesTo_S2x4x16384x16640_S2x4x16384_d3 h_S_ (ix3 b h i) = Finset.univ.fold max (z (Shape.Idx.first h_S_)) fun j : Fin 16640 => s (ix4 b h i j) := by
  pointwise []

theorem rM_apply (s : FVec Ideal S2x4x16384x16640 .f32) (b : Fin 2) (h : Fin 4) (i : Fin 16384) :
    rM s (ix3 b h i) = max (Ideal.ofBits .f32 0xFF800000#32) (Finset.univ.fold max (Ideal.ofBits .f32 0xFF800000#32) fun j : Fin 16640 => s (ix4 b h i j)) := by
  unfold rM
  have e : ∀ x y : FVec Ideal S2x4x16384 .f32, maximumf x y (ix3 b h i) = max (x (ix3 b h i)) (y (ix3 b h i)) := fun x y => by pointwise []
  rw [e, maxred_apply]
  rfl

theorem rE_apply (s : FVec Ideal S2x4x16384x16640 .f32) (b : Fin 2) (h : Fin 4) (i : Fin 16384) (j : Fin 16640) :
    rE s (ix4 b h i j) = Ideal.exp (s (ix4 b h i j) - rM s (ix3 b h i)) := by
  unfold rE
  pointwise []

theorem rP_apply (e : FVec Ideal S2x4x16384x16640 .f32) (b : Fin 2) (h : Fin 4) (i : Fin 16384) (j : Fin 16640) :
    rP e (ix4 b h i j) = Ideal.div (e (ix4 b h i j)) (∑ x : Fin 16640, e (ix4 b h i x)) := by
  unfold rP
  pointwise []

theorem dot_apply (p : FVec Ideal S2x4x16384x16640 .f32) (v : FVec Ideal S2x4x16640x128 .f32) (b : Fin 2) (i : Fin 16384) (h : Fin 4) (e : Fin 128) :
    transpose S2x16384x4x128 [0, 2, 1, 3] (Host.dotGeneral dot_S2x4x16384x16640_S2x4x16640x128_S2x4x16384x128_3_2_2_3_01_01 none p v) transposes_S2x4x16384x128_S2x16384x4x128_0_2_1_3 (ix4 b i h e) = ∑ j : Fin 16640, p (ix4 b h i j) * v (ix4 b h j e) := by
  pointwise []

theorem rows_apply (x : FVec Ideal S2x16384x4x128 .f32) (z : FVec Ideal S_ .f32) (b : Fin 2) (i : Fin 16384) (h : Fin 4) (e : Fin 128) :
    truncf .bf16 (pad S2x16640x512 ![0, 0, 0] ![0, 256, 0] ![0, 0, 0] (shapeCast S2x16384x512 x shapeCasts_S2x16384x4x128_S2x16384x512) z pads_S2x16384x512_S2x16640x512_000_02560_000 h_S_) bitsLt_bf16_f32 (ix3 b ⟨i.val, by omega⟩ ⟨128 * h.val + e.val, by omega⟩)
      = x (ix4 b i h e) := by
  have e1 : ∀ (y : FVec Ideal S2x16384x512 .f32) (c : Fin 512), truncf .bf16 (pad S2x16640x512 ![0, 0, 0] ![0, 256, 0] ![0, 0, 0] y z pads_S2x16384x512_S2x16640x512_000_02560_000 h_S_) bitsLt_bf16_f32 (ix3 b ⟨i.val, by omega⟩ c) = y (ix3 b i c) := by
    intro y c; pointwise []
  rw [e1]
  refine shapeCast_apply _ _ _ _ ?_
  rw [Shape.rowMajor_val_four, Shape.rowMajor_val_three]
  simp
  ring

theorem rows_pad (x : FVec Ideal S2x16384x512 .f32) (z : FVec Ideal S_ .f32) (b : Fin 2) (i : Fin 16640) (y : Fin 512) (hi : ¬ i.val < 16384) :
    truncf .bf16 (pad S2x16640x512 ![0, 0, 0] ![0, 256, 0] ![0, 0, 0] x z pads_S2x16384x512_S2x16640x512_000_02560_000 h_S_) bitsLt_bf16_f32 (ix3 b i y) = z (Shape.Idx.first h_S_) := by
  pointwise []
  exact dif_neg hi

theorem rO_apply (p : FVec Ideal S2x4x16384x16640 .f32) (v : FVec Ideal S2x4x16640x128 .f32) (b : Fin 2) (i : Fin 16384) (h : Fin 4) (e : Fin 128) :
    rO p v (ix3 b ⟨i.val, by omega⟩ ⟨128 * h.val + e.val, by omega⟩) = ∑ j : Fin 16640, p (ix4 b h i j) * v (ix4 b h j e) := by
  unfold rO
  rw [rows_apply, dot_apply]

theorem rO_pad (p : FVec Ideal S2x4x16384x16640 .f32) (v : FVec Ideal S2x4x16640x128 .f32) (b : Fin 2) (i : Fin 16640) (y : Fin 512) (hi : ¬ i.val < 16384) :
    rO p v (ix3 b i y) = 0 := by
  unfold rO
  rw [rows_pad _ _ b i y hi]
  show ((((0#32 : BitVec 32).toInt : ℤ) : ℝ) : EReal) = 0
  simp

end Cert.Proof.RI

end
-- ==== Proof.RIValue.lean ====
module

public import proofs.«01_k».proof.Proof.RI
public import proofs.«01_k».proof.Proof.Spec

/-! The reference's result is the attention of the arguments. -/

@[expose] public section

set_option maxRecDepth 16384

noncomputable section

namespace Cert.Proof.RI

open Cert.ReferenceIdeal Cert.ReferenceIdeal.Gen Cert.ReferenceIdeal.Value
open Idealize.ShloMosaic Cert.Proof.Sm Idealize.ShloMosaic.TcCoe

theorem ofBits_scale : Ideal.ofBits .f32 0x3DD105EC#32 = ((3424635 / 33554432 : ℝ) : EReal) := by
  simp [Ideal.ofBits, Ideal.ieee, -EReal.coe_mul]; norm_num

theorem rK_cat (kc : FVec Ideal S2x256x4x96 .f32) (kl : FVec Ideal S2x16384x4x96 .f32) (b : Fin 2) (h : Fin 4) (j : Fin 16640) (d : Fin 96) :
    rK kc kl (ix4 b h j d) = cat kl kc b h d (rot j.val) := by
  rw [rK_apply]
  unfold cat rot
  by_cases p : j.val < 256
  · rw [dif_pos p, if_pos p, dif_neg (by omega), dif_pos (by omega)]
    exact congrArg (fun z => kc (ix4 b z h d)) (Fin.ext (Nat.add_sub_cancel_left ..).symm)
  · rw [dif_neg p, if_neg p, dif_pos (by omega)]

theorem rV_cat (vc : FVec Ideal S2x256x4x128 .f32) (vl : FVec Ideal S2x16384x4x128 .f32) (b : Fin 2) (h : Fin 4) (j : Fin 16640) (d : Fin 128) :
    rV vc vl (ix4 b h j d) = cat vl vc b h d (rot j.val) := by
  rw [rV_apply]
  unfold cat rot
  by_cases p : j.val < 256
  · rw [dif_pos p, if_pos p, dif_neg (by omega), dif_pos (by omega)]
    exact congrArg (fun z => vc (ix4 b z h d)) (Fin.ext (Nat.add_sub_cancel_left ..).symm)
  · rw [dif_neg p, if_neg p, dif_pos (by omega)]

section
variable (q : FVec Ideal S2x16384x4x96 .f32) (kc : FVec Ideal S2x256x4x96 .f32) (kl : FVec Ideal S2x16384x4x96 .f32)
  (vc : FVec Ideal S2x256x4x128 .f32) (vl : FVec Ideal S2x16384x4x128 .f32) (hq : Fin' q) (hc : Fin' kc) (hl : Fin' kl)

include hq hc hl in
theorem score (b : Fin 2) (h : Fin 4) (i : Fin 16384) (j : Fin 16640) : rS q (rK kc kl) (ix4 b h i j) = (tsc q kc kl b h i (rot j.val) : EReal) := by
  rw [rS_apply, ofBits_scale]
  have e : ∀ d : Fin 96, q (ix4 b i h d) * rK kc kl (ix4 b h j d) = (((cat kl kc b h d (rot j.val)).toReal * (q (ix4 b i h d)).toReal : ℝ) : EReal) := fun d => by
    rw [rK_cat, mul_comm, EReal.coe_mul, ← cat_real kl kc hl hc, ← hq]
  rw [Finset.sum_congr rfl fun d _ => e d, ← coe_sum, ← EReal.coe_mul]
  rfl

include hq hc hl in
theorem res_apply (b : Fin 2) (i : Fin 16384) (h : Fin 4) (e : Fin 128) :
    rO (rP (rE (rS q (rK kc kl)))) (rV vc vl) (ix3 b ⟨i.val, by omega⟩ ⟨128 * h.val + e.val, by omega⟩) = attn (tsc q kc kl b h i) (cat vl vc b h e) 16640 := by
  rw [rO_apply]
  obtain ⟨M, hM⟩ : ∃ M : ℝ, rM (rS q (rK kc kl)) (ix3 b h i) = M := by
    rw [rM_apply]
    simp only [score q kc kl hq hc hl, ofBits_bot]
    obtain ⟨M, hM⟩ := fold_max_real (Finset.univ : Finset (Fin 16640)) ⟨0, Finset.mem_univ _⟩ (fun x => tsc q kc kl b h i (rot x.val))
    rw [hM]
    exact max_real _ _ (.inl rfl)
  simp only [rP_apply, rE_apply, hM, score q kc kl hq hc hl, rV_cat]
  exact ref_attn (tsc q kc kl b h i) (cat vl vc b h e) M

include hq hc hl in
theorem res_goal : rO (rP (rE (rS q (rK kc kl)))) (rV vc vl) = goal q kc kl vc vl := by
  funext x
  obtain ⟨b, i, y, rfl⟩ : ∃ b i y, x = ix3 b i y := ⟨_, _, _, eq_ix3 x⟩
  by_cases hi : i.val < 16384
  · have hy : y.val < 512 := y.isLt
    have e1 : y = ⟨128 * (⟨y.val / 128, by omega⟩ : Fin 4).val + (⟨y.val % 128, by omega⟩ : Fin 128).val, by simp only []; omega⟩ := Fin.ext (by simp only []; omega)
    rw [goal_apply q kc kl vc vl b ⟨i.val, hi⟩ ⟨y.val / 128, by omega⟩ ⟨y.val % 128, by omega⟩ i y rfl (by simp only []; omega)]
    refine Eq.trans ?_ (res_apply q kc kl vc vl hq hc hl b ⟨i.val, hi⟩ ⟨y.val / 128, by omega⟩ ⟨y.val % 128, by omega⟩)
    exact congrArg (fun z => rO (rP (rE (rS q (rK kc kl)))) (rV vc vl) (ix3 b i z)) e1
  · rw [rO_pad _ _ b i y hi, goal_pad q kc kl vc vl b i y hi]

end

end Cert.Proof.RI

end
-- ==== Proof.Values.lean ====
module

public import proofs.«01_k».proof.Defs
public import proofs.«01_k».proof.Proof.Gen.Pre_finite_qk
public import proofs.«01_k».proof.Proof.PI.Out
public import proofs.«01_k».proof.Proof.RIValue
public import Idealize.ShloMosaic.Lib.Pointwise

/-! The two runs end with the same result. -/

@[expose] public section

set_option maxRecDepth 16384

noncomputable section

namespace Cert.Proof

open Idealize.ShloMosaic Idealize.SL.Sem Cert.Proof.Sm

theorem ofBits_top : Ideal.ofBits .f32 0x7F800000#32 = (⊤ : EReal) := by
  simp [Ideal.ofBits, Ideal.ieee]

/-- An extended real whose absolute value is below infinity is real. -/
theorem real_of_abs (x : EReal) (h : max x (-x) < ⊤) : x = (x.toReal : EReal) := by
  induction x with
  | bot => simp at h
  | top => simp at h
  | coe r => rfl

theorem andi_ones {s : Shape} (a b : IVec s 1) (h : andi a b = fun _ => 1#1) : (∀ i, a i = 1#1) ∧ ∀ i, b i = 1#1 := by
  have e : ∀ i, a i &&& b i = 1#1 := fun i => congrFun h i
  have key : ∀ u v : BitVec 1, u &&& v = 1#1 → u = 1#1 ∧ v = 1#1 := by decide
  exact ⟨fun i => (key _ _ (e i)).1, fun i => (key _ _ (e i)).2⟩

theorem fin_of_cmp {s : Shape} (x b : FVec Ideal s .f32) (hb : ∀ i, b i = (⊤ : EReal)) (h : ∀ i, cmpf .olt (Host.absf x) b i = 1#1) : Fin' x := fun i => by
  have h1 : BitVec.ofBool (decide (max (x i : EReal) (-(x i : EReal)) < b i)) = 1#1 := h i
  rw [hb] at h1
  apply real_of_abs
  by_contra hn
  rw [decide_eq_false hn] at h1
  exact absurd h1 (by decide)

theorem fin_fn (q : FVec Ideal Cert.Pre_finite_qk.S2x16384x4x96 .f32) (kc : FVec Ideal Cert.Pre_finite_qk.S2x256x4x96 .f32) (kl : FVec Ideal Cert.Pre_finite_qk.S2x16384x4x96 .f32)
    (vc : FVec Ideal Cert.Pre_finite_qk.S2x256x4x128 .f32) (vl : FVec Ideal Cert.Pre_finite_qk.S2x16384x4x128 .f32)
    (h : (Cert.Pre_finite_qk.fn q kc kl vc vl).1 = (fun _ => 1#1) ∧ (Cert.Pre_finite_qk.fn q kc kl vc vl).2 = (fun _ => 1#1)) : Fin' q ∧ Fin' kc ∧ Fin' kl := by
  obtain ⟨h1, h2⟩ := h
  have h3 := andi_ones _ _ h1
  exact ⟨fin_of_cmp q _ (fun _ => ofBits_top) h3.1, fin_of_cmp kc _ (fun _ => ofBits_top) (fun i => congrFun h2 i), fin_of_cmp kl _ (fun _ => ofBits_top) h3.2⟩

theorem values : Cert.algebraic_KernelIdeal_ReferenceIdeal_pre_finite_qk := by
  intro m g m' g' hpre hagree
  have hf : ∀ c, KI.Real3 m c := fun c => fin_fn _ _ _ _ _ (hpre c)
  refine ⟨fun c => KI.res m c, KI.value m g hf, ?_⟩
  refine (θ_run Cert.ReferenceIdeal.defs _ _).mono (fun r h c => ?_) (Cert.ReferenceIdeal.Value.run (F := Ideal) m' g')
  obtain ⟨e0, e1, e2, e3, e4⟩ := hagree c
  refine ⟨(h c).1.trans ?_, (h c).2⟩
  rw [RI.res_eq, e0, e1, e2, e3, e4]
  exact RI.res_goal _ _ _ _ _ (hf c).1 (hf c).2.1 (hf c).2.2

end Cert.Proof

end
-- ==== Proof.GI.Fold.lean ====
module

public import proofs.«01_k».proof.Proof.GI.Body
public import proofs.«01_k».proof.Proof.Softmax
public import Idealize.ShloMosaic.Lib.Pointwise
public import Idealize.ShloMosaic.Lib.Pipeline.ValueKit

/-! What the two loops of the attention kernel accumulate over the reals, column by column. -/

@[expose] public section

set_option maxRecDepth 16384

noncomputable section

namespace Cert.Proof.GI

open Cert.Kernel2Ideal Cert.Kernel2Ideal.Gen
open Idealize.ShloMosaic Cert.Proof.Sm

theorem off1_eq : ∀ k : Fin k0_t1_loop.trips, k0_off1 k = ![0, 0, 3328 * k.val, 0] := by decide +kernel
theorem off2_eq : ∀ k : Fin k0_t1_loop.trips, k0_off2 k = ![0, 0, 3328 * k.val] := by decide +kernel
theorem off3_eq : ∀ k : Fin k0_t2_loop.trips, k0_off3 k = ![0, 0, 256 * k.val, 0] := by decide +kernel
theorem off4_eq : ∀ k : Fin k0_t2_loop.trips, k0_off4 k = ![0, 0, 256 * k.val] := by decide +kernel
theorem trips1 : k0_t1_loop.trips = 5 := by decide +kernel
theorem trips2 : k0_t2_loop.trips = 65 := by decide +kernel

/-- The score of key `j` for query column `r`. -/
def sc (K : Vec Ideal S1x1x16640x128 .bf16) (Q : Vec Ideal S1x128x1024 .bf16) (r : Fin 1024) (j : Fin 16640) : EReal :=
  ∑ d : Fin 128, K (ix4 0 0 j d) * Q (ix3 0 d r)

/-! ## A tile's elements -/

theorem kTile1_apply (K : Vec Ideal S1x1x16640x128 .bf16) (k : Fin k0_t1_loop.trips) (x : Fin 3328) (d : Fin 128) (h : 3328 * k.val + x.val < 16640) :
    kTile1 K k (ix4 0 0 x d) = K (ix4 0 0 ⟨3328 * k.val + x.val, h⟩ d) :=
  View.ld_unit_apply_of K _ _ _ _ _ fun a => by
    refine Eq.trans ?_ (congrArg (· + _) (congrFun (off1_eq k) a).symm)
    fin_cases a <;> simp

theorem vTile1_apply (V : Vec Ideal S1x64x16640 .bf16) (k : Fin k0_t1_loop.trips) (x : Fin 3328) (d : Fin 64) (h : 3328 * k.val + x.val < 16640) :
    vTile1 V k (ix3 0 d x) = V (ix3 0 d ⟨3328 * k.val + x.val, h⟩) :=
  View.ld_unit_apply_of V _ _ _ _ _ fun a => by
    refine Eq.trans ?_ (congrArg (· + _) (congrFun (off2_eq k) a).symm)
    fin_cases a <;> simp

theorem kTile2_apply (K : Vec Ideal S1x1x16640x128 .bf16) (k : Fin k0_t2_loop.trips) (x : Fin 256) (d : Fin 128) (h : 256 * k.val + x.val < 16640) :
    kTile2 K k (ix4 0 0 x d) = K (ix4 0 0 ⟨256 * k.val + x.val, h⟩ d) :=
  View.ld_unit_apply_of K _ _ _ _ _ fun a => by
    refine Eq.trans ?_ (congrArg (· + _) (congrFun (off3_eq k) a).symm)
    fin_cases a <;> simp

theorem vTile2_apply (V : Vec Ideal S1x64x16640 .bf16) (k : Fin k0_t2_loop.trips) (x : Fin 256) (d : Fin 64) (h : 256 * k.val + x.val < 16640) :
    vTile2 V k (ix3 0 d x) = V (ix3 0 d ⟨256 * k.val + x.val, h⟩) :=
  View.ld_unit_apply_of V _ _ _ _ _ fun a => by
    refine Eq.trans ?_ (congrArg (· + _) (congrFun (off4_eq k) a).symm)
    fin_cases a <;> simp

/-! ## The steps at an element -/

theorem pay29_apply (K : Vec Ideal S1x1x16640x128 .bf16) (Q : Vec Ideal S1x128x1024 .bf16) (l : Vec Ideal S1x1024 .f32) (k : Fin k0_t1_loop.trips) (r : Fin 1024) :
    k0_pay29 (kTile1 K k) Q l (ix2 0 r) = l (ix2 0 r) + ∑ x : Fin 3328, Ideal.exp2 (∑ d : Fin 128, kTile1 K k (ix4 0 0 x d) * Q (ix3 0 d r)) := by
  unfold k0_pay29 k0_pay28
  pointwise []
  rfl

theorem pay30_apply (K : Vec Ideal S1x1x16640x128 .bf16) (V : Vec Ideal S1x64x16640 .bf16) (Q : Vec Ideal S1x128x1024 .bf16) (a : Vec Ideal S64x1024 .f32)
    (k : Fin k0_t1_loop.trips) (e : Fin 64) (r : Fin 1024) :
    k0_pay30 (kTile1 K k) Q a (vTile1 V k) (ix2 e r)
      = a (ix2 e r) + ∑ x : Fin 3328, vTile1 V k (ix3 0 e x) * Ideal.exp2 (∑ d : Fin 128, kTile1 K k (ix4 0 0 x d) * Q (ix3 0 d r)) := by
  unfold k0_pay30 k0_pay28
  pointwise []
  rfl

theorem pay3_apply (K : Vec Ideal S1x1x16640x128 .bf16) (Q : Vec Ideal S1x128x1024 .bf16) (a : Vec Ideal S1x1024 .f32) (k : Fin k0_t2_loop.trips) (r : Fin 1024) :
    k0_pay3 (kTile2 K k) Q a (ix2 0 r)
      = max (a (ix2 0 r)) (Finset.univ.fold max (Ideal.ofBits FTy.f32 0xFF800000#32) fun x : Fin 256 => ∑ d : Fin 128, kTile2 K k (ix4 0 0 x d) * Q (ix3 0 d r)) := by
  unfold k0_pay3 k0_pay2
  pointwise []

theorem pay6_apply (K : Vec Ideal S1x1x16640x128 .bf16) (Q : Vec Ideal S1x128x1024 .bf16) (mm a : Vec Ideal S1x1024 .f32) (k : Fin k0_t2_loop.trips) (r : Fin 1024) :
    k0_pay6 (kTile2 K k) Q mm a (ix2 0 r)
      = Ideal.exp2 (mm (ix2 0 r) - k0_pay3 (kTile2 K k) Q mm (ix2 0 r)) * a (ix2 0 r)
        + ∑ x : Fin 256, Ideal.exp2 (∑ d : Fin 128, kTile2 K k (ix4 0 0 x d) * Q (ix3 0 d r) - k0_pay3 (kTile2 K k) Q mm (ix2 0 r)) := by
  unfold k0_pay6 k0_pay4 k0_pay5 k0_pay2
  pointwise []
  rfl

theorem pay7_apply (K : Vec Ideal S1x1x16640x128 .bf16) (V : Vec Ideal S1x64x16640 .bf16) (Q : Vec Ideal S1x128x1024 .bf16) (mm : Vec Ideal S1x1024 .f32)
    (a : Vec Ideal S64x1024 .f32) (k : Fin k0_t2_loop.trips) (e : Fin 64) (r : Fin 1024) :
    k0_pay7 (kTile2 K k) Q mm a (vTile2 V k) (ix2 e r)
      = Ideal.exp2 (mm (ix2 0 r) - k0_pay3 (kTile2 K k) Q mm (ix2 0 r)) * a (ix2 e r)
        + ∑ x : Fin 256, vTile2 V k (ix3 0 e x) * Ideal.exp2 (∑ d : Fin 128, kTile2 K k (ix4 0 0 x d) * Q (ix3 0 d r) - k0_pay3 (kTile2 K k) Q mm (ix2 0 r)) := by
  unfold k0_pay7 k0_pay4 k0_pay5 k0_pay2
  pointwise []
  rfl

theorem zeros_apply (e : Fin 64) (r : Fin 1024) : k0_pay26 (F := Ideal) (ix2 e r) = 0 ∧ k0_pay27 (F := Ideal) (ix2 0 r) = 0
    ∧ k0_pay32 (F := Ideal) (ix2 e r) = 0 ∧ k0_pay33 (F := Ideal) (ix2 0 r) = 0 ∧ k0_pay34 (F := Ideal) (ix2 0 r) = ⊥ := by
  unfold k0_pay26 k0_pay27 k0_pay32 k0_pay33 k0_pay34
  refine ⟨?_, ?_, ?_, ?_, ?_⟩ <;> pointwise []
  exact ofBits_bot

theorem pay35_eq (a : FVec Ideal S64x1024 .f32) : k0_pay35 a = a := by funext i; idx_vars i; unfold k0_pay35; pointwise []
theorem pay36_eq (a : FVec Ideal S1x1024 .f32) : k0_pay36 a = a := by funext i; idx_vars i; unfold k0_pay36; pointwise []

/-! ## The loops -/

section
variable (K : Vec Ideal S1x1x16640x128 .bf16) (V : Vec Ideal S1x64x16640 .bf16) (Q : Vec Ideal S1x128x1024 .bf16) (r : Fin 1024)
  (σ : ℕ → ℝ) (v : Fin 64 → ℕ → EReal) (hσ : ∀ j : Fin 16640, sc K Q r j = σ j.val) (hv : ∀ (e : Fin 64) (j : Fin 16640), V (ix3 0 e j) = v e j.val)

include hσ in
theorem tile1_score (k : Fin k0_t1_loop.trips) (x : Fin 3328) :
    ∑ d : Fin 128, kTile1 K k (ix4 0 0 x d) * Q (ix3 0 d r) = (σ (3328 * k.val + x.val) : EReal) := by
  have hk : k.val < 5 := Nat.lt_of_lt_of_le k.isLt trips1.le
  have hx := x.isLt
  have h : 3328 * k.val + x.val < 16640 := by omega
  rw [← hσ ⟨_, h⟩]
  exact Finset.sum_congr rfl fun d _ => by rw [kTile1_apply K k x d h]

include hσ in
theorem tile2_score (k : Fin k0_t2_loop.trips) (x : Fin 256) :
    ∑ d : Fin 128, kTile2 K k (ix4 0 0 x d) * Q (ix3 0 d r) = (σ (256 * k.val + x.val) : EReal) := by
  have hk : k.val < 65 := Nat.lt_of_lt_of_le k.isLt trips2.le
  have hx := x.isLt
  have h : 256 * k.val + x.val < 16640 := by omega
  rw [← hσ ⟨_, h⟩]
  exact Finset.sum_congr rfl fun d _ => by rw [kTile2_apply K k x d h]

include hv in
theorem tile1_value (k : Fin k0_t1_loop.trips) (x : Fin 3328) (e : Fin 64) : vTile1 V k (ix3 0 e x) = v e (3328 * k.val + x.val) := by
  have hk : k.val < 5 := Nat.lt_of_lt_of_le k.isLt trips1.le
  have hx := x.isLt
  have h : 3328 * k.val + x.val < 16640 := by omega
  rw [vTile1_apply V k x e h, hv]

include hv in
theorem tile2_value (k : Fin k0_t2_loop.trips) (x : Fin 256) (e : Fin 64) : vTile2 V k (ix3 0 e x) = v e (256 * k.val + x.val) := by
  have hk : k.val < 65 := Nat.lt_of_lt_of_le k.isLt trips2.le
  have hx := x.isLt
  have h : 256 * k.val + x.val < 16640 := by omega
  rw [vTile2_apply V k x e h, hv]

include hσ hv in
theorem fast_good (n : ℕ) (hn : n ≤ 5) : Good σ v (3328 * n) 0 ((fast K V Q n).2 (ix2 0 r)) (fun e => (fast K V Q n).1 (ix2 e r)) := by
  induction n with
  | zero =>
    rw [fast_zero]
    simp only [(zeros_apply _ r).1, (zeros_apply 0 r).2.1]
    exact good_zero σ v 0
  | succ n ih =>
    have h : n < k0_t1_loop.trips := Nat.lt_of_lt_of_le (Nat.lt_of_succ_le hn) trips1.ge
    rw [fast_succ K V Q ⟨n, h⟩]
    dsimp only
    simp only [pay29_apply, pay30_apply, tile1_score K Q r σ hσ, tile1_value V v hv, exp2_pw]
    have := good_add (ih (by omega)) 3328
    simpa only [sub_zero, Nat.mul_succ] using this

include hσ hv in
theorem slow_good (n : ℕ) (hn : n ≤ 65) :
    (n = 0 ∧ (slow K V Q n).2.2 (ix2 0 r) = ⊥ ∧ (slow K V Q n).2.1 (ix2 0 r) = 0 ∧ ∀ e, (slow K V Q n).1 (ix2 e r) = 0)
    ∨ ∃ M : ℝ, (slow K V Q n).2.2 (ix2 0 r) = M ∧ Good σ v (256 * n) M ((slow K V Q n).2.1 (ix2 0 r)) (fun e => (slow K V Q n).1 (ix2 e r)) := by
  induction n with
  | zero =>
    left
    rw [slow_zero]
    exact ⟨rfl, (zeros_apply 0 r).2.2.2.2, (zeros_apply 0 r).2.2.2.1, fun e => (zeros_apply e r).2.2.1⟩
  | succ n ih =>
    right
    have h : n < k0_t2_loop.trips := Nat.lt_of_lt_of_le (Nat.lt_of_succ_le hn) trips2.ge
    rw [slow_succ K V Q ⟨n, h⟩]
    dsimp only
    rw [pay35_eq, pay36_eq]
    simp only [pay6_apply, pay7_apply, tile2_score K Q r σ hσ, tile2_value V v hv]
    have hm : ∃ M' : ℝ, k0_pay3 (kTile2 K ⟨n, h⟩) Q (slow K V Q n).2.2 (ix2 0 r) = M' := by
      rw [pay3_apply]
      simp only [tile2_score K Q r σ hσ]
      rw [ofBits_bot]
      obtain ⟨M, hM⟩ := fold_max_real (Finset.univ : Finset (Fin 256)) ⟨0, Finset.mem_univ _⟩ (fun x => σ (256 * n + x.val))
      rw [hM]
      refine max_real _ _ ?_
      rcases ih (by omega) with ⟨_, h, _⟩ | ⟨M, h, _⟩
      · exact .inl h
      · exact .inr ⟨M, h⟩
    obtain ⟨M', hM'⟩ := hm
    refine ⟨M', hM', ?_⟩
    simp only [hM', ← EReal.coe_sub, exp2_pw]
    rcases ih (by omega) with ⟨h0, h1, h2, h3⟩ | ⟨M, h1, h2⟩
    · have := good_add (good_zero σ v M') 256
      subst h0
      simpa only [h2, h3, mul_zero] using this
    · have := good_add (good_shift h2 M') 256
      simpa only [h1, ← EReal.coe_sub, exp2_pw, Nat.mul_succ] using this

include hσ hv in
theorem accOf_good : ∃ M : ℝ, Good σ v 16640 M ((accOf K V Q).2 (ix2 0 r)) (fun e => (accOf K V Q).1 (ix2 e r)) := by
  unfold accOf
  split_ifs
  · rw [trips2]
    rcases slow_good K V Q r σ v hσ hv 65 le_rfl with ⟨h, _⟩ | ⟨M, _, h⟩
    · exact absurd h (by norm_num)
    · exact ⟨M, h⟩
  · rw [trips1]
    exact ⟨0, fast_good K V Q r σ v hσ hv 5 le_rfl⟩

end

/-! ## The output block -/

theorem pay38_apply (a : Vec Ideal S64x256 .f32) (l : Vec Ideal S1x256 .f32) (s : Fin 256) (e : Fin 64) :
    k0_pay38 (k0_pay37 a l) (ix3 0 s e) = Ideal.div (a (ix2 e s)) (l (ix2 0 s)) := by
  unfold k0_pay38 k0_pay37
  pointwise []

theorem pay39_eq (a : Vec Ideal S64x256 .f32) (l : Vec Ideal S1x256 .f32) : k0_pay39 a l = k0_pay38 (k0_pay37 a l) := rfl
theorem pay40_eq (a : Vec Ideal S64x256 .f32) (l : Vec Ideal S1x256 .f32) : k0_pay40 a l = k0_pay38 (k0_pay37 a l) := rfl
theorem pay41_eq (a : Vec Ideal S64x256 .f32) (l : Vec Ideal S1x256 .f32) : k0_pay1 (k0_pay41 a l) = k0_pay38 (k0_pay37 a l) := rfl

theorem accH0_apply (a : Vec Ideal S64x1024 .f32) (e : Fin 64) (s : Fin 256) : accH0 a (ix2 e s) = a (ix2 e ⟨256 * (0 : Fin 4).val + s.val, by simp; omega⟩) :=
  View.ld_unit_apply_of a _ _ _ _ _ fun k => by fin_cases k <;> simp
theorem lH0_apply (l : Vec Ideal S1x1024 .f32) (s : Fin 256) : lH0 l (ix2 0 s) = l (ix2 0 ⟨256 * (0 : Fin 4).val + s.val, by simp; omega⟩) :=
  View.ld_unit_apply_of l _ _ _ _ _ fun k => by fin_cases k <;> simp
theorem accH1_apply (a : Vec Ideal S64x1024 .f32) (e : Fin 64) (s : Fin 256) : accH1 a (ix2 e s) = a (ix2 e ⟨256 * (1 : Fin 4).val + s.val, by simp; omega⟩) :=
  View.ld_unit_apply_of a _ _ _ _ _ fun k => by fin_cases k <;> simp
theorem lH1_apply (l : Vec Ideal S1x1024 .f32) (s : Fin 256) : lH1 l (ix2 0 s) = l (ix2 0 ⟨256 * (1 : Fin 4).val + s.val, by simp; omega⟩) :=
  View.ld_unit_apply_of l _ _ _ _ _ fun k => by fin_cases k <;> simp
theorem accH2_apply (a : Vec Ideal S64x1024 .f32) (e : Fin 64) (s : Fin 256) : accH2 a (ix2 e s) = a (ix2 e ⟨256 * (2 : Fin 4).val + s.val, by simp; omega⟩) :=
  View.ld_unit_apply_of a _ _ _ _ _ fun k => by fin_cases k <;> simp
theorem lH2_apply (l : Vec Ideal S1x1024 .f32) (s : Fin 256) : lH2 l (ix2 0 s) = l (ix2 0 ⟨256 * (2 : Fin 4).val + s.val, by simp; omega⟩) :=
  View.ld_unit_apply_of l _ _ _ _ _ fun k => by fin_cases k <;> simp
theorem accH3_apply (a : Vec Ideal S64x1024 .f32) (e : Fin 64) (s : Fin 256) : accH3 a (ix2 e s) = a (ix2 e ⟨256 * (3 : Fin 4).val + s.val, by simp; omega⟩) :=
  View.ld_unit_apply_of a _ _ _ _ _ fun k => by fin_cases k <;> simp
theorem lH3_apply (l : Vec Ideal S1x1024 .f32) (s : Fin 256) : lH3 l (ix2 0 s) = l (ix2 0 ⟨256 * (3 : Fin 4).val + s.val, by simp; omega⟩) :=
  View.ld_unit_apply_of l _ _ _ _ _ fun k => by fin_cases k <;> simp

/-- A column of the output block names the head of the group and the lane. -/
theorem out_col (u k : Fin 4) (s : Fin 256) (e : Fin 64) (b : Fin 256) (x : Fin 64) (h1 : s.val = b.val) (h2 : 64 * u.val + e.val = 64 * k.val + x.val)
    (a : Vec Ideal S64x1024 .f32) (l : Vec Ideal S1x1024 .f32) :
    Ideal.div (a (ix2 x ⟨256 * k.val + b.val, by omega⟩)) (l (ix2 0 ⟨256 * k.val + b.val, by omega⟩))
      = Ideal.div (a (ix2 e ⟨256 * u.val + s.val, by omega⟩)) (l (ix2 0 ⟨256 * u.val + s.val, by omega⟩)) := by
  obtain rfl : u = k := Fin.ext (by omega)
  obtain rfl : e = x := Fin.ext (by omega)
  obtain rfl : s = b := Fin.ext h1
  rfl

theorem canon_out (a : Vec Ideal S64x1024 .f32) (l : Vec Ideal S1x1024 .f32) (u : Fin 4) (s : Fin 256) (e : Fin 64) :
    View.canon (Val := Elt Ideal) (outPieces a l) (ix3 0 s ⟨64 * u.val + e.val, by omega⟩)
      = Ideal.div (a (ix2 e ⟨256 * u.val + s.val, by omega⟩)) (l (ix2 0 ⟨256 * u.val + s.val, by omega⟩)) := by
  unfold outPieces
  canon_tiles x h using outPieces_cover a l (ix3 0 s ⟨64 * u.val + e.val, by omega⟩)
  · obtain ⟨w, b, x, rfl⟩ : ∃ w b x', x = ix3 w b x' := ⟨_, _, _, eq_ix3 x⟩
    obtain rfl : w = 0 := Subsingleton.elim _ _
    rw [pay41_eq, pay38_apply, accH3_apply, lH3_apply]
    exact out_col u 3 s e b x (h1.trans (by simp)) (h2.trans (by simp)) a l
  · obtain ⟨w, b, x, rfl⟩ : ∃ w b x', x = ix3 w b x' := ⟨_, _, _, eq_ix3 x⟩
    obtain rfl : w = 0 := Subsingleton.elim _ _
    rw [pay40_eq, pay38_apply, accH2_apply, lH2_apply]
    exact out_col u 2 s e b x (h1.trans (by simp)) (h2.trans (by simp)) a l
  · obtain ⟨w, b, x, rfl⟩ : ∃ w b x', x = ix3 w b x' := ⟨_, _, _, eq_ix3 x⟩
    obtain rfl : w = 0 := Subsingleton.elim _ _
    rw [pay39_eq, pay38_apply, accH1_apply, lH1_apply]
    exact out_col u 1 s e b x (h1.trans (by simp)) (h2.trans (by simp)) a l
  · obtain ⟨w, b, x, rfl⟩ : ∃ w b x', x = ix3 w b x' := ⟨_, _, _, eq_ix3 x⟩
    obtain rfl : w = 0 := Subsingleton.elim _ _
    rw [pay38_apply, accH0_apply, lH0_apply]
    exact out_col u 0 s e b x (h1.trans (by simp)) (h2.trans (by simp)) a l

/-- The output block of a grid point, where the widened queries' scores are real. -/
theorem outB_apply (x3 : Vec Ideal S1x256x256 .bf16) (K : Vec Ideal S1x1x16640x128 .bf16) (V : Vec Ideal S1x64x16640 .bf16) (x6 : Vec Ideal S1x1x1x128 .f32)
    (u : Fin 4) (s : Fin 256) (e : Fin 64) (σ t : ℕ → ℝ) (v : Fin 64 → ℕ → EReal) (β : ℝ)
    (hσ : ∀ j : Fin 16640, sc K (qa x3 x6) ⟨256 * u.val + s.val, by omega⟩ j = σ j.val)
    (hv : ∀ (e : Fin 64) (j : Fin 16640), V (ix3 0 e j) = v e j.val) (ht : ∀ x < 16640, σ x * Real.log 2 = t x - β) :
    outB x3 K V x6 (ix3 0 s ⟨64 * u.val + e.val, by omega⟩) = attn t (v e) 16640 := by
  unfold outB
  rw [canon_out]
  obtain ⟨M, h⟩ := accOf_good K V (qa x3 x6) _ σ v hσ hv
  exact good_div h (by norm_num) t β ht e

end Cert.Proof.GI

end
-- ==== Proof.GI.Widen.lean ====
module

public import proofs.«01_k».proof.Proof.GI.Fold

/-! The widened queries at an element, and the scores they give against the widened keys. -/

@[expose] public section

set_option maxRecDepth 16384

noncomputable section

namespace Cert.Proof.GI

open Cert.Kernel2Ideal Cert.Kernel2Ideal.Gen
open Idealize.ShloMosaic Cert.Proof.Sm

/-- The factor of the queries: the score's scale over the natural logarithm of two. -/
def qs : ℝ := (1 / 8) * (Real.log 2)⁻¹

theorem named_qs : (Named.named κ "q_scale" 0x3E38AA3B#32 : Ideal .f32) = (qs : EReal) :=
  IdealRules.named_const.ideal_named_scalar _ _ _ _ rfl

theorem qRows0_apply (x3 : Vec Ideal S1x256x256 .bf16) (d : Fin 64) (s : Fin 256) : qRows0 x3 (ix3 0 d s) = x3 (ix3 0 ⟨64 * (0 : Fin 4).val + d.val, by simp; omega⟩ s) :=
  View.ld_unit_apply_of x3 _ _ _ _ _ fun a => by fin_cases a <;> simp
theorem qRows1_apply (x3 : Vec Ideal S1x256x256 .bf16) (d : Fin 64) (s : Fin 256) : qRows1 x3 (ix3 0 d s) = x3 (ix3 0 ⟨64 * (1 : Fin 4).val + d.val, by simp; omega⟩ s) :=
  View.ld_unit_apply_of x3 _ _ _ _ _ fun a => by fin_cases a <;> simp
theorem qRows2_apply (x3 : Vec Ideal S1x256x256 .bf16) (d : Fin 64) (s : Fin 256) : qRows2 x3 (ix3 0 d s) = x3 (ix3 0 ⟨64 * (2 : Fin 4).val + d.val, by simp; omega⟩ s) :=
  View.ld_unit_apply_of x3 _ _ _ _ _ fun a => by fin_cases a <;> simp
theorem qRows3_apply (x3 : Vec Ideal S1x256x256 .bf16) (d : Fin 64) (s : Fin 256) : qRows3 x3 (ix3 0 d s) = x3 (ix3 0 ⟨64 * (3 : Fin 4).val + d.val, by simp; omega⟩ s) :=
  View.ld_unit_apply_of x3 _ _ _ _ _ fun a => by fin_cases a <;> simp

theorem kBound_apply (x6 : Vec Ideal S1x1x1x128 .f32) : kBound x6 (ix4 0 0 0 0) = x6 (ix4 0 0 0 0) :=
  View.ld_unit_apply_of x6 _ _ _ _ _ fun a => by fin_cases a <;> simp

/-- The score shift of row `s` in head `u` of the group. -/
def bnd (x3 : Vec Ideal S1x256x256 .bf16) (x6 : Vec Ideal S1x1x1x128 .f32) (u : Fin 4) (s : Fin 256) : EReal :=
  Ideal.sqrt (∑ x : Fin 64, x3 (ix3 0 ⟨64 * u.val + x.val, by omega⟩ s) * (qs : EReal) * (x3 (ix3 0 ⟨64 * u.val + x.val, by omega⟩ s) * (qs : EReal)))
    * x6 (ix4 0 0 0 0) * Ideal.ofBits .f32 0x3F820000#32

/-- An element of the widened queries. -/
def qaVal (x3 : Vec Ideal S1x256x256 .bf16) (x6 : Vec Ideal S1x1x1x128 .f32) (d : Fin 128) (u : Fin 4) (s : Fin 256) : EReal :=
  if h : d.val < 64 then x3 (ix3 0 ⟨64 * u.val + d.val, by omega⟩ s) * (qs : EReal) else if d.val = 64 then 0 - bnd x3 x6 u s else 0

/-! ## The four heads of the group run the same steps -/

theorem pay14_eq (v : Vec Ideal S1x64x256 .bf16) : k0_pay14 v = k0_pay9 v := rfl
theorem pay18_eq (v : Vec Ideal S1x64x256 .bf16) : k0_pay18 v = k0_pay9 v := rfl
theorem pay22_eq' (v : Vec Ideal S1x64x256 .bf16) : k0_pay22 v = k0_pay9 v := rfl
theorem pay15_eq (v : Vec Ideal S1x64x256 .bf16) (k : Vec Ideal S1x1x1x1 .f32) : k0_pay15 rowNo v k = k0_pay10 v k := rfl
theorem pay19_eq (v : Vec Ideal S1x64x256 .bf16) (k : Vec Ideal S1x1x1x1 .f32) : k0_pay19 rowNo v k = k0_pay10 v k := rfl
theorem pay24_eq (v : Vec Ideal S1x64x256 .bf16) (k : Vec Ideal S1x1x1x1 .f32) : k0_pay24 (k0_pay23 rowNo v k) = k0_pay10 v k := rfl
theorem pay12_eq : k0_pay12 (F := Ideal) k0_pay11 = k0_pay25 := rfl
theorem pay16_eq : k0_pay16 (F := Ideal) (Scalar.ofBits .bf16 0x0000#16) = k0_pay25 := rfl
theorem pay20_eq : k0_pay20 (F := Ideal) = k0_pay25 := rfl

theorem pay9_apply (v : Vec Ideal S1x64x256 .bf16) (d : Fin 64) (s : Fin 256) : k0_pay9 v (ix3 0 d s) = v (ix3 0 d s) * (qs : EReal) := by
  unfold k0_pay9 k0_pay8
  pointwise []
  rw [named_qs]

theorem pay10_apply (v1 : Vec Ideal S1x64x256 .bf16) (v12 : Vec Ideal S1x1x1x1 .f32) (d : Fin 16) (s : Fin 256) :
    k0_pay10 v1 v12 (ix3 0 d s) = if d.val = 0 then 0 - Ideal.sqrt (∑ x : Fin 64, v1 (ix3 0 x s) * (qs : EReal) * (v1 (ix3 0 x s) * (qs : EReal)))
      * v12 (ix4 0 0 0 0) * Ideal.ofBits .f32 0x3F820000#32 else 0 := by
  unfold k0_pay10 k0_pay8
  pointwise []
  simp only [named_qs]
  generalize Ideal.sqrt (∑ x : Fin 64, v1 (ix3 0 x s) * (qs : EReal) * (v1 (ix3 0 x s) * (qs : EReal)))
    * v12 (ix4 0 0 0 0) * Ideal.ofBits .f32 0x3F820000#32 = B
  fin_cases d <;> rfl

theorem pay25_apply (d : Fin 48) (s : Fin 256) : k0_pay25 (F := Ideal) (ix3 0 d s) = 0 := by
  unfold k0_pay25
  pointwise []

/-! ## An element of a stored piece, as an element of the whole -/

section
variable (x3 : Vec Ideal S1x256x256 .bf16) (x6 : Vec Ideal S1x1x1x128 .f32) (d : Fin 128) (u k : Fin 4) (s b : Fin 256)
  (h2 : 256 * u.val + s.val = 256 * k.val + b.val)

include h2 in
theorem piece_rows (v : Vec Ideal S1x64x256 .bf16) (hv : ∀ (d : Fin 64) (s : Fin 256), v (ix3 0 d s) = x3 (ix3 0 ⟨64 * k.val + d.val, by omega⟩ s))
    (a : Fin 64) (h1 : d.val = a.val) : k0_pay9 v (ix3 0 a b) = qaVal x3 x6 d u s := by
  obtain rfl : u = k := Fin.ext (by omega)
  obtain rfl : s = b := Fin.ext (by omega)
  unfold qaVal
  rw [pay9_apply, hv, dif_pos (by omega)]
  exact congrArg (fun z => x3 (ix3 0 z s) * (qs : EReal)) (Fin.ext (by simp only []; omega))

include h2 in
theorem piece_shift (v : Vec Ideal S1x64x256 .bf16) (hv : ∀ (d : Fin 64) (s : Fin 256), v (ix3 0 d s) = x3 (ix3 0 ⟨64 * k.val + d.val, by omega⟩ s))
    (a : Fin 16) (h1 : d.val = 64 + a.val) : k0_pay10 v (kBound x6) (ix3 0 a b) = qaVal x3 x6 d u s := by
  obtain rfl : u = k := Fin.ext (by omega)
  obtain rfl : s = b := Fin.ext (by omega)
  unfold qaVal bnd
  rw [pay10_apply, kBound_apply, dif_neg (by omega)]
  simp only [hv]
  by_cases ha : a.val = 0
  · rw [if_pos ha, if_pos (by omega)]
  · rw [if_neg ha, if_neg (by omega)]

theorem piece_zero (a : Fin 48) (h1 : d.val = 80 + a.val) : k0_pay25 (F := Ideal) (ix3 0 a b) = qaVal x3 x6 d u s := by
  unfold qaVal
  rw [pay25_apply, dif_neg (by omega), if_neg (by omega)]

end

theorem qa_apply (x3 : Vec Ideal S1x256x256 .bf16) (x6 : Vec Ideal S1x1x1x128 .f32) (d : Fin 128) (u : Fin 4) (s : Fin 256) :
    qa x3 x6 (ix3 0 d ⟨256 * u.val + s.val, by omega⟩) = qaVal x3 x6 d u s := by
  unfold qa qaPieces pieces2 pieces3 pieces4 pieces5 pieces6
  simp only [List.cons_append, List.nil_append, pay14_eq, pay18_eq, pay22_eq', pay15_eq, pay19_eq, pay24_eq, pay12_eq, pay16_eq, pay20_eq]
  canon_tiles x h using qaPieces_cover x3 x6 (ix3 0 d ⟨256 * u.val + s.val, by omega⟩)
  · obtain ⟨w, a, b, rfl⟩ : ∃ w a b, x = ix3 w a b := ⟨_, _, _, eq_ix3 x⟩
    obtain rfl : w = 0 := Subsingleton.elim _ _
    exact piece_zero x3 x6 d u s b a h1
  · obtain ⟨w, a, b, rfl⟩ : ∃ w a b, x = ix3 w a b := ⟨_, _, _, eq_ix3 x⟩
    obtain rfl : w = 0 := Subsingleton.elim _ _
    exact piece_shift x3 x6 d u 3 s b (h2.trans (by simp)) _ (qRows3_apply x3) a h1
  · obtain ⟨w, a, b, rfl⟩ : ∃ w a b, x = ix3 w a b := ⟨_, _, _, eq_ix3 x⟩
    obtain rfl : w = 0 := Subsingleton.elim _ _
    exact piece_rows x3 x6 d u 3 s b (h2.trans (by simp)) _ (qRows3_apply x3) a (h1.trans (by simp))
  · obtain ⟨w, a, b, rfl⟩ : ∃ w a b, x = ix3 w a b := ⟨_, _, _, eq_ix3 x⟩
    obtain rfl : w = 0 := Subsingleton.elim _ _
    exact piece_zero x3 x6 d u s b a h1
  · obtain ⟨w, a, b, rfl⟩ : ∃ w a b, x = ix3 w a b := ⟨_, _, _, eq_ix3 x⟩
    obtain rfl : w = 0 := Subsingleton.elim _ _
    exact piece_shift x3 x6 d u 2 s b (h2.trans (by simp)) _ (qRows2_apply x3) a h1
  · obtain ⟨w, a, b, rfl⟩ : ∃ w a b, x = ix3 w a b := ⟨_, _, _, eq_ix3 x⟩
    obtain rfl : w = 0 := Subsingleton.elim _ _
    exact piece_rows x3 x6 d u 2 s b (h2.trans (by simp)) _ (qRows2_apply x3) a (h1.trans (by simp))
  · obtain ⟨w, a, b, rfl⟩ : ∃ w a b, x = ix3 w a b := ⟨_, _, _, eq_ix3 x⟩
    obtain rfl : w = 0 := Subsingleton.elim _ _
    exact piece_zero x3 x6 d u s b a h1
  · obtain ⟨w, a, b, rfl⟩ : ∃ w a b, x = ix3 w a b := ⟨_, _, _, eq_ix3 x⟩
    obtain rfl : w = 0 := Subsingleton.elim _ _
    exact piece_shift x3 x6 d u 1 s b (h2.trans (by simp)) _ (qRows1_apply x3) a h1
  · obtain ⟨w, a, b, rfl⟩ : ∃ w a b, x = ix3 w a b := ⟨_, _, _, eq_ix3 x⟩
    obtain rfl : w = 0 := Subsingleton.elim _ _
    exact piece_rows x3 x6 d u 1 s b (h2.trans (by simp)) _ (qRows1_apply x3) a (h1.trans (by simp))
  · obtain ⟨w, a, b, rfl⟩ : ∃ w a b, x = ix3 w a b := ⟨_, _, _, eq_ix3 x⟩
    obtain rfl : w = 0 := Subsingleton.elim _ _
    exact piece_zero x3 x6 d u s b a h1
  · obtain ⟨w, a, b, rfl⟩ : ∃ w a b, x = ix3 w a b := ⟨_, _, _, eq_ix3 x⟩
    obtain rfl : w = 0 := Subsingleton.elim _ _
    exact piece_shift x3 x6 d u 0 s b (h2.trans (by simp)) _ (qRows0_apply x3) a h1
  · obtain ⟨w, a, b, rfl⟩ : ∃ w a b, x = ix3 w a b := ⟨_, _, _, eq_ix3 x⟩
    obtain rfl : w = 0 := Subsingleton.elim _ _
    exact piece_rows x3 x6 d u 0 s b (h2.trans (by simp)) _ (qRows0_apply x3) a (h1.trans (by simp))

/-- The scores: the scaled products less a shift that does not depend on the key. -/
theorem sc_qa (x3 : Vec Ideal S1x256x256 .bf16) (K : Vec Ideal S1x1x16640x128 .bf16) (x6 : Vec Ideal S1x1x1x128 .f32) (u : Fin 4) (s : Fin 256)
    (qf : Fin 64 → ℝ) (kf : Fin 64 → ℕ → ℝ) (kb : ℝ) (hq : ∀ d : Fin 64, x3 (ix3 0 ⟨64 * u.val + d.val, by omega⟩ s) = (qf d : EReal))
    (hk : ∀ (j : Fin 16640) (d : Fin 64), K (ix4 0 0 j ⟨d.val, by omega⟩) = (kf d j.val : EReal)) (hk1 : ∀ j : Fin 16640, K (ix4 0 0 j 64) = 1)
    (hb : x6 (ix4 0 0 0 0) = (kb : EReal)) :
    ∃ β : ℝ, ∀ j : Fin 16640, sc K (qa x3 x6) ⟨256 * u.val + s.val, by omega⟩ j = (((∑ d : Fin 64, kf d j.val * qf d) * qs - β : ℝ) : EReal) := by
  have h1 : ∃ β : ℝ, bnd x3 x6 u s = (β : EReal) := by
    unfold bnd
    simp only [hq, hb, ← EReal.coe_mul]
    rw [← coe_sum Finset.univ fun x : Fin 64 => qf x * qs * (qf x * qs), Ideal.sqrt_coe, if_neg (not_lt.mpr (Finset.sum_nonneg fun i _ => mul_self_nonneg _)),
      show Ideal.ofBits .f32 0x3F820000#32 = ((65 / 64 : ℝ) : EReal) from by simp [Ideal.ofBits, Ideal.ieee, -EReal.coe_mul]; norm_num]
    exact ⟨_, by rw [← EReal.coe_mul, ← EReal.coe_mul]⟩
  obtain ⟨β, hβ⟩ := h1
  refine ⟨β, fun j => ?_⟩
  unfold sc
  simp only [qa_apply]
  have e1 : ∀ f : Fin 128 → EReal, ∑ d, f d = (∑ d : Fin 64, f ⟨d.val, by omega⟩) + ∑ d : Fin 64, f ⟨64 + d.val, by omega⟩ := fun f =>
    Fin.sum_univ_add (a := 64) (b := 64) f
  rw [e1]
  have e2 : ∀ d : Fin 63, K (ix4 0 0 j ⟨64 + (d.succ : Fin 64).val, by omega⟩) * qaVal x3 x6 ⟨64 + (d.succ : Fin 64).val, by omega⟩ u s = 0 := fun d => by
    unfold qaVal
    rw [dif_neg (by simp), if_neg (by simp), mul_zero]
  have e3 : K (ix4 0 0 j ⟨64 + (0 : Fin 64).val, by omega⟩) * qaVal x3 x6 ⟨64 + (0 : Fin 64).val, by omega⟩ u s = 0 - (β : EReal) := by
    unfold qaVal
    rw [dif_neg (by simp), if_pos (by simp), hβ]
    exact (congrArg (· * _) (hk1 j)).trans (one_mul _)
  have e4 : ∀ d : Fin 64, K (ix4 0 0 j ⟨d.val, by omega⟩) * qaVal x3 x6 ⟨d.val, by omega⟩ u s = ((kf d j.val * qf d * qs : ℝ) : EReal) := fun d => by
    unfold qaVal
    rw [dif_pos d.isLt, hk, hq, ← EReal.coe_mul, ← EReal.coe_mul, mul_assoc]
  have e5 : (∑ d : Fin 64, K (ix4 0 0 j ⟨64 + d.val, by omega⟩) * qaVal x3 x6 ⟨64 + d.val, by omega⟩ u s) = 0 - (β : EReal) := by
    rw [Fin.sum_univ_succ (n := 63), Finset.sum_congr rfl fun d _ => e2 d, e3, Finset.sum_const_zero, add_zero]
  rw [Finset.sum_congr rfl fun d _ => e4 d, e5, ← coe_sum, zero_sub,
    ← EReal.coe_neg, ← EReal.coe_add, Finset.sum_mul, sub_eq_add_neg]

end Cert.Proof.GI

end
-- ==== Proof.GI.HostTerms.lean ====
module

public import proofs.«01_k».proof.Proof.Gen.Kernel2Ideal.Frame
public import Idealize.ShloMosaic.Lib.Pointwise
public import Idealize.ShloMosaic.Lib.StableHlo.Run

/-! The host terms the attention call stages, read at an element. -/

@[expose] public section

set_option maxRecDepth 16384

noncomputable section

namespace Cert.Proof.GI

open Cert.Kernel2Ideal Cert.Kernel2Ideal.Gen
open Idealize.ShloMosaic Idealize.ShloMosaic.TcCoe Idealize.ShloMosaic.StableHlo

/-- The staged queries: transposed. -/
def hq (q : FVec Ideal S2x16384x8x64 .f32) : FVec Ideal S2x512x16640 .bf16 :=
  truncf .bf16 (transpose S2x512x16640 [0, 2, 1] (shapeCast S2x16640x512 (pad S2x16640x8x64 ![0, 0, 0, 0] ![0, 256, 0, 0] ![0, 0, 0, 0] q (sitofp .f32 (constantI S_ 32 0#32)) pads_S2x16384x8x64_S2x16640x8x64_000_02560_000_000 h_S_) shapeCasts_S2x16640x8x64_S2x16640x512) transposes_S2x16640x512_S2x512x16640_0_2_1) bitsLt_bf16_f32

/-- The rows by head and lane, transposed, read at an element. -/
theorem flatq_apply (x : FVec Ideal S2x16640x8x64 .f32) (b : Fin 2) (h : Fin 8) (d : Fin 64) (j : Fin 16640) :
    truncf .bf16 (transpose S2x512x16640 [0, 2, 1] (shapeCast S2x16640x512 x shapeCasts_S2x16640x8x64_S2x16640x512) transposes_S2x16640x512_S2x512x16640_0_2_1) bitsLt_bf16_f32 (ix3 b ⟨64 * h.val + d.val, by omega⟩ j) = x (ix4 b j h d) := by
  have e1 : ∀ (y : FVec Ideal S2x16640x512 .f32) (c : Fin 512), truncf .bf16 (transpose S2x512x16640 [0, 2, 1] y transposes_S2x16640x512_S2x512x16640_0_2_1) bitsLt_bf16_f32 (ix3 b c j) = y (ix3 b j c) := by
    intro y c; pointwise []
  rw [e1]
  refine shapeCast_apply _ _ _ _ ?_
  rw [Shape.rowMajor_val_four, Shape.rowMajor_val_three]
  simp
  ring

theorem pad_apply (q : FVec Ideal S2x16384x8x64 .f32) (z : FVec Ideal S_ .f32) (b : Fin 2) (h : Fin 8) (d : Fin 64) (i : Fin 16384) :
    pad S2x16640x8x64 ![0, 0, 0, 0] ![0, 256, 0, 0] ![0, 0, 0, 0] q z pads_S2x16384x8x64_S2x16640x8x64_000_02560_000_000 h_S_ (ix4 b ⟨i.val, by omega⟩ h d) = q (ix4 b i h d) := by
  pointwise []

theorem hq_apply (q : FVec Ideal S2x16384x8x64 .f32) (b : Fin 2) (h : Fin 8) (d : Fin 64) (i : Fin 16384) :
    hq q (ix3 b ⟨64 * h.val + d.val, by omega⟩ ⟨i.val, by omega⟩) = q (ix4 b i h d) := by
  unfold hq
  exact (flatq_apply _ b h d ⟨i.val, by omega⟩).trans (pad_apply q _ b h d i)

/-- The rows by head and lane, transposed, read at an element. -/
theorem flat_apply (x : FVec Ideal S2x16640x2x64 .f32) (b : Fin 2) (h : Fin 2) (d : Fin 64) (j : Fin 16640) :
    truncf .bf16 (transpose S2x128x16640 [0, 2, 1] (shapeCast S2x16640x128 x shapeCasts_S2x16640x2x64_S2x16640x128) transposes_S2x16640x128_S2x128x16640_0_2_1) bitsLt_bf16_f32 (ix3 b ⟨64 * h.val + d.val, by omega⟩ j) = x (ix4 b j h d) := by
  have e1 : ∀ (y : FVec Ideal S2x16640x128 .f32) (c : Fin 128), truncf .bf16 (transpose S2x128x16640 [0, 2, 1] y transposes_S2x16640x128_S2x128x16640_0_2_1) bitsLt_bf16_f32 (ix3 b c j) = y (ix3 b j c) := by
    intro y c; pointwise []
  rw [e1]
  refine shapeCast_apply _ _ _ _ ?_
  rw [Shape.rowMajor_val_four, Shape.rowMajor_val_three]
  simp
  ring

/-- Latent rows, then context rows. -/
def hvt (vc : FVec Ideal S2x256x2x64 .f32) (vl : FVec Ideal S2x16384x2x64 .f32) : FVec Ideal S2x16640x2x64 .f32 :=
  concatenate S2x16640x2x64 1 [⟨S2x16384x2x64, vl⟩, ⟨S2x256x2x64, vc⟩] concatenates_S2x16384x2x64_S2x256x2x64_S2x16640x2x64_d1

theorem hvt_apply (vc : FVec Ideal S2x256x2x64 .f32) (vl : FVec Ideal S2x16384x2x64 .f32) (b : Fin 2) (h : Fin 2) (d : Fin 64) (j : Fin 16640) :
    hvt vc vl (ix4 b j h d) = if p : j.val < 16384 then vl (ix4 b ⟨j.val, p⟩ h d) else vc (ix4 b ⟨j.val - 16384, by omega⟩ h d) := by
  unfold hvt
  pointwise []

/-- The staged values: by head and lane, then by row. -/
def hv (vc : FVec Ideal S2x256x2x64 .f32) (vl : FVec Ideal S2x16384x2x64 .f32) : FVec Ideal S2x128x16640 .bf16 :=
  truncf .bf16 (transpose S2x128x16640 [0, 2, 1] (shapeCast S2x16640x128 (hvt vc vl) shapeCasts_S2x16640x2x64_S2x16640x128) transposes_S2x16640x128_S2x128x16640_0_2_1) bitsLt_bf16_f32

theorem hv_apply (vc : FVec Ideal S2x256x2x64 .f32) (vl : FVec Ideal S2x16384x2x64 .f32) (b : Fin 2) (h : Fin 2) (d : Fin 64) (j : Fin 16640) :
    hv vc vl (ix3 b ⟨64 * h.val + d.val, by omega⟩ j) = hvt vc vl (ix4 b j h d) := by
  unfold hv
  exact flat_apply _ b h d j

/-- The keys of both row sets, by head. -/
def hkt (kc : FVec Ideal S2x256x2x64 .f32) (kl : FVec Ideal S2x16384x2x64 .f32) : FVec Ideal S2x2x16640x64 .f32 :=
  transpose S2x2x16640x64 [0, 2, 1, 3] (concatenate S2x16640x2x64 1 [⟨S2x16384x2x64, kl⟩, ⟨S2x256x2x64, kc⟩] concatenates_S2x16384x2x64_S2x256x2x64_S2x16640x2x64_d1) transposes_S2x16640x2x64_S2x2x16640x64_0_2_1_3

theorem hkt_apply (kc : FVec Ideal S2x256x2x64 .f32) (kl : FVec Ideal S2x16384x2x64 .f32) (b : Fin 2) (h : Fin 2) (d : Fin 64) (j : Fin 16640) :
    hkt kc kl (ix4 b h j d) = if p : j.val < 16384 then kl (ix4 b ⟨j.val, p⟩ h d) else kc (ix4 b ⟨j.val - 16384, by omega⟩ h d) := by
  unfold hkt
  pointwise []

theorem lanes_apply (x : FVec Ideal S2x2x16640x64 .f32) (y : FVec Ideal S2x2x16640x1 .f32) (z : FVec Ideal S2x2x16640x63 .f32) (b : Fin 2) (h : Fin 2) (d : Fin 128) (j : Fin 16640) :
    concatenate S2x2x16640x128 3 [⟨S2x2x16640x64, x⟩, ⟨S2x2x16640x1, y⟩, ⟨S2x2x16640x63, z⟩] concatenates_S2x2x16640x64_S2x2x16640x1_S2x2x16640x63_S2x2x16640x128_d3 (ix4 b h j d)
      = (if h1 : d.val < 64 then x (ix4 b h j ⟨d.val, h1⟩)
        else if h2 : d.val - 64 < 1 then y (ix4 b h j ⟨d.val - 64, h2⟩) else z (ix4 b h j ⟨d.val - 64 - 1, by omega⟩)) := by
  pointwise []

/-- The staged keys: a one after each key's own lanes, then zeros. -/
def hk (kc : FVec Ideal S2x256x2x64 .f32) (kl : FVec Ideal S2x16384x2x64 .f32) : FVec Ideal S2x2x16640x128 .bf16 :=
  truncf .bf16 (concatenate S2x2x16640x128 3 [⟨S2x2x16640x64, hkt kc kl⟩, ⟨S2x2x16640x1, broadcastInDim S2x2x16640x1 ![] bcast_S_S2x2x16640x1 (constant S_ .f32 0x3F800000#32)⟩, ⟨S2x2x16640x63, broadcastInDim S2x2x16640x63 ![] bcast_S_S2x2x16640x63 (constant S_ .f32 0x00000000#32)⟩] concatenates_S2x2x16640x64_S2x2x16640x1_S2x2x16640x63_S2x2x16640x128_d3) bitsLt_bf16_f32

theorem hk_apply (kc : FVec Ideal S2x256x2x64 .f32) (kl : FVec Ideal S2x16384x2x64 .f32) (b : Fin 2) (h : Fin 2) (j : Fin 16640) :
    (∀ d : Fin 64, hk kc kl (ix4 b h j ⟨d.val, by omega⟩) = hkt kc kl (ix4 b h j d)) ∧ hk kc kl (ix4 b h j 64) = 1 := by
  have e : ∀ (x : FVec Ideal S2x2x16640x128 .f32) (d : Fin 128), truncf .bf16 x bitsLt_bf16_f32 (ix4 b h j d) = x (ix4 b h j d) := fun x d => by pointwise []
  refine ⟨fun d => ?_, ?_⟩
  · unfold hk
    rw [e, lanes_apply, dif_pos d.isLt]
  · unfold hk
    rw [e, lanes_apply, dif_neg (by decide), dif_pos (by decide)]
    pointwise []

theorem maxred_apply (s : FVec Ideal S2x2x16640 .f32) (b : Fin 2) (h : Fin 2) :
    Host.reduce FloatOps.maximumf s (constant S_ .f32 0xFF800000#32) reducesTo_S2x2x16640_S2x2_d2 h_S_ (ix2 b h) = Finset.univ.fold max (Ideal.ofBits .f32 0xFF800000#32) fun j : Fin 16640 => s (ix3 b h j) := by
  pointwise []

theorem sqsum_apply (x : FVec Ideal S2x2x16640x64 .f32) (b : Fin 2) (h : Fin 2) (j : Fin 16640) :
    Host.reduceAdd (mulf (extf .f32 (truncf .bf16 x bitsLt_bf16_f32) bitsLt_bf16_f32) (extf .f32 (truncf .bf16 x bitsLt_bf16_f32) bitsLt_bf16_f32)) (constant S_ .f32 0x00000000#32) reducesTo_S2x2x16640x64_S2x2x16640_d3 h_S_ (ix3 b h j)
      = ∑ y : Fin 64, x (ix4 b h j y) * x (ix4 b h j y) := by
  pointwise []

theorem spread_apply (x : FVec Ideal S2x2 .f32) (b : Fin 2) (h : Fin 2) (j : Fin 128) :
    broadcastInDim S2x2x1x128 ![0, 1, 2, 3] bcast_S2x2x1x1_S2x2x1x128_0_1_2_3 (broadcastInDim S2x2x1x1 ![0, 1] bcast_S2x2_S2x2x1x1_0_1 (Host.sqrt x)) (ix4 b h 0 j) = Ideal.sqrt (x (ix2 b h)) := by
  pointwise []

/-- The largest key norm of each head. -/
def hm (kc : FVec Ideal S2x256x2x64 .f32) (kl : FVec Ideal S2x16384x2x64 .f32) : FVec Ideal S2x2x1x128 .f32 :=
  broadcastInDim S2x2x1x128 ![0, 1, 2, 3] bcast_S2x2x1x1_S2x2x1x128_0_1_2_3 (broadcastInDim S2x2x1x1 ![0, 1] bcast_S2x2_S2x2x1x1_0_1 (Host.sqrt (Host.reduce FloatOps.maximumf (Host.reduceAdd (mulf (extf .f32 (truncf .bf16 (hkt kc kl) bitsLt_bf16_f32) bitsLt_bf16_f32) (extf .f32 (truncf .bf16 (hkt kc kl) bitsLt_bf16_f32) bitsLt_bf16_f32)) (constant S_ .f32 0x00000000#32) reducesTo_S2x2x16640x64_S2x2x16640_d3 h_S_) (constant S_ .f32 0xFF800000#32) reducesTo_S2x2x16640_S2x2_d2 h_S_)))

theorem hm_apply (kc : FVec Ideal S2x256x2x64 .f32) (kl : FVec Ideal S2x16384x2x64 .f32) (b : Fin 2) (h : Fin 2) (j : Fin 128) :
    hm kc kl (ix4 b h 0 j) = Ideal.sqrt (Finset.univ.fold max (Ideal.ofBits .f32 0xFF800000#32)
      fun x : Fin 16640 => ∑ y : Fin 64, hkt kc kl (ix4 b h x y) * hkt kc kl (ix4 b h x y)) := by
  unfold hm
  rw [spread_apply, maxred_apply]
  simp only [sqsum_apply]

/-- The array of zeros the call's result starts as. -/
def hz : FVec Ideal S2x16640x512 .bf16 := broadcastInDim S2x16640x512 ![] bcast_S_S2x16640x512 (constant S_ .bf16 0x0000#16)

theorem hz_apply (b : Fin 2) (i : Fin 16640) (y : Fin 512) : hz (ix3 b i y) = 0 := by
  unfold hz
  pointwise []

end Cert.Proof.GI

end
-- ==== Proof.GI.HostQ.lean ====
module

public import proofs.«01_k».proof.Proof.Gen.Kernel2Ideal.Frame
public import Idealize.ShloMosaic.Lib.Pointwise
public import Idealize.ShloMosaic.Lib.StableHlo.Run
public import proofs.«01_k».proof.Proof.GI.HostTerms

/-! What the host leaves in one array of the attention call. -/

@[expose] public section

set_option maxRecDepth 16384

noncomputable section

namespace Cert.Proof.GI

open Cert.Kernel2Ideal Cert.Kernel2Ideal.Gen
open Idealize.ShloMosaic Idealize.ShloMosaic.TcCoe Idealize.ShloMosaic.StableHlo

variable (m : (ℓ : Loc nD τ sig) → Buf (Elt Ideal) ℓ) (c : Dev nD)

theorem V_main_v3 : V m c main_v3 = hq (m ((c : Thread nD τ).loc main_arg0)) := by
  unfold V
  simp only [hostOps0, hostOps0_1, hostOps0_2, List.flatten_cons, List.flatten_nil, List.append_nil, List.cons_append, List.nil_append, TRef.binary, TRef.unary, TRef.toBuf, TRef.ofBuf, cast_eq]
  after_results_simp <;> rfl

end Cert.Proof.GI

end
-- ==== Proof.GI.HostK.lean ====
module

public import proofs.«01_k».proof.Proof.Gen.Kernel2Ideal.Frame
public import Idealize.ShloMosaic.Lib.Pointwise
public import Idealize.ShloMosaic.Lib.StableHlo.Run
public import proofs.«01_k».proof.Proof.GI.HostTerms

/-! What the host leaves in one array of the attention call. -/

@[expose] public section

set_option maxRecDepth 16384

noncomputable section

namespace Cert.Proof.GI

open Cert.Kernel2Ideal Cert.Kernel2Ideal.Gen
open Idealize.ShloMosaic Idealize.ShloMosaic.TcCoe Idealize.ShloMosaic.StableHlo

variable (m : (ℓ : Loc nD τ sig) → Buf (Elt Ideal) ℓ) (c : Dev nD)

theorem V_main_v9 : V m c main_v9 = hk (m ((c : Thread nD τ).loc main_arg1)) (m ((c : Thread nD τ).loc main_arg2)) := by
  unfold V
  simp only [hostOps0, hostOps0_1, hostOps0_2, List.flatten_cons, List.flatten_nil, List.append_nil, List.cons_append, List.nil_append, TRef.binary, TRef.unary, TRef.toBuf, TRef.ofBuf, cast_eq]
  after_results_simp <;> rfl

end Cert.Proof.GI

end
-- ==== Proof.GI.HostM.lean ====
module

public import proofs.«01_k».proof.Proof.Gen.Kernel2Ideal.Frame
public import Idealize.ShloMosaic.Lib.Pointwise
public import Idealize.ShloMosaic.Lib.StableHlo.Run
public import proofs.«01_k».proof.Proof.GI.HostTerms

/-! What the host leaves in one array of the attention call. -/

@[expose] public section

set_option maxRecDepth 16384

noncomputable section

namespace Cert.Proof.GI

open Cert.Kernel2Ideal Cert.Kernel2Ideal.Gen
open Idealize.ShloMosaic Idealize.ShloMosaic.TcCoe Idealize.ShloMosaic.StableHlo

variable (m : (ℓ : Loc nD τ sig) → Buf (Elt Ideal) ℓ) (c : Dev nD)

theorem V_main_v17 : V m c main_v17 = hm (m ((c : Thread nD τ).loc main_arg1)) (m ((c : Thread nD τ).loc main_arg2)) := by
  unfold V
  simp only [hostOps0, hostOps0_1, hostOps0_2, List.flatten_cons, List.flatten_nil, List.append_nil, List.cons_append, List.nil_append, TRef.binary, TRef.unary, TRef.toBuf, TRef.ofBuf, cast_eq]
  after_results_simp <;> rfl

end Cert.Proof.GI

end
-- ==== Proof.GI.HostV.lean ====
module

public import proofs.«01_k».proof.Proof.Gen.Kernel2Ideal.Frame
public import Idealize.ShloMosaic.Lib.Pointwise
public import Idealize.ShloMosaic.Lib.StableHlo.Run
public import proofs.«01_k».proof.Proof.GI.HostTerms

/-! What the host leaves in one array of the attention call. -/

@[expose] public section

set_option maxRecDepth 16384

noncomputable section

namespace Cert.Proof.GI

open Cert.Kernel2Ideal Cert.Kernel2Ideal.Gen
open Idealize.ShloMosaic Idealize.ShloMosaic.TcCoe Idealize.ShloMosaic.StableHlo

variable (m : (ℓ : Loc nD τ sig) → Buf (Elt Ideal) ℓ) (c : Dev nD)

theorem V_main_v21 : V m c main_v21 = hv (m ((c : Thread nD τ).loc main_arg3)) (m ((c : Thread nD τ).loc main_arg4)) := by
  unfold V
  simp only [hostOps0, hostOps0_1, hostOps0_2, List.flatten_cons, List.flatten_nil, List.append_nil, List.cons_append, List.nil_append, TRef.binary, TRef.unary, TRef.toBuf, TRef.ofBuf, cast_eq]
  after_results_simp <;> rfl

end Cert.Proof.GI

end
-- ==== Proof.GI.HostZ.lean ====
module

public import proofs.«01_k».proof.Proof.Gen.Kernel2Ideal.Frame
public import Idealize.ShloMosaic.Lib.Pointwise
public import Idealize.ShloMosaic.Lib.StableHlo.Run
public import proofs.«01_k».proof.Proof.GI.HostTerms

/-! What the host leaves in one array of the attention call. -/

@[expose] public section

set_option maxRecDepth 16384

noncomputable section

namespace Cert.Proof.GI

open Cert.Kernel2Ideal Cert.Kernel2Ideal.Gen
open Idealize.ShloMosaic Idealize.ShloMosaic.TcCoe Idealize.ShloMosaic.StableHlo

variable (m : (ℓ : Loc nD τ sig) → Buf (Elt Ideal) ℓ) (c : Dev nD)

theorem V_main_v23 : V m c main_v23 = hz := by
  unfold V
  simp only [hostOps0, hostOps0_1, hostOps0_2, List.flatten_cons, List.flatten_nil, List.append_nil, List.cons_append, List.nil_append, TRef.binary, TRef.unary, TRef.toBuf, TRef.ofBuf, cast_eq]
  after_results_simp <;> rfl

end Cert.Proof.GI

end
-- ==== Proof.GI.Blocks.lean ====
module

public import proofs.«01_k».proof.Proof.GI.Run
public import proofs.«01_k».proof.Proof.GI.Widen
public import proofs.«01_k».proof.Proof.GI.HostQ
public import proofs.«01_k».proof.Proof.GI.HostK
public import proofs.«01_k».proof.Proof.GI.HostM
public import proofs.«01_k».proof.Proof.GI.HostV
public import proofs.«01_k».proof.Proof.GI.HostZ
public import proofs.«01_k».proof.Proof.Spec

/-! The blocks of one grid point, read at an element of the arguments, and the block it leaves. -/

@[expose] public section

set_option maxRecDepth 16384

noncomputable section

namespace Cert.Proof.GI

open Cert.Kernel2Ideal Cert.Kernel2Ideal.Gen
open Idealize.ShloMosaic Idealize.ShloMosaic.TcCoe Cert.Proof.Sm

theorem idx0 : ∀ t : Fin grid0.N, win0_0.index t = ![t.val / 128, t.val / 64 % 2, t.val % 64] := by decide +kernel
theorem idx1 : ∀ t : Fin grid0.N, win0_1.index t = ![t.val / 128, t.val / 64 % 2, 0, 0] := by decide +kernel
theorem idx2 : ∀ t : Fin grid0.N, win0_2.index t = ![t.val / 128, t.val / 64 % 2, 0] := by decide +kernel
theorem idx3 : ∀ t : Fin grid0.N, win0_3.index t = ![t.val / 128, t.val / 64 % 2, 0, 0] := by decide +kernel
theorem idx4 : ∀ t : Fin grid0.N, win0_4.index t = ![t.val / 128, t.val % 64, t.val / 64 % 2] := by decide +kernel
theorem points : grid0.N = 256 := by decide +kernel

/-- A point's batch, group and query tile. -/
def pb (t : Fin cfg0.N) : Fin 2 := ⟨t.val / 128, by have := Nat.lt_of_lt_of_le t.isLt points.le; omega⟩
def ph (t : Fin cfg0.N) : Fin 2 := ⟨t.val / 64 % 2, by omega⟩
def pq (t : Fin cfg0.N) : Fin 64 := ⟨t.val % 64, by omega⟩

variable (m : (ℓ : Loc nD τ sig) → Buf (Elt Ideal) ℓ) (c : Dev nD) (t : Fin cfg0.N)

theorem ext3 {n0 n1 n2 : ℕ} (x y : (⟨3, ![n0, n1, n2]⟩ : Shape).Idx) (h0 : (x 0).val = (y 0).val) (h1 : (x 1).val = (y 1).val) (h2 : (x 2).val = (y 2).val) : x = y := by
  funext a; apply Fin.ext; fin_cases a; exacts [h0, h1, h2]

theorem emb0_0 (y : ((cfg0.win 0).xblock (cfg0.grid.coords t)).Idx) :
    (((cfg0.win 0).blk t).view.emb y 0).val = t.val / 128 * 1 + (y 0).val := by
  blk_simp [idx0]

theorem emb0_1 (y : ((cfg0.win 0).xblock (cfg0.grid.coords t)).Idx) :
    (((cfg0.win 0).blk t).view.emb y 1).val = t.val / 64 % 2 * 256 + (y 1).val := by
  blk_simp [idx0]

theorem emb0_2 (y : ((cfg0.win 0).xblock (cfg0.grid.coords t)).Idx) :
    (((cfg0.win 0).blk t).view.emb y 2).val = t.val % 64 * 256 + (y 2).val := by
  blk_simp [idx0]

theorem emb2_0 (y : ((cfg0.win 2).xblock (cfg0.grid.coords t)).Idx) :
    (((cfg0.win 2).blk t).view.emb y 0).val = t.val / 128 * 1 + (y 0).val := by
  blk_simp [idx2]

theorem emb2_1 (y : ((cfg0.win 2).xblock (cfg0.grid.coords t)).Idx) :
    (((cfg0.win 2).blk t).view.emb y 1).val = t.val / 64 % 2 * 64 + (y 1).val := by
  blk_simp [idx2]

theorem emb2_2 (y : ((cfg0.win 2).xblock (cfg0.grid.coords t)).Idx) :
    (((cfg0.win 2).blk t).view.emb y 2).val = (y 2).val := by
  blk_simp [idx2]

theorem iblk0_gen (y : ((cfg0.win 0).xblock (cfg0.grid.coords t)).Idx) (Y : S2x512x16640.Idx) (h : ((cfg0.win 0).blk t).view.emb y = Y) :
    iblk m c 0 t y = V m c main_v3 Y := by
  unfold iblk
  rw [View.read_apply]
  generalize V m c = W
  refine eq_of_heq ((cast_heq _ _).trans ?_)
  rw [h]

theorem iblk2_gen (y : ((cfg0.win 2).xblock (cfg0.grid.coords t)).Idx) (Y : S2x128x16640.Idx) (h : ((cfg0.win 2).blk t).view.emb y = Y) :
    iblk m c 2 t y = V m c main_v21 Y := by
  unfold iblk
  rw [View.read_apply]
  generalize V m c = W
  refine eq_of_heq ((cast_heq _ _).trans ?_)
  rw [h]

theorem iblk0_apply (y : Fin 256) (r : Fin 256) (b : Fin 2) (k : Fin 512) (i : Fin 16640) (hb : b.val = t.val / 128) (hk : k.val = 256 * (t.val / 64 % 2) + y.val)
    (hi : i.val = 256 * (t.val % 64) + r.val) : iblk m c 0 t (ix3 0 y r) = V m c main_v3 (ix3 b k i) := by
  refine iblk0_gen m c t _ _ (ext3 _ _ ?_ ?_ ?_)
  · refine (emb0_0 t _).trans ?_
    show t.val / 128 * 1 + 0 = b.val
    omega
  · refine (emb0_1 t _).trans ?_
    show t.val / 64 % 2 * 256 + y.val = k.val
    omega
  · refine (emb0_2 t _).trans ?_
    show t.val % 64 * 256 + r.val = i.val
    omega

theorem iblk2_apply (e : Fin 64) (j : Fin 16640) (b : Fin 2) (k : Fin 128) (hb : b.val = t.val / 128) (hk : k.val = 64 * (t.val / 64 % 2) + e.val) :
    iblk m c 2 t (ix3 0 e j) = V m c main_v21 (ix3 b k j) := by
  refine iblk2_gen m c t _ _ (ext3 _ _ ?_ ?_ ?_)
  · refine (emb2_0 t _).trans ?_
    show t.val / 128 * 1 + 0 = b.val
    omega
  · refine (emb2_1 t _).trans ?_
    show t.val / 64 % 2 * 64 + e.val = k.val
    omega
  · exact emb2_2 t _

theorem iblk1_apply (j : Fin 16640) (d : Fin 128) : iblk m c 1 t (ix4 0 0 j d) = V m c main_v9 (ix4 (pb t) (ph t) j d) := by
  unfold iblk
  refine congrArg (V m c main_v9) ?_
  funext a
  apply Fin.ext
  fin_cases a <;> blk_simp [idx1] <;> rfl

theorem iblk3_apply : iblk m c 3 t (ix4 0 0 0 0) = V m c main_v17 (ix4 (pb t) (ph t) 0 0) := by
  unfold iblk
  refine congrArg (V m c main_v17) ?_
  funext a
  apply Fin.ext
  fin_cases a <;> blk_simp [idx3] <;> rfl

end Cert.Proof.GI

end
-- ==== Proof.SpecG.lean ====
module

public import proofs.«01_k».proof.Proof.Spec

/-! The result of the grouped-query attention, as a function of the call's arguments: four query heads read each key head. -/

@[expose] public section

noncomputable section

namespace Cert.Proof.Sm

open Idealize.ShloMosaic

/-- The scaled score of query `i`, in head `u` of group `g`, against row `j`. -/
def tscG (q : FVec Ideal ⟨4, ![2, 16384, 8, 64]⟩ .f32) (kc : FVec Ideal ⟨4, ![2, 256, 2, 64]⟩ .f32) (kl : FVec Ideal ⟨4, ![2, 16384, 2, 64]⟩ .f32)
    (b : Fin 2) (g : Fin 2) (u : Fin 4) (i : Fin 16384) (j : ℕ) : ℝ :=
  (∑ d : Fin 64, (cat kl kc b g d j).toReal * (q (ix4 b i ⟨4 * g.val + u.val, by omega⟩ d)).toReal) * (1 / 8)

/-- The result: attention in the latent rows, zeros in the context rows. -/
def goalG (q : FVec Ideal ⟨4, ![2, 16384, 8, 64]⟩ .f32) (kc : FVec Ideal ⟨4, ![2, 256, 2, 64]⟩ .f32) (kl : FVec Ideal ⟨4, ![2, 16384, 2, 64]⟩ .f32)
    (vc : FVec Ideal ⟨4, ![2, 256, 2, 64]⟩ .f32) (vl : FVec Ideal ⟨4, ![2, 16384, 2, 64]⟩ .f32) : FVec Ideal ⟨3, ![2, 16640, 512]⟩ .bf16 := fun x =>
  have hx : (x 2).val < 512 := (x 2).isLt
  if p : (x 1).val < 16384 then
    attn (tscG q kc kl (x 0) ⟨(x 2).val / 256, by omega⟩ ⟨(x 2).val / 64 % 4, by omega⟩ ⟨(x 1).val, p⟩)
      (cat vl vc (x 0) ⟨(x 2).val / 256, by omega⟩ ⟨(x 2).val % 64, by omega⟩) 16640
  else (0 : EReal)

section
variable (q : FVec Ideal ⟨4, ![2, 16384, 8, 64]⟩ .f32) (kc : FVec Ideal ⟨4, ![2, 256, 2, 64]⟩ .f32) (kl : FVec Ideal ⟨4, ![2, 16384, 2, 64]⟩ .f32)
  (vc : FVec Ideal ⟨4, ![2, 256, 2, 64]⟩ .f32) (vl : FVec Ideal ⟨4, ![2, 16384, 2, 64]⟩ .f32)

theorem goalG_apply (b : Fin 2) (i : Fin 16384) (g : Fin 2) (u : Fin 4) (e : Fin 64) (i' : Fin 16640) (y : Fin 512) (hi : i'.val = i.val)
    (hy : y.val = 256 * g.val + 64 * u.val + e.val) : goalG q kc kl vc vl (ix3 b i' y) = attn (tscG q kc kl b g u i) (cat vl vc b g e) 16640 := by
  have b1 : i.val < 16640 := by have := i.isLt; omega
  have b2 : 256 * g.val + 64 * u.val + e.val < 512 := by have := g.isLt; have := u.isLt; have := e.isLt; omega
  have e1 : i' = ⟨i.val, b1⟩ := Fin.ext hi
  have e2 : y = ⟨256 * g.val + 64 * u.val + e.val, b2⟩ := Fin.ext hy
  clear hi hy
  subst e1 e2
  have h1 : (⟨(256 * g.val + 64 * u.val + e.val) / 256, by omega⟩ : Fin 2) = g := Fin.ext (by simp only []; omega)
  have h2 : (⟨(256 * g.val + 64 * u.val + e.val) / 64 % 4, by omega⟩ : Fin 4) = u := Fin.ext (by simp only []; omega)
  have h3 : (⟨(256 * g.val + 64 * u.val + e.val) % 64, by omega⟩ : Fin 64) = e := Fin.ext (by simp only []; omega)
  unfold goalG
  refine (dif_pos i.isLt).trans ?_
  show attn (tscG q kc kl b (⟨(256 * g.val + 64 * u.val + e.val) / 256, by omega⟩ : Fin 2) (⟨(256 * g.val + 64 * u.val + e.val) / 64 % 4, by omega⟩ : Fin 4) i)
    (cat vl vc b (⟨(256 * g.val + 64 * u.val + e.val) / 256, by omega⟩ : Fin 2) (⟨(256 * g.val + 64 * u.val + e.val) % 64, by omega⟩ : Fin 64)) 16640 = _
  rw [h1, h2, h3]

theorem goalG_pad (b : Fin 2) (i : Fin 16640) (y : Fin 512) (hi : ¬ i.val < 16384) : goalG q kc kl vc vl (ix3 b i y) = 0 := by
  unfold goalG
  exact dif_neg hi

end

end Cert.Proof.Sm

end
-- ==== Proof.GI.Value.lean ====
module

public import proofs.«01_k».proof.Proof.GI.Widen
public import proofs.«01_k».proof.Proof.GI.HostTerms
public import proofs.«01_k».proof.Proof.SpecG

/-! One grid point's block, from blocks that read the arguments. -/

@[expose] public section

set_option maxRecDepth 16384

noncomputable section

namespace Cert.Proof.GI

open Cert.Kernel2Ideal Cert.Kernel2Ideal.Gen
open Idealize.ShloMosaic Idealize.ShloMosaic.TcCoe Cert.Proof.Sm

theorem hkt_cat (kc : FVec Ideal S2x256x2x64 .f32) (kl : FVec Ideal S2x16384x2x64 .f32) (b : Fin 2) (h : Fin 2) (j : Fin 16640) (d : Fin 64) :
    hkt kc kl (ix4 b h j d) = cat kl kc b h d j.val := by
  rw [hkt_apply]
  unfold cat
  by_cases p : j.val < 16384
  · rw [dif_pos p, dif_pos p]
  · rw [dif_neg p, dif_neg p, dif_pos (by have := j.isLt; omega)]

theorem hvt_cat (vc : FVec Ideal S2x256x2x64 .f32) (vl : FVec Ideal S2x16384x2x64 .f32) (b : Fin 2) (h : Fin 2) (j : Fin 16640) (d : Fin 64) :
    hvt vc vl (ix4 b j h d) = cat vl vc b h d j.val := by
  rw [hvt_apply]
  unfold cat
  by_cases p : j.val < 16384
  · rw [dif_pos p, dif_pos p]
  · rw [dif_neg p, dif_neg p, dif_pos (by have := j.isLt; omega)]

theorem hm_real (kc : FVec Ideal S2x256x2x64 .f32) (kl : FVec Ideal S2x16384x2x64 .f32) (hc : Fin' kc) (hl : Fin' kl) (b : Fin 2) (h : Fin 2) (j : Fin 128) :
    ∃ M : ℝ, hm kc kl (ix4 b h 0 j) = M := by
  rw [hm_apply]
  have e : ∀ x : Fin 16640, (∑ y : Fin 64, hkt kc kl (ix4 b h x y) * hkt kc kl (ix4 b h x y))
      = ((∑ y : Fin 64, (cat kl kc b h y x.val).toReal * (cat kl kc b h y x.val).toReal : ℝ) : EReal) := fun x => by
    rw [coe_sum]
    refine Finset.sum_congr rfl fun y _ => ?_
    rw [hkt_cat, EReal.coe_mul, ← cat_real kl kc hl hc]
  simp only [e, ofBits_bot]
  obtain ⟨M, hM⟩ := fold_max_real (Finset.univ : Finset (Fin 16640)) ⟨0, Finset.mem_univ _⟩
    (fun x => ∑ y : Fin 64, (cat kl kc b h y x.val).toReal * (cat kl kc b h y x.val).toReal)
  have h0 : (0 : ℝ) ≤ M := by
    have h1 : (((∑ y : Fin 64, (cat kl kc b h y (0 : Fin 16640).val).toReal * (cat kl kc b h y (0 : Fin 16640).val).toReal : ℝ)) : EReal) ≤ (M : EReal) := by
      rw [← hM]
      exact Finset.le_fold_max _ |>.mpr (.inr ⟨0, Finset.mem_univ _, le_rfl⟩)
    exact (Finset.sum_nonneg fun y _ => mul_self_nonneg _).trans (EReal.coe_le_coe_iff.mp h1)
  rw [hM]
  exact ⟨Real.sqrt M, by rw [Ideal.sqrt_coe, if_neg (not_lt.mpr h0)]⟩

theorem out_val (q : FVec Ideal S2x16384x8x64 .f32) (kc : FVec Ideal S2x256x2x64 .f32) (kl : FVec Ideal S2x16384x2x64 .f32)
    (vc : FVec Ideal S2x256x2x64 .f32) (vl : FVec Ideal S2x16384x2x64 .f32) (hq : Fin' q) (hc : Fin' kc) (hl : Fin' kl)
    (x3 : Vec Ideal S1x256x256 .bf16) (K : Vec Ideal S1x1x16640x128 .bf16) (V : Vec Ideal S1x64x16640 .bf16) (x6 : Vec Ideal S1x1x1x128 .f32)
    (b : Fin 2) (h : Fin 2) (u : Fin 4) (i : Fin 16384) (s : Fin 256) (e : Fin 64)
    (hx3 : ∀ d : Fin 64, x3 (ix3 0 ⟨64 * u.val + d.val, by omega⟩ s) = q (ix4 b i ⟨4 * h.val + u.val, by omega⟩ d))
    (hK : ∀ (j : Fin 16640) (d : Fin 128), K (ix4 0 0 j d) = hk kc kl (ix4 b h j d))
    (hV : ∀ (e : Fin 64) (j : Fin 16640), V (ix3 0 e j) = hv vc vl (ix3 b ⟨64 * h.val + e.val, by omega⟩ j))
    (hx6 : x6 (ix4 0 0 0 0) = hm kc kl (ix4 b h 0 0)) :
    outB (F := Ideal) x3 K V x6 (ix3 0 s ⟨64 * u.val + e.val, by omega⟩) = attn (tscG q kc kl b h u i) (cat vl vc b h e) 16640 := by
  obtain ⟨M, hM⟩ := hm_real kc kl hc hl b h 0
  obtain ⟨β, hβ⟩ := sc_qa x3 K x6 u s (fun d => (q (ix4 b i ⟨4 * h.val + u.val, by omega⟩ d)).toReal) (fun d j => (cat kl kc b h d j).toReal) M
    (fun d => (hx3 d).trans (hq _)) (fun j d => by rw [hK, (hk_apply kc kl b h j).1 d, hkt_cat]; exact cat_real kl kc hl hc b h d j.val)
    (fun j => by rw [hK, (hk_apply kc kl b h j).2]) (hx6.trans hM)
  refine outB_apply x3 K V x6 u s e (fun x => (∑ d : Fin 64, (cat kl kc b h d x).toReal * (q (ix4 b i ⟨4 * h.val + u.val, by omega⟩ d)).toReal) * qs - β) (tscG q kc kl b h u i)
    (fun e j => cat vl vc b h e j) (β * Real.log 2) hβ (fun e j => by rw [hV, hv_apply, hvt_cat]) fun x _ => ?_
  have hlog : Real.log 2 ≠ 0 := (Real.log_pos one_lt_two).ne'
  unfold tscG qs
  field_simp

end Cert.Proof.GI

end
-- ==== Proof.GI.Out.lean ====
module

public import proofs.«01_k».proof.Proof.GI.Blocks
public import proofs.«01_k».proof.Proof.GI.Value
public import Idealize.ShloMosaic.Lib.Pipeline.ValueKit
public import Idealize.ShloMosaic.Lib.Claim

/-! The kernel's output array is the attention of the arguments. -/

@[expose] public section

set_option maxRecDepth 16384

noncomputable section

namespace Cert.Proof.GI

open Cert.Kernel2Ideal Cert.Kernel2Ideal.Gen
open Idealize.ShloMosaic Idealize.ShloMosaic.TcCoe Cert.Proof.Sm

variable (m : (ℓ : Loc nD τ sig) → Buf (Elt Ideal) ℓ) (c : Dev nD)

/-- The result as a function of the launched arguments. -/
def res : FVec Ideal S2x16640x512 .bf16 :=
  goalG (m ((c : Thread nD τ).loc main_arg0)) (m ((c : Thread nD τ).loc main_arg1)) (m ((c : Thread nD τ).loc main_arg2))
    (m ((c : Thread nD τ).loc main_arg3)) (m ((c : Thread nD τ).loc main_arg4))

/-- The arguments the scores are made of are finite. -/
def Real3 : Prop :=
  Fin' (s := S2x16384x8x64) (m ((c : Thread nD τ).loc main_arg0)) ∧ Fin' (s := S2x256x2x64) (m ((c : Thread nD τ).loc main_arg1)) ∧
    Fin' (s := S2x16384x2x64) (m ((c : Thread nD τ).loc main_arg2))

theorem out_point (hf : Real3 m c) (t : Fin cfg0.N) (u : Fin 4) (s : Fin 256) (e : Fin 64) (i : Fin 16384) (hi : i.val = 256 * (t.val % 64) + s.val) :
    outAt (F := Ideal) m c t (ix3 0 s ⟨64 * u.val + e.val, by omega⟩) = attn (tscG (m ((c : Thread nD τ).loc main_arg0)) (m ((c : Thread nD τ).loc main_arg1)) (m ((c : Thread nD τ).loc main_arg2)) (pb t) (ph t) u i)
      (cat (m ((c : Thread nD τ).loc main_arg4)) (m ((c : Thread nD τ).loc main_arg3)) (pb t) (ph t) e) 16640 := by
  unfold outAt
  refine out_val _ _ _ _ _ hf.1 hf.2.1 hf.2.2 _ _ _ _ (pb t) (ph t) u i s e (fun d => ?_) (fun j d => ?_) (fun e j => ?_) ?_
  · refine (iblk0_apply m c t ⟨64 * u.val + d.val, by omega⟩ s (pb t) ⟨64 * (⟨4 * (ph t).val + u.val, by have := (ph t).isLt; omega⟩ : Fin 8).val + d.val, by have := (ph t).isLt; simp only []; omega⟩ ⟨i.val, by omega⟩ rfl
      (by unfold ph; simp only []; omega) hi).trans ?_
    rw [V_main_v3, hq_apply]
  · rw [iblk1_apply, V_main_v9]
  · refine (iblk2_apply m c t e j (pb t) ⟨64 * (ph t).val + e.val, by have := (ph t).isLt; omega⟩ rfl rfl).trans ?_
    rw [V_main_v21]
  · rw [iblk3_apply, V_main_v17]

theorem emb4_0 (t : Fin cfg0.N) (y : ((cfg0.win 4).xblock (cfg0.grid.coords t)).Idx) :
    (((cfg0.win 4).blk t).view.emb y 0).val = t.val / 128 * 1 + (y 0).val := by
  blk_simp [idx4]
theorem emb4_1 (t : Fin cfg0.N) (y : ((cfg0.win 4).xblock (cfg0.grid.coords t)).Idx) :
    (((cfg0.win 4).blk t).view.emb y 1).val = t.val % 64 * 256 + (y 1).val := by
  blk_simp [idx4]
theorem emb4_2 (t : Fin cfg0.N) (y : ((cfg0.win 4).xblock (cfg0.grid.coords t)).Idx) :
    (((cfg0.win 4).blk t).view.emb y 2).val = t.val / 64 % 2 * 256 + (y 2).val := by
  blk_simp [idx4]

theorem goal_emb (hf : Real3 m c) (t : Fin cfg0.N) (x : S1x256x256.Idx) (Y : S2x16640x512.Idx) (h0 : (Y 0).val = t.val / 128 * 1 + (x 0).val)
    (h1 : (Y 1).val = t.val % 64 * 256 + (x 1).val) (h2 : (Y 2).val = t.val / 64 % 2 * 256 + (x 2).val) : outAt m c t x = res m c Y := by
  obtain ⟨z, r, e, rfl⟩ : ∃ z r e, x = ix3 z r e := ⟨_, _, _, eq_ix3 x⟩
  obtain ⟨b, i, y, rfl⟩ : ∃ b i y, Y = ix3 b i y := ⟨_, _, _, eq_ix3 Y⟩
  obtain rfl : z = 0 := Subsingleton.elim _ _
  have h0' : b.val = t.val / 128 := by
    have : b.val = t.val / 128 * 1 + 0 := h0
    omega
  have h1' : i.val = t.val % 64 * 256 + r.val := h1
  have h2' : y.val = t.val / 64 % 2 * 256 + e.val := h2
  have hb : b = pb t := Fin.ext h0'
  have hi : i.val < 16384 := by have := r.isLt; omega
  have he : e.val < 256 := e.isLt
  have e1 : e = ⟨64 * (⟨e.val / 64, by omega⟩ : Fin 4).val + (⟨e.val % 64, by omega⟩ : Fin 64).val, by simp only []; omega⟩ := Fin.ext (by simp only []; omega)
  rw [hb]
  refine (congrArg (fun z => outAt (F := Ideal) m c t (ix3 0 r z)) e1).trans ?_
  refine (out_point m c hf t ⟨e.val / 64, by omega⟩ r ⟨e.val % 64, by omega⟩ ⟨i.val, hi⟩ (by simp only []; omega)).trans ?_
  exact (goalG_apply _ _ _ _ _ (pb t) ⟨i.val, hi⟩ (ph t) ⟨e.val / 64, by omega⟩ ⟨e.val % 64, by omega⟩ i y rfl (by unfold ph; simp only []; omega)).symm

theorem zero_rows (Y : S2x16640x512.Idx) (h : ¬ (Y 1).val < 16384) : V m c main_v23 Y = res m c Y := by
  obtain ⟨b, i, y, rfl⟩ : ∃ b i y, Y = ix3 b i y := ⟨_, _, _, eq_ix3 Y⟩
  rw [V_main_v23, hz_apply]
  exact (goalG_pad _ _ _ _ _ b i y h).symm

theorem out_array (hf : Real3 m c) : (dats m 0 c).arrAt 4 cfg0.N = res m c := by
  refine (dats m 0 c).arrAt_eq_of_coversWhere_of_agree 4 (res m c) (fun β => β (1 : Fin 3) < 64) (by decide +kernel) (fun t _ y => ?_) (fun j hj => ?_)
  · refine eq_of_heq ((cast_heq _ _).trans ?_)
    rw [after4]
    exact heq_of_eq (goal_emb m c hf t _ _ (emb4_0 t y) (emb4_1 t y) (emb4_2 t y))
  · rw [A_eq]
    refine zero_rows m c _ fun h => hj ?_
    have h' : (j 1).val < 16384 := h
    rw [Pipeline.Window.cell_apply]
    show (j 1).val / 256 < 64
    omega

/-- The run: the result is `res` and the arguments are unchanged. -/
theorem value (ρ : Dev nD → PrngReg) (hf : ∀ c, Real3 m c) : θ_run defs (onTc (τ := τ) (main (F := Ideal))) ⟨m, fun _ => 0, ρ⟩ (fun r => ∀ c : Dev nD,
    r.2.mem ((c.tc : Thread nD τ).loc main_v23) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1.1 c).1 4).trans (out_array m c (hf c)), h.2.1 c⟩)
    (θ_run_and (run_main m ρ) (frame m ρ))

end Cert.Proof.GI

end
-- ==== Proof.RG.lean ====
module

public import proofs.«01_k».proof.Proof.Gen.Reference2Ideal.Run
public import proofs.«01_k».proof.Proof.Softmax
public import Idealize.ShloMosaic.Lib.Pointwise

/-! The reference's result, read at an element. -/

@[expose] public section

set_option maxRecDepth 16384

noncomputable section

namespace Cert.Proof.RG

open Cert.Reference2Ideal Cert.Reference2Ideal.Gen Cert.Reference2Ideal.Value
open Idealize.ShloMosaic Cert.Proof.Sm Idealize.ShloMosaic.TcCoe

/-- The keys, context rows first. -/
def rK (kc : FVec Ideal S2x256x2x64 .f32) (kl : FVec Ideal S2x16384x2x64 .f32) : FVec Ideal S2x2x16640x64 .f32 :=
  concatenate S2x2x16640x64 2 [⟨S2x2x256x64, (transpose S2x2x256x64 [0, 2, 1, 3] kc transposes_S2x256x2x64_S2x2x256x64_0_2_1_3)⟩, ⟨S2x2x16384x64, (transpose S2x2x16384x64 [0, 2, 1, 3] kl transposes_S2x16384x2x64_S2x2x16384x64_0_2_1_3)⟩] concatenates_S2x2x256x64_S2x2x16384x64_S2x2x16640x64_d2

/-- The values, context rows first. -/
def rV (vc : FVec Ideal S2x256x2x64 .f32) (vl : FVec Ideal S2x16384x2x64 .f32) : FVec Ideal S2x2x16640x64 .f32 :=
  concatenate S2x2x16640x64 2 [⟨S2x2x256x64, (transpose S2x2x256x64 [0, 2, 1, 3] vc transposes_S2x256x2x64_S2x2x256x64_0_2_1_3)⟩, ⟨S2x2x16384x64, (transpose S2x2x16384x64 [0, 2, 1, 3] vl transposes_S2x16384x2x64_S2x2x16384x64_0_2_1_3)⟩] concatenates_S2x2x256x64_S2x2x16384x64_S2x2x16640x64_d2

/-- The queries, by group and head of the group. -/
def rQ (q : FVec Ideal S2x16384x8x64 .f32) : FVec Ideal S2x2x4x16384x64 .f32 :=
  transpose S2x2x4x16384x64 [0, 2, 3, 1, 4] (shapeCast S2x16384x2x4x64 q shapeCasts_S2x16384x8x64_S2x16384x2x4x64) transposes_S2x16384x2x4x64_S2x2x4x16384x64_0_2_3_1_4

/-- The scaled scores. -/
def rS (q : FVec Ideal S2x2x4x16384x64 .f32) (k : FVec Ideal S2x2x16640x64 .f32) : FVec Ideal S2x2x4x16384x16640 .f32 :=
  mulf (Host.dotGeneral dot_S2x2x4x16384x64_S2x2x16640x64_S2x2x4x16384x16640_4_3_23_2_01_01 none q k) (broadcastInDim S2x2x4x16384x16640 ![] bcast_S_S2x2x4x16384x16640 (constant S_ .f32 0x3E000000#32))

/-- The largest score of each row. -/
def rM (s : FVec Ideal S2x2x4x16384x16640 .f32) : FVec Ideal S2x2x4x16384 .f32 :=
  maximumf (broadcastInDim S2x2x4x16384 ![] bcast_S_S2x2x4x16384 (constant S_ .f32 0xFF800000#32)) (Host.reduce FloatOps.maximumf s (constant S_ .f32 0xFF800000#32) reducesTo_S2x2x4x16384x16640_S2x2x4x16384_d4 h_S_)

/-- The exponentials of the shifted scores. -/
def rE (s : FVec Ideal S2x2x4x16384x16640 .f32) : FVec Ideal S2x2x4x16384x16640 .f32 :=
  Host.exp (subf s (broadcastInDim S2x2x4x16384x16640 ![0, 1, 2, 3, 4] bcast_S2x2x4x16384x1_S2x2x4x16384x16640_0_1_2_3_4 (broadcastInDim S2x2x4x16384x1 ![0, 1, 2, 3] bcast_S2x2x4x16384_S2x2x4x16384x1_0_1_2_3 (rM s))))

/-- The weights. -/
def rP (e : FVec Ideal S2x2x4x16384x16640 .f32) : FVec Ideal S2x2x4x16384x16640 .f32 :=
  Host.divf e (broadcastInDim S2x2x4x16384x16640 ![0, 1, 2, 3, 4] bcast_S2x2x4x16384x1_S2x2x4x16384x16640_0_1_2_3_4 (broadcastInDim S2x2x4x16384x1 ![0, 1, 2, 3] bcast_S2x2x4x16384_S2x2x4x16384x1_0_1_2_3 (Host.reduceAdd e (constant S_ .f32 0x00000000#32) reducesTo_S2x2x4x16384x16640_S2x2x4x16384_d4 h_S_)))

/-- The weighted sums, as the result's rows. -/
def rO (p : FVec Ideal S2x2x4x16384x16640 .f32) (v : FVec Ideal S2x2x16640x64 .f32) : FVec Ideal S2x16640x512 .bf16 :=
  truncf .bf16 (pad S2x16640x512 ![0, 0, 0] ![0, 256, 0] ![0, 0, 0] (shapeCast S2x16384x512 (transpose S2x16384x2x4x64 [0, 3, 1, 2, 4] (Host.dotGeneral dot_S2x2x4x16384x16640_S2x2x16640x64_S2x2x4x16384x64_4_2_23_3_01_01 none p v) transposes_S2x2x4x16384x64_S2x16384x2x4x64_0_3_1_2_4) shapeCasts_S2x16384x2x4x64_S2x16384x512) (sitofp .f32 (constantI S_ 32 0#32)) pads_S2x16384x512_S2x16640x512_000_02560_000 h_S_) bitsLt_bf16_f32

variable (m : (ℓ : Loc nD τ sig) → Buf (Elt Ideal) ℓ) (c : Dev nD)

theorem res_eq : res_main_v26 m c = rO (rP (rE (rS (rQ (m ((c.tc : Thread nD τ).loc main_arg0))) (rK (m ((c.tc : Thread nD τ).loc main_arg1)) (m ((c.tc : Thread nD τ).loc main_arg2))))))
    (rV (m ((c.tc : Thread nD τ).loc main_arg3)) (m ((c.tc : Thread nD τ).loc main_arg4))) := by
  unfold res_main_v26 rO rP rE rM rS rQ rK rV
  rfl

theorem rK_apply (kc : FVec Ideal S2x256x2x64 .f32) (kl : FVec Ideal S2x16384x2x64 .f32) (b : Fin 2) (h : Fin 2) (j : Fin 16640) (d : Fin 64) :
    rK kc kl (ix4 b h j d) = if p : j.val < 256 then kc (ix4 b ⟨j.val, p⟩ h d) else kl (ix4 b ⟨j.val - 256, by omega⟩ h d) := by
  unfold rK
  pointwise []

theorem rV_apply (kc : FVec Ideal S2x256x2x64 .f32) (kl : FVec Ideal S2x16384x2x64 .f32) (b : Fin 2) (h : Fin 2) (j : Fin 16640) (d : Fin 64) :
    rV kc kl (ix4 b h j d) = if p : j.val < 256 then kc (ix4 b ⟨j.val, p⟩ h d) else kl (ix4 b ⟨j.val - 256, by omega⟩ h d) := by
  unfold rV
  pointwise []

theorem rQ_apply (q : FVec Ideal S2x16384x8x64 .f32) (b : Fin 2) (h : Fin 2) (u : Fin 4) (i : Fin 16384) (d : Fin 64) :
    rQ q (ix5 b h u i d) = q (ix4 b i ⟨4 * h.val + u.val, by omega⟩ d) := by
  have e1 : ∀ y : FVec Ideal S2x16384x2x4x64 .f32, transpose S2x2x4x16384x64 [0, 2, 3, 1, 4] y transposes_S2x16384x2x4x64_S2x2x4x16384x64_0_2_3_1_4 (ix5 b h u i d) = y (ix5 b i h u d) := by
    intro y; pointwise []
  unfold rQ
  rw [e1]
  refine shapeCast_apply _ _ _ _ ?_
  rw [Shape.rowMajor_val_four, Shape.rowMajor_val_five]
  simp
  ring

theorem rS_apply (q : FVec Ideal S2x2x4x16384x64 .f32) (k : FVec Ideal S2x2x16640x64 .f32) (b : Fin 2) (h : Fin 2) (u : Fin 4) (i : Fin 16384) (j : Fin 16640) :
    rS q k (ix5 b h u i j) = (∑ d : Fin 64, q (ix5 b h u i d) * k (ix4 b h j d)) * Ideal.ofBits .f32 0x3E000000#32 := by
  unfold rS
  pointwise []

theorem maxred_apply (s : FVec Ideal S2x2x4x16384x16640 .f32) (z : FVec Ideal S_ .f32) (b : Fin 2) (h : Fin 2) (u : Fin 4) (i : Fin 16384) :
    Host.reduce FloatOps.maximumf s z reducesTo_S2x2x4x16384x16640_S2x2x4x16384_d4 h_S_ (ix4 b h u i) = Finset.univ.fold max (z (Shape.Idx.first h_S_)) fun j : Fin 16640 => s (ix5 b h u i j) := by
  pointwise []

theorem rM_apply (s : FVec Ideal S2x2x4x16384x16640 .f32) (b : Fin 2) (h : Fin 2) (u : Fin 4) (i : Fin 16384) :
    rM s (ix4 b h u i) = max (Ideal.ofBits .f32 0xFF800000#32) (Finset.univ.fold max (Ideal.ofBits .f32 0xFF800000#32) fun j : Fin 16640 => s (ix5 b h u i j)) := by
  unfold rM
  have e : ∀ x y : FVec Ideal S2x2x4x16384 .f32, maximumf x y (ix4 b h u i) = max (x (ix4 b h u i)) (y (ix4 b h u i)) := fun x y => by pointwise []
  rw [e, maxred_apply]
  rfl

theorem rE_apply (s : FVec Ideal S2x2x4x16384x16640 .f32) (b : Fin 2) (h : Fin 2) (u : Fin 4) (i : Fin 16384) (j : Fin 16640) :
    rE s (ix5 b h u i j) = Ideal.exp (s (ix5 b h u i j) - rM s (ix4 b h u i)) := by
  unfold rE
  pointwise []

theorem rP_apply (e : FVec Ideal S2x2x4x16384x16640 .f32) (b : Fin 2) (h : Fin 2) (u : Fin 4) (i : Fin 16384) (j : Fin 16640) :
    rP e (ix5 b h u i j) = Ideal.div (e (ix5 b h u i j)) (∑ x : Fin 16640, e (ix5 b h u i x)) := by
  unfold rP
  pointwise []

theorem dot_apply (p : FVec Ideal S2x2x4x16384x16640 .f32) (v : FVec Ideal S2x2x16640x64 .f32) (b : Fin 2) (i : Fin 16384) (h : Fin 2) (u : Fin 4) (e : Fin 64) :
    transpose S2x16384x2x4x64 [0, 3, 1, 2, 4] (Host.dotGeneral dot_S2x2x4x16384x16640_S2x2x16640x64_S2x2x4x16384x64_4_2_23_3_01_01 none p v) transposes_S2x2x4x16384x64_S2x16384x2x4x64_0_3_1_2_4 (ix5 b i h u e) = ∑ j : Fin 16640, p (ix5 b h u i j) * v (ix4 b h j e) := by
  pointwise []

theorem rows_apply (x : FVec Ideal S2x16384x2x4x64 .f32) (z : FVec Ideal S_ .f32) (b : Fin 2) (i : Fin 16384) (h : Fin 2) (u : Fin 4) (e : Fin 64) :
    truncf .bf16 (pad S2x16640x512 ![0, 0, 0] ![0, 256, 0] ![0, 0, 0] (shapeCast S2x16384x512 x shapeCasts_S2x16384x2x4x64_S2x16384x512) z pads_S2x16384x512_S2x16640x512_000_02560_000 h_S_) bitsLt_bf16_f32 (ix3 b ⟨i.val, by omega⟩ ⟨256 * h.val + 64 * u.val + e.val, by omega⟩)
      = x (ix5 b i h u e) := by
  have e1 : ∀ (y : FVec Ideal S2x16384x512 .f32) (c : Fin 512), truncf .bf16 (pad S2x16640x512 ![0, 0, 0] ![0, 256, 0] ![0, 0, 0] y z pads_S2x16384x512_S2x16640x512_000_02560_000 h_S_) bitsLt_bf16_f32 (ix3 b ⟨i.val, by omega⟩ c) = y (ix3 b i c) := by
    intro y c; pointwise []
  rw [e1]
  refine shapeCast_apply _ _ _ _ ?_
  rw [Shape.rowMajor_val_five, Shape.rowMajor_val_three]
  simp
  ring

theorem rows_pad (x : FVec Ideal S2x16384x512 .f32) (z : FVec Ideal S_ .f32) (b : Fin 2) (i : Fin 16640) (y : Fin 512) (hi : ¬ i.val < 16384) :
    truncf .bf16 (pad S2x16640x512 ![0, 0, 0] ![0, 256, 0] ![0, 0, 0] x z pads_S2x16384x512_S2x16640x512_000_02560_000 h_S_) bitsLt_bf16_f32 (ix3 b i y) = z (Shape.Idx.first h_S_) := by
  pointwise []
  exact dif_neg hi

theorem rO_apply (p : FVec Ideal S2x2x4x16384x16640 .f32) (v : FVec Ideal S2x2x16640x64 .f32) (b : Fin 2) (i : Fin 16384) (h : Fin 2) (u : Fin 4) (e : Fin 64) :
    rO p v (ix3 b ⟨i.val, by omega⟩ ⟨256 * h.val + 64 * u.val + e.val, by omega⟩) = ∑ j : Fin 16640, p (ix5 b h u i j) * v (ix4 b h j e) := by
  unfold rO
  rw [rows_apply, dot_apply]

theorem rO_pad (p : FVec Ideal S2x2x4x16384x16640 .f32) (v : FVec Ideal S2x2x16640x64 .f32) (b : Fin 2) (i : Fin 16640) (y : Fin 512) (hi : ¬ i.val < 16384) :
    rO p v (ix3 b i y) = 0 := by
  unfold rO
  rw [rows_pad _ _ b i y hi]
  show ((((0#32 : BitVec 32).toInt : ℤ) : ℝ) : EReal) = 0
  simp

end Cert.Proof.RG

end
-- ==== Proof.RGValue.lean ====
module

public import proofs.«01_k».proof.Proof.RG
public import proofs.«01_k».proof.Proof.SpecG

/-! The reference's result is the attention of the arguments. -/

@[expose] public section

set_option maxRecDepth 16384

noncomputable section

namespace Cert.Proof.RG

open Cert.Reference2Ideal Cert.Reference2Ideal.Gen Cert.Reference2Ideal.Value
open Idealize.ShloMosaic Cert.Proof.Sm Idealize.ShloMosaic.TcCoe

theorem ofBits_scale : Ideal.ofBits .f32 0x3E000000#32 = ((1 / 8 : ℝ) : EReal) := by
  simp [Ideal.ofBits, Ideal.ieee, -EReal.coe_mul]; norm_num

theorem rK_cat (kc : FVec Ideal S2x256x2x64 .f32) (kl : FVec Ideal S2x16384x2x64 .f32) (b : Fin 2) (h : Fin 2) (j : Fin 16640) (d : Fin 64) :
    rK kc kl (ix4 b h j d) = cat kl kc b h d (rot j.val) := by
  rw [rK_apply]
  unfold cat rot
  by_cases p : j.val < 256
  · rw [dif_pos p, if_pos p, dif_neg (by omega), dif_pos (by omega)]
    exact congrArg (fun z => kc (ix4 b z h d)) (Fin.ext (Nat.add_sub_cancel_left ..).symm)
  · rw [dif_neg p, if_neg p, dif_pos (by omega)]

theorem rV_cat (vc : FVec Ideal S2x256x2x64 .f32) (vl : FVec Ideal S2x16384x2x64 .f32) (b : Fin 2) (h : Fin 2) (j : Fin 16640) (d : Fin 64) :
    rV vc vl (ix4 b h j d) = cat vl vc b h d (rot j.val) := by
  rw [rV_apply]
  unfold cat rot
  by_cases p : j.val < 256
  · rw [dif_pos p, if_pos p, dif_neg (by omega), dif_pos (by omega)]
    exact congrArg (fun z => vc (ix4 b z h d)) (Fin.ext (Nat.add_sub_cancel_left ..).symm)
  · rw [dif_neg p, if_neg p, dif_pos (by omega)]

section
variable (q : FVec Ideal S2x16384x8x64 .f32) (kc : FVec Ideal S2x256x2x64 .f32) (kl : FVec Ideal S2x16384x2x64 .f32)
  (vc : FVec Ideal S2x256x2x64 .f32) (vl : FVec Ideal S2x16384x2x64 .f32) (hq : Fin' q) (hc : Fin' kc) (hl : Fin' kl)

include hq hc hl in
theorem score (b : Fin 2) (h : Fin 2) (u : Fin 4) (i : Fin 16384) (j : Fin 16640) : rS (rQ q) (rK kc kl) (ix5 b h u i j) = (tscG q kc kl b h u i (rot j.val) : EReal) := by
  rw [rS_apply, ofBits_scale]
  have e : ∀ d : Fin 64, q (ix4 b i ⟨4 * h.val + u.val, by omega⟩ d) * rK kc kl (ix4 b h j d) = (((cat kl kc b h d (rot j.val)).toReal * (q (ix4 b i ⟨4 * h.val + u.val, by omega⟩ d)).toReal : ℝ) : EReal) := fun d => by
    rw [rK_cat, mul_comm, EReal.coe_mul, ← cat_real kl kc hl hc, ← hq]
  simp only [rQ_apply]
  rw [Finset.sum_congr rfl fun d _ => e d, ← coe_sum, ← EReal.coe_mul]
  rfl

include hq hc hl in
theorem res_apply (b : Fin 2) (i : Fin 16384) (h : Fin 2) (u : Fin 4) (e : Fin 64) :
    rO (rP (rE (rS (rQ q) (rK kc kl)))) (rV vc vl) (ix3 b ⟨i.val, by omega⟩ ⟨256 * h.val + 64 * u.val + e.val, by omega⟩) = attn (tscG q kc kl b h u i) (cat vl vc b h e) 16640 := by
  rw [rO_apply]
  obtain ⟨M, hM⟩ : ∃ M : ℝ, rM (rS (rQ q) (rK kc kl)) (ix4 b h u i) = M := by
    rw [rM_apply]
    simp only [score q kc kl hq hc hl, ofBits_bot]
    obtain ⟨M, hM⟩ := fold_max_real (Finset.univ : Finset (Fin 16640)) ⟨0, Finset.mem_univ _⟩ (fun x => tscG q kc kl b h u i (rot x.val))
    rw [hM]
    exact max_real _ _ (.inl rfl)
  simp only [rP_apply, rE_apply, hM, score q kc kl hq hc hl, rV_cat]
  exact ref_attn (tscG q kc kl b h u i) (cat vl vc b h e) M

include hq hc hl in
theorem res_goal : rO (rP (rE (rS (rQ q) (rK kc kl)))) (rV vc vl) = goalG q kc kl vc vl := by
  funext x
  obtain ⟨b, i, y, rfl⟩ : ∃ b i y, x = ix3 b i y := ⟨_, _, _, eq_ix3 x⟩
  by_cases hi : i.val < 16384
  · have hy : y.val < 512 := y.isLt
    have e1 : y = ⟨256 * (⟨y.val / 256, by omega⟩ : Fin 2).val + 64 * (⟨y.val / 64 % 4, by omega⟩ : Fin 4).val + (⟨y.val % 64, by omega⟩ : Fin 64).val, by simp only []; omega⟩ := Fin.ext (by simp only []; omega)
    rw [goalG_apply q kc kl vc vl b ⟨i.val, hi⟩ ⟨y.val / 256, by omega⟩ ⟨y.val / 64 % 4, by omega⟩ ⟨y.val % 64, by omega⟩ i y rfl (by simp only []; omega)]
    refine Eq.trans ?_ (res_apply q kc kl vc vl hq hc hl b ⟨i.val, hi⟩ ⟨y.val / 256, by omega⟩ ⟨y.val / 64 % 4, by omega⟩ ⟨y.val % 64, by omega⟩)
    exact congrArg (fun z => rO (rP (rE (rS (rQ q) (rK kc kl)))) (rV vc vl) (ix3 b i z)) e1
  · rw [rO_pad _ _ b i y hi, goalG_pad q kc kl vc vl b i y hi]

end

end Cert.Proof.RG

end
-- ==== Proof.ValuesG.lean ====
module

public import proofs.«01_k».proof.Defs
public import proofs.«01_k».proof.Proof.Gen.Pre_finite_qk2
public import proofs.«01_k».proof.Proof.GI.Out
public import proofs.«01_k».proof.Proof.RGValue
public import proofs.«01_k».proof.Proof.Values

/-! The two runs of the grouped-query call end with the same result. -/

@[expose] public section

set_option maxRecDepth 16384

noncomputable section

namespace Cert.Proof

open Idealize.ShloMosaic Idealize.SL.Sem Cert.Proof.Sm

theorem fin_fn2 (q : FVec Ideal Cert.Pre_finite_qk2.S2x16384x8x64 .f32) (kc : FVec Ideal Cert.Pre_finite_qk2.S2x256x2x64 .f32) (kl : FVec Ideal Cert.Pre_finite_qk2.S2x16384x2x64 .f32)
    (vc : FVec Ideal Cert.Pre_finite_qk2.S2x256x2x64 .f32) (vl : FVec Ideal Cert.Pre_finite_qk2.S2x16384x2x64 .f32)
    (h : (Cert.Pre_finite_qk2.fn q kc kl vc vl).1 = (fun _ => 1#1) ∧ (Cert.Pre_finite_qk2.fn q kc kl vc vl).2.1 = (fun _ => 1#1)
      ∧ (Cert.Pre_finite_qk2.fn q kc kl vc vl).2.2 = (fun _ => 1#1)) : Fin' q ∧ Fin' kc ∧ Fin' kl :=
  ⟨fin_of_cmp q _ (fun _ => ofBits_top) (fun i => congrFun h.1 i), fin_of_cmp kc _ (fun _ => ofBits_top) (fun i => congrFun h.2.2 i),
    fin_of_cmp kl _ (fun _ => ofBits_top) (fun i => congrFun h.2.1 i)⟩

theorem values2 : Cert.algebraic_Kernel2Ideal_Reference2Ideal_pre_finite_qk2 := by
  intro m g m' g' hpre hagree
  have hf : ∀ c, GI.Real3 m c := fun c => fin_fn2 _ _ _ _ _ (hpre c)
  refine ⟨fun c => GI.res m c, GI.value m g hf, ?_⟩
  refine (θ_run Cert.Reference2Ideal.defs _ _).mono (fun r h c => ?_) (Cert.Reference2Ideal.Value.run (F := Ideal) m' g')
  obtain ⟨e0, e1, e2, e3, e4⟩ := hagree c
  refine ⟨(h c).1.trans ?_, (h c).2⟩
  rw [RG.res_eq, e0, e1, e2, e3, e4]
  exact RG.res_goal _ _ _ _ _ (hf c).1 (hf c).2.1 (hf c).2.2

end Cert.Proof

end
-- ==== Proof.SpecD.lean ====
module

public import proofs.«01_k».proof.Proof.Spec

/-! The result of the differential attention, as a function of the call's arguments: two softmax averages of the same values, one less a multiple of the other, then the
root-mean-square norm of each head. -/

@[expose] public section

noncomputable section

namespace Cert.Proof.Sm

open Idealize.ShloMosaic

/-- The multiple of the second average that is taken off the first. -/
def lamOf (lp : FVec Ideal ⟨2, ![4, 64]⟩ .f32) : EReal :=
  Ideal.exp (∑ d : Fin 64, lp (ix2 0 d) * lp (ix2 1 d)) - Ideal.exp (∑ d : Fin 64, lp (ix2 2 d) * lp (ix2 3 d)) + Ideal.ofBits .f32 0x3EB60549#32

/-- Lane `e` of the normed, weighted and scaled head `o`. -/
def rms (o : Fin 128 → EReal) (g : EReal) (e : Fin 128) : EReal :=
  o e * Ideal.rsqrt (Ideal.div (∑ x : Fin 128, o x * o x) (Ideal.ofBits .f32 0x43000000#32) + Ideal.ofBits .f32 0x358637BD#32) * g * Ideal.ofBits .f32 0x3F24FD5C#32

/-- The scaled score of query `i`, in softmax `u` of head `h`, against row `j`. -/
def tscD (q : FVec Ideal ⟨4, ![2, 16384, 8, 64]⟩ .f32) (kc : FVec Ideal ⟨4, ![2, 256, 8, 64]⟩ .f32) (kl : FVec Ideal ⟨4, ![2, 16384, 8, 64]⟩ .f32)
    (b : Fin 2) (h : Fin 4) (u : Fin 2) (i : Fin 16384) (j : ℕ) : ℝ :=
  (∑ d : Fin 64, (cat kl kc b ⟨2 * h.val + u.val, by omega⟩ d j).toReal * (q (ix4 b i ⟨2 * h.val + u.val, by omega⟩ d)).toReal) * (1 / 8)

section
variable (q : FVec Ideal ⟨4, ![2, 16384, 8, 64]⟩ .f32) (kc : FVec Ideal ⟨4, ![2, 256, 8, 64]⟩ .f32) (kl : FVec Ideal ⟨4, ![2, 16384, 8, 64]⟩ .f32)
  (vc : FVec Ideal ⟨4, ![2, 256, 4, 128]⟩ .f32) (vl : FVec Ideal ⟨4, ![2, 16384, 4, 128]⟩ .f32) (lp : FVec Ideal ⟨2, ![4, 64]⟩ .f32) (g : FVec Ideal ⟨1, ![128]⟩ .f32)

/-- The result's lane `e` of head `h` in row `i`. -/
def headD (b : Fin 2) (h : Fin 4) (i : Fin 16384) (e : Fin 128) : EReal :=
  rms (fun x => attn (tscD q kc kl b h 0 i) (cat vl vc b h x) 16640 - lamOf lp * attn (tscD q kc kl b h 1 i) (cat vl vc b h x) 16640) (g (ix1 e)) e

/-- The result: differential attention in the latent rows, zeros in the context rows. -/
def goalD : FVec Ideal ⟨3, ![2, 16640, 512]⟩ .bf16 := fun x =>
  have hx : (x 2).val < 512 := (x 2).isLt
  if p : (x 1).val < 16384 then headD q kc kl vc vl lp g (x 0) ⟨(x 2).val / 128, by omega⟩ ⟨(x 1).val, p⟩ ⟨(x 2).val % 128, by omega⟩ else (0 : EReal)

theorem goalD_apply (b : Fin 2) (i : Fin 16384) (h : Fin 4) (e : Fin 128) (i' : Fin 16640) (y : Fin 512) (hi : i'.val = i.val) (hy : y.val = 128 * h.val + e.val) :
    goalD q kc kl vc vl lp g (ix3 b i' y) = headD q kc kl vc vl lp g b h i e := by
  have b1 : i.val < 16640 := by have := i.isLt; omega
  have b2 : 128 * h.val + e.val < 512 := by have := h.isLt; have := e.isLt; omega
  have e1 : i' = ⟨i.val, b1⟩ := Fin.ext hi
  have e2 : y = ⟨128 * h.val + e.val, b2⟩ := Fin.ext hy
  clear hi hy
  subst e1 e2
  have h1 : (⟨(128 * h.val + e.val) / 128, by omega⟩ : Fin 4) = h := Fin.ext (by simp only []; omega)
  have h2 : (⟨(128 * h.val + e.val) % 128, by omega⟩ : Fin 128) = e := Fin.ext (by simp only []; omega)
  unfold goalD
  refine (dif_pos i.isLt).trans ?_
  show headD q kc kl vc vl lp g b (⟨(128 * h.val + e.val) / 128, by omega⟩ : Fin 4) i (⟨(128 * h.val + e.val) % 128, by omega⟩ : Fin 128) = _
  rw [h1, h2]

theorem goalD_pad (b : Fin 2) (i : Fin 16640) (y : Fin 512) (hi : ¬ i.val < 16384) : goalD q kc kl vc vl lp g (ix3 b i y) = 0 := by
  unfold goalD
  exact dif_neg hi

end

/-! ## Averages of real values, and the difference of two of them -/

theorem attn_real (t : ℕ → ℝ) (v : ℕ → ℝ) (N : ℕ) :
    attn t (fun x => (v x : EReal)) N = ((∑ x ∈ Finset.range N, v x * (Real.exp (t x) / ∑ y ∈ Finset.range N, Real.exp (t y)) : ℝ) : EReal) := by
  unfold attn
  rw [coe_sum]
  exact Finset.sum_congr rfl fun x _ => (EReal.coe_mul _ _).symm

theorem weight_real (t : ℕ → ℝ) (m : ℝ) (x : ℕ) :
    Ideal.div (Ideal.exp ((t x : EReal) - (m : EReal))) (∑ i : Fin 16640, Ideal.exp ((t (rot i) : EReal) - (m : EReal)))
      = ((Real.exp (t x) / ∑ y ∈ Finset.range 16640, Real.exp (t y) : ℝ) : EReal) := by
  have e : ∀ x, Ideal.exp ((t x : EReal) - (m : EReal)) = (Real.exp (t x - m) : EReal) := fun x => by rw [← EReal.coe_sub, Ideal.exp_coe]
  simp only [e]
  have hS : 0 < ∑ y ∈ Finset.range 16640, Real.exp (t y - m) := sum_exp_pos (fun y => t y - m) (by norm_num)
  rw [sum_rot (fun x => ((Real.exp (t x - m) : ℝ) : EReal)), ← coe_sum, Ideal.div_coe hS.ne', ← EReal.coe_mul, ← weight_shift t 16640 (by norm_num) m, mul_one_div]

/-- The reference's average: the weights' difference first, then one sum over the values. -/
theorem ref_diff (t0 t1 : ℕ → ℝ) (v : ℕ → ℝ) (lam m0 m1 : ℝ) :
    ∑ j : Fin 16640, (Ideal.div (Ideal.exp ((t0 (rot j) : EReal) - (m0 : EReal))) (∑ i : Fin 16640, Ideal.exp ((t0 (rot i) : EReal) - (m0 : EReal)))
        - (lam : EReal) * Ideal.div (Ideal.exp ((t1 (rot j) : EReal) - (m1 : EReal))) (∑ i : Fin 16640, Ideal.exp ((t1 (rot i) : EReal) - (m1 : EReal)))) * (v (rot j) : EReal)
      = attn t0 (fun x => (v x : EReal)) 16640 - (lam : EReal) * attn t1 (fun x => (v x : EReal)) 16640 := by
  simp only [weight_real]
  simp only [attn_real, ← EReal.coe_mul, ← EReal.coe_sub]
  rw [sum_rot (fun x => (((Real.exp (t0 x) / ∑ y ∈ Finset.range 16640, Real.exp (t0 y) - lam * (Real.exp (t1 x) / ∑ y ∈ Finset.range 16640, Real.exp (t1 y))) * v x : ℝ) : EReal)), ← coe_sum,
    Finset.mul_sum, ← Finset.sum_sub_distrib]
  refine congrArg _ (Finset.sum_congr rfl fun x _ => ?_)
  ring

end Cert.Proof.Sm

end
-- ==== Proof.DI.Fold.lean ====
module

public import proofs.«01_k».proof.Proof.DI.Body
public import proofs.«01_k».proof.Proof.SpecD
public import Idealize.ShloMosaic.Lib.Pointwise
public import Idealize.ShloMosaic.Lib.Pipeline.ValueKit

/-! What the two loops of the differential attention kernel accumulate over the reals, column by column: the first 512 columns are one softmax, the others the second. -/

@[expose] public section

set_option maxRecDepth 16384

noncomputable section

namespace Cert.Proof.DI

open Cert.Kernel3Ideal Cert.Kernel3Ideal.Gen
open Idealize.ShloMosaic Cert.Proof.Sm

theorem off1_eq : ∀ k : Fin k0_t1_loop.trips, k0_off1 k = ![0, 0, 3328 * k.val, 0] := by decide +kernel
theorem off2_eq : ∀ k : Fin k0_t1_loop.trips, k0_off2 k = ![0, 1, 3328 * k.val, 0] := by decide +kernel
theorem off3_eq : ∀ k : Fin k0_t1_loop.trips, k0_off3 k = ![0, 0, 3328 * k.val] := by decide +kernel
theorem off4_eq : ∀ k : Fin k0_t2_loop.trips, k0_off4 k = ![0, 0, 256 * k.val, 0] := by decide +kernel
theorem off5_eq : ∀ k : Fin k0_t2_loop.trips, k0_off5 k = ![0, 1, 256 * k.val, 0] := by decide +kernel
theorem off6_eq : ∀ k : Fin k0_t2_loop.trips, k0_off6 k = ![0, 0, 256 * k.val] := by decide +kernel
theorem trips1 : k0_t1_loop.trips = 5 := by decide +kernel
theorem trips2 : k0_t2_loop.trips = 65 := by decide +kernel

/-- The score of a key tile's row `x` for column `r`, the two softmaxes side by side. -/
def tsum {n : ℕ} (Ka Kb : Fin n → Fin 128 → EReal) (Q0 Q1 : Fin 128 → Fin 512 → EReal) (r : Fin 1024) (x : Fin n) : EReal :=
  if h : r.val < 512 then ∑ d : Fin 128, Ka x d * Q0 d ⟨r.val, h⟩ else ∑ d : Fin 128, Kb x d * Q1 d ⟨r.val - 512, by omega⟩

theorem tsum_congr {n n' : ℕ} (Ka Kb : Fin n → Fin 128 → EReal) (Ka' Kb' : Fin n' → Fin 128 → EReal) (Q0 Q1 Q0' Q1' : Fin 128 → Fin 512 → EReal) (r : Fin 1024) (x : Fin n)
    (x' : Fin n') (h1 : ∀ d, Ka x d = Ka' x' d) (h2 : ∀ d, Kb x d = Kb' x' d) (h3 : ∀ d s, Q0 d s = Q0' d s) (h4 : ∀ d s, Q1 d s = Q1' d s) :
    tsum Ka Kb Q0 Q1 r x = tsum Ka' Kb' Q0' Q1' r x' := by
  unfold tsum
  simp only [h1, h2, h3, h4]

/-- The score of key `j` for column `r`. -/
def sc (K : Vec Ideal S1x2x16640x128 .bf16) (Q : Vec Ideal S2x128x512 .bf16) (r : Fin 1024) (j : Fin 16640) : EReal :=
  tsum (fun j d => K (ix4 0 0 j d)) (fun j d => K (ix4 0 1 j d)) (fun d s => Q (ix3 0 d s)) (fun d s => Q (ix3 1 d s)) r j

/-! ## A tile's elements -/

theorem qHalf0_apply (Q : Vec Ideal S2x128x512 .bf16) (d : Fin 128) (s : Fin 512) : qHalf0 Q (ix3 0 d s) = Q (ix3 0 d s) :=
  View.ld_unit_apply_of Q _ _ _ _ _ fun a => by fin_cases a <;> simp
theorem qHalf1_apply (Q : Vec Ideal S2x128x512 .bf16) (d : Fin 128) (s : Fin 512) : qHalf1 Q (ix3 0 d s) = Q (ix3 1 d s) :=
  View.ld_unit_apply_of Q _ _ _ _ _ fun a => by fin_cases a <;> simp

theorem kTile1a_apply (K : Vec Ideal S1x2x16640x128 .bf16) (k : Fin k0_t1_loop.trips) (x : Fin 3328) (d : Fin 128) (h : 3328 * k.val + x.val < 16640) :
    kTile1a K k (ix4 0 0 x d) = K (ix4 0 0 ⟨3328 * k.val + x.val, h⟩ d) :=
  View.ld_unit_apply_of K _ _ _ _ _ fun a => by
    refine Eq.trans ?_ (congrArg (· + _) (congrFun (off1_eq k) a).symm)
    fin_cases a <;> simp

theorem kTile1b_apply (K : Vec Ideal S1x2x16640x128 .bf16) (k : Fin k0_t1_loop.trips) (x : Fin 3328) (d : Fin 128) (h : 3328 * k.val + x.val < 16640) :
    kTile1b K k (ix4 0 0 x d) = K (ix4 0 1 ⟨3328 * k.val + x.val, h⟩ d) :=
  View.ld_unit_apply_of K _ _ _ _ _ fun a => by
    refine Eq.trans ?_ (congrArg (· + _) (congrFun (off2_eq k) a).symm)
    fin_cases a <;> simp

theorem vTile1_apply (V : Vec Ideal S1x128x16640 .bf16) (k : Fin k0_t1_loop.trips) (x : Fin 3328) (d : Fin 128) (h : 3328 * k.val + x.val < 16640) :
    vTile1 V k (ix3 0 d x) = V (ix3 0 d ⟨3328 * k.val + x.val, h⟩) :=
  View.ld_unit_apply_of V _ _ _ _ _ fun a => by
    refine Eq.trans ?_ (congrArg (· + _) (congrFun (off3_eq k) a).symm)
    fin_cases a <;> simp

theorem kTile2a_apply (K : Vec Ideal S1x2x16640x128 .bf16) (k : Fin k0_t2_loop.trips) (x : Fin 256) (d : Fin 128) (h : 256 * k.val + x.val < 16640) :
    kTile2a K k (ix4 0 0 x d) = K (ix4 0 0 ⟨256 * k.val + x.val, h⟩ d) :=
  View.ld_unit_apply_of K _ _ _ _ _ fun a => by
    refine Eq.trans ?_ (congrArg (· + _) (congrFun (off4_eq k) a).symm)
    fin_cases a <;> simp

theorem kTile2b_apply (K : Vec Ideal S1x2x16640x128 .bf16) (k : Fin k0_t2_loop.trips) (x : Fin 256) (d : Fin 128) (h : 256 * k.val + x.val < 16640) :
    kTile2b K k (ix4 0 0 x d) = K (ix4 0 1 ⟨256 * k.val + x.val, h⟩ d) :=
  View.ld_unit_apply_of K _ _ _ _ _ fun a => by
    refine Eq.trans ?_ (congrArg (· + _) (congrFun (off5_eq k) a).symm)
    fin_cases a <;> simp

theorem vTile2_apply (V : Vec Ideal S1x128x16640 .bf16) (k : Fin k0_t2_loop.trips) (x : Fin 256) (d : Fin 128) (h : 256 * k.val + x.val < 16640) :
    vTile2 V k (ix3 0 d x) = V (ix3 0 d ⟨256 * k.val + x.val, h⟩) :=
  View.ld_unit_apply_of V _ _ _ _ _ fun a => by
    refine Eq.trans ?_ (congrArg (· + _) (congrFun (off6_eq k) a).symm)
    fin_cases a <;> simp

/-! ## The steps at an element -/

theorem pay1_apply (Ka Kb : Vec Ideal S1x1x3328x128 .bf16) (Q0 Q1 : Vec Ideal S1x128x512 .bf16) (x : Fin 3328) (r : Fin 1024) :
    k0_pay1 Ka Q0 Kb Q1 (ix2 x r)
      = Ideal.exp2 (tsum (fun x d => Ka (ix4 0 0 x d)) (fun x d => Kb (ix4 0 0 x d)) (fun d s => Q0 (ix3 0 d s)) (fun d s => Q1 (ix3 0 d s)) r x) := by
  unfold k0_pay1 tsum
  pointwise []
  rfl

theorem pay4_apply (Ka Kb : Vec Ideal S1x1x256x128 .bf16) (Q0 Q1 : Vec Ideal S1x128x512 .bf16) (x : Fin 256) (r : Fin 1024) :
    k0_pay4 Ka Q0 Kb Q1 (ix2 x r)
      = tsum (fun x d => Ka (ix4 0 0 x d)) (fun x d => Kb (ix4 0 0 x d)) (fun d s => Q0 (ix3 0 d s)) (fun d s => Q1 (ix3 0 d s)) r x := by
  unfold k0_pay4 tsum
  pointwise []

theorem pay2_apply (Ka Kb : Vec Ideal S1x1x3328x128 .bf16) (Q0 Q1 : Vec Ideal S1x128x512 .bf16) (l : Vec Ideal S1x1024 .f32) (r : Fin 1024) :
    k0_pay2 Ka Q0 Kb Q1 l (ix2 0 r) = l (ix2 0 r) + ∑ x : Fin 3328, k0_pay1 Ka Q0 Kb Q1 (ix2 x r) := by
  unfold k0_pay2
  pointwise []

theorem pay3_apply (Ka Kb : Vec Ideal S1x1x3328x128 .bf16) (Q0 Q1 : Vec Ideal S1x128x512 .bf16) (a : Vec Ideal S128x1024 .f32) (V : Vec Ideal S1x128x3328 .bf16)
    (e : Fin 128) (r : Fin 1024) :
    k0_pay3 Ka Q0 Kb Q1 a V (ix2 e r) = a (ix2 e r) + ∑ x : Fin 3328, V (ix3 0 e x) * k0_pay1 Ka Q0 Kb Q1 (ix2 x r) := by
  unfold k0_pay3
  pointwise []

section
variable (Ka Kb : Vec Ideal S1x1x256x128 .bf16) (Q0 Q1 : Vec Ideal S1x128x512 .bf16) (mm : Vec Ideal S1x1024 .f32) (r : Fin 1024)

theorem pay5_apply : k0_pay5 Ka Q0 Kb Q1 mm (ix2 0 r)
    = max (mm (ix2 0 r)) (Finset.univ.fold max (Ideal.ofBits FTy.f32 0xFF800000#32) fun x : Fin 256 => k0_pay4 Ka Q0 Kb Q1 (ix2 x r)) := by
  unfold k0_pay5
  pointwise []

theorem pay6_apply : k0_pay6 Ka Q0 Kb Q1 mm (ix2 0 r) = Ideal.exp2 (mm (ix2 0 r) - k0_pay5 Ka Q0 Kb Q1 mm (ix2 0 r)) := by
  unfold k0_pay6
  pointwise []
  rfl

theorem pay7_apply (x : Fin 256) : k0_pay7 Ka Q0 Kb Q1 mm (ix2 x r) = Ideal.exp2 (k0_pay4 Ka Q0 Kb Q1 (ix2 x r) - k0_pay5 Ka Q0 Kb Q1 mm (ix2 0 r)) := by
  unfold k0_pay7
  pointwise []
  rfl

theorem pay8_apply (l : Vec Ideal S1x1024 .f32) : k0_pay8 Ka Q0 Kb Q1 mm l (ix2 0 r)
    = k0_pay6 Ka Q0 Kb Q1 mm (ix2 0 r) * l (ix2 0 r) + ∑ x : Fin 256, k0_pay7 Ka Q0 Kb Q1 mm (ix2 x r) := by
  unfold k0_pay8
  pointwise []

end

theorem pay25_apply (c : FVec Ideal S1x1024 .f32) (p : FVec Ideal S256x1024 .f32) (a : Vec Ideal S128x1024 .f32) (V : Vec Ideal S1x128x256 .bf16) (e : Fin 128) (r : Fin 1024) :
    k0_pay25 c p a V (ix2 e r) = c (ix2 0 r) * a (ix2 e r) + ∑ x : Fin 256, V (ix3 0 e x) * p (ix2 x r) := by
  unfold k0_pay25
  pointwise []

theorem zeros_apply (e : Fin 128) (r : Fin 1024) : k0_pay18 (F := Ideal) (ix2 e r) = 0 ∧ k0_pay19 (F := Ideal) (ix2 0 r) = 0
    ∧ k0_pay22 (F := Ideal) (ix2 e r) = 0 ∧ k0_pay23 (F := Ideal) (ix2 0 r) = 0 ∧ k0_pay24 (F := Ideal) (ix2 0 r) = ⊥ := by
  unfold k0_pay18 k0_pay19 k0_pay22 k0_pay23 k0_pay24
  refine ⟨?_, ?_, ?_, ?_, ?_⟩ <;> pointwise []
  exact ofBits_bot

theorem pay20_eq (a : FVec Ideal S128x1024 .f32) : k0_pay20 a = a := by funext i; idx_vars i; unfold k0_pay20; pointwise []
theorem pay26_eq (a : FVec Ideal S1x1024 .f32) : k0_pay26 a = a := by funext i; idx_vars i; unfold k0_pay26; pointwise []

/-! ## The loops -/

section
variable (K : Vec Ideal S1x2x16640x128 .bf16) (V : Vec Ideal S1x128x16640 .bf16) (Q : Vec Ideal S2x128x512 .bf16) (r : Fin 1024)
  (σ : ℕ → ℝ) (v : Fin 128 → ℕ → EReal) (hσ : ∀ j : Fin 16640, sc K Q r j = σ j.val) (hv : ∀ (e : Fin 128) (j : Fin 16640), V (ix3 0 e j) = v e j.val)

include hσ in
theorem tile1_score (k : Fin k0_t1_loop.trips) (x : Fin 3328) :
    k0_pay1 (kTile1a K k) (qHalf0 Q) (kTile1b K k) (qHalf1 Q) (ix2 x r) = (pw (σ (3328 * k.val + x.val)) : EReal) := by
  have hk : k.val < 5 := Nat.lt_of_lt_of_le k.isLt trips1.le
  have hx := x.isLt
  have h : 3328 * k.val + x.val < 16640 := by omega
  rw [pay1_apply, ← exp2_pw, ← hσ ⟨_, h⟩]
  refine congrArg Ideal.exp2 ?_
  unfold sc
  exact tsum_congr _ _ _ _ _ _ _ _ _ _ _ (fun d => kTile1a_apply K k x d h) (fun d => kTile1b_apply K k x d h) (qHalf0_apply Q) (qHalf1_apply Q)

include hσ in
theorem tile2_score (k : Fin k0_t2_loop.trips) (x : Fin 256) :
    k0_pay4 (kTile2a K k) (qHalf0 Q) (kTile2b K k) (qHalf1 Q) (ix2 x r) = (σ (256 * k.val + x.val) : EReal) := by
  have hk : k.val < 65 := Nat.lt_of_lt_of_le k.isLt trips2.le
  have hx := x.isLt
  have h : 256 * k.val + x.val < 16640 := by omega
  rw [pay4_apply, ← hσ ⟨_, h⟩]
  unfold sc
  exact tsum_congr _ _ _ _ _ _ _ _ _ _ _ (fun d => kTile2a_apply K k x d h) (fun d => kTile2b_apply K k x d h) (qHalf0_apply Q) (qHalf1_apply Q)

include hv in
theorem tile1_value (k : Fin k0_t1_loop.trips) (x : Fin 3328) (e : Fin 128) : vTile1 V k (ix3 0 e x) = v e (3328 * k.val + x.val) := by
  have hk : k.val < 5 := Nat.lt_of_lt_of_le k.isLt trips1.le
  have hx := x.isLt
  have h : 3328 * k.val + x.val < 16640 := by omega
  rw [vTile1_apply V k x e h, hv]

include hv in
theorem tile2_value (k : Fin k0_t2_loop.trips) (x : Fin 256) (e : Fin 128) : vTile2 V k (ix3 0 e x) = v e (256 * k.val + x.val) := by
  have hk : k.val < 65 := Nat.lt_of_lt_of_le k.isLt trips2.le
  have hx := x.isLt
  have h : 256 * k.val + x.val < 16640 := by omega
  rw [vTile2_apply V k x e h, hv]

include hσ hv in
theorem fast_good (n : ℕ) (hn : n ≤ 5) : Good σ v (3328 * n) 0 ((fast K V Q n).2 (ix2 0 r)) (fun e => (fast K V Q n).1 (ix2 e r)) := by
  induction n with
  | zero =>
    rw [fast_zero]
    simp only [(zeros_apply _ r).1, (zeros_apply 0 r).2.1]
    exact good_zero σ v 0
  | succ n ih =>
    have h : n < k0_t1_loop.trips := Nat.lt_of_lt_of_le (Nat.lt_of_succ_le hn) trips1.ge
    rw [fast_succ K V Q ⟨n, h⟩]
    dsimp only
    rw [pay20_eq]
    simp only [pay2_apply, pay3_apply, tile1_score K Q r σ hσ, tile1_value V v hv]
    have := good_add (ih (by omega)) 3328
    simpa only [sub_zero, Nat.mul_succ] using this

include hσ hv in
theorem slow_good (n : ℕ) (hn : n ≤ 65) :
    (n = 0 ∧ (slow K V Q n).2.2 (ix2 0 r) = ⊥ ∧ (slow K V Q n).2.1 (ix2 0 r) = 0 ∧ ∀ e, (slow K V Q n).1 (ix2 e r) = 0)
    ∨ ∃ M : ℝ, (slow K V Q n).2.2 (ix2 0 r) = M ∧ Good σ v (256 * n) M ((slow K V Q n).2.1 (ix2 0 r)) (fun e => (slow K V Q n).1 (ix2 e r)) := by
  induction n with
  | zero =>
    left
    rw [slow_zero]
    exact ⟨rfl, (zeros_apply 0 r).2.2.2.2, (zeros_apply 0 r).2.2.2.1, fun e => (zeros_apply e r).2.2.1⟩
  | succ n ih =>
    right
    have h : n < k0_t2_loop.trips := Nat.lt_of_lt_of_le (Nat.lt_of_succ_le hn) trips2.ge
    rw [slow_succ K V Q ⟨n, h⟩]
    dsimp only
    rw [pay26_eq]
    have hm : ∃ M' : ℝ, k0_pay5 (kTile2a K ⟨n, h⟩) (qHalf0 Q) (kTile2b K ⟨n, h⟩) (qHalf1 Q) (slow K V Q n).2.2 (ix2 0 r) = M' := by
      rw [pay5_apply]
      simp only [tile2_score K Q r σ hσ]
      rw [ofBits_bot]
      obtain ⟨M, hM⟩ := fold_max_real (Finset.univ : Finset (Fin 256)) ⟨0, Finset.mem_univ _⟩ (fun x => σ (256 * n + x.val))
      rw [hM]
      refine max_real _ _ ?_
      rcases ih (by omega) with ⟨_, h, _⟩ | ⟨M, h, _⟩
      · exact .inl h
      · exact .inr ⟨M, h⟩
    obtain ⟨M', hM'⟩ := hm
    refine ⟨M', hM', ?_⟩
    simp only [pay8_apply, pay25_apply, pay6_apply, pay7_apply, tile2_score K Q r σ hσ, tile2_value V v hv, hM', ← EReal.coe_sub, exp2_pw]
    rcases ih (by omega) with ⟨h0, h1, h2, h3⟩ | ⟨M, h1, h2⟩
    · have := good_add (good_zero σ v M') 256
      subst h0
      simpa only [h2, h3, mul_zero] using this
    · have := good_add (good_shift h2 M') 256
      simpa only [h1, ← EReal.coe_sub, exp2_pw, Nat.mul_succ] using this

include hσ hv in
theorem accOf_good : ∃ M : ℝ, Good σ v 16640 M ((accOf K V Q).2 (ix2 0 r)) (fun e => (accOf K V Q).1 (ix2 e r)) := by
  unfold accOf
  split_ifs
  · rw [trips2]
    rcases slow_good K V Q r σ v hσ hv 65 le_rfl with ⟨h, _⟩ | ⟨M, _, h⟩
    · exact absurd h (by norm_num)
    · exact ⟨M, h⟩
  · rw [trips1]
    exact ⟨0, fast_good K V Q r σ v hσ hv 5 le_rfl⟩

end

/-! ## The output block -/

theorem pay27_apply (a : Vec Ideal S128x512 .f32) (l : Vec Ideal S1x512 .f32) (s : Fin 512) (e : Fin 128) :
    k0_pay27 a l (ix2 e s) = Ideal.div (a (ix2 e s)) (l (ix2 0 s)) := by
  unfold k0_pay27
  pointwise []

theorem pay28_apply (o : FVec Ideal S128x512 .f32) (a : Vec Ideal S128x512 .f32) (l : Vec Ideal S1x512 .f32) (x7 : Vec Ideal S4x64 .f32) (x8 : Vec Ideal S1x128 .f32)
    (s : Fin 512) (e : Fin 128) :
    k0_pay28 o a l x7 x8 (ix3 0 s e) = rms (fun x => o (ix2 x s) - lamOf x7 * Ideal.div (a (ix2 x s)) (l (ix2 0 s))) (x8 (ix2 0 e)) e := by
  unfold k0_pay28 rms lamOf
  pointwise []

theorem accH0_apply (a : Vec Ideal S128x1024 .f32) (e : Fin 128) (s : Fin 512) : accH0 a (ix2 e s) = a (ix2 e ⟨512 * (0 : Fin 2).val + s.val, by simp; omega⟩) :=
  View.ld_unit_apply_of a _ _ _ _ _ fun k => by fin_cases k <;> simp
theorem lH0_apply (l : Vec Ideal S1x1024 .f32) (s : Fin 512) : lH0 l (ix2 0 s) = l (ix2 0 ⟨512 * (0 : Fin 2).val + s.val, by simp; omega⟩) :=
  View.ld_unit_apply_of l _ _ _ _ _ fun k => by fin_cases k <;> simp
theorem accH1_apply (a : Vec Ideal S128x1024 .f32) (e : Fin 128) (s : Fin 512) : accH1 a (ix2 e s) = a (ix2 e ⟨512 * (1 : Fin 2).val + s.val, by simp; omega⟩) :=
  View.ld_unit_apply_of a _ _ _ _ _ fun k => by fin_cases k <;> simp
theorem lH1_apply (l : Vec Ideal S1x1024 .f32) (s : Fin 512) : lH1 l (ix2 0 s) = l (ix2 0 ⟨512 * (1 : Fin 2).val + s.val, by simp; omega⟩) :=
  View.ld_unit_apply_of l _ _ _ _ _ fun k => by fin_cases k <;> simp

/-- The output block of a grid point, where the widened queries' scores are real. -/
theorem outB_apply (x3 : Vec Ideal S1x128x512 .bf16) (K : Vec Ideal S1x2x16640x128 .bf16) (V : Vec Ideal S1x128x16640 .bf16) (x6 : Vec Ideal S1x2x1x128 .f32)
    (x7 : Vec Ideal S4x64 .f32) (x8 : Vec Ideal S1x128 .f32) (s : Fin 512) (e : Fin 128) (σ t : Fin 2 → ℕ → ℝ) (v : Fin 128 → ℕ → EReal) (β : Fin 2 → ℝ)
    (hσ : ∀ (u : Fin 2) (j : Fin 16640), sc K (qa x3 x6) ⟨512 * u.val + s.val, by omega⟩ j = σ u j.val)
    (hv : ∀ (e : Fin 128) (j : Fin 16640), V (ix3 0 e j) = v e j.val) (ht : ∀ u, ∀ x < 16640, σ u x * Real.log 2 = t u x - β u) :
    outB x3 K V x6 x7 x8 (ix3 0 s e) = rms (fun x => attn (t 0) (v x) 16640 - lamOf x7 * attn (t 1) (v x) 16640) (x8 (ix2 0 e)) e := by
  have h : ∀ (u : Fin 2) (x : Fin 128), Ideal.div ((accOf K V (qa x3 x6)).1 (ix2 x ⟨512 * u.val + s.val, by omega⟩)) ((accOf K V (qa x3 x6)).2 (ix2 0 ⟨512 * u.val + s.val, by omega⟩))
      = attn (t u) (v x) 16640 := fun u x => by
    obtain ⟨M, h⟩ := accOf_good K V (qa x3 x6) _ (σ u) v (hσ u) hv
    exact good_div h (by norm_num) (t u) (β u) (ht u) x
  unfold outB outOf
  rw [pay28_apply]
  refine congrArg (fun o => rms o (x8 (ix2 0 e)) e) (funext fun x => ?_)
  exact congrArg₂ (· - ·) ((pay27_apply _ _ s x).trans ((congrArg₂ Ideal.div (accH0_apply _ x s) (lH0_apply _ s)).trans (h 0 x)))
    (congrArg (lamOf x7 * ·) ((congrArg₂ Ideal.div (accH1_apply _ x s) (lH1_apply _ s)).trans (h 1 x)))

end Cert.Proof.DI

end
-- ==== Proof.DI.Widen.lean ====
module

public import proofs.«01_k».proof.Proof.DI.Fold

/-! The widened queries at an element, and the scores they give against the widened keys. -/

@[expose] public section

set_option maxRecDepth 16384

noncomputable section

namespace Cert.Proof.DI

open Cert.Kernel3Ideal Cert.Kernel3Ideal.Gen
open Idealize.ShloMosaic Cert.Proof.Sm

/-- The factor of the queries: the score's scale over the natural logarithm of two. -/
def qs : ℝ := (1 / 8) * (Real.log 2)⁻¹

theorem named_qs : (Named.named κ "q_scale" 0x3E38AA3B#32 : Ideal .f32) = (qs : EReal) :=
  IdealRules.named_const.ideal_named_scalar _ _ _ _ rfl

theorem qRows0_apply (x3 : Vec Ideal S1x128x512 .bf16) (d : Fin 64) (s : Fin 512) : qRows0 x3 (ix3 0 d s) = x3 (ix3 0 ⟨64 * (0 : Fin 2).val + d.val, by simp; omega⟩ s) :=
  View.ld_unit_apply_of x3 _ _ _ _ _ fun a => by fin_cases a <;> simp
theorem qRows1_apply (x3 : Vec Ideal S1x128x512 .bf16) (d : Fin 64) (s : Fin 512) : qRows1 x3 (ix3 0 d s) = x3 (ix3 0 ⟨64 * (1 : Fin 2).val + d.val, by simp; omega⟩ s) :=
  View.ld_unit_apply_of x3 _ _ _ _ _ fun a => by fin_cases a <;> simp

theorem kBound0_apply (x6 : Vec Ideal S1x2x1x128 .f32) : kBound0 x6 (ix4 0 0 0 0) = x6 (ix4 0 0 0 0) :=
  View.ld_unit_apply_of x6 _ _ _ _ _ fun a => by fin_cases a <;> simp
theorem kBound1_apply (x6 : Vec Ideal S1x2x1x128 .f32) : kBound1 x6 (ix4 0 0 0 0) = x6 (ix4 0 1 0 0) :=
  View.ld_unit_apply_of x6 _ _ _ _ _ fun a => by fin_cases a <;> simp

/-- The score shift of row `s` in softmax `u`. -/
def bnd (x3 : Vec Ideal S1x128x512 .bf16) (x6 : Vec Ideal S1x2x1x128 .f32) (u : Fin 2) (s : Fin 512) : EReal :=
  Ideal.sqrt (∑ x : Fin 64, x3 (ix3 0 ⟨64 * u.val + x.val, by omega⟩ s) * (qs : EReal) * (x3 (ix3 0 ⟨64 * u.val + x.val, by omega⟩ s) * (qs : EReal)))
    * x6 (ix4 0 u 0 0) * Ideal.ofBits .f32 0x3F820000#32

/-- An element of the widened queries. -/
def qaVal (x3 : Vec Ideal S1x128x512 .bf16) (x6 : Vec Ideal S1x2x1x128 .f32) (d : Fin 128) (u : Fin 2) (s : Fin 512) : EReal :=
  if h : d.val < 64 then x3 (ix3 0 ⟨64 * u.val + d.val, by omega⟩ s) * (qs : EReal) else if d.val = 64 then 0 - bnd x3 x6 u s else 0

/-! ## The two softmaxes run the same steps -/

theorem pay15_eq (v : Vec Ideal S1x64x512 .bf16) : k0_pay15 v = k0_pay10 v := rfl
theorem pay16_eq (v : Vec Ideal S1x64x512 .bf16) (k : Vec Ideal S1x1x1x1 .f32) : k0_pay16 rowNo v k = k0_pay11 v k := rfl
theorem pay17_eq : k0_pay17 (F := Ideal) (Scalar.ofBits .bf16 0x0000#16) = k0_pay13 k0_pay12 := rfl

theorem pay10_apply (v : Vec Ideal S1x64x512 .bf16) (d : Fin 64) (s : Fin 512) : k0_pay10 v (ix3 0 d s) = v (ix3 0 d s) * (qs : EReal) := by
  unfold k0_pay10 k0_pay9
  pointwise []
  rw [named_qs]

theorem pay11_apply (v1 : Vec Ideal S1x64x512 .bf16) (v12 : Vec Ideal S1x1x1x1 .f32) (d : Fin 16) (s : Fin 512) :
    k0_pay11 v1 v12 (ix3 0 d s) = if d.val = 0 then 0 - Ideal.sqrt (∑ x : Fin 64, v1 (ix3 0 x s) * (qs : EReal) * (v1 (ix3 0 x s) * (qs : EReal)))
      * v12 (ix4 0 0 0 0) * Ideal.ofBits .f32 0x3F820000#32 else 0 := by
  unfold k0_pay11 k0_pay9
  pointwise []
  simp only [named_qs]
  generalize Ideal.sqrt (∑ x : Fin 64, v1 (ix3 0 x s) * (qs : EReal) * (v1 (ix3 0 x s) * (qs : EReal)))
    * v12 (ix4 0 0 0 0) * Ideal.ofBits .f32 0x3F820000#32 = B
  fin_cases d <;> rfl

theorem pay13_apply (d : Fin 48) (s : Fin 512) : k0_pay13 (F := Ideal) k0_pay12 (ix3 0 d s) = 0 := by
  unfold k0_pay13 k0_pay12
  pointwise []

/-! ## An element of a stored piece, as an element of the whole -/

section
variable (x3 : Vec Ideal S1x128x512 .bf16) (x6 : Vec Ideal S1x2x1x128 .f32) (d : Fin 128) (u k : Fin 2) (s b : Fin 512)
  (h0 : u.val = k.val) (h2 : s.val = b.val)

include h0 h2 in
theorem piece_rows (v : Vec Ideal S1x64x512 .bf16) (hv : ∀ (d : Fin 64) (s : Fin 512), v (ix3 0 d s) = x3 (ix3 0 ⟨64 * k.val + d.val, by omega⟩ s))
    (a : Fin 64) (h1 : d.val = a.val) : k0_pay10 v (ix3 0 a b) = qaVal x3 x6 d u s := by
  obtain rfl : u = k := Fin.ext h0
  obtain rfl : s = b := Fin.ext h2
  unfold qaVal
  rw [pay10_apply, hv, dif_pos (by omega)]
  exact congrArg (fun z => x3 (ix3 0 z s) * (qs : EReal)) (Fin.ext (by simp only []; omega))

include h0 h2 in
theorem piece_shift (v : Vec Ideal S1x64x512 .bf16) (hv : ∀ (d : Fin 64) (s : Fin 512), v (ix3 0 d s) = x3 (ix3 0 ⟨64 * k.val + d.val, by omega⟩ s))
    (w : Vec Ideal S1x1x1x1 .f32) (hw : w (ix4 0 0 0 0) = x6 (ix4 0 k 0 0)) (a : Fin 16) (h1 : d.val = 64 + a.val) : k0_pay11 v w (ix3 0 a b) = qaVal x3 x6 d u s := by
  obtain rfl : u = k := Fin.ext h0
  obtain rfl : s = b := Fin.ext h2
  unfold qaVal bnd
  rw [pay11_apply, hw, dif_neg (by omega)]
  simp only [hv]
  by_cases ha : a.val = 0
  · rw [if_pos ha, if_pos (by omega)]
  · rw [if_neg ha, if_neg (by omega)]

theorem piece_zero (a : Fin 48) (h1 : d.val = 80 + a.val) : k0_pay13 (F := Ideal) k0_pay12 (ix3 0 a b) = qaVal x3 x6 d u s := by
  unfold qaVal
  rw [pay13_apply, dif_neg (by omega), if_neg (by omega)]

end

theorem qa_apply (x3 : Vec Ideal S1x128x512 .bf16) (x6 : Vec Ideal S1x2x1x128 .f32) (d : Fin 128) (u : Fin 2) (s : Fin 512) :
    qa x3 x6 (ix3 u d s) = qaVal x3 x6 d u s := by
  unfold qa qaPieces lastPieces pieces4 pieces3
  simp only [List.cons_append, List.nil_append, pay15_eq, pay16_eq, pay17_eq]
  canon_tiles x h using qaPieces_cover x3 x6 (ix3 u d s)
  · obtain ⟨w, a, b, rfl⟩ : ∃ w a b, x = ix3 w a b := ⟨_, _, _, eq_ix3 x⟩
    obtain rfl : w = 0 := Subsingleton.elim _ _
    exact piece_zero x3 x6 d u s b a h1
  · obtain ⟨w, a, b, rfl⟩ : ∃ w a b, x = ix3 w a b := ⟨_, _, _, eq_ix3 x⟩
    obtain rfl : w = 0 := Subsingleton.elim _ _
    exact piece_shift x3 x6 d u 1 s b (h0.trans (by simp)) (h2.trans (by simp)) _ (qRows1_apply x3) _ (kBound1_apply x6) a h1
  · obtain ⟨w, a, b, rfl⟩ : ∃ w a b, x = ix3 w a b := ⟨_, _, _, eq_ix3 x⟩
    obtain rfl : w = 0 := Subsingleton.elim _ _
    exact piece_rows x3 x6 d u 1 s b (h0.trans (by simp)) (h2.trans (by simp)) _ (qRows1_apply x3) a (h1.trans (by simp))
  · obtain ⟨w, a, b, rfl⟩ : ∃ w a b, x = ix3 w a b := ⟨_, _, _, eq_ix3 x⟩
    obtain rfl : w = 0 := Subsingleton.elim _ _
    exact piece_zero x3 x6 d u s b a h1
  · obtain ⟨w, a, b, rfl⟩ : ∃ w a b, x = ix3 w a b := ⟨_, _, _, eq_ix3 x⟩
    obtain rfl : w = 0 := Subsingleton.elim _ _
    exact piece_shift x3 x6 d u 0 s b (h0.trans (by simp)) (h2.trans (by simp)) _ (qRows0_apply x3) _ (kBound0_apply x6) a h1
  · obtain ⟨w, a, b, rfl⟩ : ∃ w a b, x = ix3 w a b := ⟨_, _, _, eq_ix3 x⟩
    obtain rfl : w = 0 := Subsingleton.elim _ _
    exact piece_rows x3 x6 d u 0 s b (h0.trans (by simp)) (h2.trans (by simp)) _ (qRows0_apply x3) a (h1.trans (by simp))

theorem sc_half (K : Vec Ideal S1x2x16640x128 .bf16) (Q : Vec Ideal S2x128x512 .bf16) (u : Fin 2) (s : Fin 512) (j : Fin 16640) :
    sc K Q ⟨512 * u.val + s.val, by omega⟩ j = ∑ d : Fin 128, K (ix4 0 u j d) * Q (ix3 u d s) := by
  have hs := s.isLt
  unfold sc tsum
  fin_cases u
  · refine (dif_pos (by simp only []; omega)).trans (Finset.sum_congr rfl fun d _ => ?_)
    exact congrArg (fun z => K (ix4 0 0 j d) * Q (ix3 0 d z)) (Fin.ext (by simp))
  · refine (dif_neg (by simp only []; omega)).trans (Finset.sum_congr rfl fun d _ => ?_)
    exact congrArg (fun z => K (ix4 0 1 j d) * Q (ix3 1 d z)) (Fin.ext (by simp))

/-- The scores: the scaled products less a shift that does not depend on the key. -/
theorem sc_qa (x3 : Vec Ideal S1x128x512 .bf16) (K : Vec Ideal S1x2x16640x128 .bf16) (x6 : Vec Ideal S1x2x1x128 .f32) (u : Fin 2) (s : Fin 512)
    (qf : Fin 64 → ℝ) (kf : Fin 64 → ℕ → ℝ) (kb : ℝ) (hq : ∀ d : Fin 64, x3 (ix3 0 ⟨64 * u.val + d.val, by omega⟩ s) = (qf d : EReal))
    (hk : ∀ (j : Fin 16640) (d : Fin 64), K (ix4 0 u j ⟨d.val, by omega⟩) = (kf d j.val : EReal)) (hk1 : ∀ j : Fin 16640, K (ix4 0 u j 64) = 1)
    (hb : x6 (ix4 0 u 0 0) = (kb : EReal)) :
    ∃ β : ℝ, ∀ j : Fin 16640, sc K (qa x3 x6) ⟨512 * u.val + s.val, by omega⟩ j = (((∑ d : Fin 64, kf d j.val * qf d) * qs - β : ℝ) : EReal) := by
  have h1 : ∃ β : ℝ, bnd x3 x6 u s = (β : EReal) := by
    unfold bnd
    simp only [hq, hb, ← EReal.coe_mul]
    rw [← coe_sum Finset.univ fun x : Fin 64 => qf x * qs * (qf x * qs), Ideal.sqrt_coe, if_neg (not_lt.mpr (Finset.sum_nonneg fun i _ => mul_self_nonneg _)),
      show Ideal.ofBits .f32 0x3F820000#32 = ((65 / 64 : ℝ) : EReal) from by simp [Ideal.ofBits, Ideal.ieee, -EReal.coe_mul]; norm_num]
    exact ⟨_, by rw [← EReal.coe_mul, ← EReal.coe_mul]⟩
  obtain ⟨β, hβ⟩ := h1
  refine ⟨β, fun j => ?_⟩
  rw [sc_half]
  simp only [qa_apply]
  have e1 : ∀ f : Fin 128 → EReal, ∑ d, f d = (∑ d : Fin 64, f ⟨d.val, by omega⟩) + ∑ d : Fin 64, f ⟨64 + d.val, by omega⟩ := fun f =>
    Fin.sum_univ_add (a := 64) (b := 64) f
  rw [e1]
  have e2 : ∀ d : Fin 63, K (ix4 0 u j ⟨64 + (d.succ : Fin 64).val, by omega⟩) * qaVal x3 x6 ⟨64 + (d.succ : Fin 64).val, by omega⟩ u s = 0 := fun d => by
    unfold qaVal
    rw [dif_neg (by simp), if_neg (by simp), mul_zero]
  have e3 : K (ix4 0 u j ⟨64 + (0 : Fin 64).val, by omega⟩) * qaVal x3 x6 ⟨64 + (0 : Fin 64).val, by omega⟩ u s = 0 - (β : EReal) := by
    unfold qaVal
    rw [dif_neg (by simp), if_pos (by simp), hβ]
    exact (congrArg (· * _) (hk1 j)).trans (one_mul _)
  have e4 : ∀ d : Fin 64, K (ix4 0 u j ⟨d.val, by omega⟩) * qaVal x3 x6 ⟨d.val, by omega⟩ u s = ((kf d j.val * qf d * qs : ℝ) : EReal) := fun d => by
    unfold qaVal
    rw [dif_pos d.isLt, hk, hq, ← EReal.coe_mul, ← EReal.coe_mul, mul_assoc]
  have e5 : (∑ d : Fin 64, K (ix4 0 u j ⟨64 + d.val, by omega⟩) * qaVal x3 x6 ⟨64 + d.val, by omega⟩ u s) = 0 - (β : EReal) := by
    rw [Fin.sum_univ_succ (n := 63), Finset.sum_congr rfl fun d _ => e2 d, e3, Finset.sum_const_zero, add_zero]
  rw [Finset.sum_congr rfl fun d _ => e4 d, e5, ← coe_sum, zero_sub,
    ← EReal.coe_neg, ← EReal.coe_add, Finset.sum_mul, sub_eq_add_neg]

end Cert.Proof.DI

end
-- ==== Proof.DI.HostTerms.lean ====
module

public import proofs.«01_k».proof.Proof.Gen.Kernel3Ideal.Frame
public import Idealize.ShloMosaic.Lib.Pointwise
public import Idealize.ShloMosaic.Lib.StableHlo.Run

/-! The host terms the attention call stages, read at an element. -/

@[expose] public section

set_option maxRecDepth 16384

noncomputable section

namespace Cert.Proof.DI

open Cert.Kernel3Ideal Cert.Kernel3Ideal.Gen
open Idealize.ShloMosaic Idealize.ShloMosaic.TcCoe Idealize.ShloMosaic.StableHlo

/-- The staged queries: transposed. -/
def hq (q : FVec Ideal S2x16384x8x64 .f32) : FVec Ideal S2x512x16640 .bf16 :=
  truncf .bf16 (transpose S2x512x16640 [0, 2, 1] (shapeCast S2x16640x512 (pad S2x16640x8x64 ![0, 0, 0, 0] ![0, 256, 0, 0] ![0, 0, 0, 0] q (sitofp .f32 (constantI S_ 32 0#32)) pads_S2x16384x8x64_S2x16640x8x64_000_02560_000_000 h_S_) shapeCasts_S2x16640x8x64_S2x16640x512) transposes_S2x16640x512_S2x512x16640_0_2_1) bitsLt_bf16_f32

/-- The rows by head and lane, transposed, read at an element. -/
theorem flatq_apply (x : FVec Ideal S2x16640x8x64 .f32) (b : Fin 2) (h : Fin 8) (d : Fin 64) (j : Fin 16640) :
    truncf .bf16 (transpose S2x512x16640 [0, 2, 1] (shapeCast S2x16640x512 x shapeCasts_S2x16640x8x64_S2x16640x512) transposes_S2x16640x512_S2x512x16640_0_2_1) bitsLt_bf16_f32 (ix3 b ⟨64 * h.val + d.val, by omega⟩ j) = x (ix4 b j h d) := by
  have e1 : ∀ (y : FVec Ideal S2x16640x512 .f32) (c : Fin 512), truncf .bf16 (transpose S2x512x16640 [0, 2, 1] y transposes_S2x16640x512_S2x512x16640_0_2_1) bitsLt_bf16_f32 (ix3 b c j) = y (ix3 b j c) := by
    intro y c; pointwise []
  rw [e1]
  refine shapeCast_apply _ _ _ _ ?_
  rw [Shape.rowMajor_val_four, Shape.rowMajor_val_three]
  simp
  ring

theorem pad_apply (q : FVec Ideal S2x16384x8x64 .f32) (z : FVec Ideal S_ .f32) (b : Fin 2) (h : Fin 8) (d : Fin 64) (i : Fin 16384) :
    pad S2x16640x8x64 ![0, 0, 0, 0] ![0, 256, 0, 0] ![0, 0, 0, 0] q z pads_S2x16384x8x64_S2x16640x8x64_000_02560_000_000 h_S_ (ix4 b ⟨i.val, by omega⟩ h d) = q (ix4 b i h d) := by
  pointwise []

theorem hq_apply (q : FVec Ideal S2x16384x8x64 .f32) (b : Fin 2) (h : Fin 8) (d : Fin 64) (i : Fin 16384) :
    hq q (ix3 b ⟨64 * h.val + d.val, by omega⟩ ⟨i.val, by omega⟩) = q (ix4 b i h d) := by
  unfold hq
  exact (flatq_apply _ b h d ⟨i.val, by omega⟩).trans (pad_apply q _ b h d i)

/-- The rows by head and lane, transposed, read at an element. -/
theorem flat_apply (x : FVec Ideal S2x16640x4x128 .f32) (b : Fin 2) (h : Fin 4) (d : Fin 128) (j : Fin 16640) :
    truncf .bf16 (transpose S2x512x16640 [0, 2, 1] (shapeCast S2x16640x512 x shapeCasts_S2x16640x4x128_S2x16640x512) transposes_S2x16640x512_S2x512x16640_0_2_1) bitsLt_bf16_f32 (ix3 b ⟨128 * h.val + d.val, by omega⟩ j) = x (ix4 b j h d) := by
  have e1 : ∀ (y : FVec Ideal S2x16640x512 .f32) (c : Fin 512), truncf .bf16 (transpose S2x512x16640 [0, 2, 1] y transposes_S2x16640x512_S2x512x16640_0_2_1) bitsLt_bf16_f32 (ix3 b c j) = y (ix3 b j c) := by
    intro y c; pointwise []
  rw [e1]
  refine shapeCast_apply _ _ _ _ ?_
  rw [Shape.rowMajor_val_four, Shape.rowMajor_val_three]
  simp
  ring

/-- Latent rows, then context rows. -/
def hvt (vc : FVec Ideal S2x256x4x128 .f32) (vl : FVec Ideal S2x16384x4x128 .f32) : FVec Ideal S2x16640x4x128 .f32 :=
  concatenate S2x16640x4x128 1 [⟨S2x16384x4x128, vl⟩, ⟨S2x256x4x128, vc⟩] concatenates_S2x16384x4x128_S2x256x4x128_S2x16640x4x128_d1

theorem hvt_apply (vc : FVec Ideal S2x256x4x128 .f32) (vl : FVec Ideal S2x16384x4x128 .f32) (b : Fin 2) (h : Fin 4) (d : Fin 128) (j : Fin 16640) :
    hvt vc vl (ix4 b j h d) = if p : j.val < 16384 then vl (ix4 b ⟨j.val, p⟩ h d) else vc (ix4 b ⟨j.val - 16384, by omega⟩ h d) := by
  unfold hvt
  pointwise []

/-- The staged values: by head and lane, then by row. -/
def hv (vc : FVec Ideal S2x256x4x128 .f32) (vl : FVec Ideal S2x16384x4x128 .f32) : FVec Ideal S2x512x16640 .bf16 :=
  truncf .bf16 (transpose S2x512x16640 [0, 2, 1] (shapeCast S2x16640x512 (hvt vc vl) shapeCasts_S2x16640x4x128_S2x16640x512) transposes_S2x16640x512_S2x512x16640_0_2_1) bitsLt_bf16_f32

theorem hv_apply (vc : FVec Ideal S2x256x4x128 .f32) (vl : FVec Ideal S2x16384x4x128 .f32) (b : Fin 2) (h : Fin 4) (d : Fin 128) (j : Fin 16640) :
    hv vc vl (ix3 b ⟨128 * h.val + d.val, by omega⟩ j) = hvt vc vl (ix4 b j h d) := by
  unfold hv
  exact flat_apply _ b h d j

/-- The keys of both row sets, by head. -/
def hkt (kc : FVec Ideal S2x256x8x64 .f32) (kl : FVec Ideal S2x16384x8x64 .f32) : FVec Ideal S2x8x16640x64 .f32 :=
  transpose S2x8x16640x64 [0, 2, 1, 3] (concatenate S2x16640x8x64 1 [⟨S2x16384x8x64, kl⟩, ⟨S2x256x8x64, kc⟩] concatenates_S2x16384x8x64_S2x256x8x64_S2x16640x8x64_d1) transposes_S2x16640x8x64_S2x8x16640x64_0_2_1_3

theorem hkt_apply (kc : FVec Ideal S2x256x8x64 .f32) (kl : FVec Ideal S2x16384x8x64 .f32) (b : Fin 2) (h : Fin 8) (d : Fin 64) (j : Fin 16640) :
    hkt kc kl (ix4 b h j d) = if p : j.val < 16384 then kl (ix4 b ⟨j.val, p⟩ h d) else kc (ix4 b ⟨j.val - 16384, by omega⟩ h d) := by
  unfold hkt
  pointwise []

theorem lanes_apply (x : FVec Ideal S2x8x16640x64 .f32) (y : FVec Ideal S2x8x16640x1 .f32) (z : FVec Ideal S2x8x16640x63 .f32) (b : Fin 2) (h : Fin 8) (d : Fin 128) (j : Fin 16640) :
    concatenate S2x8x16640x128 3 [⟨S2x8x16640x64, x⟩, ⟨S2x8x16640x1, y⟩, ⟨S2x8x16640x63, z⟩] concatenates_S2x8x16640x64_S2x8x16640x1_S2x8x16640x63_S2x8x16640x128_d3 (ix4 b h j d)
      = (if h1 : d.val < 64 then x (ix4 b h j ⟨d.val, h1⟩)
        else if h2 : d.val - 64 < 1 then y (ix4 b h j ⟨d.val - 64, h2⟩) else z (ix4 b h j ⟨d.val - 64 - 1, by omega⟩)) := by
  pointwise []

/-- The staged keys: a one after each key's own lanes, then zeros. -/
def hk (kc : FVec Ideal S2x256x8x64 .f32) (kl : FVec Ideal S2x16384x8x64 .f32) : FVec Ideal S2x8x16640x128 .bf16 :=
  truncf .bf16 (concatenate S2x8x16640x128 3 [⟨S2x8x16640x64, hkt kc kl⟩, ⟨S2x8x16640x1, broadcastInDim S2x8x16640x1 ![] bcast_S_S2x8x16640x1 (constant S_ .f32 0x3F800000#32)⟩, ⟨S2x8x16640x63, broadcastInDim S2x8x16640x63 ![] bcast_S_S2x8x16640x63 (constant S_ .f32 0x00000000#32)⟩] concatenates_S2x8x16640x64_S2x8x16640x1_S2x8x16640x63_S2x8x16640x128_d3) bitsLt_bf16_f32

theorem hk_apply (kc : FVec Ideal S2x256x8x64 .f32) (kl : FVec Ideal S2x16384x8x64 .f32) (b : Fin 2) (h : Fin 8) (j : Fin 16640) :
    (∀ d : Fin 64, hk kc kl (ix4 b h j ⟨d.val, by omega⟩) = hkt kc kl (ix4 b h j d)) ∧ hk kc kl (ix4 b h j 64) = 1 := by
  have e : ∀ (x : FVec Ideal S2x8x16640x128 .f32) (d : Fin 128), truncf .bf16 x bitsLt_bf16_f32 (ix4 b h j d) = x (ix4 b h j d) := fun x d => by pointwise []
  refine ⟨fun d => ?_, ?_⟩
  · unfold hk
    rw [e, lanes_apply, dif_pos d.isLt]
  · unfold hk
    rw [e, lanes_apply, dif_neg (by decide), dif_pos (by decide)]
    pointwise []

theorem maxred_apply (s : FVec Ideal S2x8x16640 .f32) (b : Fin 2) (h : Fin 8) :
    Host.reduce FloatOps.maximumf s (constant S_ .f32 0xFF800000#32) reducesTo_S2x8x16640_S2x8_d2 h_S_ (ix2 b h) = Finset.univ.fold max (Ideal.ofBits .f32 0xFF800000#32) fun j : Fin 16640 => s (ix3 b h j) := by
  pointwise []

theorem sqsum_apply (x : FVec Ideal S2x8x16640x64 .f32) (b : Fin 2) (h : Fin 8) (j : Fin 16640) :
    Host.reduceAdd (mulf (extf .f32 (truncf .bf16 x bitsLt_bf16_f32) bitsLt_bf16_f32) (extf .f32 (truncf .bf16 x bitsLt_bf16_f32) bitsLt_bf16_f32)) (constant S_ .f32 0x00000000#32) reducesTo_S2x8x16640x64_S2x8x16640_d3 h_S_ (ix3 b h j)
      = ∑ y : Fin 64, x (ix4 b h j y) * x (ix4 b h j y) := by
  pointwise []

theorem spread_apply (x : FVec Ideal S2x8 .f32) (b : Fin 2) (h : Fin 8) (j : Fin 128) :
    broadcastInDim S2x8x1x128 ![0, 1, 2, 3] bcast_S2x8x1x1_S2x8x1x128_0_1_2_3 (broadcastInDim S2x8x1x1 ![0, 1] bcast_S2x8_S2x8x1x1_0_1 (Host.sqrt x)) (ix4 b h 0 j) = Ideal.sqrt (x (ix2 b h)) := by
  pointwise []

/-- The largest key norm of each head. -/
def hm (kc : FVec Ideal S2x256x8x64 .f32) (kl : FVec Ideal S2x16384x8x64 .f32) : FVec Ideal S2x8x1x128 .f32 :=
  broadcastInDim S2x8x1x128 ![0, 1, 2, 3] bcast_S2x8x1x1_S2x8x1x128_0_1_2_3 (broadcastInDim S2x8x1x1 ![0, 1] bcast_S2x8_S2x8x1x1_0_1 (Host.sqrt (Host.reduce FloatOps.maximumf (Host.reduceAdd (mulf (extf .f32 (truncf .bf16 (hkt kc kl) bitsLt_bf16_f32) bitsLt_bf16_f32) (extf .f32 (truncf .bf16 (hkt kc kl) bitsLt_bf16_f32) bitsLt_bf16_f32)) (constant S_ .f32 0x00000000#32) reducesTo_S2x8x16640x64_S2x8x16640_d3 h_S_) (constant S_ .f32 0xFF800000#32) reducesTo_S2x8x16640_S2x8_d2 h_S_)))

theorem hm_apply (kc : FVec Ideal S2x256x8x64 .f32) (kl : FVec Ideal S2x16384x8x64 .f32) (b : Fin 2) (h : Fin 8) (j : Fin 128) :
    hm kc kl (ix4 b h 0 j) = Ideal.sqrt (Finset.univ.fold max (Ideal.ofBits .f32 0xFF800000#32)
      fun x : Fin 16640 => ∑ y : Fin 64, hkt kc kl (ix4 b h x y) * hkt kc kl (ix4 b h x y)) := by
  unfold hm
  rw [spread_apply, maxred_apply]
  simp only [sqsum_apply]

/-- The array of zeros the call's result starts as. -/
def hz : FVec Ideal S2x16640x512 .bf16 := broadcastInDim S2x16640x512 ![] bcast_S_S2x16640x512 (constant S_ .bf16 0x0000#16)

theorem hz_apply (b : Fin 2) (i : Fin 16640) (y : Fin 512) : hz (ix3 b i y) = 0 := by
  unfold hz
  pointwise []

/-- The head norm's weights, as one row. -/
def hg (g : FVec Ideal S128 .f32) : FVec Ideal S1x128 .f32 := broadcastInDim S1x128 ![1] bcast_S128_S1x128_1 g

theorem hg_apply (g : FVec Ideal S128 .f32) (e : Fin 128) : hg g (ix2 0 e) = g (ix1 e) := by
  unfold hg
  pointwise []

end Cert.Proof.DI

end
-- ==== Proof.DI.HostQ.lean ====
module

public import proofs.«01_k».proof.Proof.Gen.Kernel3Ideal.Frame
public import Idealize.ShloMosaic.Lib.Pointwise
public import Idealize.ShloMosaic.Lib.StableHlo.Run
public import proofs.«01_k».proof.Proof.DI.HostTerms

/-! What the host leaves in one array of the attention call. -/

@[expose] public section

set_option maxRecDepth 16384

noncomputable section

namespace Cert.Proof.DI

open Cert.Kernel3Ideal Cert.Kernel3Ideal.Gen
open Idealize.ShloMosaic Idealize.ShloMosaic.TcCoe Idealize.ShloMosaic.StableHlo

variable (m : (ℓ : Loc nD τ sig) → Buf (Elt Ideal) ℓ) (c : Dev nD)

theorem V_main_v3 : V m c main_v3 = hq (m ((c : Thread nD τ).loc main_arg0)) := by
  unfold V
  simp only [hostOps0, hostOps0_1, hostOps0_2, List.flatten_cons, List.flatten_nil, List.append_nil, List.cons_append, List.nil_append, TRef.binary, TRef.unary, TRef.toBuf, TRef.ofBuf, cast_eq]
  after_results_simp <;> rfl

end Cert.Proof.DI

end
-- ==== Proof.DI.HostK.lean ====
module

public import proofs.«01_k».proof.Proof.Gen.Kernel3Ideal.Frame
public import Idealize.ShloMosaic.Lib.Pointwise
public import Idealize.ShloMosaic.Lib.StableHlo.Run
public import proofs.«01_k».proof.Proof.DI.HostTerms

/-! What the host leaves in one array of the attention call. -/

@[expose] public section

set_option maxRecDepth 16384

noncomputable section

namespace Cert.Proof.DI

open Cert.Kernel3Ideal Cert.Kernel3Ideal.Gen
open Idealize.ShloMosaic Idealize.ShloMosaic.TcCoe Idealize.ShloMosaic.StableHlo

variable (m : (ℓ : Loc nD τ sig) → Buf (Elt Ideal) ℓ) (c : Dev nD)

theorem V_main_v9 : V m c main_v9 = hk (m ((c : Thread nD τ).loc main_arg1)) (m ((c : Thread nD τ).loc main_arg2)) := by
  unfold V
  simp only [hostOps0, hostOps0_1, hostOps0_2, List.flatten_cons, List.flatten_nil, List.append_nil, List.cons_append, List.nil_append, TRef.binary, TRef.unary, TRef.toBuf, TRef.ofBuf, cast_eq]
  after_results_simp <;> rfl

end Cert.Proof.DI

end
-- ==== Proof.DI.HostM.lean ====
module

public import proofs.«01_k».proof.Proof.Gen.Kernel3Ideal.Frame
public import Idealize.ShloMosaic.Lib.Pointwise
public import Idealize.ShloMosaic.Lib.StableHlo.Run
public import proofs.«01_k».proof.Proof.DI.HostTerms

/-! What the host leaves in one array of the attention call. -/

@[expose] public section

set_option maxRecDepth 16384

noncomputable section

namespace Cert.Proof.DI

open Cert.Kernel3Ideal Cert.Kernel3Ideal.Gen
open Idealize.ShloMosaic Idealize.ShloMosaic.TcCoe Idealize.ShloMosaic.StableHlo

variable (m : (ℓ : Loc nD τ sig) → Buf (Elt Ideal) ℓ) (c : Dev nD)

theorem V_main_v17 : V m c main_v17 = hm (m ((c : Thread nD τ).loc main_arg1)) (m ((c : Thread nD τ).loc main_arg2)) := by
  unfold V
  simp only [hostOps0, hostOps0_1, hostOps0_2, List.flatten_cons, List.flatten_nil, List.append_nil, List.cons_append, List.nil_append, TRef.binary, TRef.unary, TRef.toBuf, TRef.ofBuf, cast_eq]
  after_results_simp <;> rfl

end Cert.Proof.DI

end
-- ==== Proof.DI.HostV.lean ====
module

public import proofs.«01_k».proof.Proof.Gen.Kernel3Ideal.Frame
public import Idealize.ShloMosaic.Lib.Pointwise
public import Idealize.ShloMosaic.Lib.StableHlo.Run
public import proofs.«01_k».proof.Proof.DI.HostTerms

/-! What the host leaves in one array of the attention call. -/

@[expose] public section

set_option maxRecDepth 16384

noncomputable section

namespace Cert.Proof.DI

open Cert.Kernel3Ideal Cert.Kernel3Ideal.Gen
open Idealize.ShloMosaic Idealize.ShloMosaic.TcCoe Idealize.ShloMosaic.StableHlo

variable (m : (ℓ : Loc nD τ sig) → Buf (Elt Ideal) ℓ) (c : Dev nD)

theorem V_main_v21 : V m c main_v21 = hv (m ((c : Thread nD τ).loc main_arg3)) (m ((c : Thread nD τ).loc main_arg4)) := by
  unfold V
  simp only [hostOps0, hostOps0_1, hostOps0_2, List.flatten_cons, List.flatten_nil, List.append_nil, List.cons_append, List.nil_append, TRef.binary, TRef.unary, TRef.toBuf, TRef.ofBuf, cast_eq]
  after_results_simp <;> rfl

end Cert.Proof.DI

end
-- ==== Proof.DI.HostZ.lean ====
module

public import proofs.«01_k».proof.Proof.Gen.Kernel3Ideal.Frame
public import Idealize.ShloMosaic.Lib.Pointwise
public import Idealize.ShloMosaic.Lib.StableHlo.Run
public import proofs.«01_k».proof.Proof.DI.HostTerms

/-! What the host leaves in one array of the attention call. -/

@[expose] public section

set_option maxRecDepth 16384

noncomputable section

namespace Cert.Proof.DI

open Cert.Kernel3Ideal Cert.Kernel3Ideal.Gen
open Idealize.ShloMosaic Idealize.ShloMosaic.TcCoe Idealize.ShloMosaic.StableHlo

variable (m : (ℓ : Loc nD τ sig) → Buf (Elt Ideal) ℓ) (c : Dev nD)

theorem V_main_v23 : V m c main_v23 = hz := by
  unfold V
  simp only [hostOps0, hostOps0_1, hostOps0_2, List.flatten_cons, List.flatten_nil, List.append_nil, List.cons_append, List.nil_append, TRef.binary, TRef.unary, TRef.toBuf, TRef.ofBuf, cast_eq]
  after_results_simp <;> rfl

end Cert.Proof.DI

end
-- ==== Proof.DI.HostG.lean ====
module

public import proofs.«01_k».proof.Proof.Gen.Kernel3Ideal.Frame
public import Idealize.ShloMosaic.Lib.Pointwise
public import Idealize.ShloMosaic.Lib.StableHlo.Run
public import proofs.«01_k».proof.Proof.DI.HostTerms

/-! What the host leaves in one array of the attention call. -/

@[expose] public section

set_option maxRecDepth 16384

noncomputable section

namespace Cert.Proof.DI

open Cert.Kernel3Ideal Cert.Kernel3Ideal.Gen
open Idealize.ShloMosaic Idealize.ShloMosaic.TcCoe Idealize.ShloMosaic.StableHlo

variable (m : (ℓ : Loc nD τ sig) → Buf (Elt Ideal) ℓ) (c : Dev nD)

theorem V_main_v22 : V m c main_v22 = hg (m ((c : Thread nD τ).loc main_arg6)) := by
  unfold V
  simp only [hostOps0, hostOps0_1, hostOps0_2, List.flatten_cons, List.flatten_nil, List.append_nil, List.cons_append, List.nil_append, TRef.binary, TRef.unary, TRef.toBuf, TRef.ofBuf, cast_eq]
  after_results_simp <;> rfl

end Cert.Proof.DI

end
-- ==== Proof.DI.Blocks.lean ====
module

public import proofs.«01_k».proof.Proof.DI.Run
public import proofs.«01_k».proof.Proof.DI.Widen
public import proofs.«01_k».proof.Proof.DI.HostQ
public import proofs.«01_k».proof.Proof.DI.HostK
public import proofs.«01_k».proof.Proof.DI.HostM
public import proofs.«01_k».proof.Proof.DI.HostV
public import proofs.«01_k».proof.Proof.DI.HostZ
public import proofs.«01_k».proof.Proof.DI.HostG
public import proofs.«01_k».proof.Proof.SpecD

/-! The blocks of one grid point, read at an element of the arguments, and the block it leaves. -/

@[expose] public section

set_option maxRecDepth 16384

noncomputable section

namespace Cert.Proof.DI

open Cert.Kernel3Ideal Cert.Kernel3Ideal.Gen
open Idealize.ShloMosaic Idealize.ShloMosaic.TcCoe Cert.Proof.Sm

theorem idx0 : ∀ t : Fin grid0.N, win0_0.index t = ![t.val / 128, t.val / 32 % 4, t.val % 32] := by decide +kernel
theorem idx1 : ∀ t : Fin grid0.N, win0_1.index t = ![t.val / 128, t.val / 32 % 4, 0, 0] := by decide +kernel
theorem idx2 : ∀ t : Fin grid0.N, win0_2.index t = ![t.val / 128, t.val / 32 % 4, 0] := by decide +kernel
theorem idx3 : ∀ t : Fin grid0.N, win0_3.index t = ![t.val / 128, t.val / 32 % 4, 0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![t.val / 128, t.val % 32, t.val / 32 % 4] := by decide +kernel
theorem points : grid0.N = 256 := by decide +kernel

/-- A point's batch, head and query tile. -/
def pb (t : Fin cfg0.N) : Fin 2 := ⟨t.val / 128, by have := Nat.lt_of_lt_of_le t.isLt points.le; omega⟩
def ph (t : Fin cfg0.N) : Fin 4 := ⟨t.val / 32 % 4, by omega⟩
def pq (t : Fin cfg0.N) : Fin 32 := ⟨t.val % 32, by omega⟩
/-- The query and key head of softmax `u` at a point. -/
def ph8 (t : Fin cfg0.N) (u : Fin 2) : Fin 8 := ⟨2 * (ph t).val + u.val, by have := (ph t).isLt; omega⟩

variable (m : (ℓ : Loc nD τ sig) → Buf (Elt Ideal) ℓ) (c : Dev nD) (t : Fin cfg0.N)

theorem ext3 {n0 n1 n2 : ℕ} (x y : (⟨3, ![n0, n1, n2]⟩ : Shape).Idx) (h0 : (x 0).val = (y 0).val) (h1 : (x 1).val = (y 1).val) (h2 : (x 2).val = (y 2).val) : x = y := by
  funext a; apply Fin.ext; fin_cases a; exacts [h0, h1, h2]

theorem X0_fill (j : (cfg0.win 0).block.Idx) :
    X0_0 m c t j = iblk m c 0 t (fun a => ⟨(j a).val, ((cfg0.win 0).moved_iff _ j).mp (moved0_0 t j) a⟩) := by
  unfold X0_0
  generalize iblk m c 0 t = g
  unfold Pipeline.Window.fill
  exact dif_pos (moved0_0 t j)

theorem emb0_0 (y : ((cfg0.win 0).xblock (cfg0.grid.coords t)).Idx) :
    (((cfg0.win 0).blk t).view.emb y 0).val = t.val / 128 * 1 + (y 0).val := by
  blk_simp [idx0]

theorem emb0_1 (y : ((cfg0.win 0).xblock (cfg0.grid.coords t)).Idx) :
    (((cfg0.win 0).blk t).view.emb y 1).val = t.val / 32 % 4 * 128 + (y 1).val := by
  blk_simp [idx0]

theorem emb0_2 (y : ((cfg0.win 0).xblock (cfg0.grid.coords t)).Idx) :
    (((cfg0.win 0).blk t).view.emb y 2).val = t.val % 32 * 512 + (y 2).val := by
  blk_simp [idx0]

theorem emb2_0 (y : ((cfg0.win 2).xblock (cfg0.grid.coords t)).Idx) :
    (((cfg0.win 2).blk t).view.emb y 0).val = t.val / 128 * 1 + (y 0).val := by
  blk_simp [idx2]

theorem emb2_1 (y : ((cfg0.win 2).xblock (cfg0.grid.coords t)).Idx) :
    (((cfg0.win 2).blk t).view.emb y 1).val = t.val / 32 % 4 * 128 + (y 1).val := by
  blk_simp [idx2]

theorem emb2_2 (y : ((cfg0.win 2).xblock (cfg0.grid.coords t)).Idx) :
    (((cfg0.win 2).blk t).view.emb y 2).val = (y 2).val := by
  blk_simp [idx2]

theorem iblk0_gen (y : ((cfg0.win 0).xblock (cfg0.grid.coords t)).Idx) (Y : S2x512x16640.Idx) (h : ((cfg0.win 0).blk t).view.emb y = Y) :
    iblk m c 0 t y = V m c main_v3 Y := by
  unfold iblk
  rw [View.read_apply]
  generalize V m c = W
  refine eq_of_heq ((cast_heq _ _).trans ?_)
  rw [h]

theorem iblk2_gen (y : ((cfg0.win 2).xblock (cfg0.grid.coords t)).Idx) (Y : S2x512x16640.Idx) (h : ((cfg0.win 2).blk t).view.emb y = Y) :
    iblk m c 2 t y = V m c main_v21 Y := by
  unfold iblk
  rw [View.read_apply]
  generalize V m c = W
  refine eq_of_heq ((cast_heq _ _).trans ?_)
  rw [h]

theorem X0_apply (y : Fin 128) (r : Fin 512) (b : Fin 2) (k : Fin 512) (i : Fin 16640) (hb : b.val = t.val / 128) (hk : k.val = 128 * (t.val / 32 % 4) + y.val)
    (hi : i.val = 512 * (t.val % 32) + r.val) : X0_0 m c t (ix3 0 y r) = V m c main_v3 (ix3 b k i) := by
  refine (X0_fill m c t _).trans (iblk0_gen m c t _ _ (ext3 _ _ ?_ ?_ ?_))
  · refine (emb0_0 t _).trans ?_
    show t.val / 128 * 1 + 0 = b.val
    omega
  · refine (emb0_1 t _).trans ?_
    show t.val / 32 % 4 * 128 + y.val = k.val
    omega
  · refine (emb0_2 t _).trans ?_
    show t.val % 32 * 512 + r.val = i.val
    omega

theorem iblk2_apply (e : Fin 128) (j : Fin 16640) (b : Fin 2) (k : Fin 512) (hb : b.val = t.val / 128) (hk : k.val = 128 * (t.val / 32 % 4) + e.val) :
    iblk m c 2 t (ix3 0 e j) = V m c main_v21 (ix3 b k j) := by
  refine iblk2_gen m c t _ _ (ext3 _ _ ?_ ?_ ?_)
  · refine (emb2_0 t _).trans ?_
    show t.val / 128 * 1 + 0 = b.val
    omega
  · refine (emb2_1 t _).trans ?_
    show t.val / 32 % 4 * 128 + e.val = k.val
    omega
  · exact emb2_2 t _

theorem iblk1_apply (u : Fin 2) (j : Fin 16640) (d : Fin 128) : iblk m c 1 t (ix4 0 u j d) = V m c main_v9 (ix4 (pb t) (ph8 t u) j d) := by
  unfold iblk
  refine congrArg (V m c main_v9) ?_
  funext a
  apply Fin.ext
  fin_cases a <;> blk_simp [idx1] <;> first | rfl | exact congrArg (· + u.val) (Nat.mul_comm (t.val / 32 % 4) 2)

theorem iblk3_apply (u : Fin 2) : iblk m c 3 t (ix4 0 u 0 0) = V m c main_v17 (ix4 (pb t) (ph8 t u) 0 0) := by
  unfold iblk
  refine congrArg (V m c main_v17) ?_
  funext a
  apply Fin.ext
  fin_cases a <;> blk_simp [idx3] <;> first | rfl | exact congrArg (· + u.val) (Nat.mul_comm (t.val / 32 % 4) 2)

theorem iblk4_apply (i : Fin 4) (d : Fin 64) : iblk m c 4 t (ix2 i d) = V m c main_arg5 (ix2 i d) := by
  unfold iblk
  refine congrArg (V m c main_arg5) ?_
  funext a
  apply Fin.ext
  fin_cases a <;> blk_simp [idx4] <;> rfl

theorem iblk5_apply (e : Fin 128) : iblk m c 5 t (ix2 0 e) = V m c main_v22 (ix2 0 e) := by
  unfold iblk
  refine congrArg (V m c main_v22) ?_
  funext a
  apply Fin.ext
  fin_cases a <;> blk_simp [idx5] <;> rfl

end Cert.Proof.DI

end
-- ==== Proof.DI.Value.lean ====
module

public import proofs.«01_k».proof.Proof.DI.Widen
public import proofs.«01_k».proof.Proof.DI.HostTerms
public import proofs.«01_k».proof.Proof.SpecD

/-! One grid point's block, from blocks that read the arguments. -/

@[expose] public section

set_option maxRecDepth 16384

noncomputable section

namespace Cert.Proof.DI

open Cert.Kernel3Ideal Cert.Kernel3Ideal.Gen
open Idealize.ShloMosaic Idealize.ShloMosaic.TcCoe Cert.Proof.Sm

theorem hkt_cat (kc : FVec Ideal S2x256x8x64 .f32) (kl : FVec Ideal S2x16384x8x64 .f32) (b : Fin 2) (h : Fin 8) (j : Fin 16640) (d : Fin 64) :
    hkt kc kl (ix4 b h j d) = cat kl kc b h d j.val := by
  rw [hkt_apply]
  unfold cat
  by_cases p : j.val < 16384
  · rw [dif_pos p, dif_pos p]
  · rw [dif_neg p, dif_neg p, dif_pos (by have := j.isLt; omega)]

theorem hvt_cat (vc : FVec Ideal S2x256x4x128 .f32) (vl : FVec Ideal S2x16384x4x128 .f32) (b : Fin 2) (h : Fin 4) (j : Fin 16640) (d : Fin 128) :
    hvt vc vl (ix4 b j h d) = cat vl vc b h d j.val := by
  rw [hvt_apply]
  unfold cat
  by_cases p : j.val < 16384
  · rw [dif_pos p, dif_pos p]
  · rw [dif_neg p, dif_neg p, dif_pos (by have := j.isLt; omega)]

theorem hm_real (kc : FVec Ideal S2x256x8x64 .f32) (kl : FVec Ideal S2x16384x8x64 .f32) (hc : Fin' kc) (hl : Fin' kl) (b : Fin 2) (h : Fin 8) (j : Fin 128) :
    ∃ M : ℝ, hm kc kl (ix4 b h 0 j) = M := by
  rw [hm_apply]
  have e : ∀ x : Fin 16640, (∑ y : Fin 64, hkt kc kl (ix4 b h x y) * hkt kc kl (ix4 b h x y))
      = ((∑ y : Fin 64, (cat kl kc b h y x.val).toReal * (cat kl kc b h y x.val).toReal : ℝ) : EReal) := fun x => by
    rw [coe_sum]
    refine Finset.sum_congr rfl fun y _ => ?_
    rw [hkt_cat, EReal.coe_mul, ← cat_real kl kc hl hc]
  simp only [e, ofBits_bot]
  obtain ⟨M, hM⟩ := fold_max_real (Finset.univ : Finset (Fin 16640)) ⟨0, Finset.mem_univ _⟩
    (fun x => ∑ y : Fin 64, (cat kl kc b h y x.val).toReal * (cat kl kc b h y x.val).toReal)
  have h0 : (0 : ℝ) ≤ M := by
    have h1 : (((∑ y : Fin 64, (cat kl kc b h y (0 : Fin 16640).val).toReal * (cat kl kc b h y (0 : Fin 16640).val).toReal : ℝ)) : EReal) ≤ (M : EReal) := by
      rw [← hM]
      exact Finset.le_fold_max _ |>.mpr (.inr ⟨0, Finset.mem_univ _, le_rfl⟩)
    exact (Finset.sum_nonneg fun y _ => mul_self_nonneg _).trans (EReal.coe_le_coe_iff.mp h1)
  rw [hM]
  exact ⟨Real.sqrt M, by rw [Ideal.sqrt_coe, if_neg (not_lt.mpr h0)]⟩

theorem out_val (q : FVec Ideal S2x16384x8x64 .f32) (kc : FVec Ideal S2x256x8x64 .f32) (kl : FVec Ideal S2x16384x8x64 .f32)
    (vc : FVec Ideal S2x256x4x128 .f32) (vl : FVec Ideal S2x16384x4x128 .f32) (lp : FVec Ideal S4x64 .f32) (g : FVec Ideal S128 .f32) (hq : Fin' q) (hc : Fin' kc) (hl : Fin' kl)
    (x3 : Vec Ideal S1x128x512 .bf16) (K : Vec Ideal S1x2x16640x128 .bf16) (V : Vec Ideal S1x128x16640 .bf16) (x6 : Vec Ideal S1x2x1x128 .f32)
    (x7 : Vec Ideal S4x64 .f32) (x8 : Vec Ideal S1x128 .f32) (b : Fin 2) (h : Fin 4) (i : Fin 16384) (s : Fin 512) (e : Fin 128)
    (hx3 : ∀ (u : Fin 2) (d : Fin 64), x3 (ix3 0 ⟨64 * u.val + d.val, by omega⟩ s) = q (ix4 b i ⟨2 * h.val + u.val, by omega⟩ d))
    (hK : ∀ (u : Fin 2) (j : Fin 16640) (d : Fin 128), K (ix4 0 u j d) = hk kc kl (ix4 b ⟨2 * h.val + u.val, by omega⟩ j d))
    (hV : ∀ (e : Fin 128) (j : Fin 16640), V (ix3 0 e j) = hv vc vl (ix3 b ⟨128 * h.val + e.val, by omega⟩ j))
    (hx6 : ∀ u : Fin 2, x6 (ix4 0 u 0 0) = hm kc kl (ix4 b ⟨2 * h.val + u.val, by omega⟩ 0 0)) (hx7 : x7 = lp) (hx8 : x8 (ix2 0 e) = g (ix1 e)) :
    outB (F := Ideal) x3 K V x6 x7 x8 (ix3 0 s e) = headD q kc kl vc vl lp g b h i e := by
  have hb : ∀ u : Fin 2, ∃ β : ℝ, ∀ j : Fin 16640, sc K (qa x3 x6) ⟨512 * u.val + s.val, by omega⟩ j
      = (((∑ d : Fin 64, (cat kl kc b ⟨2 * h.val + u.val, by omega⟩ d j.val).toReal * (q (ix4 b i ⟨2 * h.val + u.val, by omega⟩ d)).toReal) * qs - β : ℝ) : EReal) := fun u => by
    obtain ⟨M, hM⟩ := hm_real kc kl hc hl b ⟨2 * h.val + u.val, by omega⟩ 0
    exact sc_qa x3 K x6 u s (fun d => (q (ix4 b i ⟨2 * h.val + u.val, by omega⟩ d)).toReal) (fun d j => (cat kl kc b ⟨2 * h.val + u.val, by omega⟩ d j).toReal) M
      (fun d => (hx3 u d).trans (hq _)) (fun j d => by rw [hK, (hk_apply kc kl b _ j).1 d, hkt_cat]; exact cat_real kl kc hl hc b _ d j.val)
      (fun j => by rw [hK, (hk_apply kc kl b _ j).2]) ((hx6 u).trans hM)
  choose β hβ using hb
  refine (outB_apply x3 K V x6 x7 x8 s e
    (fun u x => (∑ d : Fin 64, (cat kl kc b ⟨2 * h.val + u.val, by omega⟩ d x).toReal * (q (ix4 b i ⟨2 * h.val + u.val, by omega⟩ d)).toReal) * qs - β u)
    (fun u => tscD q kc kl b h u i) (fun e j => cat vl vc b h e j) (fun u => β u * Real.log 2) hβ (fun e j => by rw [hV, hv_apply, hvt_cat]) fun u x _ => ?_).trans ?_
  · have hlog : Real.log 2 ≠ 0 := (Real.log_pos one_lt_two).ne'
    unfold tscD qs
    field_simp
  · unfold headD
    rw [hx7, hx8]

end Cert.Proof.DI

end
-- ==== Proof.DI.Out.lean ====
module

public import proofs.«01_k».proof.Proof.DI.Blocks
public import proofs.«01_k».proof.Proof.DI.Value
public import Idealize.ShloMosaic.Lib.Pipeline.ValueKit
public import Idealize.ShloMosaic.Lib.Claim

/-! The kernel's output array is the differential attention of the arguments. -/

@[expose] public section

set_option maxRecDepth 16384

noncomputable section

namespace Cert.Proof.DI

open Cert.Kernel3Ideal Cert.Kernel3Ideal.Gen
open Idealize.ShloMosaic Idealize.ShloMosaic.TcCoe Cert.Proof.Sm

variable (m : (ℓ : Loc nD τ sig) → Buf (Elt Ideal) ℓ) (c : Dev nD)

/-- The result as a function of the launched arguments. -/
def res : FVec Ideal S2x16640x512 .bf16 :=
  goalD (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- The arguments the scores are made of are finite. -/
def Real3 : Prop :=
  Fin' (s := S2x16384x8x64) (m ((c : Thread nD τ).loc main_arg0)) ∧ Fin' (s := S2x256x8x64) (m ((c : Thread nD τ).loc main_arg1)) ∧
    Fin' (s := S2x16384x8x64) (m ((c : Thread nD τ).loc main_arg2))

theorem out_point (hf : Real3 m c) (t : Fin cfg0.N) (r : Fin 512) (e : Fin 128) (i : Fin 16384) (hi : i.val = 512 * (t.val % 32) + r.val) :
    outAt (F := Ideal) m c t (ix3 0 r e) = headD (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) (pb t) (ph t) i e := by
  unfold outAt
  refine out_val _ _ _ _ _ _ _ hf.1 hf.2.1 hf.2.2 _ _ _ _ _ _ (pb t) (ph t) i r e (fun u d => ?_) (fun u j d => ?_) (fun e j => ?_) (fun u => ?_) ?_ ?_
  · have h4 := (ph t).isLt
    refine (X0_apply m c t ⟨64 * u.val + d.val, by omega⟩ r (pb t) ⟨64 * (⟨2 * (ph t).val + u.val, by omega⟩ : Fin 8).val + d.val, by simp only []; omega⟩ ⟨i.val, by omega⟩ rfl
      (by unfold ph; simp only []; omega) hi).trans ?_
    rw [V_main_v3, hq_apply]
  · rw [iblk1_apply, V_main_v9]
    rfl
  · refine (iblk2_apply m c t e j (pb t) ⟨128 * (ph t).val + e.val, by have := (ph t).isLt; omega⟩ rfl rfl).trans ?_
    rw [V_main_v21]
  · rw [iblk3_apply, V_main_v17]
    rfl
  · funext x
    obtain ⟨k, d, rfl⟩ : ∃ k d, x = ix2 k d := ⟨_, _, eq_ix2 x⟩
    rw [iblk4_apply, V_main_arg5]
  · rw [iblk5_apply, V_main_v22, hg_apply]

theorem emb6_0 (t : Fin cfg0.N) (y : ((cfg0.win 6).xblock (cfg0.grid.coords t)).Idx) :
    (((cfg0.win 6).blk t).view.emb y 0).val = t.val / 128 * 1 + (y 0).val := by
  blk_simp [idx6]
theorem emb6_1 (t : Fin cfg0.N) (y : ((cfg0.win 6).xblock (cfg0.grid.coords t)).Idx) :
    (((cfg0.win 6).blk t).view.emb y 1).val = t.val % 32 * 512 + (y 1).val := by
  blk_simp [idx6]
theorem emb6_2 (t : Fin cfg0.N) (y : ((cfg0.win 6).xblock (cfg0.grid.coords t)).Idx) :
    (((cfg0.win 6).blk t).view.emb y 2).val = t.val / 32 % 4 * 128 + (y 2).val := by
  blk_simp [idx6]

theorem goal_emb (hf : Real3 m c) (t : Fin cfg0.N) (x : S1x512x128.Idx) (Y : S2x16640x512.Idx) (h0 : (Y 0).val = t.val / 128 * 1 + (x 0).val)
    (h1 : (Y 1).val = t.val % 32 * 512 + (x 1).val) (h2 : (Y 2).val = t.val / 32 % 4 * 128 + (x 2).val) : outAt m c t x = res m c Y := by
  obtain ⟨z, r, e, rfl⟩ : ∃ z r e, x = ix3 z r e := ⟨_, _, _, eq_ix3 x⟩
  obtain ⟨b, i, y, rfl⟩ : ∃ b i y, Y = ix3 b i y := ⟨_, _, _, eq_ix3 Y⟩
  obtain rfl : z = 0 := Subsingleton.elim _ _
  have h0' : b.val = t.val / 128 := by
    have : b.val = t.val / 128 * 1 + 0 := h0
    omega
  have h1' : i.val = t.val % 32 * 512 + r.val := h1
  have h2' : y.val = t.val / 32 % 4 * 128 + e.val := h2
  have hb : b = pb t := Fin.ext h0'
  have hi : i.val < 16384 := by have := r.isLt; omega
  rw [hb]
  refine (out_point m c hf t r e ⟨i.val, hi⟩ (by simp only []; omega)).trans ?_
  exact (goalD_apply _ _ _ _ _ _ _ (pb t) ⟨i.val, hi⟩ (ph t) e i y rfl (by unfold ph; simp only []; omega)).symm

theorem zero_rows (Y : S2x16640x512.Idx) (h : ¬ (Y 1).val < 16384) : V m c main_v23 Y = res m c Y := by
  obtain ⟨b, i, y, rfl⟩ : ∃ b i y, Y = ix3 b i y := ⟨_, _, _, eq_ix3 Y⟩
  rw [V_main_v23, hz_apply]
  exact (goalD_pad _ _ _ _ _ _ _ b i y h).symm

theorem out_array (hf : Real3 m c) : (dats m 0 c).arrAt 6 cfg0.N = res m c := by
  refine (dats m 0 c).arrAt_eq_of_coversWhere_of_agree 6 (res m c) (fun β => β (1 : Fin 3) < 32) (by decide +kernel) (fun t _ y => ?_) (fun j hj => ?_)
  · refine eq_of_heq ((cast_heq _ _).trans ?_)
    rw [after6]
    exact heq_of_eq (goal_emb m c hf t _ _ (emb6_0 t y) (emb6_1 t y) (emb6_2 t y))
  · rw [A_eq]
    refine zero_rows m c _ fun h => hj ?_
    have h' : (j 1).val < 16384 := h
    rw [Pipeline.Window.cell_apply]
    show (j 1).val / 512 < 32
    omega

/-- The run: the result is `res` and the arguments are unchanged. -/
theorem value (ρ : Dev nD → PrngReg) (hf : ∀ c, Real3 m c) : θ_run defs (onTc (τ := τ) (main (F := Ideal))) ⟨m, fun _ => 0, ρ⟩ (fun r => ∀ c : Dev nD,
    r.2.mem ((c.tc : Thread nD τ).loc main_v24) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1.1 c).1 6).trans (out_array m c (hf c)), h.2.1 c⟩)
    (θ_run_and (run_main m ρ) (frame m ρ))

end Cert.Proof.DI

end
-- ==== Proof.RD.lean ====
module

public import proofs.«01_k».proof.Proof.Gen.Reference3Ideal.Run
public import proofs.«01_k».proof.Proof.SpecD
public import Idealize.ShloMosaic.Lib.Pointwise

/-! The differential attention reference's result, read at an element. -/

@[expose] public section

set_option maxRecDepth 16384

noncomputable section

namespace Cert.Proof.RD

open Cert.Reference3Ideal Cert.Reference3Ideal.Gen Cert.Reference3Ideal.Value
open Idealize.ShloMosaic Cert.Proof.Sm Idealize.ShloMosaic.TcCoe

/-- Latent rows by head and softmax. -/
def rA (x : FVec Ideal S2x16384x8x64 .f32) : FVec Ideal S2x4x2x16384x64 .f32 :=
  transpose S2x4x2x16384x64 [0, 2, 3, 1, 4] (shapeCast S2x16384x4x2x64 x shapeCasts_S2x16384x8x64_S2x16384x4x2x64) transposes_S2x16384x4x2x64_S2x4x2x16384x64_0_2_3_1_4
/-- Context rows by head and softmax. -/
def rB (x : FVec Ideal S2x256x8x64 .f32) : FVec Ideal S2x4x2x256x64 .f32 :=
  transpose S2x4x2x256x64 [0, 2, 3, 1, 4] (shapeCast S2x256x4x2x64 x shapeCasts_S2x256x8x64_S2x256x4x2x64) transposes_S2x256x4x2x64_S2x4x2x256x64_0_2_3_1_4

/-- One softmax's latent rows. -/
def pA0 (x : FVec Ideal S2x4x2x16384x64 .f32) : FVec Ideal S2x4x16384x64 .f32 :=
  shapeCast S2x4x16384x64 (extractStridedSlice S2x4x1x16384x64 ![0, 0, 0, 0, 0] x slices_S2x4x2x16384x64_S2x4x1x16384x64_0_0_0_0_0) shapeCasts_S2x4x1x16384x64_S2x4x16384x64
def pA1 (x : FVec Ideal S2x4x2x16384x64 .f32) : FVec Ideal S2x4x16384x64 .f32 :=
  shapeCast S2x4x16384x64 (extractStridedSlice S2x4x1x16384x64 ![0, 0, 1, 0, 0] x slices_S2x4x2x16384x64_S2x4x1x16384x64_0_0_1_0_0) shapeCasts_S2x4x1x16384x64_S2x4x16384x64
/-- One softmax's context rows. -/
def pB0 (x : FVec Ideal S2x4x2x256x64 .f32) : FVec Ideal S2x4x256x64 .f32 :=
  shapeCast S2x4x256x64 (extractStridedSlice S2x4x1x256x64 ![0, 0, 0, 0, 0] x slices_S2x4x2x256x64_S2x4x1x256x64_0_0_0_0_0) shapeCasts_S2x4x1x256x64_S2x4x256x64
def pB1 (x : FVec Ideal S2x4x2x256x64 .f32) : FVec Ideal S2x4x256x64 .f32 :=
  shapeCast S2x4x256x64 (extractStridedSlice S2x4x1x256x64 ![0, 0, 1, 0, 0] x slices_S2x4x2x256x64_S2x4x1x256x64_0_0_1_0_0) shapeCasts_S2x4x1x256x64_S2x4x256x64

/-- Keys, context rows first. -/
def rK (kc : FVec Ideal S2x4x256x64 .f32) (kl : FVec Ideal S2x4x16384x64 .f32) : FVec Ideal S2x4x16640x64 .f32 :=
  concatenate S2x4x16640x64 2 [⟨S2x4x256x64, kc⟩, ⟨S2x4x16384x64, kl⟩] concatenates_S2x4x256x64_S2x4x16384x64_S2x4x16640x64_d2

/-- The values, context rows first. -/
def rV (vc : FVec Ideal S2x256x4x128 .f32) (vl : FVec Ideal S2x16384x4x128 .f32) : FVec Ideal S2x4x16640x128 .f32 :=
  concatenate S2x4x16640x128 2 [⟨S2x4x256x128, (transpose S2x4x256x128 [0, 2, 1, 3] vc transposes_S2x256x4x128_S2x4x256x128_0_2_1_3)⟩, ⟨S2x4x16384x128, (transpose S2x4x16384x128 [0, 2, 1, 3] vl transposes_S2x16384x4x128_S2x4x16384x128_0_2_1_3)⟩] concatenates_S2x4x256x128_S2x4x16384x128_S2x4x16640x128_d2

/-- The scaled scores. -/
def rS (q : FVec Ideal S2x4x16384x64 .f32) (k : FVec Ideal S2x4x16640x64 .f32) : FVec Ideal S2x4x16384x16640 .f32 :=
  mulf (Host.dotGeneral dot_S2x4x16384x64_S2x4x16640x64_S2x4x16384x16640_3_3_2_2_01_01 none q k) (broadcastInDim S2x4x16384x16640 ![] bcast_S_S2x4x16384x16640 (constant S_ .f32 0x3E000000#32))

/-- The largest score of each row. -/
def rM (s : FVec Ideal S2x4x16384x16640 .f32) : FVec Ideal S2x4x16384 .f32 :=
  maximumf (broadcastInDim S2x4x16384 ![] bcast_S_S2x4x16384 (constant S_ .f32 0xFF800000#32)) (Host.reduce FloatOps.maximumf s (constant S_ .f32 0xFF800000#32) reducesTo_S2x4x16384x16640_S2x4x16384_d3 h_S_)

/-- The exponentials of the shifted scores. -/
def rE (s : FVec Ideal S2x4x16384x16640 .f32) : FVec Ideal S2x4x16384x16640 .f32 :=
  Host.exp (subf s (broadcastInDim S2x4x16384x16640 ![0, 1, 2, 3] bcast_S2x4x16384x1_S2x4x16384x16640_0_1_2_3 (broadcastInDim S2x4x16384x1 ![0, 1, 2] bcast_S2x4x16384_S2x4x16384x1_0_1_2 (rM s))))

/-- The weights. -/
def rP (e : FVec Ideal S2x4x16384x16640 .f32) : FVec Ideal S2x4x16384x16640 .f32 :=
  Host.divf e (broadcastInDim S2x4x16384x16640 ![0, 1, 2, 3] bcast_S2x4x16384x1_S2x4x16384x16640_0_1_2_3 (broadcastInDim S2x4x16384x1 ![0, 1, 2] bcast_S2x4x16384_S2x4x16384x1_0_1_2 (Host.reduceAdd e (constant S_ .f32 0x00000000#32) reducesTo_S2x4x16384x16640_S2x4x16384_d3 h_S_)))

/-- The multiple of the second weights that is taken off. -/
def rL (lp : FVec Ideal S4x64 .f32) : FVec Ideal S_ .f32 :=
  addf (subf (Host.exp (Host.reduceAdd (mulf (shapeCast S64 (extractStridedSlice S1x64 ![0, 0] lp slices_S4x64_S1x64_0_0) shapeCasts_S1x64_S64) (shapeCast S64 (extractStridedSlice S1x64 ![1, 0] lp slices_S4x64_S1x64_1_0) shapeCasts_S1x64_S64)) (constant S_ .f32 0x00000000#32) reducesTo_S64_S_d0 h_S_)) (Host.exp (Host.reduceAdd (mulf (shapeCast S64 (extractStridedSlice S1x64 ![2, 0] lp slices_S4x64_S1x64_2_0) shapeCasts_S1x64_S64) (shapeCast S64 (extractStridedSlice S1x64 ![3, 0] lp slices_S4x64_S1x64_3_0) shapeCasts_S1x64_S64)) (constant S_ .f32 0x00000000#32) reducesTo_S64_S_d0 h_S_))) (constant S_ .f32 0x3EB60549#32)

/-- The weights' difference. -/
def rW (p0 : FVec Ideal S2x4x16384x16640 .f32) (l : FVec Ideal S_ .f32) (p1 : FVec Ideal S2x4x16384x16640 .f32) : FVec Ideal S2x4x16384x16640 .f32 :=
  subf p0 (mulf (broadcastInDim S2x4x16384x16640 ![] bcast_S_S2x4x16384x16640 l) p1)

/-- The weighted sums. -/
def rO (p : FVec Ideal S2x4x16384x16640 .f32) (v : FVec Ideal S2x4x16640x128 .f32) : FVec Ideal S2x16384x4x128 .f32 :=
  transpose S2x16384x4x128 [0, 2, 1, 3] (Host.dotGeneral dot_S2x4x16384x16640_S2x4x16640x128_S2x4x16384x128_3_2_2_3_01_01 none p v) transposes_S2x4x16384x128_S2x16384x4x128_0_2_1_3

/-- The normed heads. -/
def rN (o : FVec Ideal S2x16384x4x128 .f32) (g : FVec Ideal S128 .f32) : FVec Ideal S2x16384x4x128 .f32 :=
  mulf (mulf (mulf o (broadcastInDim S2x16384x4x128 ![0, 1, 2, 3] bcast_S2x16384x4x1_S2x16384x4x128_0_1_2_3 (Host.rsqrt (addf (Host.divf (broadcastInDim S2x16384x4x1 ![0, 1, 2] bcast_S2x16384x4_S2x16384x4x1_0_1_2 (Host.reduceAdd (mulf o o) (constant S_ .f32 0x00000000#32) reducesTo_S2x16384x4x128_S2x16384x4_d3 h_S_)) (broadcastInDim S2x16384x4x1 ![] bcast_S_S2x16384x4x1 (constant S_ .f32 0x43000000#32))) (broadcastInDim S2x16384x4x1 ![] bcast_S_S2x16384x4x1 (constant S_ .f32 0x358637BD#32)))))) (broadcastInDim S2x16384x4x128 ![0, 1, 2, 3] bcast_S1x1x1x128_S2x16384x4x128_0_1_2_3 (broadcastInDim S1x1x1x128 ![3] bcast_S128_S1x1x1x128_3 g))) (broadcastInDim S2x16384x4x128 ![] bcast_S_S2x16384x4x128 (constant S_ .f32 0x3F24FD5C#32))

/-- The heads as the result's rows. -/
def rR (o : FVec Ideal S2x16384x4x128 .f32) : FVec Ideal S2x16640x512 .bf16 :=
  truncf .bf16 (pad S2x16640x512 ![0, 0, 0] ![0, 256, 0] ![0, 0, 0] (shapeCast S2x16384x512 o shapeCasts_S2x16384x4x128_S2x16384x512) (sitofp .f32 (constantI S_ 32 0#32)) pads_S2x16384x512_S2x16640x512_000_02560_000 h_S_) bitsLt_bf16_f32

/-- The whole result. -/
def rAll (q : FVec Ideal S2x16384x8x64 .f32) (kc : FVec Ideal S2x256x8x64 .f32) (kl : FVec Ideal S2x16384x8x64 .f32)
    (vc : FVec Ideal S2x256x4x128 .f32) (vl : FVec Ideal S2x16384x4x128 .f32) (lp : FVec Ideal S4x64 .f32) (g : FVec Ideal S128 .f32) : FVec Ideal S2x16640x512 .bf16 :=
  rR (rN (rO (rW (rP (rE (rS (pA0 (rA q)) (rK (pB0 (rB kc)) (pA0 (rA kl)))))) (rL lp) (rP (rE (rS (pA1 (rA q)) (rK (pB1 (rB kc)) (pA1 (rA kl))))))) (rV vc vl)) g)

variable (m : (ℓ : Loc nD τ sig) → Buf (Elt Ideal) ℓ) (c : Dev nD)

theorem res_eq : res_main_v89 m c = rAll (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6)) := by
  unfold res_main_v89 rAll rR rN rO rW rL rP rE rM rS rK rV pA0 pA1 pB0 pB1 rA rB
  rfl

theorem rA_apply (x : FVec Ideal S2x16384x8x64 .f32) (b : Fin 2) (h : Fin 4) (u : Fin 2) (i : Fin 16384) (d : Fin 64) :
    rA x (ix5 b h u i d) = x (ix4 b i ⟨2 * h.val + u.val, by omega⟩ d) := by
  have e1 : ∀ y : FVec Ideal S2x16384x4x2x64 .f32, transpose S2x4x2x16384x64 [0, 2, 3, 1, 4] y transposes_S2x16384x4x2x64_S2x4x2x16384x64_0_2_3_1_4 (ix5 b h u i d) = y (ix5 b i h u d) := by
    intro y; pointwise []
  unfold rA
  rw [e1]
  refine shapeCast_apply _ _ _ _ ?_
  rw [Shape.rowMajor_val_four, Shape.rowMajor_val_five]
  simp
  ring

theorem rB_apply (x : FVec Ideal S2x256x8x64 .f32) (b : Fin 2) (h : Fin 4) (u : Fin 2) (i : Fin 256) (d : Fin 64) :
    rB x (ix5 b h u i d) = x (ix4 b i ⟨2 * h.val + u.val, by omega⟩ d) := by
  have e1 : ∀ y : FVec Ideal S2x256x4x2x64 .f32, transpose S2x4x2x256x64 [0, 2, 3, 1, 4] y transposes_S2x256x4x2x64_S2x4x2x256x64_0_2_3_1_4 (ix5 b h u i d) = y (ix5 b i h u d) := by
    intro y; pointwise []
  unfold rB
  rw [e1]
  refine shapeCast_apply _ _ _ _ ?_
  rw [Shape.rowMajor_val_four, Shape.rowMajor_val_five]
  simp
  ring

theorem dropA (y : FVec Ideal S2x4x1x16384x64 .f32) (b : Fin 2) (h : Fin 4) (i : Fin 16384) (d : Fin 64) :
    shapeCast S2x4x16384x64 y shapeCasts_S2x4x1x16384x64_S2x4x16384x64 (ix4 b h i d) = y (ix5 b h 0 i d) := by
  refine shapeCast_apply _ _ _ _ ?_
  rw [Shape.rowMajor_val_four, Shape.rowMajor_val_five]
  simp

theorem dropB (y : FVec Ideal S2x4x1x256x64 .f32) (b : Fin 2) (h : Fin 4) (i : Fin 256) (d : Fin 64) :
    shapeCast S2x4x256x64 y shapeCasts_S2x4x1x256x64_S2x4x256x64 (ix4 b h i d) = y (ix5 b h 0 i d) := by
  refine shapeCast_apply _ _ _ _ ?_
  rw [Shape.rowMajor_val_four, Shape.rowMajor_val_five]
  simp

theorem pA_apply (x : FVec Ideal S2x4x2x16384x64 .f32) (b : Fin 2) (h : Fin 4) (i : Fin 16384) (d : Fin 64) :
    pA0 x (ix4 b h i d) = x (ix5 b h 0 i d) ∧ pA1 x (ix4 b h i d) = x (ix5 b h 1 i d) := by
  unfold pA0 pA1
  rw [dropA, dropA]
  constructor <;> pointwise []

theorem pB_apply (x : FVec Ideal S2x4x2x256x64 .f32) (b : Fin 2) (h : Fin 4) (i : Fin 256) (d : Fin 64) :
    pB0 x (ix4 b h i d) = x (ix5 b h 0 i d) ∧ pB1 x (ix4 b h i d) = x (ix5 b h 1 i d) := by
  unfold pB0 pB1
  rw [dropB, dropB]
  constructor <;> pointwise []

theorem rK_apply (kc : FVec Ideal S2x4x256x64 .f32) (kl : FVec Ideal S2x4x16384x64 .f32) (b : Fin 2) (h : Fin 4) (j : Fin 16640) (d : Fin 64) :
    rK kc kl (ix4 b h j d) = if p : j.val < 256 then kc (ix4 b h ⟨j.val, p⟩ d) else kl (ix4 b h ⟨j.val - 256, by omega⟩ d) := by
  unfold rK
  pointwise []

theorem rV_apply (vc : FVec Ideal S2x256x4x128 .f32) (vl : FVec Ideal S2x16384x4x128 .f32) (b : Fin 2) (h : Fin 4) (j : Fin 16640) (d : Fin 128) :
    rV vc vl (ix4 b h j d) = if p : j.val < 256 then vc (ix4 b ⟨j.val, p⟩ h d) else vl (ix4 b ⟨j.val - 256, by omega⟩ h d) := by
  unfold rV
  pointwise []

theorem rS_apply (q : FVec Ideal S2x4x16384x64 .f32) (k : FVec Ideal S2x4x16640x64 .f32) (b : Fin 2) (h : Fin 4) (i : Fin 16384) (j : Fin 16640) :
    rS q k (ix4 b h i j) = (∑ d : Fin 64, q (ix4 b h i d) * k (ix4 b h j d)) * Ideal.ofBits .f32 0x3E000000#32 := by
  unfold rS
  pointwise []

theorem maxred_apply (s : FVec Ideal S2x4x16384x16640 .f32) (z : FVec Ideal S_ .f32) (b : Fin 2) (h : Fin 4) (i : Fin 16384) :
    Host.reduce FloatOps.maximumf s z reducesTo_S2x4x16384x16640_S2x4x16384_d3 h_S_ (ix3 b h i) = Finset.univ.fold max (z (Shape.Idx.first h_S_)) fun j : Fin 16640 => s (ix4 b h i j) := by
  pointwise []

theorem rM_apply (s : FVec Ideal S2x4x16384x16640 .f32) (b : Fin 2) (h : Fin 4) (i : Fin 16384) :
    rM s (ix3 b h i) = max (Ideal.ofBits .f32 0xFF800000#32) (Finset.univ.fold max (Ideal.ofBits .f32 0xFF800000#32) fun j : Fin 16640 => s (ix4 b h i j)) := by
  unfold rM
  have e : ∀ x y : FVec Ideal S2x4x16384 .f32, maximumf x y (ix3 b h i) = max (x (ix3 b h i)) (y (ix3 b h i)) := fun x y => by pointwise []
  rw [e, maxred_apply]
  rfl

theorem rE_apply (s : FVec Ideal S2x4x16384x16640 .f32) (b : Fin 2) (h : Fin 4) (i : Fin 16384) (j : Fin 16640) :
    rE s (ix4 b h i j) = Ideal.exp (s (ix4 b h i j) - rM s (ix3 b h i)) := by
  unfold rE
  pointwise []

theorem rP_apply (e : FVec Ideal S2x4x16384x16640 .f32) (b : Fin 2) (h : Fin 4) (i : Fin 16384) (j : Fin 16640) :
    rP e (ix4 b h i j) = Ideal.div (e (ix4 b h i j)) (∑ x : Fin 16640, e (ix4 b h i x)) := by
  unfold rP
  pointwise []

theorem row_apply (y : FVec Ideal S1x64 .f32) (d : Fin 64) : shapeCast S64 y shapeCasts_S1x64_S64 (ix1 d) = y (ix2 0 d) := by
  pointwise []

theorem rL_apply (lp : FVec Ideal S4x64 .f32) (x : S_.Idx) : rL lp x = lamOf lp := by
  unfold rL lamOf
  pointwise []

theorem rW_apply (p0 : FVec Ideal S2x4x16384x16640 .f32) (l : FVec Ideal S_ .f32) (p1 : FVec Ideal S2x4x16384x16640 .f32) (L : EReal) (hl : ∀ x, l x = L)
    (b : Fin 2) (h : Fin 4) (i : Fin 16384) (j : Fin 16640) : rW p0 l p1 (ix4 b h i j) = p0 (ix4 b h i j) - L * p1 (ix4 b h i j) := by
  obtain rfl : l = fun _ => L := funext hl
  unfold rW
  pointwise []

theorem rO_apply (p : FVec Ideal S2x4x16384x16640 .f32) (v : FVec Ideal S2x4x16640x128 .f32) (b : Fin 2) (i : Fin 16384) (h : Fin 4) (e : Fin 128) :
    rO p v (ix4 b i h e) = ∑ j : Fin 16640, p (ix4 b h i j) * v (ix4 b h j e) := by
  unfold rO
  pointwise []

theorem rN_apply (o : FVec Ideal S2x16384x4x128 .f32) (g : FVec Ideal S128 .f32) (b : Fin 2) (i : Fin 16384) (h : Fin 4) (e : Fin 128) :
    rN o g (ix4 b i h e) = rms (fun x => o (ix4 b i h x)) (g (ix1 e)) e := by
  unfold rN rms
  pointwise []

theorem rR_apply (o : FVec Ideal S2x16384x4x128 .f32) (b : Fin 2) (i : Fin 16384) (h : Fin 4) (e : Fin 128) :
    rR o (ix3 b ⟨i.val, by omega⟩ ⟨128 * h.val + e.val, by omega⟩) = o (ix4 b i h e) := by
  have e1 : ∀ (y : FVec Ideal S2x16384x512 .f32) (z : FVec Ideal S_ .f32) (c : Fin 512), truncf .bf16 (pad S2x16640x512 ![0, 0, 0] ![0, 256, 0] ![0, 0, 0] y z pads_S2x16384x512_S2x16640x512_000_02560_000 h_S_) bitsLt_bf16_f32 (ix3 b ⟨i.val, by omega⟩ c) = y (ix3 b i c) := by
    intro y z c; pointwise []
  unfold rR
  rw [e1]
  refine shapeCast_apply _ _ _ _ ?_
  rw [Shape.rowMajor_val_four, Shape.rowMajor_val_three]
  simp
  ring

theorem rows_pad (x : FVec Ideal S2x16384x512 .f32) (z : FVec Ideal S_ .f32) (b : Fin 2) (i : Fin 16640) (y : Fin 512) (hi : ¬ i.val < 16384) :
    truncf .bf16 (pad S2x16640x512 ![0, 0, 0] ![0, 256, 0] ![0, 0, 0] x z pads_S2x16384x512_S2x16640x512_000_02560_000 h_S_) bitsLt_bf16_f32 (ix3 b i y) = z (Shape.Idx.first h_S_) := by
  pointwise []
  exact dif_neg hi

theorem rR_pad (o : FVec Ideal S2x16384x4x128 .f32) (b : Fin 2) (i : Fin 16640) (y : Fin 512) (hi : ¬ i.val < 16384) : rR o (ix3 b i y) = 0 := by
  unfold rR
  rw [rows_pad _ _ b i y hi]
  show ((((0#32 : BitVec 32).toInt : ℤ) : ℝ) : EReal) = 0
  simp

end Cert.Proof.RD

end
-- ==== Proof.RDValue.lean ====
module

public import proofs.«01_k».proof.Proof.RD

/-! The reference's result is the differential attention of the arguments. -/

@[expose] public section

set_option maxRecDepth 16384

noncomputable section

namespace Cert.Proof.RD

open Cert.Reference3Ideal Cert.Reference3Ideal.Gen Cert.Reference3Ideal.Value
open Idealize.ShloMosaic Cert.Proof.Sm Idealize.ShloMosaic.TcCoe

theorem ofBits_scale : Ideal.ofBits .f32 0x3E000000#32 = ((1 / 8 : ℝ) : EReal) := by
  simp [Ideal.ofBits, Ideal.ieee, -EReal.coe_mul]; norm_num

/-- Where the lambda parameters are real, so is lambda. -/
theorem lam_real (lp : FVec Ideal S4x64 .f32) (hp : Fin' lp) : ∃ L : ℝ, lamOf lp = L := by
  have e : ∀ k k' : Fin 4, Ideal.exp (∑ d : Fin 64, lp (ix2 k d) * lp (ix2 k' d)) = ((Real.exp (∑ d : Fin 64, (lp (ix2 k d)).toReal * (lp (ix2 k' d)).toReal) : ℝ) : EReal) := fun k k' => by
    rw [← Ideal.exp_coe, coe_sum]
    exact congrArg Ideal.exp (Finset.sum_congr rfl fun d _ => by rw [EReal.coe_mul, ← hp, ← hp])
  obtain ⟨z, hz⟩ : ∃ z : ℝ, Ideal.ofBits .f32 0x3EB60549#32 = z := ⟨_, by simp [Ideal.ofBits, Ideal.ieee, -EReal.coe_mul]; rfl⟩
  unfold lamOf
  rw [e, e, hz, ← EReal.coe_sub, ← EReal.coe_add]
  exact ⟨_, rfl⟩

section
variable (kc : FVec Ideal S2x256x8x64 .f32) (kl : FVec Ideal S2x16384x8x64 .f32) (b : Fin 2) (h : Fin 4) (j : Fin 16640)

theorem rK_cat (u : Fin 2) (xc : FVec Ideal S2x4x256x64 .f32) (xl : FVec Ideal S2x4x16384x64 .f32)
    (h1 : ∀ i d, xc (ix4 b h i d) = rB kc (ix5 b h u i d)) (h2 : ∀ i d, xl (ix4 b h i d) = rA kl (ix5 b h u i d)) (d : Fin 64) :
    rK xc xl (ix4 b h j d) = cat kl kc b ⟨2 * h.val + u.val, by omega⟩ d (rot j.val) := by
  rw [rK_apply]
  unfold cat rot
  by_cases p : j.val < 256
  · rw [dif_pos p, if_pos p, dif_neg (by omega), dif_pos (by omega), h1, rB_apply]
    exact congrArg (fun z => kc (ix4 b z _ d)) (Fin.ext (Nat.add_sub_cancel_left ..).symm)
  · rw [dif_neg p, if_neg p, dif_pos (by omega), h2, rA_apply]

theorem rV_cat (vc : FVec Ideal S2x256x4x128 .f32) (vl : FVec Ideal S2x16384x4x128 .f32) (d : Fin 128) :
    rV vc vl (ix4 b h j d) = cat vl vc b h d (rot j.val) := by
  rw [rV_apply]
  unfold cat rot
  by_cases p : j.val < 256
  · rw [dif_pos p, if_pos p, dif_neg (by omega), dif_pos (by omega)]
    exact congrArg (fun z => vc (ix4 b z h d)) (Fin.ext (Nat.add_sub_cancel_left ..).symm)
  · rw [dif_neg p, if_neg p, dif_pos (by omega)]

end

section
variable (q : FVec Ideal S2x16384x8x64 .f32) (kc : FVec Ideal S2x256x8x64 .f32) (kl : FVec Ideal S2x16384x8x64 .f32)
  (vc : FVec Ideal S2x256x4x128 .f32) (vl : FVec Ideal S2x16384x4x128 .f32) (lp : FVec Ideal S4x64 .f32) (g : FVec Ideal S128 .f32)
  (hq : Fin' q) (hc : Fin' kc) (hl : Fin' kl) (hvc : Fin' vc) (hvl : Fin' vl) (hp : Fin' lp)

include hq hc hl in
theorem score (u : Fin 2) (b : Fin 2) (h : Fin 4) (xq : FVec Ideal S2x4x16384x64 .f32) (xc : FVec Ideal S2x4x256x64 .f32) (xl : FVec Ideal S2x4x16384x64 .f32)
    (h0 : ∀ i d, xq (ix4 b h i d) = rA q (ix5 b h u i d)) (h1 : ∀ i d, xc (ix4 b h i d) = rB kc (ix5 b h u i d)) (h2 : ∀ i d, xl (ix4 b h i d) = rA kl (ix5 b h u i d))
    (i : Fin 16384) (j : Fin 16640) : rS xq (rK xc xl) (ix4 b h i j) = (tscD q kc kl b h u i (rot j.val) : EReal) := by
  rw [rS_apply, ofBits_scale]
  have e : ∀ d : Fin 64, xq (ix4 b h i d) * rK xc xl (ix4 b h j d)
      = (((cat kl kc b ⟨2 * h.val + u.val, by omega⟩ d (rot j.val)).toReal * (q (ix4 b i ⟨2 * h.val + u.val, by omega⟩ d)).toReal : ℝ) : EReal) := fun d => by
    rw [rK_cat kc kl b h j u xc xl h1 h2, h0, rA_apply, mul_comm, EReal.coe_mul, ← cat_real kl kc hl hc, ← hq]
  rw [Finset.sum_congr rfl fun d _ => e d, ← coe_sum, ← EReal.coe_mul]
  rfl

theorem max_row (t : ℕ → ℝ) (s : FVec Ideal S2x4x16384x16640 .f32) (b : Fin 2) (h : Fin 4) (i : Fin 16384) (hs : ∀ j : Fin 16640, s (ix4 b h i j) = (t (rot j.val) : EReal)) :
    ∃ M : ℝ, rM s (ix3 b h i) = M := by
  rw [rM_apply]
  simp only [hs, ofBits_bot]
  obtain ⟨M, hM⟩ := fold_max_real (Finset.univ : Finset (Fin 16640)) ⟨0, Finset.mem_univ _⟩ (fun x => t (rot x.val))
  rw [hM]
  exact max_real _ _ (.inl rfl)

include hq hc hl hvc hvl hp in
theorem res_apply (b : Fin 2) (i : Fin 16384) (h : Fin 4) (e : Fin 128) :
    rAll q kc kl vc vl lp g (ix3 b ⟨i.val, by omega⟩ ⟨128 * h.val + e.val, by omega⟩) = headD q kc kl vc vl lp g b h i e := by
  unfold rAll headD
  rw [rR_apply, rN_apply]
  refine congrArg (fun o => rms o (g (ix1 e)) e) (funext fun x => ?_)
  have s0 := score q kc kl hq hc hl 0 b h (pA0 (rA q)) (pB0 (rB kc)) (pA0 (rA kl)) (fun i d => (pA_apply _ b h i d).1) (fun i d => (pB_apply _ b h i d).1) (fun i d => (pA_apply _ b h i d).1) i
  have s1 := score q kc kl hq hc hl 1 b h (pA1 (rA q)) (pB1 (rB kc)) (pA1 (rA kl)) (fun i d => (pA_apply _ b h i d).2) (fun i d => (pB_apply _ b h i d).2) (fun i d => (pA_apply _ b h i d).2) i
  obtain ⟨M0, m0⟩ := max_row _ _ b h i s0
  obtain ⟨M1, m1⟩ := max_row _ _ b h i s1
  obtain ⟨L, hL⟩ := lam_real lp hp
  rw [rO_apply]
  simp only [rW_apply _ _ _ L (fun y => (rL_apply lp y).trans hL), rP_apply, rE_apply, m0, m1, s0, s1, rV_cat, hL]
  have hv : cat vl vc b h x = fun j => ((cat vl vc b h x j).toReal : EReal) := funext fun j => cat_real vl vc hvl hvc b h x j
  rw [hv]
  exact ref_diff (tscD q kc kl b h 0 i) (tscD q kc kl b h 1 i) (fun j => (cat vl vc b h x j).toReal) L M0 M1

include hq hc hl hvc hvl hp in
theorem res_goal : rAll q kc kl vc vl lp g = goalD q kc kl vc vl lp g := by
  funext x
  obtain ⟨b, i, y, rfl⟩ : ∃ b i y, x = ix3 b i y := ⟨_, _, _, eq_ix3 x⟩
  by_cases hi : i.val < 16384
  · have hy : y.val < 512 := y.isLt
    have e1 : y = ⟨128 * (⟨y.val / 128, by omega⟩ : Fin 4).val + (⟨y.val % 128, by omega⟩ : Fin 128).val, by simp only []; omega⟩ := Fin.ext (by simp only []; omega)
    rw [goalD_apply q kc kl vc vl lp g b ⟨i.val, hi⟩ ⟨y.val / 128, by omega⟩ ⟨y.val % 128, by omega⟩ i y rfl (by simp only []; omega)]
    refine Eq.trans ?_ (res_apply q kc kl vc vl lp g hq hc hl hvc hvl hp b ⟨i.val, hi⟩ ⟨y.val / 128, by omega⟩ ⟨y.val % 128, by omega⟩)
    exact congrArg (fun z => rAll q kc kl vc vl lp g (ix3 b i z)) e1
  · rw [goalD_pad q kc kl vc vl lp g b i y hi]
    exact rR_pad _ b i y hi

end

end Cert.Proof.RD

end
-- ==== Proof.ValuesD.lean ====
module

public import proofs.«01_k».proof.Defs
public import proofs.«01_k».proof.Proof.Gen.Pre_finite_qkv3
public import proofs.«01_k».proof.Proof.DI.Out
public import proofs.«01_k».proof.Proof.RDValue
public import proofs.«01_k».proof.Proof.Values

/-! The two runs of the differential attention call end with the same result. -/

@[expose] public section

set_option maxRecDepth 16384

noncomputable section

namespace Cert.Proof

open Idealize.ShloMosaic Idealize.SL.Sem Cert.Proof.Sm

theorem fin_fn3 (q : FVec Ideal Cert.Pre_finite_qkv3.S2x16384x8x64 .f32) (kc : FVec Ideal Cert.Pre_finite_qkv3.S2x256x8x64 .f32) (kl : FVec Ideal Cert.Pre_finite_qkv3.S2x16384x8x64 .f32)
    (vc : FVec Ideal Cert.Pre_finite_qkv3.S2x256x4x128 .f32) (vl : FVec Ideal Cert.Pre_finite_qkv3.S2x16384x4x128 .f32) (lp : FVec Ideal Cert.Pre_finite_qkv3.S4x64 .f32)
    (g : FVec Ideal Cert.Pre_finite_qkv3.S128 .f32)
    (h : (Cert.Pre_finite_qkv3.fn q kc kl vc vl lp g).1 = (fun _ => 1#1) ∧ (Cert.Pre_finite_qkv3.fn q kc kl vc vl lp g).2.1 = (fun _ => 1#1)
      ∧ (Cert.Pre_finite_qkv3.fn q kc kl vc vl lp g).2.2.1 = (fun _ => 1#1) ∧ (Cert.Pre_finite_qkv3.fn q kc kl vc vl lp g).2.2.2.1 = (fun _ => 1#1)
      ∧ (Cert.Pre_finite_qkv3.fn q kc kl vc vl lp g).2.2.2.2.1 = (fun _ => 1#1) ∧ (Cert.Pre_finite_qkv3.fn q kc kl vc vl lp g).2.2.2.2.2 = (fun _ => 1#1)) :
    Fin' q ∧ Fin' kc ∧ Fin' kl ∧ Fin' vc ∧ Fin' vl ∧ Fin' lp :=
  ⟨fin_of_cmp q _ (fun _ => ofBits_top) (fun i => congrFun h.1 i), fin_of_cmp kc _ (fun _ => ofBits_top) (fun i => congrFun h.2.1 i),
    fin_of_cmp kl _ (fun _ => ofBits_top) (fun i => congrFun h.2.2.1 i), fin_of_cmp vc _ (fun _ => ofBits_top) (fun i => congrFun h.2.2.2.1 i),
    fin_of_cmp vl _ (fun _ => ofBits_top) (fun i => congrFun h.2.2.2.2.1 i), fin_of_cmp lp _ (fun _ => ofBits_top) (fun i => congrFun h.2.2.2.2.2 i)⟩

theorem values3 : Cert.algebraic_Kernel3Ideal_Reference3Ideal_pre_finite_qkv3 := by
  intro m g m' g' hpre hagree
  have hf : ∀ c, _ := fun c => fin_fn3 _ _ _ _ _ _ _ (hpre c)
  refine ⟨fun c => DI.res m c, DI.value m g fun c => ⟨(hf c).1, (hf c).2.1, (hf c).2.2.1⟩, ?_⟩
  refine (θ_run Cert.Reference3Ideal.defs _ _).mono (fun r h c => ?_) (Cert.Reference3Ideal.Value.run (F := Ideal) m' g')
  obtain ⟨e0, e1, e2, e3, e4, e5, e6⟩ := hagree c
  refine ⟨(h c).1.trans ?_, (h c).2⟩
  rw [RD.res_eq, e0, e1, e2, e3, e4, e5, e6]
  exact RD.res_goal _ _ _ _ _ _ _ (hf c).1 (hf c).2.1 (hf c).2.2.1 (hf c).2.2.2.1 (hf c).2.2.2.2.1 (hf c).2.2.2.2.2

end Cert.Proof

end
-- ==== Proof.lean ====
/- The claims of this certificate, from the modules under Proof/. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.PI.Run
public import proofs.«01_k».proof.Proof.PK.Run
public import proofs.«01_k».proof.Proof.Gen.Pre_finite_qk
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Pre_finite_qk2
public import proofs.«01_k».proof.Proof.Gen.Kernel3
public import proofs.«01_k».proof.Proof.Gen.Kernel3.Skeleton
public import proofs.«01_k».proof.Proof.Gen.Kernel3.Loops
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Loops
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Pre_finite_qkv3
public import proofs.«01_k».proof.Proof.GI.Run
public import proofs.«01_k».proof.Proof.GK.Run
public import proofs.«01_k».proof.Proof.DI.Run
public import proofs.«01_k».proof.Proof.DK.Run
public import proofs.«01_k».proof.Proof.Frames
public import proofs.«01_k».proof.Proof.Values
public import proofs.«01_k».proof.Proof.ValuesG
public import proofs.«01_k».proof.Proof.ValuesD
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Pre_finite_qk.Gen.facts, Cert.Pre_finite_qk2.Gen.facts, Cert.Pre_finite_qkv3.Gen.facts,
  frame_k, frame_ki, frame_ki_pre, frame_ri, frame_ri_pre, frame_k2, frame_ki2, frame_ki2_pre, frame_ri2, frame_ri2_pre,
  frame_k3, frame_ki3, frame_ki3_pre, frame_ri3, frame_ri3_pre,
  scale_named, values, scale_named2, values2, scale_named3, values3⟩

end Cert.Proof

end
